-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14)) (m ((c.tc : Thread Cert.Reference7Ideal.nD Cert.Reference7Ideal.τ).loc Cert.Reference7Ideal.main_arg15)) (m ((c.tc : Thread Cert.Reference7Ideal.nD Cert.Reference7Ideal.τ).loc Cert.Reference7Ideal.main_arg16))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v46_0)) (v1 : (c : Dev Cert.Kernel2Ideal.nD) → Buf (Elt Ideal) ((c.tc : Thread Cert.Kernel2Ideal.nD Cert.Kernel2Ideal.τ).loc Cert.Kernel2Ideal.main_v46_1)) (v2 : (c : Dev Cert.Kernel2Ideal.nD) → Buf (Elt Ideal) ((c.tc : Thread Cert.Kernel2Ideal.nD Cert.Kernel2Ideal.τ).loc Cert.Kernel2Ideal.main_v46_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46_0) = v0 c
          ∧ r.2.mem ((c.tc : Thread Cert.Kernel2Ideal.nD Cert.Kernel2Ideal.τ).loc Cert.Kernel2Ideal.main_v46_1) = v1 c
          ∧ r.2.mem ((c.tc : Thread Cert.Kernel2Ideal.nD Cert.Kernel2Ideal.τ).loc Cert.Kernel2Ideal.main_v46_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v50) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_v53) = v1 c
          ∧ r.2.mem ((c.tc : Thread Cert.Reference6Ideal.nD Cert.Reference6Ideal.τ).loc Cert.Reference6Ideal.main_v52) = v2 c
          ∧ r.2.mem ((c.tc : Thread Cert.Reference6Ideal.nD Cert.Reference6Ideal.τ).loc Cert.Reference6Ideal.main_v57) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)) →
    ∃ (v0 : (c : Dev Cert.Kernel7Ideal.nD) → Buf (Elt Ideal) ((c.tc : Thread Cert.Kernel7Ideal.nD Cert.Kernel7Ideal.τ).loc Cert.Kernel7Ideal.main_v23_0)) (v1 : (c : Dev Cert.Kernel7Ideal.nD) → Buf (Elt Ideal) ((c.tc : Thread Cert.Kernel7Ideal.nD Cert.Kernel7Ideal.τ).loc Cert.Kernel7Ideal.main_v23_1)) (v2 : (c : Dev Cert.Kernel7Ideal.nD) → Buf (Elt Ideal) ((c.tc : Thread Cert.Kernel7Ideal.nD Cert.Kernel7Ideal.τ).loc Cert.Kernel7Ideal.main_v23_2)) (v3 : (c : Dev Cert.Kernel7Ideal.nD) → Buf (Elt Ideal) ((c.tc : Thread Cert.Kernel7Ideal.nD Cert.Kernel7Ideal.τ).loc Cert.Kernel7Ideal.main_v23_3)) (v4 : (c : Dev Cert.Kernel7Ideal.nD) → Buf (Elt Ideal) ((c.tc : Thread Cert.Kernel7Ideal.nD Cert.Kernel7Ideal.τ).loc Cert.Kernel7Ideal.main_v23_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23_0) = v0 c
          ∧ r.2.mem ((c.tc : Thread Cert.Kernel7Ideal.nD Cert.Kernel7Ideal.τ).loc Cert.Kernel7Ideal.main_v23_1) = v1 c
          ∧ r.2.mem ((c.tc : Thread Cert.Kernel7Ideal.nD Cert.Kernel7Ideal.τ).loc Cert.Kernel7Ideal.main_v23_2) = v2 c
          ∧ r.2.mem ((c.tc : Thread Cert.Kernel7Ideal.nD Cert.Kernel7Ideal.τ).loc Cert.Kernel7Ideal.main_v23_3) = v3 c
          ∧ r.2.mem ((c.tc : Thread Cert.Kernel7Ideal.nD Cert.Kernel7Ideal.τ).loc Cert.Kernel7Ideal.main_v23_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v59) = v1 c
          ∧ r.2.mem ((c.tc : Thread Cert.Reference7Ideal.nD Cert.Reference7Ideal.τ).loc Cert.Reference7Ideal.main_v46) = v2 c
          ∧ r.2.mem ((c.tc : Thread Cert.Reference7Ideal.nD Cert.Reference7Ideal.τ).loc Cert.Reference7Ideal.main_v60) = v3 c
          ∧ r.2.mem ((c.tc : Thread Cert.Reference7Ideal.nD Cert.Reference7Ideal.τ).loc Cert.Reference7Ideal.main_v33) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v20_0)) (v1 : (c : Dev Cert.Kernel8Ideal.nD) → Buf (Elt Ideal) ((c.tc : Thread Cert.Kernel8Ideal.nD Cert.Kernel8Ideal.τ).loc Cert.Kernel8Ideal.main_v20_1)) (v2 : (c : Dev Cert.Kernel8Ideal.nD) → Buf (Elt Ideal) ((c.tc : Thread Cert.Kernel8Ideal.nD Cert.Kernel8Ideal.τ).loc Cert.Kernel8Ideal.main_v20_2)) (v3 : (c : Dev Cert.Kernel8Ideal.nD) → Buf (Elt Ideal) ((c.tc : Thread Cert.Kernel8Ideal.nD Cert.Kernel8Ideal.τ).loc Cert.Kernel8Ideal.main_v20_3)) (v4 : (c : Dev Cert.Kernel8Ideal.nD) → Buf (Elt Ideal) ((c.tc : Thread Cert.Kernel8Ideal.nD Cert.Kernel8Ideal.τ).loc Cert.Kernel8Ideal.main_v20_4)) (v5 : (c : Dev Cert.Kernel8Ideal.nD) → Buf (Elt Ideal) ((c.tc : Thread Cert.Kernel8Ideal.nD Cert.Kernel8Ideal.τ).loc Cert.Kernel8Ideal.main_v20_5)) (v6 : (c : Dev Cert.Kernel8Ideal.nD) → Buf (Elt Ideal) ((c.tc : Thread Cert.Kernel8Ideal.nD Cert.Kernel8Ideal.τ).loc Cert.Kernel8Ideal.main_v20_6)) (v7 : (c : Dev Cert.Kernel8Ideal.nD) → Buf (Elt Ideal) ((c.tc : Thread Cert.Kernel8Ideal.nD Cert.Kernel8Ideal.τ).loc Cert.Kernel8Ideal.main_v20_7)) (v8 : (c : Dev Cert.Kernel8Ideal.nD) → Buf (Elt Ideal) ((c.tc : Thread Cert.Kernel8Ideal.nD Cert.Kernel8Ideal.τ).loc Cert.Kernel8Ideal.main_v20_8)) (v9 : (c : Dev Cert.Kernel8Ideal.nD) → Buf (Elt Ideal) ((c.tc : Thread Cert.Kernel8Ideal.nD Cert.Kernel8Ideal.τ).loc Cert.Kernel8Ideal.main_v20_9)) (v10 : (c : Dev Cert.Kernel8Ideal.nD) → Buf (Elt Ideal) ((c.tc : Thread Cert.Kernel8Ideal.nD Cert.Kernel8Ideal.τ).loc Cert.Kernel8Ideal.main_v20_10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v20_0) = v0 c
          ∧ r.2.mem ((c.tc : Thread Cert.Kernel8Ideal.nD Cert.Kernel8Ideal.τ).loc Cert.Kernel8Ideal.main_v20_1) = v1 c
          ∧ r.2.mem ((c.tc : Thread Cert.Kernel8Ideal.nD Cert.Kernel8Ideal.τ).loc Cert.Kernel8Ideal.main_v20_2) = v2 c
          ∧ r.2.mem ((c.tc : Thread Cert.Kernel8Ideal.nD Cert.Kernel8Ideal.τ).loc Cert.Kernel8Ideal.main_v20_3) = v3 c
          ∧ r.2.mem ((c.tc : Thread Cert.Kernel8Ideal.nD Cert.Kernel8Ideal.τ).loc Cert.Kernel8Ideal.main_v20_4) = v4 c
          ∧ r.2.mem ((c.tc : Thread Cert.Kernel8Ideal.nD Cert.Kernel8Ideal.τ).loc Cert.Kernel8Ideal.main_v20_5) = v5 c
          ∧ r.2.mem ((c.tc : Thread Cert.Kernel8Ideal.nD Cert.Kernel8Ideal.τ).loc Cert.Kernel8Ideal.main_v20_6) = v6 c
          ∧ r.2.mem ((c.tc : Thread Cert.Kernel8Ideal.nD Cert.Kernel8Ideal.τ).loc Cert.Kernel8Ideal.main_v20_7) = v7 c
          ∧ r.2.mem ((c.tc : Thread Cert.Kernel8Ideal.nD Cert.Kernel8Ideal.τ).loc Cert.Kernel8Ideal.main_v20_8) = v8 c
          ∧ r.2.mem ((c.tc : Thread Cert.Kernel8Ideal.nD Cert.Kernel8Ideal.τ).loc Cert.Kernel8Ideal.main_v20_9) = v9 c
          ∧ r.2.mem ((c.tc : Thread Cert.Kernel8Ideal.nD Cert.Kernel8Ideal.τ).loc Cert.Kernel8Ideal.main_v20_10) = v10 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v85) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_v20) = v3 c
          ∧ r.2.mem ((c.tc : Thread Cert.Reference8Ideal.nD Cert.Reference8Ideal.τ).loc Cert.Reference8Ideal.main_v14) = v4 c
          ∧ r.2.mem ((c.tc : Thread Cert.Reference8Ideal.nD Cert.Reference8Ideal.τ).loc Cert.Reference8Ideal.main_v15) = v5 c
          ∧ r.2.mem ((c.tc : Thread Cert.Reference8Ideal.nD Cert.Reference8Ideal.τ).loc Cert.Reference8Ideal.main_v16) = v6 c
          ∧ r.2.mem ((c.tc : Thread Cert.Reference8Ideal.nD Cert.Reference8Ideal.τ).loc Cert.Reference8Ideal.main_v17) = v7 c
          ∧ r.2.mem ((c.tc : Thread Cert.Reference8Ideal.nD Cert.Reference8Ideal.τ).loc Cert.Reference8Ideal.main_v86) = v8 c
          ∧ r.2.mem ((c.tc : Thread Cert.Reference8Ideal.nD Cert.Reference8Ideal.τ).loc Cert.Reference8Ideal.main_v87) = v9 c
          ∧ r.2.mem ((c.tc : Thread Cert.Reference8Ideal.nD Cert.Reference8Ideal.τ).loc Cert.Reference8Ideal.main_v88) = v10 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite6 : Cert.Pre_finite6.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_arg4 : FVec F S4096x5632 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S4096x5632 .f32 := Host.absf main_arg4
  let main_cst_6 : FVec F S_ .f32 := constant S_ .f32 0x7F800000#32
  let main_v20 : FVec F S4096x5632 .f32 := broadcastInDim S4096x5632 ![] bcast_S_S4096x5632 main_cst_6
  let main_v21 : IVec S4096x5632 1 := cmpf .olt main_v19 main_v20
  let main_c_7 : IVec S_ 1 := constantI S_ 1 1#1
  let main_v22 : IVec S_ 1 := (fun x v => Host.reduce IntOp.andi x v reducesTo_S4096x5632_S_d0_1 h_S_) main_v21 main_c_7
  let main_v23 : IVec S_ 1 := andi main_v18 main_v22
  main_v23

def fn {F : FTy → Type} [FloatOps F] (main_arg0 : FVec F S4096x1024 .f32) (main_arg1 : FVec F S1x1024 .f32) (main_arg2 : FVec F S1024x5632 .f32) (main_arg3 : FVec F S3x5632 .f32) (main_arg4 : FVec F S4096x5632 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_v13 main_v16
-- ==== Pre_finite2.lean ====
abbrev S4096x1024 : Shape := ⟨2, ![4096, 1024]⟩
abbrev S1x1024 : Shape := ⟨2, ![1, 1024]⟩
abbrev S1024x3584 : Shape := ⟨2, ![1024, 3584]⟩
abbrev S1024x3072 : Shape := ⟨2, ![1024, 3072]⟩
abbrev S4096x3584 : Shape := ⟨2, ![4096, 3584]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3584 : S_.BroadcastsInDim S1024x3584 (![] : Fin 0 → Fin S1024x3584.rank)
  reducesTo_S1024x3584_S_d0_1 : S1024x3584.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S4096x3584 : S_.BroadcastsInDim S4096x3584 (![] : Fin 0 → Fin S4096x3584.rank)
  reducesTo_S4096x3584_S_d0_1 : S4096x3584.ReducesTo [0, 1] S_
  bcast_S_S4096x3072 : S_.BroadcastsInDim S4096x3072 (![] : Fin 0 → Fin S4096x3072.rank)
  reducesTo_S4096x3072_S_d0_1 : S4096x3072.ReducesTo [0, 1] S_

variable [Facts]

def fn_part1 {F : FTy → Type} [FloatOps F] (main_arg4 : FVec F S4096x3584 .f32) (main_arg5 : FVec F S4096x3072 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S4096x3584 .f32 := Host.absf main_arg4
  let main_cst_6 : FVec F S_ .f32 := constant S_ .f32 0x7F800000#32
  let main_v20 : FVec F S4096x3584 .f32 := broadcastInDim S4096x3584 ![] bcast_S_S4096x3584 main_cst_6
  let main_v21 : IVec S4096x3584 1 := cmpf .olt main_v19 main_v20
  let main_c_7 : IVec S_ 1 := constantI S_ 1 1#1
  let main_v22 : IVec S_ 1 := (fun x v => Host.reduce IntOp.andi x v reducesTo_S4096x3584_S_d0_1 h_S_) main_v21 main_c_7
  let main_v23 : IVec S_ 1 := andi main_v18 main_v22
  let main_v24 : FVec F S4096x3072 .f32 := Host.absf main_arg5
  let main_cst_8 : FVec F S_ .f32 := constant S_ .f32 0x7F800000#32
  let main_v25 : FVec F S4096x3072 .f32 := broadcastInDim S4096x3072 ![] bcast_S_S4096x3072 main_cst_8
  let main_v26 : IVec S4096x3072 1 := cmpf .olt main_v24 main_v25
  let main_c_9 : IVec S_ 1 := constantI S_ 1 1#1
  let main_v27 : IVec S_ 1 := (fun x v => Host.reduce IntOp.andi x v reducesTo_S4096x3072_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1024x3584 .f32) (main_arg3 : FVec F S1024x3072 .f32) (main_arg4 : FVec F S4096x3584 .f32) (main_arg5 : FVec F S4096x3072 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3584 .f32 := Host.absf main_arg2
  let main_cst_2 : FVec F S_ .f32 := constant S_ .f32 0x7F800000#32
  let main_v10 : FVec F S1024x3584 .f32 := broadcastInDim S1024x3584 ![] bcast_S_S1024x3584 main_cst_2
  let main_v11 : IVec S1024x3584 1 := cmpf .olt main_v9 main_v10
  let main_c_3 : IVec S_ 1 := constantI S_ 1 1#1
  let main_v12 : IVec S_ 1 := (fun x v => Host.reduce IntOp.andi x v reducesTo_S1024x3584_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_v13 main_v16
-- ==== Pre_finite6.lean ====
abbrev S4096x5632 : Shape := ⟨2, ![4096, 5632]⟩
abbrev S3x5632 : Shape := ⟨2, ![3, 5632]⟩
abbrev S1x5632 : Shape := ⟨2, ![1, 5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_arg5 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x5632 .f32) (main_arg1 : FVec F S3x5632 .f32) (main_arg2 : FVec F S1x5632 .f32) (main_arg3 : FVec F S2816x1024 .f32) (main_arg4 : FVec F S4096x1024 .f32) (main_arg5 : FVec F S4096x1024 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S1x5632 .f32 := Host.absf main_arg2
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_c_3 : IVec S_ 1 := constantI S_ 1 1#1
  let main_v12 : IVec S_ 1 := (fun x v => Host.reduce IntOp.andi x v reducesTo_S1x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v13 main_v16
-- ==== Pre_finite7.lean ====
abbrev S4096x256 : Shape := ⟨2, ![4096, 256]⟩
abbrev S4096x4 : Shape := ⟨2, ![4096, 4]⟩
abbrev S4096x512 : Shape := ⟨2, ![4096, 512]⟩
abbrev S4096x1024 : Shape := ⟨2, ![4096, 1024]⟩
abbrev S1024x3072 : Shape := ⟨2, ![1024, 3072]⟩
abbrev S1x3072 : Shape := ⟨2, ![1, 3072]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

class Facts : Prop where
  bcast_S_S4096x4 : S_.BroadcastsInDim S4096x4 (![] : Fin 0 → Fin S4096x4.rank)
  reducesTo_S4096x4_S_d0_1 : S4096x4.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) (main_arg3 : FVec F S4096x4 .f32) (main_arg4 : FVec F S4096x4 .f32) (main_arg5 : FVec F S4096x4 .f32) (main_arg6 : FVec F S4096x512 .f32) (main_arg7 : FVec F S4096x512 .f32) (main_arg8 : FVec F S4096x1024 .f32) (main_arg9 : FVec F S4096x1024 .f32) (main_arg10 : FVec F S1024x3072 .f32) (main_arg11 : FVec F S1x3072 .f32) (main_arg12 : FVec F S256x1024 .f32) (main_arg13 : FVec F S512x1024 .f32) (main_arg14 : FVec F S512x1024 .f32) (main_arg15 : FVec F S1024x1024 .f32) (main_arg16 : FVec F S1x1024 .f32) : IVec S_ 1 :=
  let main_v0 : FVec F S4096x4 .f32 := Host.absf main_arg3
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_c : IVec S_ 1 := constantI S_ 1 1#1
  let main_v3 : IVec S_ 1 := (fun x v => Host.reduce IntOp.andi x v reducesTo_S4096x4_S_d0_1 h_S_) main_v2 main_c
  let main_v4 : FVec F S4096x4 .f32 := Host.absf main_arg4
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  let main_v9 : FVec F S4096x4 .f32 := Host.absf main_arg5
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_c_3 : IVec S_ 1 := constantI S_ 1 1#1
  let main_v12 : IVec S_ 1 := (fun x v => Host.reduce IntOp.andi x v reducesTo_S4096x4_S_d0_1 h_S_) main_v11 main_c_3
  let main_v13 : IVec S_ 1 := andi main_v8 main_v12
  main_v13
-- ==== Pre_finite8.lean ====
abbrev S4096x1024 : Shape := ⟨2, ![4096, 1024]⟩
abbrev S1x1024 : Shape := ⟨2, ![1, 1024]⟩
abbrev S1024x3584 : Shape := ⟨2, ![1024, 3584]⟩
abbrev S1x64 : Shape := ⟨2, ![1, 64]⟩
abbrev S16384x8 : Shape := ⟨2, ![16384, 8]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3584 : S_.BroadcastsInDim S1024x3584 (![] : Fin 0 → Fin S1024x3584.rank)
  reducesTo_S1024x3584_S_d0_1 : S1024x3584.ReducesTo [0, 1] S_

variable [Facts]

def fn {F : FTy → Type} [FloatOps F] (main_arg0 : FVec F S4096x1024 .f32) (main_arg1 : FVec F S1x1024 .f32) (main_arg2 : FVec F S1024x3584 .f32) (main_arg3 : FVec F S1x64 .f32) (main_arg4 : FVec F S1x64 .f32) (main_arg5 : FVec F S16384x8 .f32) (main_arg6 : FVec F S16384x8 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3584 .f32 := Host.absf main_arg2
  let main_cst_2 : FVec F S_ .f32 := constant S_ .f32 0x7F800000#32
  let main_v10 : FVec F S1024x3584 .f32 := broadcastInDim S1024x3584 ![] bcast_S_S1024x3584 main_cst_2
  let main_v11 : IVec S1024x3584 1 := cmpf .olt main_v9 main_v10
  let main_c_3 : IVec S_ 1 := constantI S_ 1 1#1
  let main_v12 : IVec S_ 1 := (fun x v => Host.reduce IntOp.andi x v reducesTo_S1024x3584_S_d0_1 h_S_) main_v11 main_c_3
  let main_v13 : IVec S_ 1 := andi main_v8 main_v12
  main_v13
-- ==== Kernel.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S3x4x1408 : Shape := ⟨3, ![3, 4, 1408]⟩
abbrev S4x3x1408 : Shape := ⟨3, ![4, 3, 1408]⟩
abbrev S_ : Shape := ⟨0, ![]⟩
abbrev S4096 : Shape := ⟨1, ![4096]⟩
abbrev S4096x1 : Shape := ⟨2, ![4096, 1]⟩
abbrev S4x8x5632 : Shape := ⟨3, ![4, 8, 5632]⟩
abbrev S8x1024 : Shape := ⟨2, ![8, 1024]⟩
abbrev S256x5632 : Shape := ⟨2, ![256, 5632]⟩
abbrev S8x5632 : Shape := ⟨2, ![8, 5632]⟩
abbrev S256x1024 : Shape := ⟨2, ![256, 1024]⟩
abbrev S256x1408 : Shape := ⟨2, ![256, 1408]⟩
abbrev S8x1408 : Shape := ⟨2, ![8, 1408]⟩
abbrev S1x1408 : Shape := ⟨2, ![1, 1408]⟩
abbrev S248x1408 : Shape := ⟨2, ![248, 1408]⟩
abbrev S1x8x1408 : Shape := ⟨3, ![1, 8, 1408]⟩
abbrev S32x8x1408 : Shape := ⟨3, ![32, 8, 1408]⟩
abbrev S1x1x1408 : Shape := ⟨3, ![1, 1, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S32x8x1024 : Shape := ⟨3, ![32, 8, 1024]⟩

abbrev nBuf : Space → Nat
  | .hbm => 31
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S4096x5632, .f32⟩
  | .hbm, ⟨5, _⟩ => ⟨S4096x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S3x4x1408, .f32⟩
  | .hbm, ⟨10, _⟩ => ⟨S4x3x1408, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x1024, .f32⟩
  | .hbm, ⟨28, _⟩ => ⟨S4096x5632, .bf16⟩
  | .hbm, ⟨29, _⟩ => ⟨S4x8x5632, .f32⟩
  | .hbm, ⟨30, _⟩ => ⟨S8x1024, .f32⟩
  | .local _ .vmem, ⟨0, _⟩ => ⟨S256x5632, .f32⟩
  | .local _ .vmem, ⟨1, _⟩ => ⟨S256x5632, .f32⟩
  | .local _ .vmem, ⟨2, _⟩ => ⟨S8x5632, .f32⟩
  | .local _ .vmem, ⟨3, _⟩ => ⟨S8x5632, .f32⟩
  | .local _ .vmem, ⟨4, _⟩ => ⟨S256x5632, .f32⟩
  | .local _ .vmem, ⟨5, _⟩ => ⟨S256x5632, .f32⟩
  | .local _ .vmem, ⟨6, _⟩ => ⟨S4x3x1408, .f32⟩
  | .local _ .vmem, ⟨7, _⟩ => ⟨S4x1024x1408, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x5632, .bf16⟩
  | .local _ .vmem, ⟨16, _⟩ => ⟨S256x5632, .bf16⟩
  | .local _ .vmem, ⟨17, _⟩ => ⟨S4x8x5632, .f32⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x8x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S4096x5632 : Shape := ⟨2, ![4096, 5632]⟩
abbrev S1x5632 : Shape := ⟨2, ![1, 5632]⟩
abbrev S5632 : Shape := ⟨1, ![5632]⟩
abbrev S8x5632 : Shape := ⟨2, ![8, 5632]⟩
abbrev S_ : Shape := ⟨0, ![]⟩
abbrev S8x1024 : Shape := ⟨2, ![8, 1024]⟩
abbrev S4096 : Shape := ⟨1, ![4096]⟩
abbrev S4096x1 : Shape := ⟨2, ![4096, 1]⟩
abbrev S512x8x1024 : Shape := ⟨3, ![512, 8, 1024]⟩
abbrev S1x8x1024 : Shape := ⟨3, ![1, 8, 1024]⟩
abbrev S512x8x5632 : Shape := ⟨3, ![512, 8, 5632]⟩
abbrev S1x8x5632 : Shape := ⟨3, ![1, 8, 5632]⟩
abbrev S2x5632 : Shape := ⟨2, ![2, 5632]⟩
abbrev S4098x5632 : Shape := ⟨2, ![4098, 5632]⟩
abbrev S4x8x5632 : Shape := ⟨3, ![4, 8, 5632]⟩

abbrev nBuf : Space → Nat
  | .hbm => 163
  | .vmem => 0
  | .smem => 0
  | _ => 0

abbrev hbmTy0_0 (i : Nat) : BufTy := match i % 128 with
  | 0 => ⟨S4096x1024, .f32⟩
  | 1 => ⟨S1x1024, .f32⟩
  | 2 => ⟨S1024x5632, .f32⟩
  | 3 => ⟨S3x5632, .f32⟩
  | 4 => ⟨S4096x5632, .f32⟩
  | 5 => ⟨S4096x1024, .f32⟩
  | 6 => ⟨S1x5632, .f32⟩
  | 7 => ⟨S5632, .f32⟩
  | 8 => ⟨S8x5632, .f32⟩
  | 9 => ⟨S1x5632, .f32⟩
  | 10 => ⟨S5632, .f32⟩
  | 11 => ⟨S8x5632, .f32⟩
  | 12 => ⟨S1x5632, .f32⟩
  | 13 => ⟨S5632, .f32⟩
  | 14 => ⟨S8x5632, .f32⟩
  | 15 => ⟨S_, .f32⟩
  | 16 => ⟨S8x5632, .f32⟩
  | 17 => ⟨S8x1024, .f32⟩
  | 18 => ⟨S4096x1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1024, .f32⟩
  | 34 => ⟨S4096x1024, .f32⟩
  | 35 => ⟨S512x8x1024, .f32⟩
  | 36 => ⟨S1x8x1024, .f32⟩
  | 37 => ⟨S512x8x1024, .f32⟩
  | 38 => ⟨S512x8x1024, .f32⟩
  | 39 => ⟨S4096x1024, .f32⟩
  | 40 => ⟨S4096x5632, .f32⟩
  | 41 => ⟨S512x8x5632, .f32⟩
  | 42 => ⟨S4096x5632, .f32⟩
  | 43 => ⟨S512x8x5632, .f32⟩
  | 44 => ⟨S1x8x5632, .f32⟩
  | 45 => ⟨S512x8x5632, .f32⟩
  | 46 => ⟨S512x8x5632, .f32⟩
  | 47 => ⟨S4096x5632, .f32⟩
  | 48 => ⟨S_, .f32⟩
  | 49 => ⟨S2x5632, .f32⟩
  | 50 => ⟨S4098x5632, .f32⟩
  | 51 => ⟨S_, .f32⟩
  | 52 => ⟨S2x5632, .f32⟩
  | 53 => ⟨S4096x5632, .f32⟩
  | 54 => ⟨S4096x5632, .f32⟩
  | 55 => ⟨S512x8x5632, .f32⟩
  | 56 => ⟨S1x8x5632, .f32⟩
  | 57 => ⟨S512x8x5632, .f32⟩
  | 58 => ⟨S512x8x5632, .f32⟩
  | 59 => ⟨S4096x5632, .f32⟩
  | 60 => ⟨S_, .f32⟩
  | 61 => ⟨S2x5632, .f32⟩
  | 62 => ⟨S4098x5632, .f32⟩
  | 63 => ⟨S_, .f32⟩
  | 64 => ⟨S2x5632, .f32⟩
  | 65 => ⟨S4096x5632, .f32⟩
  | 66 => ⟨S4096x5632, .f32⟩
  | 67 => ⟨S512x8x5632, .f32⟩
  | 68 => ⟨S1x8x5632, .f32⟩
  | 69 => ⟨S512x8x5632, .f32⟩
  | 70 => ⟨S512x8x5632, .f32⟩
  | 71 => ⟨S4096x5632, .f32⟩
  | 72 => ⟨S_, .f32⟩
  | 73 => ⟨S2x5632, .f32⟩
  | 74 => ⟨S4098x5632, .f32⟩
  | 75 => ⟨S_, .f32⟩
  | 76 => ⟨S2x5632, .f32⟩
  | 77 => ⟨S4096x5632, .f32⟩
  | 78 => ⟨S4096x5632, .f32⟩
  | 79 => ⟨S4096x5632, .f32⟩
  | 80 => ⟨S4096x5632, .f32⟩
  | 81 => ⟨S_, .f32⟩
  | 82 => ⟨S4098x5632, .f32⟩
  | 83 => ⟨S2x5632, .f32⟩
  | 84 => ⟨S4096x5632, .f32⟩
  | 85 => ⟨S512x8x5632, .f32⟩
  | 86 => ⟨S512x8x5632, .f32⟩
  | 87 => ⟨S512x8x5632, .f32⟩
  | 88 => ⟨S512x8x5632, .f32⟩
  | 89 => ⟨S_, .f32⟩
  | 90 => ⟨S8x5632, .f32⟩
  | 91 => ⟨S1x8x5632, .f32⟩
  | 92 => ⟨S_, .f32⟩
  | 93 => ⟨S8x5632, .f32⟩
  | 94 => ⟨S4096x5632, .f32⟩
  | 95 => ⟨S_, .f32⟩
  | 96 => ⟨S4098x5632, .f32⟩
  | 97 => ⟨S2x5632, .f32⟩
  | 98 => ⟨S4096x5632, .f32⟩
  | 99 => ⟨S512x8x5632, .f32⟩
  | 100 => ⟨S512x8x5632, .f32⟩
  | 101 => ⟨S512x8x5632, .f32⟩
  | 102 => ⟨S512x8x5632, .f32⟩
  | 103 => ⟨S_, .f32⟩
  | 104 => ⟨S8x5632, .f32⟩
  | 105 => ⟨S1x8x5632, .f32⟩
  | 106 => ⟨S_, .f32⟩
  | 107 => ⟨S8x5632, .f32⟩
  | 108 => ⟨S4096x5632, .f32⟩
  | 109 => ⟨S4096x5632, .f32⟩
  | 110 => ⟨S_, .f32⟩
  | 111 => ⟨S4098x5632, .f32⟩
  | 112 => ⟨S2x5632, .f32⟩
  | 113 => ⟨S4096x5632, .f32⟩
  | 114 => ⟨S512x8x5632, .f32⟩
  | 115 => ⟨S512x8x5632, .f32⟩
  | 116 => ⟨S512x8x5632, .f32⟩
  | 117 => ⟨S512x8x5632, .f32⟩
  | 118 => ⟨S_, .f32⟩
  | 119 => ⟨S8x5632, .f32⟩
  | 120 => ⟨S1x8x5632, .f32⟩
  | 121 => ⟨S_, .f32⟩
  | 122 => ⟨S8x5632, .f32⟩
  | 123 => ⟨S4096x5632, .f32⟩
  | 124 => ⟨S4096x5632, .f32⟩
  | 125 => ⟨S512x8x5632, .f32⟩
  | 126 => ⟨S_, .f32⟩
  | 127 => ⟨S8x5632, .f32⟩
  | _ => ⟨S4096x1024, .f32⟩

abbrev hbmTy0_1 (i : Nat) : BufTy := match i % 128 with
  | 0 => ⟨S4096x1024, .f32⟩
  | 1 => ⟨S512x8x1024, .f32⟩
  | 2 => ⟨S512x8x1024, .f32⟩
  | 3 => ⟨S_, .f32⟩
  | 4 => ⟨S8x1024, .f32⟩
  | 5 => ⟨S1x8x1024, .f32⟩
  | 6 => ⟨S512x8x1024, .f32⟩
  | 7 => ⟨S512x8x1024, .f32⟩
  | 8 => ⟨S_, .f32⟩
  | 9 => ⟨S8x1024, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S4096x1024, .f32⟩
  | 16 => ⟨S4096x1024, .f32⟩
  | 17 => ⟨S4096x1024, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x5632, .bf16⟩
  | 30 => ⟨S1x8x5632, .f32⟩
  | 31 => ⟨S1x8x5632, .f32⟩
  | 32 => ⟨S1x8x5632, .f32⟩
  | 33 => ⟨S1x8x5632, .f32⟩
  | 34 => ⟨S4x8x5632, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_v74 : Ref sig .tc := ⟨.hbm, 94, rfl⟩
abbrev main_cst_13 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_14 : Ref sig .tc := ⟨.hbm, 103, rfl⟩
abbrev main_v82 : Ref sig .tc := ⟨.hbm, 104, rfl⟩
abbrev main_v83 : Ref sig .tc := ⟨.hbm, 105, rfl⟩
abbrev main_cst_15 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_16 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_17 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_19 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_20 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_21 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_22 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_23 : Ref sig .tc := ⟨.hbm, 147, rfl⟩
abbrev main_v117 : Ref sig .tc := ⟨.hbm, 148, rfl⟩
abbrev main_v118 : Ref sig .tc := ⟨.hbm, 149, rfl⟩
abbrev main_cst_24 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x3584 : Shape := ⟨2, ![1024, 3584]⟩
abbrev S1024x3072 : Shape := ⟨2, ![1024, 3072]⟩
abbrev S4096x3584 : Shape := ⟨2, ![4096, 3584]⟩
abbrev S4096x3072 : Shape := ⟨2, ![4096, 3072]⟩
abbrev S1024x4x896 : Shape := ⟨3, ![1024, 4, 896]⟩
abbrev S4x1024x896 : Shape := ⟨3, ![4, 1024, 896]⟩
abbrev S1024x4x768 : Shape := ⟨3, ![1024, 4, 768]⟩
abbrev S4x1024x768 : Shape := ⟨3, ![4, 1024, 768]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S4096x512 : Shape := ⟨2, ![4096, 512]⟩
abbrev S4096x128 : Shape := ⟨2, ![4096, 128]⟩
abbrev S8x1024 : Shape := ⟨2, ![8, 1024]⟩
abbrev S256x256 : Shape := ⟨2, ![256, 256]⟩
abbrev S256x512 : Shape := ⟨2, ![256, 512]⟩
abbrev S256x128 : Shape := ⟨2, ![256, 128]⟩
abbrev S256x3072 : Shape := ⟨2, ![256, 3072]⟩
abbrev S256x1024 : Shape := ⟨2, ![256, 1024]⟩
abbrev S256x3584 : Shape := ⟨2, ![256, 3584]⟩
abbrev S256x896 : Shape := ⟨2, ![256, 896]⟩
abbrev S1x1024x896 : Shape := ⟨3, ![1, 1024, 896]⟩
abbrev S1024x896 : Shape := ⟨2, ![1024, 896]⟩
abbrev S256x768 : Shape := ⟨2, ![256, 768]⟩
abbrev S1x1024x768 : Shape := ⟨3, ![1, 1024, 768]⟩
abbrev S1024x768 : Shape := ⟨2, ![1024, 768]⟩
abbrev S256 : Shape := ⟨1, ![256]⟩
abbrev S256x1 : Shape := ⟨2, ![256, 1]⟩
abbrev S32x8x1024 : Shape := ⟨3, ![32, 8, 1024]⟩

abbrev nBuf : Space → Nat
  | .hbm => 59
  | .vmem => 42
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S1024x3072, .f32⟩
  | .hbm, ⟨4, _⟩ => ⟨S4096x3584, .f32⟩
  | .hbm, ⟨5, _⟩ => ⟨S4096x3072, .f32⟩
  | .hbm, ⟨6, _⟩ => ⟨S4096x1024, .f32⟩
  | .hbm, ⟨7, _⟩ => ⟨S1024x4x896, .f32⟩
  | .hbm, ⟨8, _⟩ => ⟨S4x1024x896, .f32⟩
  | .hbm, ⟨9, _⟩ => ⟨S4x1024x896, .bf16⟩
  | .hbm, ⟨10, _⟩ => ⟨S1024x4x768, .f32⟩
  | .hbm, ⟨11, _⟩ => ⟨S4x1024x768, .f32⟩
  | .hbm, ⟨12, _⟩ => ⟨S4x1024x768, .bf16⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x256, .f32⟩
  | .hbm, ⟨30, _⟩ => ⟨S4096x256, .bf16⟩
  | .hbm, ⟨31, _⟩ => ⟨S4096x256, .f32⟩
  | .hbm, ⟨32, _⟩ => ⟨S4096x256, .bf16⟩
  | .hbm, ⟨33, _⟩ => ⟨S4096x256, .f32⟩
  | .hbm, ⟨34, _⟩ => ⟨S4096x256, .bf16⟩
  | .hbm, ⟨35, _⟩ => ⟨S4096x256, .f32⟩
  | .hbm, ⟨36, _⟩ => ⟨S4096x256, .bf16⟩
  | .hbm, ⟨37, _⟩ => ⟨S4096x256, .f32⟩
  | .hbm, ⟨38, _⟩ => ⟨S4096x256, .bf16⟩
  | .hbm, ⟨39, _⟩ => ⟨S4096x256, .f32⟩
  | .hbm, ⟨40, _⟩ => ⟨S4096x256, .bf16⟩
  | .hbm, ⟨41, _⟩ => ⟨S4096x256, .f32⟩
  | .hbm, ⟨42, _⟩ => ⟨S4096x256, .bf16⟩
  | .hbm, ⟨43, _⟩ => ⟨S4096x256, .f32⟩
  | .hbm, ⟨44, _⟩ => ⟨S4096x256, .bf16⟩
  | .hbm, ⟨45, _⟩ => ⟨S4096x256, .f32⟩
  | .hbm, ⟨46, _⟩ => ⟨S4096x256, .bf16⟩
  | .hbm, ⟨47, _⟩ => ⟨S4096x512, .f32⟩
  | .hbm, ⟨48, _⟩ => ⟨S4096x512, .bf16⟩
  | .hbm, ⟨49, _⟩ => ⟨S4096x128, .f32⟩
  | .hbm, ⟨50, _⟩ => ⟨S4096x128, .bf16⟩
  | .hbm, ⟨51, _⟩ => ⟨S4096x128, .f32⟩
  | .hbm, ⟨52, _⟩ => ⟨S4096x128, .bf16⟩
  | .hbm, ⟨53, _⟩ => ⟨S4096x512, .f32⟩
  | .hbm, ⟨54, _⟩ => ⟨S4096x512, .bf16⟩
  | .hbm, ⟨55, _⟩ => ⟨S4096x3072, .bf16⟩
  | .hbm, ⟨56, _⟩ => ⟨S4096x1024, .f32⟩
  | .hbm, ⟨57, _⟩ => ⟨S8x1024, .f32⟩
  | .hbm, ⟨58, _⟩ => ⟨S4x1024x896, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x512, .bf16⟩
  | .local _ .vmem, ⟨19, _⟩ => ⟨S256x512, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x512, .bf16⟩
  | .local _ .vmem, ⟨25, _⟩ => ⟨S256x512, .bf16⟩
  | .local _ .vmem, ⟨26, _⟩ => ⟨S256x3072, .bf16⟩
  | .local _ .vmem, ⟨27, _⟩ => ⟨S256x3072, .bf16⟩
  | .local _ .vmem, ⟨28, _⟩ => ⟨S256x1024, .f32⟩
  | .local _ .vmem, ⟨29, _⟩ => ⟨S256x1024, .f32⟩
  | .local _ .vmem, ⟨30, _⟩ => ⟨S256x1024, .bf16⟩
  | .local _ .vmem, ⟨31, _⟩ => ⟨S256x1024, .bf16⟩
  | .local _ .vmem, ⟨32, _⟩ => ⟨S1x1024, .f32⟩
  | .local _ .vmem, ⟨33, _⟩ => ⟨S256x1024, .f32⟩
  | .local _ .vmem, ⟨34, _⟩ => ⟨S256x1024, .f32⟩
  | .local _ .vmem, ⟨35, _⟩ => ⟨S4x1024x896, .bf16⟩
  | .local _ .vmem, ⟨36, _⟩ => ⟨S4x1024x768, .bf16⟩
  | .local _ .vmem, ⟨37, _⟩ => ⟨S256x1024, .f32⟩
  | .local _ .vmem, ⟨38, _⟩ => ⟨S256x1024, .f32⟩
  | .local _ .vmem, ⟨39, _⟩ => ⟨S8x1024, .f32⟩
  | .local _ .vmem, ⟨40, _⟩ => ⟨S4x1024x896, .f32⟩
  | .local _ .vmem, ⟨41, _⟩ => ⟨S256x3584, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46_0 : Ref sig .tc := ⟨.hbm, 56, rfl⟩
abbrev main_v46_1 : Ref sig .tc := ⟨.hbm, 57, rfl⟩
abbrev main_v46_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg19_0 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg22_0 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem17_1 : DmaSem sig := 34
abbrev cc0_sem18_0 : DmaSem sig := 35
abbrev cc0_sem19_0 : DmaSem sig := 36
abbrev cc0_sem20_0 : DmaSem sig := 37
abbrev cc0_sem20_1 : DmaSem sig := 38
abbrev cc0_sem21_0 : DmaSem sig := 39
abbrev cc0_sem22_0 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S4x1024x896 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x1024x768 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x1024x896 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Reference2Ideal.lean ====
abbrev S4096x1024 : Shape := ⟨2, ![4096, 1024]⟩
abbrev S1x1024 : Shape := ⟨2, ![1, 1024]⟩
abbrev S1024x3584 : Shape := ⟨2, ![1024, 3584]⟩
abbrev S1024x3072 : Shape := ⟨2, ![1024, 3072]⟩
abbrev S4096x3584 : Shape := ⟨2, ![4096, 3584]⟩
abbrev S4096x3072 : Shape := ⟨2, ![4096, 3072]⟩
abbrev S8x1024 : Shape := ⟨2, ![8, 1024]⟩
abbrev S_ : Shape := ⟨0, ![]⟩
abbrev S4096 : Shape := ⟨1, ![4096]⟩
abbrev S4096x1 : Shape := ⟨2, ![4096, 1]⟩
abbrev S512x8x1024 : Shape := ⟨3, ![512, 8, 1024]⟩
abbrev S1x8x1024 : Shape := ⟨3, ![1, 8, 1024]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S1024x3072, .f32⟩
  | .hbm, ⟨4, _⟩ => ⟨S4096x3584, .f32⟩
  | .hbm, ⟨5, _⟩ => ⟨S4096x3072, .f32⟩
  | .hbm, ⟨6, _⟩ => ⟨S4096x1024, .f32⟩
  | .hbm, ⟨7, _⟩ => ⟨S8x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S512x8x1024, .f32⟩
  | .hbm, ⟨26, _⟩ => ⟨S1x8x1024, .f32⟩
  | .hbm, ⟨27, _⟩ => ⟨S512x8x1024, .f32⟩
  | .hbm, ⟨28, _⟩ => ⟨S512x8x1024, .f32⟩
  | .hbm, ⟨29, _⟩ => ⟨S4096x1024, .f32⟩
  | .hbm, ⟨30, _⟩ => ⟨S4096x3584, .f32⟩
  | .hbm, ⟨31, _⟩ => ⟨S4096x3072, .f32⟩
  | .hbm, ⟨32, _⟩ => ⟨S4096x1024, .f32⟩
  | .hbm, ⟨33, _⟩ => ⟨S3584x1024, .f32⟩
  | .hbm, ⟨34, _⟩ => ⟨S1024x3584, .f32⟩
  | .hbm, ⟨35, _⟩ => ⟨S4096x1024, .f32⟩
  | .hbm, ⟨36, _⟩ => ⟨S4096x1024, .f32⟩
  | .hbm, ⟨37, _⟩ => ⟨S512x8x1024, .f32⟩
  | .hbm, ⟨38, _⟩ => ⟨S512x8x1024, .f32⟩
  | .hbm, ⟨39, _⟩ => ⟨S_, .f32⟩
  | .hbm, ⟨40, _⟩ => ⟨S8x1024, .f32⟩
  | .hbm, ⟨41, _⟩ => ⟨S1x8x1024, .f32⟩
  | .hbm, ⟨42, _⟩ => ⟨S512x8x1024, .f32⟩
  | .hbm, ⟨43, _⟩ => ⟨S512x8x1024, .f32⟩
  | .hbm, ⟨44, _⟩ => ⟨S_, .f32⟩
  | .hbm, ⟨45, _⟩ => ⟨S8x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S1024x4x896, .f32⟩
  | .hbm, ⟨66, _⟩ => ⟨S4x1024x896, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .f32⟩
  | .local _ .vmem, ⟨3, _⟩ => ⟨S1024x512, .f32⟩
  | .local _ .vmem, ⟨4, _⟩ => ⟨S2816x512, .f32⟩
  | .local _ .vmem, ⟨5, _⟩ => ⟨S2816x512, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S256x1024 : Shape := ⟨2, ![256, 1024]⟩
abbrev S256x5632 : Shape := ⟨2, ![256, 5632]⟩
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S4096x5632, .f32⟩
  | .local _ .vmem, ⟨0, _⟩ => ⟨S256x1024, .bf16⟩
  | .local _ .vmem, ⟨1, _⟩ => ⟨S256x1024, .bf16⟩
  | .local _ .vmem, ⟨2, _⟩ => ⟨S4x1024x1408, .bf16⟩
  | .local _ .vmem, ⟨3, _⟩ => ⟨S256x5632, .f32⟩
  | .local _ .vmem, ⟨4, _⟩ => ⟨S256x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S4096x5632 : Shape := ⟨2, ![4096, 5632]⟩
abbrev S3x5632 : Shape := ⟨2, ![3, 5632]⟩
abbrev S1x5632 : Shape := ⟨2, ![1, 5632]⟩
abbrev S2816x1024 : Shape := ⟨2, ![2816, 1024]⟩
abbrev S4096x1024 : Shape := ⟨2, ![4096, 1024]⟩
abbrev S3x4x1408 : Shape := ⟨3, ![3, 4, 1408]⟩
abbrev S4x3x1408 : Shape := ⟨3, ![4, 3, 1408]⟩
abbrev S1024x2816 : Shape := ⟨2, ![1024, 2816]⟩
abbrev S4096x2816 : Shape := ⟨2, ![4096, 2816]⟩
abbrev S8x1024 : Shape := ⟨2, ![8, 1024]⟩
abbrev S256x5632 : Shape := ⟨2, ![256, 5632]⟩
abbrev S8x5632 : Shape := ⟨2, ![8, 5632]⟩
abbrev S256x1024 : Shape := ⟨2, ![256, 1024]⟩
abbrev S256x2816 : Shape := ⟨2, ![256, 2816]⟩
abbrev S256x1408 : Shape := ⟨2, ![256, 1408]⟩
abbrev S8x1408 : Shape := ⟨2, ![8, 1408]⟩
abbrev S1x1408 : Shape := ⟨2, ![1, 1408]⟩
abbrev S1x1x1408 : Shape := ⟨3, ![1, 1, 1408]⟩
abbrev S248x1408 : Shape := ⟨2, ![248, 1408]⟩
abbrev S32x8x1024 : Shape := ⟨3, ![32, 8, 1024]⟩

abbrev nBuf : Space → Nat
  | .hbm => 14
  | .vmem => 22
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S2816x1024, .bf16⟩
  | .hbm, ⟨7, _⟩ => ⟨S3x4x1408, .f32⟩
  | .hbm, ⟨8, _⟩ => ⟨S4x3x1408, .f32⟩
  | .hbm, ⟨9, _⟩ => ⟨S1024x2816, .bf16⟩
  | .hbm, ⟨10, _⟩ => ⟨S4096x1024, .f32⟩
  | .hbm, ⟨11, _⟩ => ⟨S4096x2816, .bf16⟩
  | .hbm, ⟨12, _⟩ => ⟨S4096x5632, .f32⟩
  | .hbm, ⟨13, _⟩ => ⟨S8x1024, .f32⟩
  | .local _ .vmem, ⟨0, _⟩ => ⟨S256x5632, .f32⟩
  | .local _ .vmem, ⟨1, _⟩ => ⟨S256x5632, .f32⟩
  | .local _ .vmem, ⟨2, _⟩ => ⟨S8x5632, .f32⟩
  | .local _ .vmem, ⟨3, _⟩ => ⟨S8x5632, .f32⟩
  | .local _ .vmem, ⟨4, _⟩ => ⟨S4x3x1408, .f32⟩
  | .local _ .vmem, ⟨5, _⟩ => ⟨S1x5632, .f32⟩
  | .local _ .vmem, ⟨6, _⟩ => ⟨S2816x1024, .bf16⟩
  | .local _ .vmem, ⟨7, _⟩ => ⟨S1024x2816, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x5632, .f32⟩
  | .local _ .vmem, ⟨17, _⟩ => ⟨S256x5632, .f32⟩
  | .local _ .vmem, ⟨18, _⟩ => ⟨S8x1024, .f32⟩
  | .local _ .vmem, ⟨19, _⟩ => ⟨S256x5632, .f32⟩
  | .local _ .vmem, ⟨20, _⟩ => ⟨S256x2816, .bf16⟩
  | .local _ .vmem, ⟨21, _⟩ => ⟨S256x2816, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S4096x5632 : Shape := ⟨2, ![4096, 5632]⟩
abbrev S3x5632 : Shape := ⟨2, ![3, 5632]⟩
abbrev S1x5632 : Shape := ⟨2, ![1, 5632]⟩
abbrev S2816x1024 : Shape := ⟨2, ![2816, 1024]⟩
abbrev S4096x1024 : Shape := ⟨2, ![4096, 1024]⟩
abbrev S_ : Shape := ⟨0, ![]⟩
abbrev S4098x5632 : Shape := ⟨2, ![4098, 5632]⟩
abbrev S5632 : Shape := ⟨1, ![5632]⟩
abbrev S4096x2816 : Shape := ⟨2, ![4096, 2816]⟩
abbrev S4096 : Shape := ⟨1, ![4096]⟩
abbrev S512x8x1024 : Shape := ⟨3, ![512, 8, 1024]⟩
abbrev S8x1024 : Shape := ⟨2, ![8, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .i32⟩
  | .hbm, ⟨7, _⟩ => ⟨S_, .f32⟩
  | .hbm, ⟨8, _⟩ => ⟨S4098x5632, .f32⟩
  | .hbm, ⟨9, _⟩ => ⟨S1x5632, .f32⟩
  | .hbm, ⟨10, _⟩ => ⟨S5632, .f32⟩
  | .hbm, ⟨11, _⟩ => ⟨S4096x5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S4096x5632, .f32⟩
  | .hbm, ⟨20, _⟩ => ⟨S1x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S4096x5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S_, .f32⟩
  | .hbm, ⟨48, _⟩ => ⟨S4096x2816, .f32⟩
  | .hbm, ⟨49, _⟩ => ⟨S4096x2816, .f32⟩
  | .hbm, ⟨50, _⟩ => ⟨S_, .f32⟩
  | .hbm, ⟨51, _⟩ => ⟨S4096x2816, .f32⟩
  | .hbm, ⟨52, _⟩ => ⟨S4096x2816, .f32⟩
  | .hbm, ⟨53, _⟩ => ⟨S_, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x2816, .f32⟩
  | .hbm, ⟨85, _⟩ => ⟨S4096x2816, .f32⟩
  | .hbm, ⟨86, _⟩ => ⟨S4096x2816, .f32⟩
  | .hbm, ⟨87, _⟩ => ⟨S4096x2816, .f32⟩
  | .hbm, ⟨88, _⟩ => ⟨S4096x2816, .f32⟩
  | .hbm, ⟨89, _⟩ => ⟨S4096x2816, .f32⟩
  | .hbm, ⟨90, _⟩ => ⟨S4096x2816, .f32⟩
  | .hbm, ⟨91, _⟩ => ⟨S4096x5632, .f32⟩
  | .hbm, ⟨92, _⟩ => ⟨S4096x2816, .bf16⟩
  | .hbm, ⟨93, _⟩ => ⟨S4096x1024, .f32⟩
  | .hbm, ⟨94, _⟩ => ⟨S4096x1024, .f32⟩
  | .hbm, ⟨95, _⟩ => ⟨S512x8x1024, .f32⟩
  | .hbm, ⟨96, _⟩ => ⟨S_, .f32⟩
  | .hbm, ⟨97, _⟩ => ⟨S8x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_v29_2 : Ref sig .tc := ⟨.hbm, 52, rfl⟩
abbrev main_call2_cst_1 : Ref sig .tc := ⟨.hbm, 53, rfl⟩
abbrev main_call2_v6 : Ref sig .tc := ⟨.hbm, 54, rfl⟩
abbrev main_call2_v7 : Ref sig .tc := ⟨.hbm, 55, rfl⟩
abbrev main_v29_1 : Ref sig .tc := ⟨.hbm, 56, rfl⟩
abbrev main_v29_0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst : Ref sig .tc := ⟨.hbm, 63, rfl⟩
abbrev main_v35 : Ref sig .tc := ⟨.hbm, 64, rfl⟩
abbrev main_v36 : Ref sig .tc := ⟨.hbm, 65, rfl⟩
abbrev main_cst_0 : Ref sig .tc := ⟨.hbm, 66, rfl⟩
abbrev main_v37 : Ref sig .tc := ⟨.hbm, 67, rfl⟩
abbrev main_cst_1 : Ref sig .tc := ⟨.hbm, 68, rfl⟩
abbrev main_v38 : Ref sig .tc := ⟨.hbm, 69, rfl⟩
abbrev main_v39 : Ref sig .tc := ⟨.hbm, 70, rfl⟩
abbrev main_cst_2 : Ref sig .tc := ⟨.hbm, 71, rfl⟩
abbrev main_v40 : Ref sig .tc := ⟨.hbm, 72, rfl⟩
abbrev main_cst_3 : Ref sig .tc := ⟨.hbm, 73, rfl⟩
abbrev main_v41 : Ref sig .tc := ⟨.hbm, 74, rfl⟩
abbrev main_cst_4 : Ref sig .tc := ⟨.hbm, 75, rfl⟩
abbrev main_cst_5 : Ref sig .tc := ⟨.hbm, 76, rfl⟩
abbrev main_v42 : Ref sig .tc := ⟨.hbm, 77, rfl⟩
abbrev main_v43 : Ref sig .tc := ⟨.hbm, 78, rfl⟩
abbrev main_cst_6 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_7 : Ref sig .tc := ⟨.hbm, 96, rfl⟩
abbrev main_v57 : Ref sig .tc := ⟨.hbm, 97, rfl⟩

abbrev nD : Nat := 1
abbrev τ : Topo := Topo.v7x

variable {F : FTy → Type} [FloatOps F]
-- ==== Kernel7.lean ====
abbrev S4096x256 : Shape := ⟨2, ![4096, 256]⟩
abbrev S4096x4 : Shape := ⟨2, ![4096, 4]⟩
abbrev S4096x512 : Shape := ⟨2, ![4096, 512]⟩
abbrev S4096x1024 : Shape := ⟨2, ![4096, 1024]⟩
abbrev S1024x3072 : Shape := ⟨2, ![1024, 3072]⟩
abbrev S1x3072 : Shape := ⟨2, ![1, 3072]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S4096x4x1 : Shape := ⟨3, ![4096, 4, 1]⟩
abbrev S4096x4x64 : Shape := ⟨3, ![4096, 4, 64]⟩
abbrev S1024x4x768 : Shape := ⟨3, ![1024, 4, 768]⟩
abbrev S4x1024x768 : Shape := ⟨3, ![4, 1024, 768]⟩
abbrev S256x4x256 : Shape := ⟨3, ![256, 4, 256]⟩
abbrev S4x256x256 : Shape := ⟨3, ![4, 256, 256]⟩
abbrev S512x4x256 : Shape := ⟨3, ![512, 4, 256]⟩
abbrev S4x512x256 : Shape := ⟨3, ![4, 512, 256]⟩
abbrev S4096x3072 : Shape := ⟨2, ![4096, 3072]⟩
abbrev S512x256 : Shape := ⟨2, ![512, 256]⟩
abbrev S512x512 : Shape := ⟨2, ![512, 512]⟩
abbrev S512x3072 : Shape := ⟨2, ![512, 3072]⟩
abbrev S1x1024x768 : Shape := ⟨3, ![1, 1024, 768]⟩
abbrev S1024x768 : Shape := ⟨2, ![1024, 768]⟩
abbrev S512x768 : Shape := ⟨2, ![512, 768]⟩
abbrev S1x768 : Shape := ⟨2, ![1, 768]⟩
abbrev S1x256x256 : Shape := ⟨3, ![1, 256, 256]⟩
abbrev S256x256 : Shape := ⟨2, ![256, 256]⟩
abbrev S1x512x256 : Shape := ⟨3, ![1, 512, 256]⟩
abbrev S512 : Shape := ⟨1, ![512]⟩
abbrev S512x1 : Shape := ⟨2, ![512, 1]⟩

abbrev nBuf : Space → Nat
  | .hbm => 45
  | .vmem => 38
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x4, .f32⟩
  | .hbm, ⟨4, _⟩ => ⟨S4096x4, .f32⟩
  | .hbm, ⟨5, _⟩ => ⟨S4096x4, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S1024x3072, .f32⟩
  | .hbm, ⟨11, _⟩ => ⟨S1x3072, .f32⟩
  | .hbm, ⟨12, _⟩ => ⟨S256x1024, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S1x1024, .f32⟩
  | .hbm, ⟨17, _⟩ => ⟨S4096x4x1, .f32⟩
  | .hbm, ⟨18, _⟩ => ⟨S4096x4x64, .f32⟩
  | .hbm, ⟨19, _⟩ => ⟨S4096x256, .f32⟩
  | .hbm, ⟨20, _⟩ => ⟨S4096x4x1, .f32⟩
  | .hbm, ⟨21, _⟩ => ⟨S4096x4x64, .f32⟩
  | .hbm, ⟨22, _⟩ => ⟨S4096x256, .f32⟩
  | .hbm, ⟨23, _⟩ => ⟨S4096x4x1, .f32⟩
  | .hbm, ⟨24, _⟩ => ⟨S4096x4x64, .f32⟩
  | .hbm, ⟨25, _⟩ => ⟨S4096x256, .f32⟩
  | .hbm, ⟨26, _⟩ => ⟨S1024x4x768, .f32⟩
  | .hbm, ⟨27, _⟩ => ⟨S4x1024x768, .f32⟩
  | .hbm, ⟨28, _⟩ => ⟨S4x1024x768, .bf16⟩
  | .hbm, ⟨29, _⟩ => ⟨S256x4x256, .f32⟩
  | .hbm, ⟨30, _⟩ => ⟨S4x256x256, .f32⟩
  | .hbm, ⟨31, _⟩ => ⟨S4x256x256, .bf16⟩
  | .hbm, ⟨32, _⟩ => ⟨S512x4x256, .f32⟩
  | .hbm, ⟨33, _⟩ => ⟨S4x512x256, .f32⟩
  | .hbm, ⟨34, _⟩ => ⟨S4x512x256, .bf16⟩
  | .hbm, ⟨35, _⟩ => ⟨S512x4x256, .f32⟩
  | .hbm, ⟨36, _⟩ => ⟨S4x512x256, .f32⟩
  | .hbm, ⟨37, _⟩ => ⟨S4x512x256, .bf16⟩
  | .hbm, ⟨38, _⟩ => ⟨S4096x1024, .bf16⟩
  | .hbm, ⟨39, _⟩ => ⟨S1024x1024, .bf16⟩
  | .hbm, ⟨40, _⟩ => ⟨S4096x256, .f32⟩
  | .hbm, ⟨41, _⟩ => ⟨S4096x1024, .bf16⟩
  | .hbm, ⟨42, _⟩ => ⟨S4096x1024, .f32⟩
  | .hbm, ⟨43, _⟩ => ⟨S4096x1024, .bf16⟩
  | .hbm, ⟨44, _⟩ => ⟨S4096x3072, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S4x1024x768, .bf16⟩
  | .local _ .vmem, ⟨21, _⟩ => ⟨S1x3072, .f32⟩
  | .local _ .vmem, ⟨22, _⟩ => ⟨S4x256x256, .bf16⟩
  | .local _ .vmem, ⟨23, _⟩ => ⟨S4x512x256, .bf16⟩
  | .local _ .vmem, ⟨24, _⟩ => ⟨S4x512x256, .bf16⟩
  | .local _ .vmem, ⟨25, _⟩ => ⟨S1024x1024, .bf16⟩
  | .local _ .vmem, ⟨26, _⟩ => ⟨S1x1024, .f32⟩
  | .local _ .vmem, ⟨27, _⟩ => ⟨S512x256, .f32⟩
  | .local _ .vmem, ⟨28, _⟩ => ⟨S512x256, .f32⟩
  | .local _ .vmem, ⟨29, _⟩ => ⟨S512x1024, .bf16⟩
  | .local _ .vmem, ⟨30, _⟩ => ⟨S512x1024, .bf16⟩
  | .local _ .vmem, ⟨31, _⟩ => ⟨S512x1024, .f32⟩
  | .local _ .vmem, ⟨32, _⟩ => ⟨S512x1024, .f32⟩
  | .local _ .vmem, ⟨33, _⟩ => ⟨S512x1024, .bf16⟩
  | .local _ .vmem, ⟨34, _⟩ => ⟨S512x1024, .bf16⟩
  | .local _ .vmem, ⟨35, _⟩ => ⟨S512x3072, .f32⟩
  | .local _ .vmem, ⟨36, _⟩ => ⟨S512x3072, .f32⟩
  | .local _ .vmem, ⟨37, _⟩ => ⟨S512x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v23_3 : Ref sig .tc := ⟨.hbm, 43, rfl⟩
abbrev main_v23_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x1024x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x3072 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference7Ideal.lean ====
abbrev S4096x256 : Shape := ⟨2, ![4096, 256]⟩
abbrev S4096x4 : Shape := ⟨2, ![4096, 4]⟩
abbrev S4096x512 : Shape := ⟨2, ![4096, 512]⟩
abbrev S4096x1024 : Shape := ⟨2, ![4096, 1024]⟩
abbrev S1024x3072 : Shape := ⟨2, ![1024, 3072]⟩
abbrev S1x3072 : Shape := ⟨2, ![1, 3072]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S1x4096x4 : Shape := ⟨3, ![1, 4096, 4]⟩
abbrev S3x4096x4 : Shape := ⟨3, ![3, 4096, 4]⟩
abbrev S_ : Shape := ⟨0, ![]⟩
abbrev S1x4096x256 : Shape := ⟨3, ![1, 4096, 256]⟩
abbrev S3x4096x256 : Shape := ⟨3, ![3, 4096, 256]⟩
abbrev S3x4096x4x64 : Shape := ⟨4, ![3, 4096, 4, 64]⟩
abbrev S3x4096x4x1 : Shape := ⟨4, ![3, 4096, 4, 1]⟩
abbrev S4096x4x64 : Shape := ⟨3, ![4096, 4, 64]⟩
abbrev S4096x3072 : Shape := ⟨2, ![4096, 3072]⟩
abbrev S4096 : Shape := ⟨1, ![4096]⟩
abbrev S4096x1 : Shape := ⟨2, ![4096, 1]⟩

abbrev nBuf : Space → Nat
  | .hbm => 87
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x4, .f32⟩
  | .hbm, ⟨4, _⟩ => ⟨S4096x4, .f32⟩
  | .hbm, ⟨5, _⟩ => ⟨S4096x4, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S1024x3072, .f32⟩
  | .hbm, ⟨11, _⟩ => ⟨S1x3072, .f32⟩
  | .hbm, ⟨12, _⟩ => ⟨S256x1024, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S1x1024, .f32⟩
  | .hbm, ⟨17, _⟩ => ⟨S1x4096x4, .f32⟩
  | .hbm, ⟨18, _⟩ => ⟨S1x4096x4, .f32⟩
  | .hbm, ⟨19, _⟩ => ⟨S1x4096x4, .f32⟩
  | .hbm, ⟨20, _⟩ => ⟨S3x4096x4, .f32⟩
  | .hbm, ⟨21, _⟩ => ⟨S_, .f32⟩
  | .hbm, ⟨22, _⟩ => ⟨S4096x4, .f32⟩
  | .hbm, ⟨23, _⟩ => ⟨S_, .f32⟩
  | .hbm, ⟨24, _⟩ => ⟨S4096x4, .f32⟩
  | .hbm, ⟨25, _⟩ => ⟨S4096x4, .f32⟩
  | .hbm, ⟨26, _⟩ => ⟨S1x4096x4, .f32⟩
  | .hbm, ⟨27, _⟩ => ⟨S3x4096x4, .f32⟩
  | .hbm, ⟨28, _⟩ => ⟨S3x4096x4, .f32⟩
  | .hbm, ⟨29, _⟩ => ⟨S3x4096x4, .f32⟩
  | .hbm, ⟨30, _⟩ => ⟨S_, .f32⟩
  | .hbm, ⟨31, _⟩ => ⟨S4096x4, .f32⟩
  | .hbm, ⟨32, _⟩ => ⟨S1x4096x4, .f32⟩
  | .hbm, ⟨33, _⟩ => ⟨S3x4096x4, .f32⟩
  | .hbm, ⟨34, _⟩ => ⟨S3x4096x4, .f32⟩
  | .hbm, ⟨35, _⟩ => ⟨S1x4096x256, .f32⟩
  | .hbm, ⟨36, _⟩ => ⟨S1x4096x256, .f32⟩
  | .hbm, ⟨37, _⟩ => ⟨S1x4096x256, .f32⟩
  | .hbm, ⟨38, _⟩ => ⟨S3x4096x256, .f32⟩
  | .hbm, ⟨39, _⟩ => ⟨S3x4096x4x64, .f32⟩
  | .hbm, ⟨40, _⟩ => ⟨S3x4096x4x1, .f32⟩
  | .hbm, ⟨41, _⟩ => ⟨S3x4096x4x64, .f32⟩
  | .hbm, ⟨42, _⟩ => ⟨S3x4096x4x64, .f32⟩
  | .hbm, ⟨43, _⟩ => ⟨S_, .f32⟩
  | .hbm, ⟨44, _⟩ => ⟨S4096x4x64, .f32⟩
  | .hbm, ⟨45, _⟩ => ⟨S4096x256, .f32⟩
  | .hbm, ⟨46, _⟩ => ⟨S4096x3072, .f32⟩
  | .hbm, ⟨47, _⟩ => ⟨S4096x3072, .f32⟩
  | .hbm, ⟨48, _⟩ => ⟨S4096x3072, .f32⟩
  | .hbm, ⟨49, _⟩ => ⟨S4096x3072, .f32⟩
  | .hbm, ⟨50, _⟩ => ⟨S4096x3072, .f32⟩
  | .hbm, ⟨51, _⟩ => ⟨S_, .f32⟩
  | .hbm, ⟨52, _⟩ => ⟨S4096x3072, .f32⟩
  | .hbm, ⟨53, _⟩ => ⟨S4096x3072, .f32⟩
  | .hbm, ⟨54, _⟩ => ⟨S_, .f32⟩
  | .hbm, ⟨55, _⟩ => ⟨S4096x3072, .f32⟩
  | .hbm, ⟨56, _⟩ => ⟨S4096x3072, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .bf16⟩
  | .hbm, ⟨86, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x3584 : Shape := ⟨2, ![1024, 3584]⟩
abbrev S1x64 : Shape := ⟨2, ![1, 64]⟩
abbrev S16384x8 : Shape := ⟨2, ![16384, 8]⟩
abbrev S1024x4x896 : Shape := ⟨3, ![1024, 4, 896]⟩
abbrev S4x1024x896 : Shape := ⟨3, ![4, 1024, 896]⟩
abbrev S_ : Shape := ⟨0, ![]⟩
abbrev S16384x48 : Shape := ⟨2, ![16384, 48]⟩
abbrev S16384x128 : Shape := ⟨2, ![16384, 128]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x512 : Shape := ⟨3, ![1, 1, 512]⟩
abbrev S1x1x2x64 : Shape := ⟨4, ![1, 1, 2, 64]⟩
abbrev S1x128 : Shape := ⟨2, ![1, 128]⟩
abbrev S1x1x128 : Shape := ⟨3, ![1, 1, 128]⟩
abbrev S4096x768 : Shape := ⟨2, ![4096, 768]⟩
abbrev S4096x512 : Shape := ⟨2, ![4096, 512]⟩
abbrev S4096x128 : Shape := ⟨2, ![4096, 128]⟩
abbrev S512x1024 : Shape := ⟨2, ![512, 1024]⟩
abbrev S512x128 : Shape := ⟨2, ![512, 128]⟩
abbrev S512x768 : Shape := ⟨2, ![512, 768]⟩
abbrev S512x512 : Shape := ⟨2, ![512, 512]⟩
abbrev S512x3584 : Shape := ⟨2, ![512, 3584]⟩
abbrev S512 : Shape := ⟨1, ![512]⟩
abbrev S512x1 : Shape := ⟨2, ![512, 1]⟩
abbrev S1x1024x896 : Shape := ⟨3, ![1, 1024, 896]⟩
abbrev S1024x896 : Shape := ⟨2, ![1024, 896]⟩
abbrev S512x896 : Shape := ⟨2, ![512, 896]⟩
abbrev S128x128 : Shape := ⟨2, ![128, 128]⟩

abbrev nBuf : Space → Nat
  | .hbm => 41
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S1x64, .f32⟩
  | .hbm, ⟨4, _⟩ => ⟨S1x64, .f32⟩
  | .hbm, ⟨5, _⟩ => ⟨S16384x8, .f32⟩
  | .hbm, ⟨6, _⟩ => ⟨S16384x8, .f32⟩
  | .hbm, ⟨7, _⟩ => ⟨S1024x4x896, .f32⟩
  | .hbm, ⟨8, _⟩ => ⟨S4x1024x896, .f32⟩
  | .hbm, ⟨9, _⟩ => ⟨S4x1024x896, .bf16⟩
  | .hbm, ⟨10, _⟩ => ⟨S_, .f32⟩
  | .hbm, ⟨11, _⟩ => ⟨S16384x48, .f32⟩
  | .hbm, ⟨12, _⟩ => ⟨S_, .f32⟩
  | .hbm, ⟨13, _⟩ => ⟨S16384x8, .f32⟩
  | .hbm, ⟨14, _⟩ => ⟨S_, .f32⟩
  | .hbm, ⟨15, _⟩ => ⟨S16384x48, .f32⟩
  | .hbm, ⟨16, _⟩ => ⟨S16384x128, .f32⟩
  | .hbm, ⟨17, _⟩ => ⟨S16384x8, .f32⟩
  | .hbm, ⟨18, _⟩ => ⟨S16384x128, .f32⟩
  | .hbm, ⟨19, _⟩ => ⟨S16384x128, .f32⟩
  | .hbm, ⟨20, _⟩ => ⟨S1x1x1x64, .f32⟩
  | .hbm, ⟨21, _⟩ => ⟨S1x1x8x64, .f32⟩
  | .hbm, ⟨22, _⟩ => ⟨S1x512, .f32⟩
  | .hbm, ⟨23, _⟩ => ⟨S1x1x512, .f32⟩
  | .hbm, ⟨24, _⟩ => ⟨S1x1x1x64, .f32⟩
  | .hbm, ⟨25, _⟩ => ⟨S1x1x2x64, .f32⟩
  | .hbm, ⟨26, _⟩ => ⟨S1x128, .f32⟩
  | .hbm, ⟨27, _⟩ => ⟨S1x1x128, .f32⟩
  | .hbm, ⟨28, _⟩ => ⟨S1x512, .f32⟩
  | .hbm, ⟨29, _⟩ => ⟨S1x128, .f32⟩
  | .hbm, ⟨30, _⟩ => ⟨S4096x1024, .bf16⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S4096x512, .f32⟩
  | .hbm, ⟨35, _⟩ => ⟨S4096x128, .f32⟩
  | .hbm, ⟨36, _⟩ => ⟨S4096x128, .f32⟩
  | .hbm, ⟨37, _⟩ => ⟨S4096x512, .f32⟩
  | .hbm, ⟨38, _⟩ => ⟨S4096x512, .bf16⟩
  | .hbm, ⟨39, _⟩ => ⟨S4096x128, .bf16⟩
  | .hbm, ⟨40, _⟩ => ⟨S4096x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x896, .bf16⟩
  | .local _ .vmem, ⟨4, _⟩ => ⟨S1x512, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | .local _ .vmem, ⟨18, _⟩ => ⟨S512x768, .f32⟩
  | .local _ .vmem, ⟨19, _⟩ => ⟨S512x768, .f32⟩
  | .local _ .vmem, ⟨20, _⟩ => ⟨S512x512, .f32⟩
  | .local _ .vmem, ⟨21, _⟩ => ⟨S512x512, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x512, .f32⟩
  | .local _ .vmem, ⟨27, _⟩ => ⟨S512x512, .f32⟩
  | .local _ .vmem, ⟨28, _⟩ => ⟨S512x512, .bf16⟩
  | .local _ .vmem, ⟨29, _⟩ => ⟨S512x512, .bf16⟩
  | .local _ .vmem, ⟨30, _⟩ => ⟨S512x128, .bf16⟩
  | .local _ .vmem, ⟨31, _⟩ => ⟨S512x128, .bf16⟩
  | .local _ .vmem, ⟨32, _⟩ => ⟨S512x128, .bf16⟩
  | .local _ .vmem, ⟨33, _⟩ => ⟨S512x128, .bf16⟩
  | .local _ .vmem, ⟨34, _⟩ => ⟨S512x3584, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev main_v20_7 : Ref sig .tc := ⟨.hbm, 37, rfl⟩
abbrev main_v20_8 : Ref sig .tc := ⟨.hbm, 38, rfl⟩
abbrev main_v20_9 : Ref sig .tc := ⟨.hbm, 39, rfl⟩
abbrev main_v20_10 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference8Ideal.lean ====
abbrev S4096x1024 : Shape := ⟨2, ![4096, 1024]⟩
abbrev S1x1024 : Shape := ⟨2, ![1, 1024]⟩
abbrev S1024x3584 : Shape := ⟨2, ![1024, 3584]⟩
abbrev S1x64 : Shape := ⟨2, ![1, 64]⟩
abbrev S16384x8 : Shape := ⟨2, ![16384, 8]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩
abbrev S4096x2304 : Shape := ⟨2, ![4096, 2304]⟩
abbrev S4096x512 : Shape := ⟨2, ![4096, 512]⟩
abbrev S4096x128 : Shape := ⟨2, ![4096, 128]⟩
abbrev S4096x768 : Shape := ⟨2, ![4096, 768]⟩
abbrev S4096x8 : Shape := ⟨2, ![4096, 8]⟩
abbrev S4096x1x8 : Shape := ⟨3, ![4096, 1, 8]⟩
abbrev S4096x8x64 : Shape := ⟨3, ![4096, 8, 64]⟩
abbrev S4096x8x1 : Shape := ⟨3, ![4096, 8, 1]⟩
abbrev S1x1x64 : Shape := ⟨3, ![1, 1, 64]⟩
abbrev S4096x8x8 : Shape := ⟨3, ![4096, 8, 8]⟩
abbrev S4096x8x16 : Shape := ⟨3, ![4096, 8, 16]⟩
abbrev S4096x8x48 : Shape := ⟨3, ![4096, 8, 48]⟩
abbrev S4096x2x64 : Shape := ⟨3, ![4096, 2, 64]⟩
abbrev S4096x2 : Shape := ⟨2, ![4096, 2]⟩
abbrev S4096x2x1 : Shape := ⟨3, ![4096, 2, 1]⟩
abbrev S4096x2x8 : Shape := ⟨3, ![4096, 2, 8]⟩
abbrev S4096x2x16 : Shape := ⟨3, ![4096, 2, 16]⟩
abbrev S4096x2x48 : Shape := ⟨3, ![4096, 2, 48]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S1x64, .f32⟩
  | .hbm, ⟨4, _⟩ => ⟨S1x64, .f32⟩
  | .hbm, ⟨5, _⟩ => ⟨S16384x8, .f32⟩
  | .hbm, ⟨6, _⟩ => ⟨S16384x8, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x3584, .f32⟩
  | .hbm, ⟨23, _⟩ => ⟨S4096x2304, .f32⟩
  | .hbm, ⟨24, _⟩ => ⟨S4096x512, .f32⟩
  | .hbm, ⟨25, _⟩ => ⟨S4096x128, .f32⟩
  | .hbm, ⟨26, _⟩ => ⟨S4096x128, .f32⟩
  | .hbm, ⟨27, _⟩ => ⟨S4096x512, .f32⟩
  | .hbm, ⟨28, _⟩ => ⟨S4096x768, .f32⟩
  | .hbm, ⟨29, _⟩ => ⟨S4096x768, .f32⟩
  | .hbm, ⟨30, _⟩ => ⟨S4096x768, .f32⟩
  | .hbm, ⟨31, _⟩ => ⟨S4096x8, .f32⟩
  | .hbm, ⟨32, _⟩ => ⟨S4096x1x8, .f32⟩
  | .hbm, ⟨33, _⟩ => ⟨S4096x8, .f32⟩
  | .hbm, ⟨34, _⟩ => ⟨S4096x1x8, .f32⟩
  | .hbm, ⟨35, _⟩ => ⟨S4096x8x64, .f32⟩
  | .hbm, ⟨36, _⟩ => ⟨S4096x8x64, .f32⟩
  | .hbm, ⟨37, _⟩ => ⟨S_, .f32⟩
  | .hbm, ⟨38, _⟩ => ⟨S4096x8, .f32⟩
  | .hbm, ⟨39, _⟩ => ⟨S4096x8x1, .f32⟩
  | .hbm, ⟨40, _⟩ => ⟨S_, .f32⟩
  | .hbm, ⟨41, _⟩ => ⟨S4096x8x1, .f32⟩
  | .hbm, ⟨42, _⟩ => ⟨S4096x8x1, .f32⟩
  | .hbm, ⟨43, _⟩ => ⟨S_, .f32⟩
  | .hbm, ⟨44, _⟩ => ⟨S4096x8x1, .f32⟩
  | .hbm, ⟨45, _⟩ => ⟨S4096x8x1, .f32⟩
  | .hbm, ⟨46, _⟩ => ⟨S4096x8x1, .f32⟩
  | .hbm, ⟨47, _⟩ => ⟨S4096x8x64, .f32⟩
  | .hbm, ⟨48, _⟩ => ⟨S4096x8x64, .f32⟩
  | .hbm, ⟨49, _⟩ => ⟨S1x1x64, .f32⟩
  | .hbm, ⟨50, _⟩ => ⟨S4096x8x64, .f32⟩
  | .hbm, ⟨51, _⟩ => ⟨S4096x8x64, .f32⟩
  | .hbm, ⟨52, _⟩ => ⟨S4096x8x8, .f32⟩
  | .hbm, ⟨53, _⟩ => ⟨S4096x8x8, .f32⟩
  | .hbm, ⟨54, _⟩ => ⟨S4096x8x8, .f32⟩
  | .hbm, ⟨55, _⟩ => ⟨S4096x8x8, .f32⟩
  | .hbm, ⟨56, _⟩ => ⟨S4096x8x8, .f32⟩
  | .hbm, ⟨57, _⟩ => ⟨S4096x8x8, .f32⟩
  | .hbm, ⟨58, _⟩ => ⟨S4096x8x8, .f32⟩
  | .hbm, ⟨59, _⟩ => ⟨S4096x8x8, .f32⟩
  | .hbm, ⟨60, _⟩ => ⟨S4096x8x8, .f32⟩
  | .hbm, ⟨61, _⟩ => ⟨S4096x8x8, .f32⟩
  | .hbm, ⟨62, _⟩ => ⟨S4096x8x8, .f32⟩
  | .hbm, ⟨63, _⟩ => ⟨S4096x8x8, .f32⟩
  | .hbm, ⟨64, _⟩ => ⟨S4096x8x16, .f32⟩
  | .hbm, ⟨65, _⟩ => ⟨S4096x8x48, .f32⟩
  | .hbm, ⟨66, _⟩ => ⟨S4096x8x64, .f32⟩
  | .hbm, ⟨67, _⟩ => ⟨S4096x512, .f32⟩
  | .hbm, ⟨68, _⟩ => ⟨S4096x2x64, .f32⟩
  | .hbm, ⟨69, _⟩ => ⟨S4096x2x64, .f32⟩
  | .hbm, ⟨70, _⟩ => ⟨S_, .f32⟩
  | .hbm, ⟨71, _⟩ => ⟨S4096x2, .f32⟩
  | .hbm, ⟨72, _⟩ => ⟨S4096x2x1, .f32⟩
  | .hbm, ⟨73, _⟩ => ⟨S_, .f32⟩
  | .hbm, ⟨74, _⟩ => ⟨S4096x2x1, .f32⟩
  | .hbm, ⟨75, _⟩ => ⟨S4096x2x1, .f32⟩
  | .hbm, ⟨76, _⟩ => ⟨S_, .f32⟩
  | .hbm, ⟨77, _⟩ => ⟨S4096x2x1, .f32⟩
  | .hbm, ⟨78, _⟩ => ⟨S4096x2x1, .f32⟩
  | .hbm, ⟨79, _⟩ => ⟨S4096x2x1, .f32⟩
  | .hbm, ⟨80, _⟩ => ⟨S4096x2x64, .f32⟩
  | .hbm, ⟨81, _⟩ => ⟨S4096x2x64, .f32⟩
  | .hbm, ⟨82, _⟩ => ⟨S1x1x64, .f32⟩
  | .hbm, ⟨83, _⟩ => ⟨S4096x2x64, .f32⟩
  | .hbm, ⟨84, _⟩ => ⟨S4096x2x64, .f32⟩
  | .hbm, ⟨85, _⟩ => ⟨S4096x2x8, .f32⟩
  | .hbm, ⟨86, _⟩ => ⟨S4096x2x8, .f32⟩
  | .hbm, ⟨87, _⟩ => ⟨S4096x2x8, .f32⟩
  | .hbm, ⟨88, _⟩ => ⟨S4096x2x8, .f32⟩
  | .hbm, ⟨89, _⟩ => ⟨S4096x2x8, .f32⟩
  | .hbm, ⟨90, _⟩ => ⟨S4096x2x8, .f32⟩
  | .hbm, ⟨91, _⟩ => ⟨S4096x2x8, .f32⟩
  | .hbm, ⟨92, _⟩ => ⟨S4096x2x8, .f32⟩
  | .hbm, ⟨93, _⟩ => ⟨S4096x2x8, .f32⟩
  | .hbm, ⟨94, _⟩ => ⟨S4096x2x8, .f32⟩
  | .hbm, ⟨95, _⟩ => ⟨S4096x2x8, .f32⟩
  | .hbm, ⟨96, _⟩ => ⟨S4096x2x8, .f32⟩
  | .hbm, ⟨97, _⟩ => ⟨S4096x2x16, .f32⟩
  | .hbm, ⟨98, _⟩ => ⟨S4096x2x48, .f32⟩
  | .hbm, ⟨99, _⟩ => ⟨S4096x2x64, .f32⟩
  | .hbm, ⟨100, _⟩ => ⟨S4096x128, .f32⟩
  | .hbm, ⟨101, _⟩ => ⟨S4096x1024, .bf16⟩
  | .hbm, ⟨102, _⟩ => ⟨S4096x512, .bf16⟩
  | .hbm, ⟨103, _⟩ => ⟨S4096x128, .bf16⟩
  | .hbm, ⟨104, _⟩ => ⟨S4096x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩

abbrev nD : Nat := 1
abbrev τ : Topo := Topo.v7x

variable {F : FTy → Type} [FloatOps F]
-- ==== Proof.Conv.Spec.lean ====
/- What the gradient of the up projection and its causal convolution computes, entry by entry, on the extended reals. -/
module

public import Idealize.ShloMosaic.Lib.Pipeline.ValueKit
public import Idealize.ShloMosaic.Lib.Pointwise

@[expose] public section

noncomputable section

namespace Cert.Conv

open Idealize.ShloMosaic

/-- A float32 matrix of extended reals. -/
abbrev Mat (a b : ℕ) := FVec Ideal (⟨2, ![a, b]⟩ : Shape) .f32

variable (X : Mat 4096 1024) (G : Mat 1 1024) (W : Mat 1024 5632) (C : Mat 3 5632) (D : Mat 4096 5632) (Y : Mat 4096 1024)

/-- The cotangent `k` rows further on, zero past the last row. -/
def ahead (k : ℕ) (r : Fin 4096) (c : Fin 5632) : EReal := if h : (r : ℕ) + k < 4096 then D (ix2 ⟨r + k, h⟩ c) else 0

/-- The gradient of the convolution's input: tap 2 meets the row itself, tap 1 the next row, tap 0 the one after. -/
def du (r : Fin 4096) (c : Fin 5632) : EReal :=
  C (ix2 2 c) * D (ix2 r c) + C (ix2 1 c) * ahead D 1 r c + C (ix2 0 c) * ahead D 2 r c

/-- The gradient of the normalised row: the convolution's gradient back through the up projection. -/
def dh (r : Fin 4096) (i : Fin 1024) : EReal := ∑ c : Fin 5632, du C D r c * W (ix2 i c)

/-- The mean square of a row plus the normalisation's small constant. -/
def ms (r : Fin 4096) : EReal :=
  Ideal.div (∑ i : Fin 1024, X (ix2 r i) * X (ix2 r i)) (Ideal.ofBits .f32 0x44800000#32) + Ideal.ofBits .f32 0x358637BD#32

/-- A row divided by its root mean square. -/
def xh (r : Fin 4096) (i : Fin 1024) : EReal := X (ix2 r i) * Ideal.rsqrt (ms X r)

/-- The up projection of the normalised rows. -/
def up (r : Fin 4096) (c : Fin 5632) : EReal := ∑ i : Fin 1024, xh X r i * G (ix2 0 i) * W (ix2 i c)

/-- The row `8 a + s`. -/
def row8 (a : Fin 512) (s : Fin 8) : Fin 4096 := ⟨8 * a + s, by omega⟩

/-- The partial sums of the normalisation's gain gradient: one for each row residue modulo 8. -/
def gain (s : Fin 8) (i : Fin 1024) : EReal := ∑ a : Fin 512, dh W C D (row8 a s) i * xh X (row8 a s) i

/-- The partial sums, one for each row residue modulo 8, of the gradients of the convolution's bias (0) and of its taps
    0, 1 and 2 (1, 2 and 3). -/
def taps (q : Fin 4) (s : Fin 8) (c : Fin 5632) : EReal :=
  ![∑ a : Fin 512, D (ix2 (row8 a s) c), ∑ a : Fin 512, ahead D 2 (row8 a s) c * up X G W (row8 a s) c,
    ∑ a : Fin 512, ahead D 1 (row8 a s) c * up X G W (row8 a s) c, ∑ a : Fin 512, D (ix2 (row8 a s) c) * up X G W (row8 a s) c] q

/-- A cotangent `y` plus the gradient of the normalisation, whose output's gradient in this row is `h`. -/
def addNorm (h : Fin 1024 → EReal) (y : EReal) (r : Fin 4096) (i : Fin 1024) : EReal :=
  y + Ideal.rsqrt (ms X r) * (h i * G (ix2 0 i)
    - xh X r i * Ideal.div (∑ k : Fin 1024, h k * G (ix2 0 k) * xh X r k) (Ideal.ofBits .f32 0x44800000#32))

/-- The part of the normalisation's gradient that is the same for a whole row, as the square's derivative gives it. -/
def half (h : Fin 1024 → EReal) (r : Fin 4096) : EReal :=
  Ideal.div ((∑ k : Fin 1024, X (ix2 r k) * (h k * G (ix2 0 k)))
    * (Ideal.ofBits .f32 0xBF000000#32 * Ideal.div (Ideal.rsqrt (ms X r)) (ms X r))) (Ideal.ofBits .f32 0x44800000#32)

/-- The same sum, the square's two factors differentiated one after the other. -/
def addNorm' (h : Fin 1024 → EReal) (y : EReal) (r : Fin 4096) (i : Fin 1024) : EReal :=
  y + h i * G (ix2 0 i) * Ideal.rsqrt (ms X r) + X (ix2 r i) * half X G h r + half X G h r * X (ix2 r i)

/-- The gradient of the block's input: the residual's cotangent plus the normalisation's gradient. -/
def dx (r : Fin 4096) (i : Fin 1024) : EReal := addNorm X G (dh W C D r) (Y (ix2 r i)) r i

/-- The same gradient, as the derivative of the square gives it. -/
def dx' (r : Fin 4096) (i : Fin 1024) : EReal := addNorm' X G (dh W C D r) (Y (ix2 r i)) r i

end Cert.Conv

end
-- ==== Proof.Conv.Ref.lean ====
/- The reference's results du and dgain, entry by entry. -/
module

public import proofs.«01_k».proof.Proof.Conv.Spec
public import proofs.«01_k».proof.Proof.Gen.ReferenceIdeal.Run

@[expose] public section

set_option maxRecDepth 16384

noncomputable section

namespace Cert.Conv

open Cert.ReferenceIdeal Cert.ReferenceIdeal.Gen Idealize.ShloMosaic Idealize.ShloMosaic.TcCoe Idealize.SL.Sem

/-- A slice of the padded cotangent, as the shifted cotangent. -/
theorem slice_ahead (D : Mat 4096 5632) (r : Fin 4096) (c : Fin 5632) :
    ((if h : 1 ≤ 2 + (r : ℕ) ∧ 2 + (r : ℕ) - 1 < 4096 then D (ix2 ⟨2 + r - 1, h.2⟩ c) else 0) = ahead D 1 r c)
      ∧ (if h : 2 + (r : ℕ) < 4096 then D (ix2 ⟨2 + r, h⟩ c) else 0) = ahead D 2 r c := by
  unfold ahead
  constructor
  · by_cases h : (r : ℕ) + 1 < 4096
    · rw [dif_pos h, dif_pos (by omega)]
      exact congrArg (fun s => D (ix2 s c)) (Fin.ext (by simp; omega))
    · rw [dif_neg h, dif_neg (by omega)]
  · by_cases h : (r : ℕ) + 2 < 4096
    · rw [dif_pos h, dif_pos (by omega)]
      exact congrArg (fun s => D (ix2 s c)) (Fin.ext (by simp; omega))
    · rw [dif_neg h, dif_neg (by omega)]

/-- Two folds of a product over the rows of one residue. -/
theorem fold8 (A B : FVec Ideal S4096x1024 .f32) (j : S8x1024.Idx) :
    Host.reduceAdd (shapeCast _ (Host.reduceAdd (mulf (shapeCast _ A shapeCasts_S4096x1024_S512x8x1024)
      (shapeCast _ B shapeCasts_S4096x1024_S512x8x1024)) (constant S_ .f32 0x00000000#32) reducesTo_S512x8x1024_S8x1024_d0 h_S_)
      shapeCasts_S8x1024_S1x8x1024) (constant S_ .f32 0x00000000#32) reducesTo_S1x8x1024_S8x1024_d0 h_S_ j
      = ∑ a : Fin 512, B (ix2 (row8 a (j 0)) (j 1)) * A (ix2 (row8 a (j 0)) (j 1)) := by
  pointwise
  rw [Fin.sum_univ_one]
  refine Finset.sum_congr rfl fun a _ => ?_
  rw [mul_comm]
  have h : (⟨a * 8 + (j 0), by have := a.isLt; have := (j 0).isLt; simp at *; omega⟩ : Fin 4096) = row8 a (j 0) := Fin.ext (by simp [row8]; omega)
  rw [← h]

variable (m : (ℓ : Loc nD τ sig) → Buf (Elt Ideal) ℓ) (ρ : Dev nD → PrngReg)

/-- The reference's second result is the gradient of the convolution's input. -/
theorem ref_du : θ_run (defs (F := Ideal)) (onTc (τ := τ) main) ⟨m, fun _ => 0, ρ⟩ fun r => ∀ c : Dev nD,
    r.2.mem ((c : Thread nD τ).loc main_v125)
      = fun j : S4096x5632.Idx => du (m ((c : Thread nD τ).loc main_arg3)) (m ((c : Thread nD τ).loc main_arg4)) (j 0) (j 1) := by
  refine (θ_run defs _ _).mono (fun r h c => ?_) (Value.run m ρ)
  refine (h c).2.1.trans (funext fun j => ?_)
  clear h
  obtain ⟨e1, e2⟩ := slice_ahead (m ((c : Thread nD τ).loc main_arg4)) (j 0) (j 1)
  unfold du
  rw [← e1, ← e2]
  pointwise

/-- The reference's fourth result is the gain's gradient, folded by row residue. -/
theorem ref_gain : θ_run (defs (F := Ideal)) (onTc (τ := τ) main) ⟨m, fun _ => 0, ρ⟩ fun r => ∀ c : Dev nD,
    r.2.mem ((c : Thread nD τ).loc main_v108)
      = fun j : S8x1024.Idx => gain (m ((c : Thread nD τ).loc main_arg0)) (m ((c : Thread nD τ).loc main_arg2))
          (m ((c : Thread nD τ).loc main_arg3)) (m ((c : Thread nD τ).loc main_arg4)) (j 0) (j 1) := by
  refine (θ_run defs _ _).mono (fun r h c => ?_) (Value.run m ρ)
  refine (h c).2.2.2.1.trans (funext fun j => ?_)
  clear h
  refine (fold8 _ _ j).trans (Finset.sum_congr rfl fun a _ => ?_)
  generalize row8 a (j 0) = s
  generalize (j 1 : Fin 1024) = i
  clear j
  refine congrArg₂ (HMul.hMul : EReal → EReal → EReal) ?_ ?_
  · pointwise
    refine Finset.sum_congr rfl fun x _ => congrArg (· * _) ?_
    obtain ⟨e1, e2⟩ := slice_ahead (m ((c : Thread nD τ).loc main_arg4)) s x
    unfold du
    rw [← e1, ← e2]
  · pointwise [xh, ms]

end Cert.Conv

end
-- ==== Proof.Conv.RefTaps.lean ====
/- The reference's third result, the convolution's bias and tap gradients, entry by entry. -/
module

public import proofs.«01_k».proof.Proof.Conv.Ref
public import proofs.«01_k».proof.Proof.Gen.ReferenceIdeal.Run

@[expose] public section

set_option maxRecDepth 16384

noncomputable section

namespace Cert.Conv

open Cert.ReferenceIdeal Cert.ReferenceIdeal.Gen Idealize.ShloMosaic Idealize.ShloMosaic.TcCoe Idealize.SL.Sem

/-- One fold over the rows of one residue. -/
theorem fold8_one (A : FVec Ideal S4096x5632 .f32) (s : Fin 8) (e : Fin 5632) :
    Host.reduceAdd (shapeCast _ A shapeCasts_S4096x5632_S512x8x5632) (constant S_ .f32 0x00000000#32) reducesTo_S512x8x5632_S8x5632_d0 h_S_ (ix2 s e)
      = ∑ a : Fin 512, A (ix2 (row8 a s) e) := by
  pointwise
  refine Finset.sum_congr rfl fun a _ => ?_
  have h : (⟨a * 8 + s, by omega⟩ : Fin 4096) = row8 a s := Fin.ext (by simp [row8]; omega)
  rw [← h]

/-- Two folds of a product over the rows of one residue. -/
theorem fold8_mul (A B : FVec Ideal S4096x5632 .f32) (s : Fin 8) (e : Fin 5632) :
    Host.reduceAdd (shapeCast _ (Host.reduceAdd (mulf (shapeCast _ A shapeCasts_S4096x5632_S512x8x5632)
      (shapeCast _ B shapeCasts_S4096x5632_S512x8x5632)) (constant S_ .f32 0x00000000#32) reducesTo_S512x8x5632_S8x5632_d0 h_S_)
      shapeCasts_S8x5632_S1x8x5632) (constant S_ .f32 0x00000000#32) reducesTo_S1x8x5632_S8x5632_d0 h_S_ (ix2 s e)
      = ∑ a : Fin 512, A (ix2 (row8 a s) e) * B (ix2 (row8 a s) e) := by
  pointwise
  rw [Fin.sum_univ_one]
  refine Finset.sum_congr rfl fun a _ => ?_
  have h : (⟨a * 8 + s, by omega⟩ : Fin 4096) = row8 a s := Fin.ext (by simp [row8]; omega)
  rw [← h]

/-- An entry of four stacked planes. -/
theorem stack4 (a b c d : FVec Ideal S8x5632 .f32) (j : S4x8x5632.Idx) :
    (concatenate S4x8x5632 0 [⟨S1x8x5632, ((broadcastInDim S1x8x5632 ![1, 2] bcast_S8x5632_S1x8x5632_1_2 a) : (⟨S1x8x5632, .f32⟩ : BufTy).Contents (Elt Ideal))⟩,
      ⟨S1x8x5632, ((broadcastInDim S1x8x5632 ![1, 2] bcast_S8x5632_S1x8x5632_1_2 b) : (⟨S1x8x5632, .f32⟩ : BufTy).Contents (Elt Ideal))⟩,
      ⟨S1x8x5632, ((broadcastInDim S1x8x5632 ![1, 2] bcast_S8x5632_S1x8x5632_1_2 c) : (⟨S1x8x5632, .f32⟩ : BufTy).Contents (Elt Ideal))⟩,
      ⟨S1x8x5632, ((broadcastInDim S1x8x5632 ![1, 2] bcast_S8x5632_S1x8x5632_1_2 d) : (⟨S1x8x5632, .f32⟩ : BufTy).Contents (Elt Ideal))⟩]
      concatenates_S1x8x5632_S1x8x5632_S1x8x5632_S1x8x5632_S4x8x5632_d0 : FVec Ideal S4x8x5632 .f32) j
      = (![a (ix2 (j 1) (j 2)), b (ix2 (j 1) (j 2)), c (ix2 (j 1) (j 2)), d (ix2 (j 1) (j 2))] : Fin 4 → EReal) (j 0) := by
  pointwise
  generalize (j 0 : Fin 4) = q
  fin_cases q <;> rfl

/-- Four equal entries. -/
theorem vec4 {a b c d a' b' c' d' : EReal} (q : Fin 4) (ha : a = a') (hb : b = b') (hc : c = c') (hd : d = d') :
    (![a, b, c, d] : Fin 4 → EReal) q = ![a', b', c', d'] q := by
  subst ha hb hc hd; rfl

/-- An entry of the up projection's product, its rows scaled by the gain eight at a time. -/
theorem proj_one (A : FVec Ideal S4096x1024 .f32) (G : Mat 1 1024) (r : Fin 4096) (i : Fin 1024) :
    shapeCast S4096x1024 (mulf (shapeCast _ A shapeCasts_S4096x1024_S512x8x1024)
      (broadcastInDim S512x8x1024 ![0, 1, 2] bcast_S1x8x1024_S512x8x1024_0_1_2 (broadcastInDim S1x8x1024 ![1, 2] bcast_S8x1024_S1x8x1024_1_2
        (broadcastInDim S8x1024 ![0, 1] bcast_S1x1024_S8x1024_0_1 G)))) shapeCasts_S512x8x1024_S4096x1024 (ix2 r i)
      = A (ix2 r i) * G (ix2 0 i) := by
  pointwise

/-- The product with the gain's row broadcast, as the up projection. -/
theorem proj {X : Mat 4096 1024} (A : FVec Ideal S4096x1024 .f32) (G : Mat 1 1024) (W : Mat 1024 5632) (r : Fin 4096) (e : Fin 5632)
    (hA : ∀ i, A (ix2 r i) = xh X r i) :
    Host.dotGeneral dot_S4096x1024_S1024x5632_S4096x5632_1_0_0_1_n_n none (shapeCast S4096x1024 (mulf (shapeCast _ A shapeCasts_S4096x1024_S512x8x1024)
      (broadcastInDim S512x8x1024 ![0, 1, 2] bcast_S1x8x1024_S512x8x1024_0_1_2 (broadcastInDim S1x8x1024 ![1, 2] bcast_S8x1024_S1x8x1024_1_2
        (broadcastInDim S8x1024 ![0, 1] bcast_S1x1024_S8x1024_0_1 G)))) shapeCasts_S512x8x1024_S4096x1024) W (ix2 r e) = up X G W r e := by
  have h : ∀ L : FVec Ideal S4096x1024 .f32, Host.dotGeneral dot_S4096x1024_S1024x5632_S4096x5632_1_0_0_1_n_n none L W (ix2 r e)
      = ∑ i : Fin 1024, L (ix2 r i) * W (ix2 i e) := fun L => by pointwise
  rw [h]
  exact Finset.sum_congr rfl fun i _ => by rw [proj_one, hA]

variable (m : (ℓ : Loc nD τ sig) → Buf (Elt Ideal) ℓ) (ρ : Dev nD → PrngReg)

/-- The reference's third result is the bias and tap gradients, folded by row residue. -/
theorem ref_taps : θ_run (defs (F := Ideal)) (onTc (τ := τ) main) ⟨m, fun _ => 0, ρ⟩ fun r => ∀ c : Dev nD,
    r.2.mem ((c : Thread nD τ).loc main_v130)
      = fun j : S4x8x5632.Idx => taps (m ((c : Thread nD τ).loc main_arg0)) (m ((c : Thread nD τ).loc main_arg1))
          (m ((c : Thread nD τ).loc main_arg2)) (m ((c : Thread nD τ).loc main_arg4)) (j 0) (j 1) (j 2) := by
  refine (θ_run defs _ _).mono (fun r h c => ?_) (Value.run m ρ)
  refine (h c).2.2.1.trans (funext fun j => ?_)
  clear h
  unfold Value.res_main_v130
  refine (stack4 _ _ _ _ j).trans ?_
  generalize (j 0 : Fin 4) = q
  generalize (j 1 : Fin 8) = s
  generalize (j 2 : Fin 5632) = e
  clear j
  unfold taps
  refine vec4 q ((fold8_one _ s e).trans (Finset.sum_congr rfl fun a _ => ?_))
    ((fold8_mul _ _ s e).trans (Finset.sum_congr rfl fun a _ => congrArg₂ (HMul.hMul : EReal → EReal → EReal) ?_ ?_))
    ((fold8_mul _ _ s e).trans (Finset.sum_congr rfl fun a _ => congrArg₂ (HMul.hMul : EReal → EReal → EReal) ?_ ?_))
    ((fold8_mul _ _ s e).trans (Finset.sum_congr rfl fun a _ => congrArg₂ (HMul.hMul : EReal → EReal → EReal) ?_ ?_))
  all_goals generalize row8 a s = r
  · pointwise
  · pointwise; exact (slice_ahead _ r e).2
  · exact proj _ _ _ r e fun i => by pointwise [xh, ms]
  · pointwise; exact (slice_ahead _ r e).1
  · exact proj _ _ _ r e fun i => by pointwise [xh, ms]
  · pointwise
  · exact proj _ _ _ r e fun i => by pointwise [xh, ms]

end Cert.Conv

end
-- ==== Proof.Conv.RefDx.lean ====
/- The reference's first result, the gradient of the block's input, entry by entry. -/
module

public import proofs.«01_k».proof.Proof.Conv.Ref
public import proofs.«01_k».proof.Proof.Gen.ReferenceIdeal.Run

@[expose] public section

set_option maxRecDepth 16384

noncomputable section

namespace Cert.Conv

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

set_option maxHeartbeats 1000000 in
/-- The reference's first result, in the order its operations come. -/
theorem ref_dx : θ_run (defs (F := Ideal)) (onTc (τ := τ) main) ⟨m, fun _ => 0, ρ⟩ fun r => ∀ c : Dev nD,
    r.2.mem ((c : Thread nD τ).loc main_v124)
      = fun j : S4096x1024.Idx => dx' (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (j 0) (j 1) := by
  refine (θ_run defs _ _).mono (fun r h c => ?_) (Value.run m ρ)
  refine (h c).1.trans (funext fun j => ?_)
  clear h
  have hs := fun x => slice_ahead (m ((c : Thread nD τ).loc main_arg4)) (j 0) x
  have hd : ∀ x, du (m ((c : Thread nD τ).loc main_arg3)) (m ((c : Thread nD τ).loc main_arg4)) (j 0) x = _ := fun x => by
    unfold du
    rw [← (hs x).1, ← (hs x).2]
  unfold dx' addNorm' half dh
  simp only [hd]
  unfold Value.res_main_v124 ms
  pointwise
  rw [Fin.sum_univ_one]

end Cert.Conv

end
-- ==== Proof.Conv.KerBlk.lean ====
/- What the kernel reads at a grid point: every block, entry by entry, in the arguments. -/
module

public import proofs.«01_k».proof.Proof.Conv.Spec
public import proofs.«01_k».proof.Proof.Gen.KernelIdeal.Value

@[expose] public section

set_option maxRecDepth 16384

noncomputable section

namespace Cert.Conv

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Row `r` of block `t`. -/
def row (t : Fin cfg0.N) (r : Fin 256) : Fin 4096 := ⟨t.val * 256 + r, by have h : t.val < 16 := N_0 ▸ t.isLt; omega⟩

/-- Column `e` of the `j`-th chip's chunk. -/
def col (j : Fin 4) (e : Fin 1408) : Fin 5632 := ⟨j * 1408 + e, by omega⟩

/-- Every window's block index at every grid point. -/
theorem idx : ∀ t : Fin cfg0.N, win0_0.index t = ![t.val, 0] ∧ win0_1.index t = ![min (32 * (t.val + 1)) 511, 0]
    ∧ win0_2.index t = ![t.val, 0] ∧ win0_3.index t = ![0, 0, 0] ∧ win0_4.index t = ![0, 0, 0]
    ∧ win0_5.index t = ![t.val, 0] ∧ win0_6.index t = ![0, 0] ∧ win0_7.index t = ![t.val, 0]
    ∧ win0_8.index t = ![t.val, 0] ∧ win0_9.index t = ![t.val, 0] ∧ win0_10.index t = ![0, 0, 0] ∧ win0_11.index t = ![0, 0] :=
  (by decide +kernel : ∀ t : Fin grid0.N, _)

/-- The grid's one coordinate is the point's number. -/
theorem coord : ∀ t : Fin cfg0.N, (grid0.coords t 0).val = t.val := (by decide +kernel : ∀ t : Fin grid0.N, _)

variable (c : Dev nD) (t : Fin cfg0.N)

abbrev aX : Mat 4096 1024 := m ((c : Thread nD τ).loc main_arg0)
abbrev aG : Mat 1 1024 := m ((c : Thread nD τ).loc main_arg1)
abbrev aW : Mat 1024 5632 := m ((c : Thread nD τ).loc main_arg2)
abbrev aC : Mat 3 5632 := m ((c : Thread nD τ).loc main_arg3)
abbrev aD : Mat 4096 5632 := m ((c : Thread nD τ).loc main_arg4)
abbrev aY : Mat 4096 1024 := m ((c : Thread nD τ).loc main_arg5)

/-- The cotangent's block. -/
theorem b0 (r : Fin 256) (e : Fin 5632) : (iblk m c 0 t : Vec Ideal S256x5632 .f32) (ix2 r e) = aD m c (ix2 (row t r) e) := by
  blk_simp [iblk, idx t]
  entry_read
  blk_ext [idx t]
  rfl

/-- The block of the saved up projection. -/
theorem b2 (r : Fin 256) (e : Fin 5632) :
    (iblk m c 2 t : Vec Ideal S256x5632 .f32) (ix2 r e) = up (aX m c) (aG m c) (aW m c) (row t r) e := by
  blk_simp [iblk, idx t]
  entry_read
  have h : ((View.whole main_v17).slice (win0_2.rect t)).emb (ix2 r e) = ix2 (row t r) e := by
    blk_ext [idx t]
    rfl
  rw [h]
  pointwise [up, xh, ms]

/-- The convolution's taps, one chunk of columns after the other. -/
theorem b3 (j : Fin 4) (k : Fin 3) (e : Fin 1408) :
    (iblk m c 3 t : Vec Ideal S4x3x1408 .f32) (ix3 j k e) = aC m c (ix2 k (col j e)) := by
  blk_simp [iblk, idx t]
  entry_read
  have h : ((View.whole main_v4).slice (win0_3.rect t)).emb (ix3 j k e) = ix3 j k e := by
    blk_ext [idx t]
  rw [h]
  pointwise
  rfl

/-- The up projection's weight, one chunk of columns after the other. -/
theorem b4 (j : Fin 4) (i : Fin 1024) (e : Fin 1408) :
    (iblk m c 4 t : Vec Ideal S4x1024x1408 .bf16) (ix3 j i e) = aW m c (ix2 i (col j e)) := by
  blk_simp [iblk, idx t]
  entry_read
  have h : ((View.whole main_v2).slice (win0_4.rect t)).emb (ix3 j i e) = ix3 j i e := by
    blk_ext [idx t]
  rw [h]
  pointwise
  rfl

/-- The rows of the block's input. -/
theorem b5 (r : Fin 256) (i : Fin 1024) : (iblk m c 5 t : Vec Ideal S256x1024 .f32) (ix2 r i) = aX m c (ix2 (row t r) i) := by
  blk_simp [iblk, V, idx t]
  blk_ext [idx t]
  rfl

/-- The gain. -/
theorem b6 (i : Fin 1024) : (iblk m c 6 t : Vec Ideal S1x1024 .f32) (ix2 0 i) = aG m c (ix2 0 i) := by
  blk_simp [iblk, V, idx t]
  blk_ext [idx t]

/-- The residual's cotangent. -/
theorem b7 (r : Fin 256) (i : Fin 1024) : (iblk m c 7 t : Vec Ideal S256x1024 .f32) (ix2 r i) = aY m c (ix2 (row t r) i) := by
  blk_simp [iblk, V, idx t]
  blk_ext [idx t]
  rfl

/-- The rows after the block: the next block's first ones, zero after the last block. -/
theorem b1 (r : Fin 8) (e : Fin 5632) : k0_pay3 (grid0.coords t) (iblk m c 1 t) (ix2 r e) = ahead (aD m c) (1 + r) (row t 255) e := by
  have ht : t.val < 16 := N_0 ▸ t.isLt
  pointwise [k0_pay3]
  unfold ahead
  by_cases h : t.val < 15
  · rw [dif_pos (by simp [row]; omega)]
    have h2 : Scalar.cmpi CmpIPredicate.slt (BitVec.ofNat 32 ↑(grid0.coords t 0)) 15#32 = 1#1 := by
      rw [coord]
      interval_cases t.val <;> first | rfl | omega
    rw [h2]
    show iblk m c 1 t (ix2 r e) = _
    blk_simp [iblk, idx t]
    entry_read
    blk_ext [idx t]
    · simp [row]; omega
  · rw [dif_neg (by simp [row]; omega)]
    have h2 : Scalar.cmpi CmpIPredicate.slt (BitVec.ofNat 32 ↑(grid0.coords t 0)) 15#32 = 0#1 := by
      rw [coord, show t.val = 15 by omega]
      rfl
    rw [h2]
    rfl

end Cert.Conv

end
-- ==== Proof.Conv.KerShift.lean ====
/- The chunks of a block's cotangent and their shifts by one and two rows. -/
module

public import proofs.«01_k».proof.Proof.Conv.KerBlk

@[expose] public section

set_option maxRecDepth 16384

noncomputable section

namespace Cert.Conv

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

variable (c : Dev nD) (t : Fin cfg0.N)

/-- A select on a row number. -/
theorem sel_row (n : ℕ) (hn : n < 8) (k : ℕ) (hk : k < 8) (a b : EReal) :
    Scalar.select (IntOp.cmpi CmpIPredicate.eq (BitVec.ofNat 32 n) (BitVec.ofNat 32 k)) a b = if n = k then a else b := by
  interval_cases n <;> interval_cases k <;> rfl

/-- One row on: the block's own rows, and past them the row after the block. -/
theorem shift1 (D : Mat 4096 5632) (V : Vec Ideal S256x1408 .f32) (H : EReal) (r : Fin 256) (e : Fin 1408) (k : Fin 5632)
    (hV : ∀ r, V (ix2 r e) = D (ix2 (row t r) k)) (hH : H = ahead D 1 (row t 255) k) :
    (if _ : (r : ℕ) < 248 then V (ix2 ⟨((r : ℕ) + 256 - 255) % 256, Nat.mod_lt _ (by norm_num)⟩ e)
      else Scalar.select (IntOp.cmpi CmpIPredicate.eq (BitVec.ofNat 32 ((r : ℕ) - 248)) 7#32) H
        (V (ix2 ⟨(248 + ((r : ℕ) - 248) + 256 - 255) % 256, Nat.mod_lt _ (by norm_num)⟩ e))) = ahead D 1 (row t r) k := by
  have ht : t.val < 16 := N_0 ▸ t.isLt
  rw [sel_row _ (by omega) 7 (by omega)]
  split_ifs with h1 h2
  · rw [hV, ahead, dif_pos (by simp [row]; omega)]
    exact congrArg (fun s => D (ix2 s k)) (Fin.ext (by simp [row]; omega))
  · rw [hH, show r = 255 from Fin.ext (by simp; omega)]
  · rw [hV, ahead, dif_pos (by simp [row]; omega)]
    exact congrArg (fun s => D (ix2 s k)) (Fin.ext (by simp [row]; omega))

/-- Two rows on. -/
theorem shift2 (D : Mat 4096 5632) (V : Vec Ideal S256x1408 .f32) (H H' : EReal) (r : Fin 256) (e : Fin 1408) (k : Fin 5632)
    (hV : ∀ r, V (ix2 r e) = D (ix2 (row t r) k)) (hH : H = ahead D 1 (row t 255) k) (hH' : H' = ahead D 2 (row t 255) k) :
    (if _ : (r : ℕ) < 248 then V (ix2 ⟨((r : ℕ) + 256 - 254) % 256, Nat.mod_lt _ (by norm_num)⟩ e)
      else Scalar.select (IntOp.cmpi CmpIPredicate.eq (BitVec.ofNat 32 ((r : ℕ) - 248)) 7#32) H'
        (Scalar.select (IntOp.cmpi CmpIPredicate.eq (BitVec.ofNat 32 ((r : ℕ) - 248)) 6#32) H
          (V (ix2 ⟨(248 + ((r : ℕ) - 248) + 256 - 254) % 256, Nat.mod_lt _ (by norm_num)⟩ e)))) = ahead D 2 (row t r) k := by
  have ht : t.val < 16 := N_0 ▸ t.isLt
  rw [sel_row _ (by omega) 7 (by omega), sel_row _ (by omega) 6 (by omega)]
  split_ifs with h1 h2 h3
  · rw [hV, ahead, dif_pos (by simp [row]; omega)]
    exact congrArg (fun s => D (ix2 s k)) (Fin.ext (by simp [row]; omega))
  · rw [hH', show r = 255 from Fin.ext (by simp; omega)]
  · rw [hH, show r = 254 from Fin.ext (by simp; omega)]
    unfold ahead
    have e1 : ((row t 255 : Fin 4096) : ℕ) + 1 = (row t 254 : Fin 4096) + 2 := by simp [row]
    simp only [e1]
  · rw [hV, ahead, dif_pos (by simp [row]; omega)]
    exact congrArg (fun s => D (ix2 s k)) (Fin.ext (by simp [row]; omega))

theorem b0_at (r : Fin 256) (k k' : Fin 5632) (h : k = k') : (iblk m c 0 t : Vec Ideal S256x5632 .f32) (ix2 r k) = aD m c (ix2 (row t r) k') :=
  h ▸ b0 m c t r k

theorem b2_at (r : Fin 256) (k k' : Fin 5632) (h : k = k') :
    (iblk m c 2 t : Vec Ideal S256x5632 .f32) (ix2 r k) = up (aX m c) (aG m c) (aW m c) (row t r) k' :=
  h ▸ b2 m c t r k

/-- The cotangent's chunk 0. -/
abbrev dc0 : Vec Ideal S256x1408 .f32 := View.ld (iblk m c 0 t) (Rect.unit ![0, 0] ![256, 1408] inb_S256x5632_S256x1408_0_0)

/-- The saved projection's chunk 0. -/
abbrev u0 : Vec Ideal S256x1408 .f32 := View.ld (iblk m c 2 t) (Rect.unit ![0, 0] ![256, 1408] inb_S256x5632_S256x1408_0_0)

theorem dc0_apply (r : Fin 256) (e : Fin 1408) : dc0 m c t (ix2 r e) = aD m c (ix2 (row t r) (col 0 e)) := by
  pointwise [dc0]
  exact b0_at m c t r _ _ (Fin.ext (by simp [col]))

theorem u0_apply (r : Fin 256) (e : Fin 1408) : u0 m c t (ix2 r e) = up (aX m c) (aG m c) (aW m c) (row t r) (col 0 e) := by
  pointwise [u0]
  exact b2_at m c t r _ _ (Fin.ext (by simp [col]))

/-- Chunk 0 of the cotangent, 1 row on. -/
abbrev dc0_1 : FVec Ideal S256x1408 .f32 :=
  k0_pay6 (grid0.coords t) (iblk m c 1 t) (dc0 m c t)

theorem dc0_1_apply (r : Fin 256) (e : Fin 1408) : dc0_1 m c t (ix2 r e) = ahead (aD m c) 1 (row t r) (col 0 e) := by
  have hV := fun r => dc0_apply m c t r e
  generalize hD : dc0 m c t = V at hV
  unfold dc0_1
  rw [hD]
  have hH : ∀ (q : Fin 8) (k : Fin 5632), k = col 0 e → k0_pay3 (grid0.coords t) (iblk m c 1 t) (ix2 q k) = ahead (aD m c) (1 + q) (row t 255) (col 0 e) :=
    fun q k hk => by rw [hk]; exact b1 m c t q _
  pointwise [k0_pay6]
  exact shift1 t (aD m c) V _ r e _ hV (hH 0 _ (Fin.ext (by simp [col])))

/-- Chunk 0 of the cotangent, 2 rows on. -/
abbrev dc0_2 : FVec Ideal S256x1408 .f32 :=
  k0_pay7 (grid0.coords t) (iblk m c 1 t) (dc0 m c t)

theorem dc0_2_apply (r : Fin 256) (e : Fin 1408) : dc0_2 m c t (ix2 r e) = ahead (aD m c) 2 (row t r) (col 0 e) := by
  have hV := fun r => dc0_apply m c t r e
  generalize hD : dc0 m c t = V at hV
  unfold dc0_2
  rw [hD]
  have hH : ∀ (q : Fin 8) (k : Fin 5632), k = col 0 e → k0_pay3 (grid0.coords t) (iblk m c 1 t) (ix2 q k) = ahead (aD m c) (1 + q) (row t 255) (col 0 e) :=
    fun q k hk => by rw [hk]; exact b1 m c t q _
  pointwise [k0_pay7]
  exact shift2 t (aD m c) V _ _ r e _ hV (hH 0 _ (Fin.ext (by simp [col]))) (hH 1 _ (Fin.ext (by simp [col])))

/-- The cotangent's chunk 1. -/
abbrev dc1 : Vec Ideal S256x1408 .f32 := View.ld (iblk m c 0 t) (Rect.unit ![0, 1408] ![256, 1408] inb_S256x5632_S256x1408_0_1408)

/-- The saved projection's chunk 1. -/
abbrev u1 : Vec Ideal S256x1408 .f32 := View.ld (iblk m c 2 t) (Rect.unit ![0, 1408] ![256, 1408] inb_S256x5632_S256x1408_0_1408)

theorem dc1_apply (r : Fin 256) (e : Fin 1408) : dc1 m c t (ix2 r e) = aD m c (ix2 (row t r) (col 1 e)) := by
  pointwise [dc1]
  exact b0_at m c t r _ _ (Fin.ext (by simp [col]))

theorem u1_apply (r : Fin 256) (e : Fin 1408) : u1 m c t (ix2 r e) = up (aX m c) (aG m c) (aW m c) (row t r) (col 1 e) := by
  pointwise [u1]
  exact b2_at m c t r _ _ (Fin.ext (by simp [col]))

/-- Chunk 1 of the cotangent, 1 row on. -/
abbrev dc1_1 : FVec Ideal S256x1408 .f32 :=
  k0_pay20 (k0_pay16 (dc1 m c t)) (k0_pay17 (dc1 m c t)) k0_pay18 (k0_pay19 (k0_pay3 (grid0.coords t) (iblk m c 1 t)))

theorem dc1_1_apply (r : Fin 256) (e : Fin 1408) : dc1_1 m c t (ix2 r e) = ahead (aD m c) 1 (row t r) (col 1 e) := by
  have hV := fun r => dc1_apply m c t r e
  generalize hD : dc1 m c t = V at hV
  unfold dc1_1
  rw [hD]
  have hH : ∀ (q : Fin 8) (k : Fin 5632), k = col 1 e → k0_pay3 (grid0.coords t) (iblk m c 1 t) (ix2 q k) = ahead (aD m c) (1 + q) (row t 255) (col 1 e) :=
    fun q k hk => by rw [hk]; exact b1 m c t q _
  generalize k0_pay3 (grid0.coords t) (iblk m c 1 t) = H at hH
  pointwise [k0_pay20, k0_pay16, k0_pay17, k0_pay18, k0_pay19]
  exact shift1 t (aD m c) V _ r e _ hV (hH 0 _ (Fin.ext (by simp [col])))

/-- Chunk 1 of the cotangent, 2 rows on. -/
abbrev dc1_2 : FVec Ideal S256x1408 .f32 :=
  k0_pay21 (k0_pay3 (grid0.coords t) (iblk m c 1 t)) (dc1 m c t)

theorem dc1_2_apply (r : Fin 256) (e : Fin 1408) : dc1_2 m c t (ix2 r e) = ahead (aD m c) 2 (row t r) (col 1 e) := by
  have hV := fun r => dc1_apply m c t r e
  generalize hD : dc1 m c t = V at hV
  unfold dc1_2
  rw [hD]
  have hH : ∀ (q : Fin 8) (k : Fin 5632), k = col 1 e → k0_pay3 (grid0.coords t) (iblk m c 1 t) (ix2 q k) = ahead (aD m c) (1 + q) (row t 255) (col 1 e) :=
    fun q k hk => by rw [hk]; exact b1 m c t q _
  generalize k0_pay3 (grid0.coords t) (iblk m c 1 t) = H at hH
  pointwise [k0_pay21]
  exact shift2 t (aD m c) V _ _ r e _ hV (hH 0 _ (Fin.ext (by simp [col]))) (hH 1 _ (Fin.ext (by simp [col])))

/-- The cotangent's chunk 2. -/
abbrev dc2 : Vec Ideal S256x1408 .f32 := View.ld (iblk m c 0 t) (Rect.unit ![0, 2816] ![256, 1408] inb_S256x5632_S256x1408_0_2816)

/-- The saved projection's chunk 2. -/
abbrev u2 : Vec Ideal S256x1408 .f32 := View.ld (iblk m c 2 t) (Rect.unit ![0, 2816] ![256, 1408] inb_S256x5632_S256x1408_0_2816)

theorem dc2_apply (r : Fin 256) (e : Fin 1408) : dc2 m c t (ix2 r e) = aD m c (ix2 (row t r) (col 2 e)) := by
  pointwise [dc2]
  exact b0_at m c t r _ _ (Fin.ext (by simp [col]))

theorem u2_apply (r : Fin 256) (e : Fin 1408) : u2 m c t (ix2 r e) = up (aX m c) (aG m c) (aW m c) (row t r) (col 2 e) := by
  pointwise [u2]
  exact b2_at m c t r _ _ (Fin.ext (by simp [col]))

/-- Chunk 2 of the cotangent, 1 row on. -/
abbrev dc2_1 : FVec Ideal S256x1408 .f32 :=
  k0_pay29 (k0_pay3 (grid0.coords t) (iblk m c 1 t)) (dc2 m c t)

theorem dc2_1_apply (r : Fin 256) (e : Fin 1408) : dc2_1 m c t (ix2 r e) = ahead (aD m c) 1 (row t r) (col 2 e) := by
  have hV := fun r => dc2_apply m c t r e
  generalize hD : dc2 m c t = V at hV
  unfold dc2_1
  rw [hD]
  have hH : ∀ (q : Fin 8) (k : Fin 5632), k = col 2 e → k0_pay3 (grid0.coords t) (iblk m c 1 t) (ix2 q k) = ahead (aD m c) (1 + q) (row t 255) (col 2 e) :=
    fun q k hk => by rw [hk]; exact b1 m c t q _
  generalize k0_pay3 (grid0.coords t) (iblk m c 1 t) = H at hH
  pointwise [k0_pay29]
  exact shift1 t (aD m c) V _ r e _ hV (hH 0 _ (Fin.ext (by simp [col])))

/-- Chunk 2 of the cotangent, 2 rows on. -/
abbrev dc2_2 : FVec Ideal S256x1408 .f32 :=
  k0_pay30 (k0_pay3 (grid0.coords t) (iblk m c 1 t)) (dc2 m c t)

theorem dc2_2_apply (r : Fin 256) (e : Fin 1408) : dc2_2 m c t (ix2 r e) = ahead (aD m c) 2 (row t r) (col 2 e) := by
  have hV := fun r => dc2_apply m c t r e
  generalize hD : dc2 m c t = V at hV
  unfold dc2_2
  rw [hD]
  have hH : ∀ (q : Fin 8) (k : Fin 5632), k = col 2 e → k0_pay3 (grid0.coords t) (iblk m c 1 t) (ix2 q k) = ahead (aD m c) (1 + q) (row t 255) (col 2 e) :=
    fun q k hk => by rw [hk]; exact b1 m c t q _
  generalize k0_pay3 (grid0.coords t) (iblk m c 1 t) = H at hH
  pointwise [k0_pay30]
  exact shift2 t (aD m c) V _ _ r e _ hV (hH 0 _ (Fin.ext (by simp [col]))) (hH 1 _ (Fin.ext (by simp [col])))

/-- The cotangent's chunk 3. -/
abbrev dc3 : Vec Ideal S256x1408 .f32 := View.ld (iblk m c 0 t) (Rect.unit ![0, 4224] ![256, 1408] inb_S256x5632_S256x1408_0_4224)

/-- The saved projection's chunk 3. -/
abbrev u3 : Vec Ideal S256x1408 .f32 := View.ld (iblk m c 2 t) (Rect.unit ![0, 4224] ![256, 1408] inb_S256x5632_S256x1408_0_4224)

theorem dc3_apply (r : Fin 256) (e : Fin 1408) : dc3 m c t (ix2 r e) = aD m c (ix2 (row t r) (col 3 e)) := by
  pointwise [dc3]
  exact b0_at m c t r _ _ (Fin.ext (by simp [col]))

theorem u3_apply (r : Fin 256) (e : Fin 1408) : u3 m c t (ix2 r e) = up (aX m c) (aG m c) (aW m c) (row t r) (col 3 e) := by
  pointwise [u3]
  exact b2_at m c t r _ _ (Fin.ext (by simp [col]))

/-- Chunk 3 of the cotangent, 1 row on. -/
abbrev dc3_1 : FVec Ideal S256x1408 .f32 :=
  k0_pay39 (k0_pay3 (grid0.coords t) (iblk m c 1 t)) (dc3 m c t)

theorem dc3_1_apply (r : Fin 256) (e : Fin 1408) : dc3_1 m c t (ix2 r e) = ahead (aD m c) 1 (row t r) (col 3 e) := by
  have hV := fun r => dc3_apply m c t r e
  generalize hD : dc3 m c t = V at hV
  unfold dc3_1
  rw [hD]
  have hH : ∀ (q : Fin 8) (k : Fin 5632), k = col 3 e → k0_pay3 (grid0.coords t) (iblk m c 1 t) (ix2 q k) = ahead (aD m c) (1 + q) (row t 255) (col 3 e) :=
    fun q k hk => by rw [hk]; exact b1 m c t q _
  generalize k0_pay3 (grid0.coords t) (iblk m c 1 t) = H at hH
  pointwise [k0_pay39]
  exact shift1 t (aD m c) V _ r e _ hV (hH 0 _ (Fin.ext (by simp [col])))

/-- Chunk 3 of the cotangent, 2 rows on. -/
abbrev dc3_2 : FVec Ideal S256x1408 .f32 :=
  k0_pay44 (k0_pay40 (k0_pay3 (grid0.coords t) (iblk m c 1 t))) (k0_pay41 (dc3 m c t)) (iota Kind.tc S8x1408 32 [0] iota_S8x1408_d0_w32) (k0_pay42 (dc3 m c t)) k0_pay43

theorem dc3_2_apply (r : Fin 256) (e : Fin 1408) : dc3_2 m c t (ix2 r e) = ahead (aD m c) 2 (row t r) (col 3 e) := by
  have hV := fun r => dc3_apply m c t r e
  generalize hD : dc3 m c t = V at hV
  unfold dc3_2
  rw [hD]
  have hH : ∀ (q : Fin 8) (k : Fin 5632), k = col 3 e → k0_pay3 (grid0.coords t) (iblk m c 1 t) (ix2 q k) = ahead (aD m c) (1 + q) (row t 255) (col 3 e) :=
    fun q k hk => by rw [hk]; exact b1 m c t q _
  generalize k0_pay3 (grid0.coords t) (iblk m c 1 t) = H at hH
  pointwise [k0_pay44, k0_pay40, k0_pay41, k0_pay42, k0_pay43]
  exact shift2 t (aD m c) V _ _ r e _ hV (hH 0 _ (Fin.ext (by simp [col]))) (hH 1 _ (Fin.ext (by simp [col])))

end Cert.Conv

end
-- ==== Proof.Conv.KerVal.lean ====
/- The convolution's input gradient at a grid point, and its way back through the up projection. -/
module

public import proofs.«01_k».proof.Proof.Conv.KerShift

@[expose] public section

set_option maxRecDepth 16384

noncomputable section

namespace Cert.Conv

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

variable (c : Dev nD) (t : Fin cfg0.N)

/-- A sum over the columns, chunk by chunk. -/
theorem sum_cols (f : Fin 5632 → EReal) :
    ∑ k, f k = (∑ e, f (col 0 e)) + (∑ e, f (col 1 e)) + (∑ e, f (col 2 e)) + ∑ e, f (col 3 e) := by
  have h : ∑ k : Fin (4 * 1408), f k = ∑ j : Fin 4, ∑ e : Fin 1408, f (col j e) := by
    rw [← finProdFinEquiv.sum_comp, Fintype.sum_prod_type]
    refine Finset.sum_congr rfl fun j _ => Finset.sum_congr rfl fun e _ => congrArg f (Fin.ext ?_)
    simp [finProdFinEquiv, col]
    omega
  exact h.trans (Fin.sum_univ_four _)

theorem b3_at (j j' : Fin 4) (k : Fin 3) (e : Fin 1408) (h : j = j') :
    (iblk m c 3 t : Vec Ideal S4x3x1408 .f32) (ix3 j k e) = aC m c (ix2 k (col j' e)) := h ▸ b3 m c t j k e

abbrev w00 : Vec Ideal S1x1x1408 .f32 := View.ld (iblk m c 3 t) (Rect.unit ![0, 0, 0] ![1, 1, 1408] inb_S4x3x1408_S1x1x1408_0_0_0)

theorem w00_apply (e : Fin 1408) : w00 m c t (ix3 0 0 e) = aC m c (ix2 0 (col 0 e)) := by
  pointwise [w00]
  exact b3 m c t 0 0 e

abbrev w01 : Vec Ideal S1x1x1408 .f32 := View.ld (iblk m c 3 t) (Rect.unit ![0, 1, 0] ![1, 1, 1408] inb_S4x3x1408_S1x1x1408_0_1_0)

theorem w01_apply (e : Fin 1408) : w01 m c t (ix3 0 0 e) = aC m c (ix2 1 (col 0 e)) := by
  pointwise [w01]
  exact b3 m c t 0 1 e

abbrev w02 : Vec Ideal S1x1x1408 .f32 := View.ld (iblk m c 3 t) (Rect.unit ![0, 2, 0] ![1, 1, 1408] inb_S4x3x1408_S1x1x1408_0_2_0)

theorem w02_apply (e : Fin 1408) : w02 m c t (ix3 0 0 e) = aC m c (ix2 2 (col 0 e)) := by
  pointwise [w02]
  exact b3 m c t 0 2 e

abbrev wu0 : Vec Ideal S1x1024x1408 .bf16 := View.ld (iblk m c 4 t) (Rect.unit ![0, 0, 0] ![1, 1024, 1408] inb_S4x1024x1408_S1x1024x1408_0_0_0)

theorem wu0_apply (i : Fin 1024) (e : Fin 1408) : wu0 m c t (ix3 0 i e) = aW m c (ix2 i (col 0 e)) := by
  pointwise [wu0]
  exact b4 m c t 0 i e

/-- Chunk 0 of the convolution's input gradient. -/
abbrev du0 : FVec Ideal S256x1408 .bf16 :=
  k0_pay13 (dc0 m c t) (dc0_1 m c t) (dc0_2 m c t) (w02 m c t) (w01 m c t) (w00 m c t)

theorem du0_apply (r : Fin 256) (e : Fin 1408) : du0 m c t (ix2 r e) = du (aC m c) (aD m c) (row t r) (col 0 e) := by
  have h0 := dc0_apply m c t r e
  have h1 := dc0_1_apply m c t r e
  have h2 := dc0_2_apply m c t r e
  have h3 := w02_apply m c t e
  have h4 := w01_apply m c t e
  have h5 := w00_apply m c t e
  unfold du0
  generalize dc0 m c t = V, dc0_1 m c t = V1, dc0_2 m c t = V2, w02 m c t = W2, w01 m c t = W1, w00 m c t = W0 at *
  pointwise [k0_pay13]
  rw [h0, h1, h2, h3, h4, h5]
  rfl

abbrev w10 : Vec Ideal S1x1x1408 .f32 := View.ld (iblk m c 3 t) (Rect.unit ![1, 0, 0] ![1, 1, 1408] inb_S4x3x1408_S1x1x1408_1_0_0)

theorem w10_apply (e : Fin 1408) : w10 m c t (ix3 0 0 e) = aC m c (ix2 0 (col 1 e)) := by
  pointwise [w10]
  exact b3 m c t 1 0 e

abbrev w11 : Vec Ideal S1x1x1408 .f32 := View.ld (iblk m c 3 t) (Rect.unit ![1, 1, 0] ![1, 1, 1408] inb_S4x3x1408_S1x1x1408_1_1_0)

theorem w11_apply (e : Fin 1408) : w11 m c t (ix3 0 0 e) = aC m c (ix2 1 (col 1 e)) := by
  pointwise [w11]
  exact b3 m c t 1 1 e

abbrev w12 : Vec Ideal S1x1x1408 .f32 := View.ld (iblk m c 3 t) (Rect.unit ![1, 2, 0] ![1, 1, 1408] inb_S4x3x1408_S1x1x1408_1_2_0)

theorem w12_apply (e : Fin 1408) : w12 m c t (ix3 0 0 e) = aC m c (ix2 2 (col 1 e)) := by
  pointwise [w12]
  exact b3 m c t 1 2 e

abbrev wu1 : Vec Ideal S1x1024x1408 .bf16 := View.ld (iblk m c 4 t) (Rect.unit ![1, 0, 0] ![1, 1024, 1408] inb_S4x1024x1408_S1x1024x1408_1_0_0)

theorem wu1_apply (i : Fin 1024) (e : Fin 1408) : wu1 m c t (ix3 0 i e) = aW m c (ix2 i (col 1 e)) := by
  pointwise [wu1]
  exact b4 m c t 1 i e

/-- Chunk 1 of the convolution's input gradient. -/
abbrev du1 : FVec Ideal S256x1408 .bf16 :=
  k0_pay26 (dc1 m c t) (dc1_1 m c t) (dc1_2 m c t) (w12 m c t) (w11 m c t) (w10 m c t)

theorem du1_apply (r : Fin 256) (e : Fin 1408) : du1 m c t (ix2 r e) = du (aC m c) (aD m c) (row t r) (col 1 e) := by
  have h0 := dc1_apply m c t r e
  have h1 := dc1_1_apply m c t r e
  have h2 := dc1_2_apply m c t r e
  have h3 := w12_apply m c t e
  have h4 := w11_apply m c t e
  have h5 := w10_apply m c t e
  unfold du1
  generalize dc1 m c t = V, dc1_1 m c t = V1, dc1_2 m c t = V2, w12 m c t = W2, w11 m c t = W1, w10 m c t = W0 at *
  pointwise [k0_pay26]
  rw [h0, h1, h2, h3, h4, h5]
  rfl

abbrev w20 : Vec Ideal S1x1x1408 .f32 := View.ld (iblk m c 3 t) (Rect.unit ![2, 0, 0] ![1, 1, 1408] inb_S4x3x1408_S1x1x1408_2_0_0)

theorem w20_apply (e : Fin 1408) : w20 m c t (ix3 0 0 e) = aC m c (ix2 0 (col 2 e)) := by
  pointwise [w20]
  exact b3 m c t 2 0 e

abbrev w21 : Vec Ideal S1x1x1408 .f32 := View.ld (iblk m c 3 t) (Rect.unit ![2, 1, 0] ![1, 1, 1408] inb_S4x3x1408_S1x1x1408_2_1_0)

theorem w21_apply (e : Fin 1408) : w21 m c t (ix3 0 0 e) = aC m c (ix2 1 (col 2 e)) := by
  pointwise [w21]
  exact b3 m c t 2 1 e

abbrev w22 : Vec Ideal S1x1x1408 .f32 := View.ld (iblk m c 3 t) (Rect.unit ![2, 2, 0] ![1, 1, 1408] inb_S4x3x1408_S1x1x1408_2_2_0)

theorem w22_apply (e : Fin 1408) : w22 m c t (ix3 0 0 e) = aC m c (ix2 2 (col 2 e)) := by
  pointwise [w22]
  exact b3 m c t 2 2 e

abbrev wu2 : Vec Ideal S1x1024x1408 .bf16 := View.ld (iblk m c 4 t) (Rect.unit ![2, 0, 0] ![1, 1024, 1408] inb_S4x1024x1408_S1x1024x1408_2_0_0)

theorem wu2_apply (i : Fin 1024) (e : Fin 1408) : wu2 m c t (ix3 0 i e) = aW m c (ix2 i (col 2 e)) := by
  pointwise [wu2]
  exact b4 m c t 2 i e

/-- Chunk 2 of the convolution's input gradient. -/
abbrev du2 : FVec Ideal S256x1408 .bf16 :=
  k0_pay36 (dc2 m c t) (dc2_1 m c t) (dc2_2 m c t) (w22 m c t) (w21 m c t) (w20 m c t)

theorem du2_apply (r : Fin 256) (e : Fin 1408) : du2 m c t (ix2 r e) = du (aC m c) (aD m c) (row t r) (col 2 e) := by
  have h0 := dc2_apply m c t r e
  have h1 := dc2_1_apply m c t r e
  have h2 := dc2_2_apply m c t r e
  have h3 := w22_apply m c t e
  have h4 := w21_apply m c t e
  have h5 := w20_apply m c t e
  unfold du2
  generalize dc2 m c t = V, dc2_1 m c t = V1, dc2_2 m c t = V2, w22 m c t = W2, w21 m c t = W1, w20 m c t = W0 at *
  pointwise [k0_pay36]
  rw [h0, h1, h2, h3, h4, h5]
  rfl

abbrev w30 : Vec Ideal S1x1x1408 .f32 := View.ld (iblk m c 3 t) (Rect.unit ![3, 0, 0] ![1, 1, 1408] inb_S4x3x1408_S1x1x1408_3_0_0)

theorem w30_apply (e : Fin 1408) : w30 m c t (ix3 0 0 e) = aC m c (ix2 0 (col 3 e)) := by
  pointwise [w30]
  exact b3 m c t 3 0 e

abbrev w31 : Vec Ideal S1x1x1408 .f32 := View.ld (iblk m c 3 t) (Rect.unit ![3, 1, 0] ![1, 1, 1408] inb_S4x3x1408_S1x1x1408_3_1_0)

theorem w31_apply (e : Fin 1408) : w31 m c t (ix3 0 0 e) = aC m c (ix2 1 (col 3 e)) := by
  pointwise [w31]
  exact b3 m c t 3 1 e

abbrev w32 : Vec Ideal S1x1x1408 .f32 := View.ld (iblk m c 3 t) (Rect.unit ![3, 2, 0] ![1, 1, 1408] inb_S4x3x1408_S1x1x1408_3_2_0)

theorem w32_apply (e : Fin 1408) : w32 m c t (ix3 0 0 e) = aC m c (ix2 2 (col 3 e)) := by
  pointwise [w32]
  exact b3 m c t 3 2 e

abbrev wu3 : Vec Ideal S1x1024x1408 .bf16 := View.ld (iblk m c 4 t) (Rect.unit ![3, 0, 0] ![1, 1024, 1408] inb_S4x1024x1408_S1x1024x1408_3_0_0)

theorem wu3_apply (i : Fin 1024) (e : Fin 1408) : wu3 m c t (ix3 0 i e) = aW m c (ix2 i (col 3 e)) := by
  pointwise [wu3]
  exact b4 m c t 3 i e

/-- Chunk 3 of the convolution's input gradient. -/
abbrev du3 : FVec Ideal S256x1408 .bf16 :=
  k0_pay50 (dc3 m c t) (dc3_1 m c t) (dc3_2 m c t) (w32 m c t) (w31 m c t) (w30 m c t)

theorem du3_apply (r : Fin 256) (e : Fin 1408) : du3 m c t (ix2 r e) = du (aC m c) (aD m c) (row t r) (col 3 e) := by
  have h0 := dc3_apply m c t r e
  have h1 := dc3_1_apply m c t r e
  have h2 := dc3_2_apply m c t r e
  have h3 := w32_apply m c t e
  have h4 := w31_apply m c t e
  have h5 := w30_apply m c t e
  unfold du3
  generalize dc3 m c t = V, dc3_1 m c t = V1, dc3_2 m c t = V2, w32 m c t = W2, w31 m c t = W1, w30 m c t = W0 at *
  pointwise [k0_pay50]
  rw [h0, h1, h2, h3, h4, h5]
  rfl

/-- The chunks' products with the weight, added up one by one. -/
abbrev dh0 : FVec Ideal S256x1024 .f32 := k0_pay14 k0_pay4 (dc0 m c t) (dc0_1 m c t) (dc0_2 m c t) (w02 m c t) (w01 m c t) (w00 m c t) (wu0 m c t)
abbrev dh1 : FVec Ideal S256x1024 .f32 := k0_pay27 (dh0 m c t) (du1 m c t) (wu1 m c t)
abbrev dh2 : FVec Ideal S256x1024 .f32 := k0_pay37 (dh1 m c t) (dc2 m c t) (dc2_1 m c t) (dc2_2 m c t) (w22 m c t) (w21 m c t) (w20 m c t) (wu2 m c t)
abbrev dh3 : FVec Ideal S256x1024 .f32 := k0_pay51 (dh2 m c t) (dc3 m c t) (dc3_1 m c t) (dc3_2 m c t) (w32 m c t) (w31 m c t) (w30 m c t) (wu3 m c t)

theorem dh0_apply (r : Fin 256) (i : Fin 1024) : dh0 m c t (ix2 r i)
    = 0 + ∑ e : Fin 1408, du (aC m c) (aD m c) (row t r) (col 0 e) * aW m c (ix2 i (col 0 e)) := by
  have hd := fun e => du0_apply m c t r e
  have hw := fun e => wu0_apply m c t i e
  unfold dh0
  unfold du0 at hd
  simp only [← hd, ← hw]
  generalize dc0 m c t = V, dc0_1 m c t = V1, dc0_2 m c t = V2, w02 m c t = W2, w01 m c t = W1, w00 m c t = W0, wu0 m c t = U at *
  pointwise [k0_pay14, k0_pay4, k0_pay13]

theorem dh1_apply (r : Fin 256) (i : Fin 1024) : dh1 m c t (ix2 r i)
    = dh0 m c t (ix2 r i) + ∑ e : Fin 1408, du (aC m c) (aD m c) (row t r) (col 1 e) * aW m c (ix2 i (col 1 e)) := by
  have hd := fun e => du1_apply m c t r e
  have hw := fun e => wu1_apply m c t i e
  unfold dh1
  simp only [← hd, ← hw]
  generalize du1 m c t = V, wu1 m c t = U, dh0 m c t = A at *
  pointwise [k0_pay27, k0_pay4, k0_pay26]

theorem dh2_apply (r : Fin 256) (i : Fin 1024) : dh2 m c t (ix2 r i)
    = dh1 m c t (ix2 r i) + ∑ e : Fin 1408, du (aC m c) (aD m c) (row t r) (col 2 e) * aW m c (ix2 i (col 2 e)) := by
  have hd := fun e => du2_apply m c t r e
  have hw := fun e => wu2_apply m c t i e
  unfold dh2
  unfold du2 at hd
  simp only [← hd, ← hw]
  generalize dc2 m c t = V, dc2_1 m c t = V1, dc2_2 m c t = V2, w22 m c t = W2, w21 m c t = W1, w20 m c t = W0, wu2 m c t = U, dh1 m c t = A at *
  pointwise [k0_pay37, k0_pay4, k0_pay36]

theorem dh3_apply (r : Fin 256) (i : Fin 1024) : dh3 m c t (ix2 r i)
    = dh2 m c t (ix2 r i) + ∑ e : Fin 1408, du (aC m c) (aD m c) (row t r) (col 3 e) * aW m c (ix2 i (col 3 e)) := by
  have hd := fun e => du3_apply m c t r e
  have hw := fun e => wu3_apply m c t i e
  unfold dh3
  unfold du3 at hd
  simp only [← hd, ← hw]
  generalize dc3 m c t = V, dc3_1 m c t = V1, dc3_2 m c t = V2, w32 m c t = W2, w31 m c t = W1, w30 m c t = W0, wu3 m c t = U, dh2 m c t = A at *
  pointwise [k0_pay51, k0_pay4, k0_pay50]

/-- The whole product at a grid point: the gradient of the normalised rows. -/
theorem dh_apply (r : Fin 256) (i : Fin 1024) : dh3 m c t (ix2 r i) = dh (aW m c) (aC m c) (aD m c) (row t r) i := by
  rw [dh3_apply, dh2_apply, dh1_apply, dh0_apply, zero_add]
  exact (sum_cols fun k => du (aC m c) (aD m c) (row t r) k * aW m c (ix2 i k)).symm

end Cert.Conv

end
-- ==== Proof.Conv.KerTaps.lean ====
/- The partial sums of the taps' and bias' gradients: what a grid point adds to them. -/
module

public import Idealize.ShloMosaic.Lib.Pipeline.ReadBack
public import proofs.«01_k».proof.Proof.Conv.KerVal

@[expose] public section

set_option maxRecDepth 16384

noncomputable section

namespace Cert.Conv

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

variable (c : Dev nD) (t : Fin cfg0.N)

/-- Row `8 a + s` of a block. -/
def sub (a : Fin 32) (s : Fin 8) : Fin 256 := ⟨a * 8 + s, by omega⟩

/-- What one row contributes: to the bias, and to taps 0, 1 and 2. -/
def part (X : Mat 4096 1024) (G : Mat 1 1024) (W : Mat 1024 5632) (D : Mat 4096 5632) (q : Fin 4) (r : Fin 4096) (k : Fin 5632) : EReal :=
  ![D (ix2 r k), ahead D 2 r k * up X G W r k, ahead D 1 r k * up X G W r k, D (ix2 r k) * up X G W r k] q

/-- What a grid point adds: the sum over its rows of one residue. -/
def tapsAt (q : Fin 4) (s : Fin 8) (k : Fin 5632) : EReal :=
  ∑ a : Fin 32, part (aX m c) (aG m c) (aW m c) (aD m c) q (row t (sub a s)) k

theorem tap00 (Q : Vec Ideal S1x8x1408 .f32) (s : Fin 8) (e : Fin 1408) :
    k0_pay8 (dc0 m c t) Q (ix3 0 s e)
    = Q (ix3 0 s e) + tapsAt m c t 0 s (col 0 e) := by
  have hd := fun r => dc0_apply m c t r e
  unfold tapsAt part
  generalize dc0 m c t = V at *
  pointwise [k0_pay8]
  refine congrArg (_ + ·) (Finset.sum_congr rfl fun a _ => ?_)
  exact hd _

theorem tap01 (Q : Vec Ideal S1x8x1408 .f32) (s : Fin 8) (e : Fin 1408) :
    k0_pay9 (k0_pay5 (u0 m c t)) (dc0_2 m c t) Q (ix3 0 s e)
    = Q (ix3 0 s e) + tapsAt m c t 1 s (col 0 e) := by
  have hu := fun r => u0_apply m c t r e
  have hd := fun r => dc0_2_apply m c t r e
  unfold tapsAt part
  generalize dc0_2 m c t = V, u0 m c t = U at *
  pointwise [k0_pay9, k0_pay5]
  refine congrArg (_ + ·) (Finset.sum_congr rfl fun a _ => ?_)
  exact congrArg₂ (HMul.hMul : EReal → EReal → EReal) (hd _) (hu _)

theorem tap02 (Q : Vec Ideal S1x8x1408 .f32) (s : Fin 8) (e : Fin 1408) :
    k0_pay10 (k0_pay5 (u0 m c t)) (dc0_1 m c t) Q (ix3 0 s e)
    = Q (ix3 0 s e) + tapsAt m c t 2 s (col 0 e) := by
  have hu := fun r => u0_apply m c t r e
  have hd := fun r => dc0_1_apply m c t r e
  unfold tapsAt part
  generalize dc0_1 m c t = V, u0 m c t = U at *
  pointwise [k0_pay10, k0_pay5]
  refine congrArg (_ + ·) (Finset.sum_congr rfl fun a _ => ?_)
  exact congrArg₂ (HMul.hMul : EReal → EReal → EReal) (hd _) (hu _)

theorem tap03 (Q : Vec Ideal S1x8x1408 .f32) (s : Fin 8) (e : Fin 1408) :
    k0_pay12 (k0_pay11 (dc0 m c t) (k0_pay5 (u0 m c t)) Q) (ix3 0 s e)
    = Q (ix3 0 s e) + tapsAt m c t 3 s (col 0 e) := by
  have hu := fun r => u0_apply m c t r e
  have hd := fun r => dc0_apply m c t r e
  unfold tapsAt part
  generalize dc0 m c t = V, u0 m c t = U at *
  pointwise [k0_pay12, k0_pay11, k0_pay5]
  refine congrArg (_ + ·) (Finset.sum_congr rfl fun a _ => ?_)
  exact congrArg₂ (HMul.hMul : EReal → EReal → EReal) (hd _) (hu _)

theorem tap10 (Q : Vec Ideal S1x8x1408 .f32) (s : Fin 8) (e : Fin 1408) :
    k0_pay22 (dc1 m c t) Q (ix3 0 s e)
    = Q (ix3 0 s e) + tapsAt m c t 0 s (col 1 e) := by
  have hd := fun r => dc1_apply m c t r e
  unfold tapsAt part
  generalize dc1 m c t = V at *
  pointwise [k0_pay22]
  refine congrArg (_ + ·) (Finset.sum_congr rfl fun a _ => ?_)
  exact hd _

theorem tap11 (Q : Vec Ideal S1x8x1408 .f32) (s : Fin 8) (e : Fin 1408) :
    k0_pay23 (k0_pay3 (grid0.coords t) (iblk m c 1 t)) (dc1 m c t) (k0_pay15 (u1 m c t)) Q (ix3 0 s e)
    = Q (ix3 0 s e) + tapsAt m c t 1 s (col 1 e) := by
  have hu := fun r => u1_apply m c t r e
  have hd := fun r => dc1_2_apply m c t r e
  rw [show k0_pay23 (k0_pay3 (grid0.coords t) (iblk m c 1 t)) (dc1 m c t) (k0_pay15 (u1 m c t)) Q = k0_pay24 (k0_pay15 (u1 m c t)) (dc1_2 m c t) Q from rfl]
  unfold tapsAt part
  generalize dc1_2 m c t = V, u1 m c t = U at *
  pointwise [k0_pay24, k0_pay15]
  refine congrArg (_ + ·) (Finset.sum_congr rfl fun a _ => ?_)
  exact congrArg₂ (HMul.hMul : EReal → EReal → EReal) (hd _) (hu _)

theorem tap12 (Q : Vec Ideal S1x8x1408 .f32) (s : Fin 8) (e : Fin 1408) :
    k0_pay24 (k0_pay15 (u1 m c t)) (dc1_1 m c t) Q (ix3 0 s e)
    = Q (ix3 0 s e) + tapsAt m c t 2 s (col 1 e) := by
  have hu := fun r => u1_apply m c t r e
  have hd := fun r => dc1_1_apply m c t r e
  unfold tapsAt part
  generalize dc1_1 m c t = V, u1 m c t = U at *
  pointwise [k0_pay24, k0_pay15]
  refine congrArg (_ + ·) (Finset.sum_congr rfl fun a _ => ?_)
  exact congrArg₂ (HMul.hMul : EReal → EReal → EReal) (hd _) (hu _)

theorem tap13 (Q : Vec Ideal S1x8x1408 .f32) (s : Fin 8) (e : Fin 1408) :
    k0_pay25 (dc1 m c t) (k0_pay15 (u1 m c t)) Q (ix3 0 s e)
    = Q (ix3 0 s e) + tapsAt m c t 3 s (col 1 e) := by
  have hu := fun r => u1_apply m c t r e
  have hd := fun r => dc1_apply m c t r e
  unfold tapsAt part
  generalize dc1 m c t = V, u1 m c t = U at *
  pointwise [k0_pay25, k0_pay15]
  refine congrArg (_ + ·) (Finset.sum_congr rfl fun a _ => ?_)
  exact congrArg₂ (HMul.hMul : EReal → EReal → EReal) (hd _) (hu _)

theorem tap20 (Q : Vec Ideal S1x8x1408 .f32) (s : Fin 8) (e : Fin 1408) :
    k0_pay32 (k0_pay31 (dc2 m c t) Q) (ix3 0 s e)
    = Q (ix3 0 s e) + tapsAt m c t 0 s (col 2 e) := by
  have hd := fun r => dc2_apply m c t r e
  unfold tapsAt part
  generalize dc2 m c t = V at *
  pointwise [k0_pay32, k0_pay31]
  refine congrArg (_ + ·) (Finset.sum_congr rfl fun a _ => ?_)
  exact hd _

theorem tap21 (Q : Vec Ideal S1x8x1408 .f32) (s : Fin 8) (e : Fin 1408) :
    k0_pay33 (k0_pay28 (u2 m c t)) (dc2_2 m c t) Q (ix3 0 s e)
    = Q (ix3 0 s e) + tapsAt m c t 1 s (col 2 e) := by
  have hu := fun r => u2_apply m c t r e
  have hd := fun r => dc2_2_apply m c t r e
  unfold tapsAt part
  generalize dc2_2 m c t = V, u2 m c t = U at *
  pointwise [k0_pay33, k0_pay28]
  refine congrArg (_ + ·) (Finset.sum_congr rfl fun a _ => ?_)
  exact congrArg₂ (HMul.hMul : EReal → EReal → EReal) (hd _) (hu _)

theorem tap22 (Q : Vec Ideal S1x8x1408 .f32) (s : Fin 8) (e : Fin 1408) :
    k0_pay34 (k0_pay28 (u2 m c t)) (dc2_1 m c t) Q (ix3 0 s e)
    = Q (ix3 0 s e) + tapsAt m c t 2 s (col 2 e) := by
  have hu := fun r => u2_apply m c t r e
  have hd := fun r => dc2_1_apply m c t r e
  unfold tapsAt part
  generalize dc2_1 m c t = V, u2 m c t = U at *
  pointwise [k0_pay34, k0_pay28]
  refine congrArg (_ + ·) (Finset.sum_congr rfl fun a _ => ?_)
  exact congrArg₂ (HMul.hMul : EReal → EReal → EReal) (hd _) (hu _)

theorem tap23 (Q : Vec Ideal S1x8x1408 .f32) (s : Fin 8) (e : Fin 1408) :
    k0_pay35 (dc2 m c t) (k0_pay28 (u2 m c t)) Q (ix3 0 s e)
    = Q (ix3 0 s e) + tapsAt m c t 3 s (col 2 e) := by
  have hu := fun r => u2_apply m c t r e
  have hd := fun r => dc2_apply m c t r e
  unfold tapsAt part
  generalize dc2 m c t = V, u2 m c t = U at *
  pointwise [k0_pay35, k0_pay28]
  refine congrArg (_ + ·) (Finset.sum_congr rfl fun a _ => ?_)
  exact congrArg₂ (HMul.hMul : EReal → EReal → EReal) (hd _) (hu _)

theorem tap30 (Q : Vec Ideal S1x8x1408 .f32) (s : Fin 8) (e : Fin 1408) :
    k0_pay45 (dc3 m c t) Q (ix3 0 s e)
    = Q (ix3 0 s e) + tapsAt m c t 0 s (col 3 e) := by
  have hd := fun r => dc3_apply m c t r e
  unfold tapsAt part
  generalize dc3 m c t = V at *
  pointwise [k0_pay45]
  refine congrArg (_ + ·) (Finset.sum_congr rfl fun a _ => ?_)
  exact hd _

theorem tap31 (Q : Vec Ideal S1x8x1408 .f32) (s : Fin 8) (e : Fin 1408) :
    k0_pay46 (k0_pay38 (u3 m c t)) (k0_pay40 (k0_pay3 (grid0.coords t) (iblk m c 1 t))) (k0_pay41 (dc3 m c t)) (iota Kind.tc S8x1408 32 [0] iota_S8x1408_d0_w32) (k0_pay42 (dc3 m c t)) k0_pay43 Q (ix3 0 s e)
    = Q (ix3 0 s e) + tapsAt m c t 1 s (col 3 e) := by
  have hu := fun r => u3_apply m c t r e
  have hd := fun r => dc3_2_apply m c t r e
  rw [show k0_pay46 (k0_pay38 (u3 m c t)) (k0_pay40 (k0_pay3 (grid0.coords t) (iblk m c 1 t))) (k0_pay41 (dc3 m c t)) (iota Kind.tc S8x1408 32 [0] iota_S8x1408_d0_w32) (k0_pay42 (dc3 m c t)) k0_pay43 Q = k0_pay49 (dc3_2 m c t) (k0_pay38 (u3 m c t)) Q from rfl]
  unfold tapsAt part
  generalize dc3_2 m c t = V, u3 m c t = U at *
  pointwise [k0_pay49, k0_pay38]
  refine congrArg (_ + ·) (Finset.sum_congr rfl fun a _ => ?_)
  exact congrArg₂ (HMul.hMul : EReal → EReal → EReal) (hd _) (hu _)

theorem tap32 (Q : Vec Ideal S1x8x1408 .f32) (s : Fin 8) (e : Fin 1408) :
    k0_pay48 (k0_pay47 (k0_pay38 (u3 m c t)) (dc3_1 m c t) Q) (ix3 0 s e)
    = Q (ix3 0 s e) + tapsAt m c t 2 s (col 3 e) := by
  have hu := fun r => u3_apply m c t r e
  have hd := fun r => dc3_1_apply m c t r e
  unfold tapsAt part
  generalize dc3_1 m c t = V, u3 m c t = U at *
  pointwise [k0_pay48, k0_pay47, k0_pay38]
  refine congrArg (_ + ·) (Finset.sum_congr rfl fun a _ => ?_)
  exact congrArg₂ (HMul.hMul : EReal → EReal → EReal) (hd _) (hu _)

theorem tap33 (Q : Vec Ideal S1x8x1408 .f32) (s : Fin 8) (e : Fin 1408) :
    k0_pay49 (dc3 m c t) (k0_pay38 (u3 m c t)) Q (ix3 0 s e)
    = Q (ix3 0 s e) + tapsAt m c t 3 s (col 3 e) := by
  have hu := fun r => u3_apply m c t r e
  have hd := fun r => dc3_apply m c t r e
  unfold tapsAt part
  generalize dc3 m c t = V, u3 m c t = U at *
  pointwise [k0_pay49, k0_pay38]
  refine congrArg (_ + ·) (Finset.sum_congr rfl fun a _ => ?_)
  exact congrArg₂ (HMul.hMul : EReal → EReal → EReal) (hd _) (hu _)

/-- A sum over the rows of one residue, block by block. -/
theorem sum_rows (f : Fin 4096 → EReal) (s : Fin 8) :
    ∑ t : Fin cfg0.N, ∑ a : Fin 32, f (row t (sub a s)) = ∑ a : Fin 512, f (row8 a s) := by
  have h : ∑ a : Fin (16 * 32), f (row8 a s) = ∑ t : Fin 16, ∑ a : Fin 32, f (row (t.cast N_0.symm) (sub a s)) := by
    rw [← finProdFinEquiv.sum_comp, Fintype.sum_prod_type]
    refine Finset.sum_congr rfl fun t _ => Finset.sum_congr rfl fun a _ => congrArg f (Fin.ext ?_)
    simp [finProdFinEquiv, row, row8, sub]
    omega
  refine Eq.trans ?_ h.symm
  exact (finCongr N_0).sum_comp fun t => ∑ a : Fin 32, f (row (t.cast N_0.symm) (sub a s))

theorem sum_tapsAt (q : Fin 4) (s : Fin 8) (k : Fin 5632) :
    ∑ t : Fin cfg0.N, tapsAt m c t q s k = taps (aX m c) (aG m c) (aW m c) (aD m c) q s k := by
  unfold tapsAt
  rw [sum_rows fun r => part (aX m c) (aG m c) (aW m c) (aD m c) q r k]
  fin_cases q <;> rfl

/-- A piece of the block, stored at row `q` and column `o = j * 1408` over what was there before. -/
theorem tap_piece (prev : Vec Ideal S4x8x5632 .f32) (j q : Fin 4) (o : ℕ) (ho : o = j * 1408)
    (inb : ∀ a, (![(q : ℕ), 0, o] : Fin 3 → ℕ) a + (![1, 8, 1408] : Fin 3 → ℕ) a ≤ S4x8x5632.size a) (P : Vec Ideal S1x8x1408 .f32)
    (hP : ∀ s e, P (ix3 0 s e)
      = (View.ld prev (Rect.unit ![(q : ℕ), 0, o] ![1, 8, 1408] inb) : Vec Ideal S1x8x1408 .f32) (ix3 0 s e) + tapsAt m c t q s (col j e))
    (y : S4x8x5632.Idx) (z : S1x8x1408.Idx)
    (h0 : (y 0 : ℕ) = q + (z 0 : ℕ)) (h1 : (y 1 : ℕ) = z 1) (h2 : (y 2 : ℕ) = o + z 2) :
    P z = prev y + tapsAt m c t (y 0) (y 1) (y 2) := by
  have z0 : (z 0 : ℕ) < 1 := (z 0).isLt
  have hz : z = ix3 0 (z 1) (z 2) := by
    funext d
    fin_cases d
    · exact Fin.ext (by show (z 0 : ℕ) = 0; omega)
    · rfl
    · rfl
  have hQ : (View.ld prev (Rect.unit ![(q : ℕ), 0, o] ![1, 8, 1408] inb) : Vec Ideal S1x8x1408 .f32) z = prev y :=
    View.ld_unit_apply_of prev _ _ _ z y fun a => by
      fin_cases a
      · exact h0
      · exact h1.trans (Nat.zero_add _).symm
      · exact h2
  have e0 : y 0 = q := Fin.ext (by rw [h0]; omega)
  have e1 : y 1 = z 1 := Fin.ext h1
  have e2 : y 2 = col j (z 2) := Fin.ext (h2.trans (congrArg (· + (z 2 : ℕ)) ho))
  rw [← hQ, e0, e1, e2]
  conv_lhs => rw [hz]
  conv_rhs => rw [hz]
  exact hP _ _

end Cert.Conv

end
-- ==== Proof.Conv.KerOut.lean ====
/- The convolution's and the block's input gradient, and the gain gradient's partial sums, that the kernel leaves. -/
module

public import Idealize.ShloMosaic.Lib.Pipeline.ReadBack
public import proofs.«01_k».proof.Proof.Conv.KerTaps

@[expose] public section

set_option maxRecDepth 16384

noncomputable section

namespace Cert.Conv

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

variable (c : Dev nD) (t : Fin cfg0.N)

theorem emb9 (y : S256x5632.Idx) : ((View.whole main_v18_1).slice (win0_9.rect t)).emb y = ix2 (row t (y 0)) (y 1) := by
  blk_ext [idx t]
  rfl

theorem emb8 (y : S256x1024.Idx) : ((View.whole main_v18_0).slice (win0_8.rect t)).emb y = ix2 (row t (y 0)) (y 1) := by
  blk_ext [idx t]
  rfl

/-- A chunk's piece of the block. -/
theorem du_piece (j : Fin 4) (o : ℕ) (ho : o = j * 1408) (P : Vec Ideal S256x1408 .bf16)
    (hP : ∀ r e, P (ix2 r e) = du (aC m c) (aD m c) (row t r) (col j e)) (y : S256x5632.Idx) (z : S256x1408.Idx)
    (h0 : (y 0 : ℕ) = z 0) (h1 : (y 1 : ℕ) = o + z 1) : P z = du (aC m c) (aD m c) (row t (y 0)) (y 1) := by
  have hz : z = ix2 (z 0) (z 1) := by
    funext d
    fin_cases d <;> rfl
  have e0 : y 0 = z 0 := Fin.ext h0
  have e1 : y 1 = col j (z 1) := Fin.ext (h1.trans (congrArg (· + (z 1 : ℕ)) ho))
  rw [e0, e1, hz]
  exact hP _ _

/-- The convolution's input gradient. -/
theorem final9 : (dats m 0 c).arrAt 9 (cfgs 0).N = fun j : S4096x5632.Idx => du (aC m c) (aD m c) (j 0) (j 1) := by
  refine (dats m 0 c).arrAt_eq_of_covers 9 _ (by decide +kernel) fun t hf y => ?_
  blk_simp
  rw [after0_9, emb9]
  show _ = du (aC m c) (aD m c) (row t (y 0)) (y 1)
  by_cases h : t.val % 16 = 0
  · rw [outsAt0_A m c t h]
    dsimp only
    frame_out
    canon_tiles y h
    case piece0 => exact du_piece m c t 3 4224 rfl (du3 m c t) (fun r e => du3_apply m c t r e) _ y h0 h1
    case piece1 => exact du_piece m c t 2 2816 rfl (du2 m c t) (fun r e => du2_apply m c t r e) _ y h0 h1
    case piece2 => exact du_piece m c t 1 1408 rfl (du1 m c t) (fun r e => du1_apply m c t r e) _ y h0 h1
    case piece3 => exact du_piece m c t 0 0 rfl (du0 m c t) (fun r e => du0_apply m c t r e) _ y h0 (h1.trans (Nat.zero_add _).symm)
  · rw [outsAt0_B m c t h]
    dsimp only
    frame_out
    canon_tiles y h
    case piece0 => exact du_piece m c t 3 4224 rfl (du3 m c t) (fun r e => du3_apply m c t r e) _ y h0 h1
    case piece1 => exact du_piece m c t 2 2816 rfl (du2 m c t) (fun r e => du2_apply m c t r e) _ y h0 h1
    case piece2 => exact du_piece m c t 1 1408 rfl (du1 m c t) (fun r e => du1_apply m c t r e) _ y h0 h1
    case piece3 => exact du_piece m c t 0 0 rfl (du0 m c t) (fun r e => du0_apply m c t r e) _ y h0 (h1.trans (Nat.zero_add _).symm)

/-- A row of the block's input gradient at a grid point. -/
theorem pay55_ix (r : Fin 256) (i : Fin 1024) : k0_pay55 (dh3 m c t) (iblk m c 5 t) (iblk m c 7 t) (iblk m c 6 t) (ix2 r i)
    = dx (aX m c) (aG m c) (aW m c) (aC m c) (aD m c) (aY m c) (row t r) i := by
  have hh := fun i => dh_apply m c t r i
  have hx := fun i => b5 m c t r i
  have hg := fun i => b6 m c t i
  have hr := b7 m c t r i
  unfold dx addNorm xh ms
  generalize dh3 m c t = DH, iblk m c 5 t = V5, iblk m c 6 t = V6, iblk m c 7 t = V7 at *
  pointwise [k0_pay55, k0_pay52, k0_pay53]
  simp only [hh, hx, hg, hr]

theorem pay55_apply (y : S256x1024.Idx) : k0_pay55 (dh3 m c t) (iblk m c 5 t) (iblk m c 7 t) (iblk m c 6 t) y
    = dx (aX m c) (aG m c) (aW m c) (aC m c) (aD m c) (aY m c) (row t (y 0)) (y 1) := by
  have hy : y = ix2 (y 0) (y 1) := by
    funext d
    fin_cases d <;> rfl
  exact (congrArg _ hy).trans (pay55_ix m c t (y 0) (y 1))

/-- The block's input gradient. -/
theorem final8 : (dats m 0 c).arrAt 8 (cfgs 0).N
    = fun j : S4096x1024.Idx => dx (aX m c) (aG m c) (aW m c) (aC m c) (aD m c) (aY m c) (j 0) (j 1) := by
  refine (dats m 0 c).arrAt_eq_of_covers 8 _ (by decide +kernel) fun t hf y => ?_
  blk_simp
  rw [after0_8, emb8]
  show _ = dx (aX m c) (aG m c) (aW m c) (aC m c) (aD m c) (aY m c) (row t (y 0)) (y 1)
  by_cases h : t.val % 16 = 0
  · rw [outsAt0_A m c t h]
    dsimp only
    frame_out
    exact pay55_apply m c t y
  · rw [outsAt0_B m c t h]
    dsimp only
    frame_out
    exact pay55_apply m c t y

/-- What a grid point adds to the gain gradient's partial sums. -/
def gainAt (s : Fin 8) (i : Fin 1024) : EReal :=
  ∑ a : Fin 32, dh (aW m c) (aC m c) (aD m c) (row t (sub a s)) i * xh (aX m c) (row t (sub a s)) i

theorem zero11 (j : S8x1024.Idx) : k0_pay2 (F := Ideal) j = 0 := by pointwise! [k0_pay2]

theorem pay54_ix (Q : FVec Ideal S8x1024 .f32) (s : Fin 8) (i : Fin 1024) :
    k0_pay54 (dh3 m c t) (iblk m c 5 t) Q (ix2 s i) = Q (ix2 s i) + gainAt m c t s i := by
  have hh := fun r i => dh_apply m c t r i
  have hx := fun r i => b5 m c t r i
  unfold gainAt xh ms
  generalize dh3 m c t = DH, iblk m c 5 t = V5 at *
  pointwise [k0_pay54, k0_pay52, k0_pay53]
  simp only [hh, hx]
  rfl

theorem pay54_apply (Q : FVec Ideal S8x1024 .f32) (y : S8x1024.Idx) :
    k0_pay54 (dh3 m c t) (iblk m c 5 t) Q y = Q y + gainAt m c t (y 0) (y 1) := by
  have hy : y = ix2 (y 0) (y 1) := by
    funext d
    fin_cases d <;> rfl
  exact (congrArg _ hy).trans ((pay54_ix m c t Q (y 0) (y 1)).trans (congrArg (fun z => Q z + gainAt m c t (y 0) (y 1)) hy.symm))

/-- The gain gradient's partial sums. -/
theorem final11 : (dats m 0 c).arrAt 11 (cfgs 0).N
    = fun j : S8x1024.Idx => gain (aX m c) (aW m c) (aC m c) (aD m c) (j 0) (j 1) := by
  refine (dats m 0 c).arrAt_eq_of_after_last 11 t0_15 (by decide +kernel) _ fun j => ?_
  blk_simp
  rw [after0_11, Pipeline.eq_sum_fin_of_reset_step_apply_last (fun n h => (outsAt0 m c n h).2.2.2) 16 (fun _ => (0 : EReal))
    (fun t j => gainAt m c t (j 0) (j 1))
    (fun t h j => by
      rw [outsAt0_A m c t h]
      frame_out
      exact (pay54_apply m c t _ j).trans (by rw [zero11]))
    (fun t h j => by
      rw [outsAt0_B m c t h]
      frame_out
      exact pay54_apply m c t _ j)
    (le_of_eq N_0) t0_15 rfl j, zero_add]
  exact sum_rows (fun r => dh (aW m c) (aC m c) (aD m c) r (j 1) * xh (aX m c) r (j 1)) (j 0)

end Cert.Conv

end
-- ==== Proof.Conv.KerOutTaps.lean ====
/- The taps' and bias' gradient partial sums that the kernel leaves. -/
module

public import Idealize.ShloMosaic.Lib.Pipeline.ReadBack
public import proofs.«01_k».proof.Proof.Conv.KerTaps

@[expose] public section

set_option maxRecDepth 16384

noncomputable section

namespace Cert.Conv

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

variable (c : Dev nD) (t : Fin cfg0.N)

/-- What an earliest store left is not seen where a later one covers it. -/
theorem canon_dropLast {S : Shape} {e : EltTy} {Val : EltTy → Type} [∀ e, Nonempty (Val e)] (y : S.Idx) :
    ∀ L : List (View.Piece Val S e), (∃ p ∈ L.dropLast, y ∈ p.1.set) → View.canon L y = View.canon L.dropLast y
  | [], _ => rfl
  | [_], h => by obtain ⟨p, hp, _⟩ := h; simp at hp
  | p :: q :: L, h => by
    rw [List.dropLast_cons_cons] at h ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_dropLast y (q :: L) ?_
      obtain ⟨r, hr, hy⟩ := h
      rcases List.mem_cons.mp hr with rfl | hr'
      · exact absurd hy hm
      · exact ⟨r, hr', hy⟩

theorem zero10 (j : S4x8x5632.Idx) : k0_pay1 (F := Ideal) j = 0 := by pointwise! [k0_pay1]

/-- The first grid point writes its contribution over zeros. -/
theorem taps_first (h : t.val % 16 = 0) (j : S4x8x5632.Idx) :
    (outsAt0 m c t.val t.isLt).2.2.1 j = (0 : EReal) + tapsAt m c t (j 0) (j 1) (j 2) := by
  rw [← zero10 j, outsAt0_A m c t h]
  frame_open
  simp (disch := decide) only [↓View.readCov_skip, ↓View.readCov_fill]
  frame_out
  refine (canon_dropLast j _ (View.cover_of_tiled _ ![1, 8, 1408] rfl j)).trans ?_
  dsimp only [List.dropLast]
  canon_tiles j h
  case piece0 => exact tap_piece m c t (k0_pay1 (F := Ideal)) 3 3 4224 rfl _ _ (fun s e => tap33 m c t _ s e) _ j h0 h1 h2
  case piece1 => exact tap_piece m c t (k0_pay1 (F := Ideal)) 3 2 4224 rfl _ _ (fun s e => tap32 m c t _ s e) _ j h0 h1 h2
  case piece2 => exact tap_piece m c t (k0_pay1 (F := Ideal)) 3 1 4224 rfl _ _ (fun s e => tap31 m c t _ s e) _ j h0 h1 h2
  case piece3 => exact tap_piece m c t (k0_pay1 (F := Ideal)) 3 0 4224 rfl _ _ (fun s e => tap30 m c t _ s e) _ j (h0.trans (Nat.zero_add _).symm) h1 h2
  case piece4 => exact tap_piece m c t (k0_pay1 (F := Ideal)) 2 3 2816 rfl _ _ (fun s e => tap23 m c t _ s e) _ j h0 h1 h2
  case piece5 => exact tap_piece m c t (k0_pay1 (F := Ideal)) 2 2 2816 rfl _ _ (fun s e => tap22 m c t _ s e) _ j h0 h1 h2
  case piece6 => exact tap_piece m c t (k0_pay1 (F := Ideal)) 2 1 2816 rfl _ _ (fun s e => tap21 m c t _ s e) _ j h0 h1 h2
  case piece7 => exact tap_piece m c t (k0_pay1 (F := Ideal)) 2 0 2816 rfl _ _ (fun s e => tap20 m c t _ s e) _ j (h0.trans (Nat.zero_add _).symm) h1 h2
  case piece8 => exact tap_piece m c t (k0_pay1 (F := Ideal)) 1 3 1408 rfl _ _ (fun s e => tap13 m c t _ s e) _ j h0 h1 h2
  case piece9 => exact tap_piece m c t (k0_pay1 (F := Ideal)) 1 2 1408 rfl _ _ (fun s e => tap12 m c t _ s e) _ j h0 h1 h2
  case piece10 => exact tap_piece m c t (k0_pay1 (F := Ideal)) 1 1 1408 rfl _ _ (fun s e => tap11 m c t _ s e) _ j h0 h1 h2
  case piece11 => exact tap_piece m c t (k0_pay1 (F := Ideal)) 1 0 1408 rfl _ _ (fun s e => tap10 m c t _ s e) _ j (h0.trans (Nat.zero_add _).symm) h1 h2
  case piece12 => exact tap_piece m c t (k0_pay1 (F := Ideal)) 0 3 0 rfl _ _ (fun s e => tap03 m c t _ s e) _ j h0 h1 (h2.trans (Nat.zero_add _).symm)
  case piece13 => exact tap_piece m c t (k0_pay1 (F := Ideal)) 0 2 0 rfl _ _ (fun s e => tap02 m c t _ s e) _ j h0 h1 (h2.trans (Nat.zero_add _).symm)
  case piece14 => exact tap_piece m c t (k0_pay1 (F := Ideal)) 0 1 0 rfl _ _ (fun s e => tap01 m c t _ s e) _ j h0 h1 (h2.trans (Nat.zero_add _).symm)
  case piece15 => exact tap_piece m c t (k0_pay1 (F := Ideal)) 0 0 0 rfl _ _ (fun s e => tap00 m c t _ s e) _ j (h0.trans (Nat.zero_add _).symm) h1 (h2.trans (Nat.zero_add _).symm)

/-- Every later one adds its contribution to what the one before left. -/
theorem taps_step (h : ¬t.val % 16 = 0) (j : S4x8x5632.Idx) :
    (outsAt0 m c t.val t.isLt).2.2.1 j
    = (outsAt0 m c (t.val - 1) (Nat.lt_of_le_of_lt (Nat.sub_le _ _) t.isLt)).2.2.1 j + tapsAt m c t (j 0) (j 1) (j 2) := by
  rw [outsAt0_B m c t h]
  frame_out
  canon_tiles j h
  case piece0 => exact tap_piece m c t _ 3 3 4224 rfl _ _ (fun s e => tap33 m c t _ s e) _ j h0 h1 h2
  case piece1 => exact tap_piece m c t _ 3 2 4224 rfl _ _ (fun s e => tap32 m c t _ s e) _ j h0 h1 h2
  case piece2 => exact tap_piece m c t _ 3 1 4224 rfl _ _ (fun s e => tap31 m c t _ s e) _ j h0 h1 h2
  case piece3 => exact tap_piece m c t _ 3 0 4224 rfl _ _ (fun s e => tap30 m c t _ s e) _ j (h0.trans (Nat.zero_add _).symm) h1 h2
  case piece4 => exact tap_piece m c t _ 2 3 2816 rfl _ _ (fun s e => tap23 m c t _ s e) _ j h0 h1 h2
  case piece5 => exact tap_piece m c t _ 2 2 2816 rfl _ _ (fun s e => tap22 m c t _ s e) _ j h0 h1 h2
  case piece6 => exact tap_piece m c t _ 2 1 2816 rfl _ _ (fun s e => tap21 m c t _ s e) _ j h0 h1 h2
  case piece7 => exact tap_piece m c t _ 2 0 2816 rfl _ _ (fun s e => tap20 m c t _ s e) _ j (h0.trans (Nat.zero_add _).symm) h1 h2
  case piece8 => exact tap_piece m c t _ 1 3 1408 rfl _ _ (fun s e => tap13 m c t _ s e) _ j h0 h1 h2
  case piece9 => exact tap_piece m c t _ 1 2 1408 rfl _ _ (fun s e => tap12 m c t _ s e) _ j h0 h1 h2
  case piece10 => exact tap_piece m c t _ 1 1 1408 rfl _ _ (fun s e => tap11 m c t _ s e) _ j h0 h1 h2
  case piece11 => exact tap_piece m c t _ 1 0 1408 rfl _ _ (fun s e => tap10 m c t _ s e) _ j (h0.trans (Nat.zero_add _).symm) h1 h2
  case piece12 => exact tap_piece m c t _ 0 3 0 rfl _ _ (fun s e => tap03 m c t _ s e) _ j h0 h1 (h2.trans (Nat.zero_add _).symm)
  case piece13 => exact tap_piece m c t _ 0 2 0 rfl _ _ (fun s e => tap02 m c t _ s e) _ j h0 h1 (h2.trans (Nat.zero_add _).symm)
  case piece14 => exact tap_piece m c t _ 0 1 0 rfl _ _ (fun s e => tap01 m c t _ s e) _ j h0 h1 (h2.trans (Nat.zero_add _).symm)
  case piece15 => exact tap_piece m c t _ 0 0 0 rfl _ _ (fun s e => tap00 m c t _ s e) _ j (h0.trans (Nat.zero_add _).symm) h1 (h2.trans (Nat.zero_add _).symm)

/-- The window's contents after the last grid point: the partial sums over all rows. -/
theorem final10 : (dats m 0 c).arrAt 10 (cfgs 0).N
    = fun j : S4x8x5632.Idx => taps (aX m c) (aG m c) (aW m c) (aD m c) (j 0) (j 1) (j 2) := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => (0 : EReal))
    (fun t j => tapsAt m c t (j 0) (j 1) (j 2)) (fun t h j => taps_first m c t h j) (fun t h j => taps_step m c t h j)
    (le_of_eq N_0) t0_15 rfl j, zero_add]
  exact sum_tapsAt m c _ _ _

end Cert.Conv

end
-- ==== Proof.Conv.Finite.lean ====
/- Over finite arguments the two ways of writing the block's input gradient agree. -/
module

public import proofs.«01_k».proof.Proof.Conv.Spec
public import proofs.«01_k».proof.Defs
public import proofs.«01_k».proof.Proof.Gen.Pre_finite
public import Idealize.ShloMosaic.Lib.ReduceAll
public import Idealize.ShloMosaic.Lib.Affine

@[expose] public section

set_option maxRecDepth 16384

noncomputable section

namespace Cert.Conv

open Idealize.ShloMosaic

/-- A real number among the extended reals. -/
def IsReal (x : EReal) : Prop := ∃ r : ℝ, x = r

/-- Of magnitude below infinity: a real number. -/
theorem real_of_lt (x : EReal) (h : FloatOps.cmpf (F := Ideal) (φ := .f32) .olt (FloatOps.absf (F := Ideal) (φ := .f32) x) (Ideal.ofBits .f32 0x7F800000#32) = 1#1) : IsReal x := by
  have ht : Ideal.ofBits .f32 0x7F800000#32 = ⊤ := by
    simp [Ideal.ofBits, Ideal.ieee]
  rw [ht] at h
  induction x using EReal.rec with
  | bot => simp [FloatOps.cmpf, FloatOps.absf, Ideal.cmp] at h
  | top => simp [FloatOps.cmpf, FloatOps.absf, Ideal.cmp] at h
  | coe r => exact ⟨r, rfl⟩

instance : Subsingleton (Cert.Pre_finite.S_ : Shape).Idx := ⟨fun a b => funext fun d => d.elim0⟩

/-- What the precondition says. -/
theorem fn_true (a0 : Mat 4096 1024) (a1 : Mat 1 1024) (a2 : Mat 1024 5632) (a3 : Mat 3 5632) (a4 : Mat 4096 5632) (a5 : Mat 4096 1024)
   [hf : Cert.Pre_finite.Facts] (h : Cert.Pre_finite.fn (F := Ideal) a0 a1 a2 a3 a4 a5 = fun _ => 1#1) :
   (∀ i, IsReal (a0 i)) ∧ (∀ i, IsReal (a1 i)) ∧ (∀ i, IsReal (a2 i)) ∧ (∀ i, IsReal (a3 i)) ∧ (∀ i, IsReal (a4 i)) := by
  have h := congrFun h (fun d => d.elim0)
  unfold Pre_finite.fn Pre_finite.fn_part1 at h
  dsimp only [andi] at h
  rw [IntOp.andi_eq_one, IntOp.andi_eq_one, IntOp.andi_eq_one, IntOp.andi_eq_one] at h
  obtain ⟨⟨⟨⟨h0, h1⟩, h2⟩, h3⟩, h4⟩ := h
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i)⟩

theorem coe_sum {n : ℕ} (f : Fin n → ℝ) : ∑ i, (f i : EReal) = ((∑ i, f i : ℝ) : EReal) := by
  induction n with
  | zero => simp
  | succ n ih => rw [Fin.sum_univ_castSucc, Fin.sum_univ_castSucc, ih, EReal.coe_add]

theorem coe_div (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem coe_rsqrt (a : ℝ) (ha : 0 < a) : Ideal.rsqrt (a : EReal) = (((Real.sqrt a)⁻¹ : ℝ) : EReal) := by
  show (if a < 0 then _ else _) = _
  rw [if_neg (not_lt.mpr ha.le), if_neg ha.ne']

theorem bits_1024 : Ideal.ofBits .f32 0x44800000#32 = ((1024 : ℝ) : EReal) := by
  simp [Ideal.ofBits, Ideal.ieee, -EReal.coe_mul]
  norm_num

theorem bits_half : Ideal.ofBits .f32 0xBF000000#32 = ((-(1 / 2) : ℝ) : EReal) := by
  simp [Ideal.ofBits, Ideal.ieee, -EReal.coe_mul]
  norm_num

theorem bits_eps : ∃ e : ℝ, 0 < e ∧ Ideal.ofBits .f32 0x358637BD#32 = (e : EReal) := by
  refine ⟨_, ?_, by simp [Ideal.ofBits, Ideal.ieee, -EReal.coe_mul]; rfl⟩
  norm_num

variable (X : Mat 4096 1024) (G : Mat 1 1024) (W : Mat 1024 5632) (C : Mat 3 5632) (D : Mat 4096 5632) (Y : Mat 4096 1024)

theorem IsReal.add {a b : EReal} : IsReal a → IsReal b → IsReal (a + b) := by
  rintro ⟨x, rfl⟩ ⟨y, rfl⟩
  exact ⟨x + y, (EReal.coe_add x y).symm⟩

theorem IsReal.mul {a b : EReal} : IsReal a → IsReal b → IsReal (a * b) := by
  rintro ⟨x, rfl⟩ ⟨y, rfl⟩
  exact ⟨x * y, (EReal.coe_mul x y).symm⟩

theorem IsReal.sum {n : ℕ} {f : Fin n → EReal} (h : ∀ i, IsReal (f i)) : IsReal (∑ i, f i) := by
  choose g hg using h
  exact ⟨∑ i, g i, (Finset.sum_congr rfl fun i _ => hg i).trans (coe_sum g)⟩

theorem ahead_real (hD : ∀ i, IsReal (D i)) (k : ℕ) (r : Fin 4096) (c : Fin 5632) : IsReal (ahead D k r c) := by
  unfold ahead
  split
  · exact hD _
  · exact ⟨0, rfl⟩

theorem dh_real (hW : ∀ i, IsReal (W i)) (hC : ∀ i, IsReal (C i)) (hD : ∀ i, IsReal (D i)) (r : Fin 4096) (i : Fin 1024) :
    IsReal (dh W C D r i) :=
  IsReal.sum fun c => ((((hC _).mul (hD _)).add ((hC _).mul (ahead_real D hD 1 r c))).add ((hC _).mul (ahead_real D hD 2 r c))).mul (hW _)

/-- The mean square plus the small constant is a positive real number. -/
theorem ms_real (hX : ∀ i, IsReal (X i)) (r : Fin 4096) : ∃ v : ℝ, 0 < v ∧ ms X r = (v : EReal) := by
  choose x hx using hX
  obtain ⟨e, he, hb⟩ := bits_eps
  refine ⟨(∑ i : Fin 1024, x (ix2 r i) * x (ix2 r i)) / 1024 + e, ?_, ?_⟩
  · have : 0 ≤ ∑ i : Fin 1024, x (ix2 r i) * x (ix2 r i) := Finset.sum_nonneg fun i _ => mul_self_nonneg _
    positivity
  · unfold ms
    simp only [hx, ← EReal.coe_mul]
    rw [coe_sum, bits_1024, hb, coe_div _ _ (by norm_num), ← EReal.coe_add]

/-- Over real numbers one expression for the normalisation's gradient is the other. -/
theorem addNorm_eq (hX : ∀ i, IsReal (X i)) (hG : ∀ i, IsReal (G i)) (h : Fin 1024 → EReal) (hh : ∀ i, IsReal (h i)) (y : EReal)
    (r : Fin 4096) (i : Fin 1024) : addNorm X G h y r i = addNorm' X G h y r i := by
  obtain ⟨v, hv, hm⟩ := ms_real X hX r
  choose x hx using hX
  choose g hg using hG
  choose d hd using hh
  have h1024 : (1024 : ℝ) ≠ 0 := by norm_num
  unfold addNorm addNorm' half xh
  simp only [hm, coe_rsqrt v hv, hx, hg, hd, ← EReal.coe_mul, coe_sum, bits_1024, bits_half, coe_div _ _ h1024, coe_div _ _ hv.ne',
    ← EReal.coe_sub]
  rw [add_assoc, add_assoc, ← EReal.coe_add, ← EReal.coe_add]
  refine congrArg (fun z : ℝ => y + (z : EReal)) ?_
  have hs : (Real.sqrt v)⁻¹ * (Real.sqrt v)⁻¹ = v⁻¹ := by rw [← mul_inv, Real.mul_self_sqrt hv.le]
  have e : ∑ k : Fin 1024, d k * g (ix2 0 k) * (x (ix2 r k) * (Real.sqrt v)⁻¹)
      = (∑ k : Fin 1024, x (ix2 r k) * (d k * g (ix2 0 k))) * (Real.sqrt v)⁻¹ := by
    rw [Finset.sum_mul]
    exact Finset.sum_congr rfl fun k _ => by ring
  rw [e]
  generalize (Real.sqrt v)⁻¹ = s at hs
  generalize ∑ k : Fin 1024, x (ix2 r k) * (d k * g (ix2 0 k)) = S
  rw [div_eq_mul_inv s v, ← hs]
  ring

/-- One expression for the block's input gradient is the other. -/
theorem dx_eq (hX : ∀ i, IsReal (X i)) (hG : ∀ i, IsReal (G i)) (hW : ∀ i, IsReal (W i)) (hC : ∀ i, IsReal (C i))
    (hD : ∀ i, IsReal (D i)) (r : Fin 4096) (i : Fin 1024) : dx X G W C D Y r i = dx' X G W C D Y r i :=
  addNorm_eq X G hX hG _ (dh_real W C D hW hC hD r) _ r i

end Cert.Conv

end
-- ==== Proof.Conv.Algebraic.lean ====
/- The kernel's and the reference's results, side by side. -/
module

public import proofs.«01_k».proof.Proof.Conv.Ref
public import proofs.«01_k».proof.Proof.Conv.RefTaps
public import proofs.«01_k».proof.Proof.Conv.RefDx
public import proofs.«01_k».proof.Proof.Conv.KerOut
public import proofs.«01_k».proof.Proof.Conv.KerOutTaps
public import proofs.«01_k».proof.Proof.Conv.Finite
public import Idealize.ShloMosaic.Lib.Quiescent

@[expose] public section

noncomputable section

namespace Cert.Conv

open Idealize.ShloMosaic Idealize.ShloMosaic.TcCoe Idealize.SL.Sem

/-- The reference runs, leaves its arguments as they were, and its counters at zero. -/
theorem frame_reference : Cert.quiescent_ReferenceIdeal := fun m ρ _ =>
  (θ_run Cert.ReferenceIdeal.defs _ _).mono
    (fun r h => ⟨fun c => ((h c).2.2.2.2), sem_eq_zero_of_no_sems rfl r.2⟩) (Cert.ReferenceIdeal.Value.run (F := Ideal) m ρ)

section Kernel
open Cert.KernelIdeal Cert.KernelIdeal.Gen

/-- Every result of the kernel, as a function of the arguments. -/
theorem kernel_run (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c : Thread nD τ).loc main_v18_0)
        = (fun j : S4096x1024.Idx => dx (aX m c) (aG m c) (aW m c) (aC m c) (aD m c) (aY m c) (j 0) (j 1))
      ∧ r.2.mem ((c : Thread nD τ).loc main_v18_1) = (fun j : S4096x5632.Idx => du (aC m c) (aD m c) (j 0) (j 1))
      ∧ r.2.mem ((c : Thread nD τ).loc main_v18_2)
        = (fun j : S4x8x5632.Idx => taps (aX m c) (aG m c) (aW m c) (aD m c) (j 0) (j 1) (j 2))
      ∧ r.2.mem ((c : Thread nD τ).loc main_v18_3)
        = (fun j : S8x1024.Idx => gain (aX m c) (aW m c) (aC m c) (aD m c) (j 0) (j 1)) :=
  (θ_run defs _ _).mono (fun r h c => ⟨(h c).1.trans (final8 m c), (h c).2.1.trans (final9 m c), (h c).2.2.1.trans (final10 m c),
    (h c).2.2.2.1.trans (final11 m c)⟩) (Cert.KernelIdeal.Value.run_blocks m ρ)

end Kernel

/-- The kernel computes the reference's gradients, over the extended reals, from finite arguments. -/
theorem algebraic : Cert.algebraic_KernelIdeal_ReferenceIdeal_pre_finite := by
  intro m g m' g' hp ha
  refine ⟨fun c => _, fun c => _, fun c => _, fun c => _,
    (θ_run Cert.KernelIdeal.defs _ _).mono (fun r h c => ⟨(h.1 c).1, (h.1 c).2.1, (h.1 c).2.2.1, (h.1 c).2.2.2, h.2.1 c⟩)
      (θ_run_and (kernel_run m g) (Cert.KernelIdeal.Gen.frame m g)),
    (θ_run Cert.ReferenceIdeal.defs _ _).mono (fun r h c => ?_)
      (θ_run_and (ref_dx m' g') (θ_run_and (ref_du m' g') (θ_run_and (ref_taps m' g') (θ_run_and (ref_gain m' g') (frame_reference m' g' trivial)))))⟩
  obtain ⟨e0, e1, e2, e3, e4, e5⟩ := ha c
  obtain ⟨hX, hG, hW, hC, hD⟩ := fn_true _ _ _ _ _ _ (hp c)
  refine ⟨(h.1 c).trans ?_, (h.2.1 c).trans ?_, (h.2.2.1 c).trans ?_, (h.2.2.2.1 c).trans ?_, h.2.2.2.2.1 c⟩
  · rw [e0, e1, e2, e3, e4, e5]
    exact funext fun j => (dx_eq _ _ _ _ _ _ hX hG hW hC hD _ _).symm
  · rw [e3, e4]
  · rw [e0, e1, e2, e4]
  · rw [e0, e2, e3, e4]

end Cert.Conv

end
-- ==== Proof.InProj.Spec.lean ====
/- What the gradient of the input and gate projections and of the normalisation before them computes, entry by entry. -/
module

public import proofs.«01_k».proof.Proof.Conv.Spec

@[expose] public section

noncomputable section

namespace Cert.InProj

open Idealize.ShloMosaic Cert.Conv

variable (X : Mat 4096 1024) (G : Mat 1 1024) (W : Mat 1024 3584) (K : Mat 1024 3072) (D : Mat 4096 3584) (E : Mat 4096 3072)
  (Y : Mat 4096 1024)

/-- The gradient of the normalised row: both cotangents back through their projections. -/
def dh (r : Fin 4096) (i : Fin 1024) : EReal :=
  (∑ c : Fin 3584, D (ix2 r c) * W (ix2 i c)) + ∑ c : Fin 3072, E (ix2 r c) * K (ix2 i c)

/-- The normalised row, with its gain. -/
def hn (r : Fin 4096) (i : Fin 1024) : EReal := xh X r i * G (ix2 0 i)

/-- Column `e` of the `j`-th chip's chunk of the input projection. -/
def col (j : Fin 4) (e : Fin 896) : Fin 3584 := ⟨j * 896 + e, by omega⟩

/-- Column `e` of the `j`-th chip's chunk of the gate projection. -/
def colg (j : Fin 4) (e : Fin 768) : Fin 3072 := ⟨j * 768 + e, by omega⟩

/-- The input projection's weight gradient, one chip's columns after the other. -/
def dw (j : Fin 4) (i : Fin 1024) (e : Fin 896) : EReal := ∑ r : Fin 4096, hn X G r i * D (ix2 r (col j e))

/-- The partial sums of the gain's gradient, one for each row residue modulo 8. -/
def gain (s : Fin 8) (i : Fin 1024) : EReal := ∑ a : Fin 512, dh W K D E (row8 a s) i * xh X (row8 a s) i

/-- The gradient of the block's input: the residual's cotangent plus the normalisation's gradient. -/
def dx (r : Fin 4096) (i : Fin 1024) : EReal := addNorm X G (dh W K D E r) (Y (ix2 r i)) r i

/-- The same gradient, the square's two factors differentiated one after the other. -/
def dx' (r : Fin 4096) (i : Fin 1024) : EReal := addNorm' X G (dh W K D E r) (Y (ix2 r i)) r i

end Cert.InProj

end
-- ==== Proof.InProj.RunA.lean ====
/- The input projection's backward call run through at the first grid point: what its stores leave in each output. -/
module

public import proofs.«01_k».proof.Proof.Gen.Kernel2Ideal.Frame.Runs

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 2000000 in
/-- The body run through in this case, from whole staging buffers: the inputs' buffers end as they were, each output's buffer and the scratch
    end with the pieces found on the way, the last stored first. -/
noncomputable def kernelRun0_A (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) :
    Σ' (L20 : List (View.Piece (Elt F) S256x1024 .f32)), Σ' (L21 : List (View.Piece (Elt F) S8x1024 .f32)), Σ' (L22 : List (View.Piece (Elt F) S4x1024x896 .f32)), { LT0 : List (View.Piece (Elt F) S256x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LT0)) -∗ K ⟨⟩))
          ⊢ wp frame (wpE (defs₀ (F := F)) Variants.none c none) E (cc0_in_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, fun E K => ?run⟩
  case run =>
    simp only [cc0_in_proj_bwd_eq_skeleton]; unfold cc0_in_proj_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexists _; iexact H21
    isplitl [H22]; · iexists _; iexact H22
    iexists _; iexact HS0

end Cert.Kernel2Ideal.Gen

end
-- ==== Proof.InProj.Frame.lean ====
/- The input projection's backward call at every grid point, and its launch: it runs to its end, leaves its arguments as they
   were and its counters at zero. -/
module

public import proofs.«01_k».proof.Proof.InProj.RunB
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's stores cover output 20's block. -/
theorem cover0_A_20 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).1 S256x1024.size (by sl_kernel_rfl) y

/-- What case A leaves in output 20's buffer. -/
def out0_A_20 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) : Vec F S256x1024 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).1)

/-- Case A's stores cover output 21's block. -/
theorem cover0_A_21 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).2.1 S8x1024.size (by sl_kernel_rfl) y

/-- What case A leaves in output 21's buffer. -/
def out0_A_21 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) : Vec F S8x1024 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).2.1)

/-- Case A's stores cover output 22's block. -/
theorem cover0_A_22 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) (y : S4x1024x896.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).2.2.1 ![1, 1024, 896] (by sl_kernel_rfl) y

/-- What case A leaves in output 22's buffer. -/
def out0_A_22 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) : Vec F S4x1024x896 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).2.2.1)

/-- Case B's stores cover output 20's block. -/
theorem cover0_B_20 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : ¬cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) (xo21 : Vec F S8x1024 .f32) (xo22 : Vec F S4x1024x896 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xo21 xo22).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xo21 xo22).1 S256x1024.size (by sl_kernel_rfl) y

/-- What case B leaves in output 20's buffer. -/
def out0_B_20 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : ¬cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) (xo21 : Vec F S8x1024 .f32) (xo22 : Vec F S4x1024x896 .f32) : Vec F S256x1024 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xo21 xo22).1)

/-- Case B's stores cover output 21's block. -/
theorem cover0_B_21 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : ¬cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) (xo21 : Vec F S8x1024 .f32) (xo22 : Vec F S4x1024x896 .f32) (y : S8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xo21 xo22).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xo21 xo22).2.1 S8x1024.size (by sl_kernel_rfl) y

/-- What case B leaves in output 21's buffer. -/
def out0_B_21 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : ¬cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) (xo21 : Vec F S8x1024 .f32) (xo22 : Vec F S4x1024x896 .f32) : Vec F S8x1024 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xo21 xo22).2.1)

/-- Case B's stores cover output 22's block. -/
theorem cover0_B_22 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : ¬cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) (xo21 : Vec F S8x1024 .f32) (xo22 : Vec F S4x1024x896 .f32) (y : S4x1024x896.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xo21 xo22).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xo21 xo22).2.2.1 S1x1024x896.size (by sl_kernel_rfl) y

/-- What case B leaves in output 22's buffer. -/
def out0_B_22 (c : Dev nD) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x512 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x512 .bf16) (harg13 : arg13.IsWhole) (arg14 : Memref sig .tc .vmem S256x3072 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S256x1024 .f32) (harg18 : arg18.IsWhole) (arg19 : Memref sig .tc .vmem S4x1024x896 .bf16) (harg19 : arg19.IsWhole) (arg20 : Memref sig .tc .vmem S4x1024x768 .bf16) (harg20 : arg20.IsWhole) (arg21 : Memref sig .tc .vmem S256x1024 .f32) (harg21 : arg21.IsWhole) (arg22 : Memref sig .tc .vmem S8x1024 .f32) (harg22 : arg22.IsWhole) (arg23 : Memref sig .tc .vmem S4x1024x896 .f32) (harg23 : arg23.IsWhole) (arg24 : Memref sig .tc .vmem S256x3584 .bf16) (harg24 : arg24.IsWhole) (hc0 : ¬cond0_0 i)
    (x0 : Vec F S256x256 .bf16) (x1 : Vec F S256x256 .bf16) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S256x512 .bf16) (x10 : Vec F S256x128 .bf16) (x11 : Vec F S256x128 .bf16) (x12 : Vec F S256x512 .bf16) (x13 : Vec F S256x3072 .bf16) (x14 : Vec F S256x1024 .f32) (x15 : Vec F S256x1024 .bf16) (x16 : Vec F S1x1024 .f32) (x17 : Vec F S256x1024 .f32) (x18 : Vec F S4x1024x896 .bf16) (x19 : Vec F S4x1024x768 .bf16) (xo21 : Vec F S8x1024 .f32) (xo22 : Vec F S4x1024x896 .f32) : Vec F S4x1024x896 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xo21 xo22).2.2.1)

/-! ## What the outputs hold after each point -/

/-- What the outputs' buffers hold after each grid point: the second and the third are carried on from the point before. -/
def outsAt0 (c : Dev nD) : (n : ℕ) → n < cfg0.N → Vec F S256x1024 .f32 × Vec F S8x1024 .f32 × Vec F S4x1024x896 .f32
  | 0, hn => (out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩))
  | n + 1, hn =>
    if h0 : (n + 1) % 16 = 0 then
      (out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩))
    else
      (out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2, out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2, out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 16 = 0) :
    outsAt0 m c t.val t.isLt = (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The pipeline's data: the arrays as the launch finds them, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t.val t.isLt).1
    | ⟨21, _⟩ => (outsAt0 m c t.val t.isLt).2.1
    | ⟨22, _⟩ => (outsAt0 m c t.val t.isLt).2.2
    | ⟨_ + 23, h⟩ => absurd h (Nat.not_lt.2 (Nat.le_add_left _ _))
  Φ _ := Pipeline.ΦA spec0 c
  q _ := fullShare
  owed _ := 0

/-- The arrays are as the launch finds them. -/
theorem A_eq (c : Dev nD) (w : Fin cfg0.W) : (dats m 0 c).A w = V m c (Pipeline.arrRef spec0 w) := by
  dsimp only [dats]

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t.val t.isLt).1 := by dsimp only [dats]
theorem after0_21 (c : Dev nD) (t : Fin cfg0.N) : (dats m 0 c).after 21 t = (outsAt0 m c t.val t.isLt).2.1 := by dsimp only [dats]
theorem after0_22 (c : Dev nD) (t : Fin cfg0.N) : (dats m 0 c).after 22 t = (outsAt0 m c t.val t.isLt).2.2 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
/-- At a later point output 21's buffer holds what the point before left. -/
theorem before0_21_B (c : Dev nD) (t : Fin cfg0.N) (h0 : ¬t.val % 16 = 0) (d) :
    (dats m 0 c).before 21 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]
/-- At a later point output 22's buffer holds what the point before left. -/
theorem before0_22_B (c : Dev nD) (t : Fin cfg0.N) (h0 : ¬t.val % 16 = 0) (d) :
    (dats m 0 c).before 22 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  dsimp only [dats]

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point, in the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  have hN : t.val < 16 := lt_of_lt_of_eq t.isLt (show cfg0.N = 16 from N_0)
  by_cases h0 : t.val % 16 = 0
  · rw [outsAt0_A m c t h0]
    unfold out0_A_20 out0_A_21 out0_A_22; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [HS0]; · iexact HS0
    iintro ⟨H0, H1, H2, H3, H4, H5, H6, H7, H8, H9, H10, H11, H12, H13, H14, H15, H16, H17, H18, H19, ⟨%e20, H20⟩, ⟨%e21, H21⟩, ⟨%e22, H22⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · unfold owns; iexists _; isplitr
      swap; · iexact H20
      ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H21]
    · unfold owns; iexists _; isplitr
      swap; · iexact H21
      ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_21_B m c t h0, before0_22_B m c t h0]
    unfold out0_B_20 out0_B_21 out0_B_22; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexact H21
    isplitl [H22]; · iexact H22
    isplitl [HS0]; · iexact HS0
    iintro ⟨H0, H1, H2, H3, H4, H5, H6, H7, H8, H9, H10, H11, H12, H13, H14, H15, H16, H17, H18, H19, ⟨%e20, H20⟩, ⟨%e21, H21⟩, ⟨%e22, H22⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · unfold owns; iexists _; isplitr
      swap; · iexact H20
      ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H21]
    · unfold owns; iexists _; isplitr
      swap; · iexact H21
      ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H22
    ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body called at a point. -/
theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/
set_option backward.isDefEq.respectTransparency.types false in
/-- The launch runs to its end, with its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch runs to its end. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The arguments end unchanged and the counters at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel2Ideal.Gen

end
-- ==== Proof.InProj.Value.lean ====
/- What the arrays of the input projection's backward call hold after the launch, block by block. -/
module

public import proofs.«01_k».proof.Proof.InProj.Frame
public import Idealize.ShloMosaic.Lib.Pipeline.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What a point writes back to output 20. -/
theorem flushed20 (c : Dev nD) (t : Fin cfg0.N) :
    (dats m 0 c).flushed 20 t = (cfg0.win 20).cut (grid0.coords t) ((outsAt0 m c t.val t.isLt).1) := by
  show (cfg0.win 20).cut (grid0.coords t) ((dats m 0 c).after 20 t) = _
  rw [after0_20]

/-- What a point of case A writes back. -/
theorem flushed20_A (c : Dev nD) (t : Fin cfg0.N) (h0 : t.val % 16 = 0) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  simp only [flushed20, outsAt0_A m c t h0]

/-- What a point of case B writes back. -/
theorem flushed20_B (c : Dev nD) (t : Fin cfg0.N) (h0 : ¬t.val % 16 = 0) :
    (dats m 0 c).flushed 20 t = (cfg0.win 20).cut (grid0.coords t) (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed20, outsAt0_B m c t h0]

/-- Distinct points have distinct blocks. -/
theorem idx_inj20 : ∀ t t' : Fin cfg0.N, win0_20.index t = win0_20.index t' → t = t' :=
  (by decide +kernel : ∀ t t' : Fin grid0.N, win0_20.index t = win0_20.index t' → t = t')

/-- Two points' blocks are disjoint. -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- A block of the array after the launch. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- What no block covers is as the launch finds it. -/
theorem entry20 (c : Dev nD) (i : S4096x1024.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- What a point writes back to output 21. -/
theorem flushed21 (c : Dev nD) (t : Fin cfg0.N) :
    (dats m 0 c).flushed 21 t = (cfg0.win 21).cut (grid0.coords t) ((outsAt0 m c t.val t.isLt).2.1) := by
  show (cfg0.win 21).cut (grid0.coords t) ((dats m 0 c).after 21 t) = _
  rw [after0_21]

/-- What a point of case A writes back. -/
theorem flushed21_A (c : Dev nD) (t : Fin cfg0.N) (h0 : t.val % 16 = 0) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  simp only [flushed21, outsAt0_A m c t h0]

/-- What a point of case B writes back. -/
theorem flushed21_B (c : Dev nD) (t : Fin cfg0.N) (h0 : ¬t.val % 16 = 0) :
    (dats m 0 c).flushed 21 t = (cfg0.win 21).cut (grid0.coords t) (out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed21, outsAt0_B m c t h0]

/-- What no block covers is as the launch finds it. -/
theorem entry21 (c : Dev nD) (i : S8x1024.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- What a point writes back to output 22. -/
theorem flushed22 (c : Dev nD) (t : Fin cfg0.N) :
    (dats m 0 c).flushed 22 t = (cfg0.win 22).cut (grid0.coords t) ((outsAt0 m c t.val t.isLt).2.2) := by
  show (cfg0.win 22).cut (grid0.coords t) ((dats m 0 c).after 22 t) = _
  rw [after0_22]

/-- What a point of case A writes back. -/
theorem flushed22_A (c : Dev nD) (t : Fin cfg0.N) (h0 : t.val % 16 = 0) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  simp only [flushed22, outsAt0_A m c t h0]

/-- What a point of case B writes back. -/
theorem flushed22_B (c : Dev nD) (t : Fin cfg0.N) (h0 : ¬t.val % 16 = 0) :
    (dats m 0 c).flushed 22 t = (cfg0.win 22).cut (grid0.coords t) (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed22, outsAt0_B m c t h0]

/-- What no block covers is as the launch finds it. -/
theorem entry22 (c : Dev nD) (i : S4x1024x896.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- Output 20 after the launch. -/
theorem post20 (r : PUnit × MemSt nD τ sig (Elt F)) (h : Pipeline.FramePost cfgs (dats m) 0 (V m) r) (c : Dev nD) :
    r.2.mem ((c : Thread nD τ).loc main_v46_0) = (dats m 0 c).arrAt 20 cfg0.N :=
  (h c).1 20

/-- Output 21 after the launch. -/
theorem post21 (r : PUnit × MemSt nD τ sig (Elt F)) (h : Pipeline.FramePost cfgs (dats m) 0 (V m) r) (c : Dev nD) :
    r.2.mem ((c : Thread nD τ).loc main_v46_1) = (dats m 0 c).arrAt 21 cfg0.N :=
  (h c).1 21

/-- Output 22 after the launch. -/
theorem post22 (r : PUnit × MemSt nD τ sig (Elt F)) (h : Pipeline.FramePost cfgs (dats m) 0 (V m) r) (c : Dev nD) :
    r.2.mem ((c : Thread nD τ).loc main_v46_2) = (dats m 0 c).arrAt 22 cfg0.N :=
  (h c).1 22

/-- Argument 0 is as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 14).trans (((dats m 0 c).arrAt_in 14 rfl _).trans ((A_eq m c 14).trans (V_main_arg0 m c)))

/-- Argument 1 is as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 16).trans (((dats m 0 c).arrAt_in 16 rfl _).trans ((A_eq m c 16).trans (V_main_arg1 m c)))

/-- Argument 2 is as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument 4 is as it was. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument 5 is as it was. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Argument 6 is as it was. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 17).trans (((dats m 0 c).arrAt_in 17 rfl _).trans ((A_eq m c 17).trans (V_main_arg6 m c)))

/-- The launch leaves each output's array as its blocks were written, and the arguments as they were. -/
theorem run_blocks : θ_run defs (onTc (τ := τ) (main (F := F))) ⟨m, fun _ => 0, ρ⟩ fun r => ∀ c : Dev nD,
      r.2.mem ((c : Thread nD τ).loc main_v46_0) = (dats m 0 c).arrAt 20 cfg0.N
      ∧ r.2.mem ((c : Thread nD τ).loc main_v46_1) = (dats m 0 c).arrAt 21 cfg0.N
      ∧ r.2.mem ((c : Thread nD τ).loc main_v46_2) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel2Ideal.Value

end
-- ==== Proof.InProj.KerBlk.lean ====
/- What the projections' backward kernel reads at a grid point: every block, entry by entry, in the arguments. -/
module

public import proofs.«01_k».proof.Proof.InProj.Spec
public import proofs.«01_k».proof.Proof.InProj.Value

@[expose] public section

set_option maxRecDepth 16384

noncomputable section

namespace Cert.InProj

open Cert.Conv Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Row `r` of block `t`. -/
def row (t : Fin cfg0.N) (r : Fin 256) : Fin 4096 := ⟨t.val * 256 + r, by have h : t.val < 16 := N_0 ▸ t.isLt; omega⟩

/-- Every window's block index at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0] ∧ win0_16.index t = ![0, 0] ∧ win0_17.index t = ![t.val, 0]
    ∧ win0_18.index t = ![0, 0, 0] ∧ win0_19.index t = ![0, 0, 0] ∧ win0_20.index t = ![t.val, 0] ∧ win0_21.index t = ![0, 0] ∧ win0_22.index t = ![0, 0, 0] :=
  (by decide +kernel : ∀ t : Fin grid0.N, _)

variable (c : Dev nD) (t : Fin cfg0.N)

abbrev aX : Mat 4096 1024 := m ((c : Thread nD τ).loc main_arg0)
abbrev aG : Mat 1 1024 := m ((c : Thread nD τ).loc main_arg1)
abbrev aW : Mat 1024 3584 := m ((c : Thread nD τ).loc main_arg2)
abbrev aK : Mat 1024 3072 := m ((c : Thread nD τ).loc main_arg3)
abbrev aD : Mat 4096 3584 := m ((c : Thread nD τ).loc main_arg4)
abbrev aE : Mat 4096 3072 := m ((c : Thread nD τ).loc main_arg5)
abbrev aY : Mat 4096 1024 := m ((c : Thread nD τ).loc main_arg6)

/-! The pieces of the projection's cotangent. -/

theorem b0 (r : Fin 256) (e : Fin 256) :
    (iblk m c 0 t : Vec Ideal S256x256 .bf16) (ix2 r e) = aD m c (ix2 (row t r) ⟨0 + e, by omega⟩) := by
  blk_simp [iblk, idx t]
  entry_read
  have h : ((View.whole main_v20).slice (win0_0.rect t)).emb (ix2 r e) = ix2 (row t r) e := by
    blk_ext [idx t]
    rfl
  rw [h]
  pointwise

theorem b1 (r : Fin 256) (e : Fin 256) :
    (iblk m c 1 t : Vec Ideal S256x256 .bf16) (ix2 r e) = aD m c (ix2 (row t r) ⟨256 + e, by omega⟩) := by
  blk_simp [iblk, idx t]
  entry_read
  have h : ((View.whole main_v22).slice (win0_1.rect t)).emb (ix2 r e) = ix2 (row t r) e := by
    blk_ext [idx t]
    rfl
  rw [h]
  pointwise

theorem b2 (r : Fin 256) (e : Fin 256) :
    (iblk m c 2 t : Vec Ideal S256x256 .bf16) (ix2 r e) = aD m c (ix2 (row t r) ⟨512 + e, by omega⟩) := by
  blk_simp [iblk, idx t]
  entry_read
  have h : ((View.whole main_v24).slice (win0_2.rect t)).emb (ix2 r e) = ix2 (row t r) e := by
    blk_ext [idx t]
    rfl
  rw [h]
  pointwise

theorem b3 (r : Fin 256) (e : Fin 256) :
    (iblk m c 3 t : Vec Ideal S256x256 .bf16) (ix2 r e) = aD m c (ix2 (row t r) ⟨768 + e, by omega⟩) := by
  blk_simp [iblk, idx t]
  entry_read
  have h : ((View.whole main_v26).slice (win0_3.rect t)).emb (ix2 r e) = ix2 (row t r) e := by
    blk_ext [idx t]
    rfl
  rw [h]
  pointwise

theorem b4 (r : Fin 256) (e : Fin 256) :
    (iblk m c 4 t : Vec Ideal S256x256 .bf16) (ix2 r e) = aD m c (ix2 (row t r) ⟨1024 + e, by omega⟩) := by
  blk_simp [iblk, idx t]
  entry_read
  have h : ((View.whole main_v28).slice (win0_4.rect t)).emb (ix2 r e) = ix2 (row t r) e := by
    blk_ext [idx t]
    rfl
  rw [h]
  pointwise

theorem b5 (r : Fin 256) (e : Fin 256) :
    (iblk m c 5 t : Vec Ideal S256x256 .bf16) (ix2 r e) = aD m c (ix2 (row t r) ⟨1280 + e, by omega⟩) := by
  blk_simp [iblk, idx t]
  entry_read
  have h : ((View.whole main_v30).slice (win0_5.rect t)).emb (ix2 r e) = ix2 (row t r) e := by
    blk_ext [idx t]
    rfl
  rw [h]
  pointwise

theorem b6 (r : Fin 256) (e : Fin 256) :
    (iblk m c 6 t : Vec Ideal S256x256 .bf16) (ix2 r e) = aD m c (ix2 (row t r) ⟨1536 + e, by omega⟩) := by
  blk_simp [iblk, idx t]
  entry_read
  have h : ((View.whole main_v32).slice (win0_6.rect t)).emb (ix2 r e) = ix2 (row t r) e := by
    blk_ext [idx t]
    rfl
  rw [h]
  pointwise

theorem b7 (r : Fin 256) (e : Fin 256) :
    (iblk m c 7 t : Vec Ideal S256x256 .bf16) (ix2 r e) = aD m c (ix2 (row t r) ⟨1792 + e, by omega⟩) := by
  blk_simp [iblk, idx t]
  entry_read
  have h : ((View.whole main_v34).slice (win0_7.rect t)).emb (ix2 r e) = ix2 (row t r) e := by
    blk_ext [idx t]
    rfl
  rw [h]
  pointwise

theorem b8 (r : Fin 256) (e : Fin 256) :
    (iblk m c 8 t : Vec Ideal S256x256 .bf16) (ix2 r e) = aD m c (ix2 (row t r) ⟨2048 + e, by omega⟩) := by
  blk_simp [iblk, idx t]
  entry_read
  have h : ((View.whole main_v36).slice (win0_8.rect t)).emb (ix2 r e) = ix2 (row t r) e := by
    blk_ext [idx t]
    rfl
  rw [h]
  pointwise

theorem b9 (r : Fin 256) (e : Fin 512) :
    (iblk m c 9 t : Vec Ideal S256x512 .bf16) (ix2 r e) = aD m c (ix2 (row t r) ⟨2304 + e, by omega⟩) := by
  blk_simp [iblk, idx t]
  entry_read
  have h : ((View.whole main_v38).slice (win0_9.rect t)).emb (ix2 r e) = ix2 (row t r) e := by
    blk_ext [idx t]
    rfl
  rw [h]
  pointwise

theorem b10 (r : Fin 256) (e : Fin 128) :
    (iblk m c 10 t : Vec Ideal S256x128 .bf16) (ix2 r e) = aD m c (ix2 (row t r) ⟨2816 + e, by omega⟩) := by
  blk_simp [iblk, idx t]
  entry_read
  have h : ((View.whole main_v40).slice (win0_10.rect t)).emb (ix2 r e) = ix2 (row t r) e := by
    blk_ext [idx t]
    rfl
  rw [h]
  pointwise

theorem b11 (r : Fin 256) (e : Fin 128) :
    (iblk m c 11 t : Vec Ideal S256x128 .bf16) (ix2 r e) = aD m c (ix2 (row t r) ⟨2944 + e, by omega⟩) := by
  blk_simp [iblk, idx t]
  entry_read
  have h : ((View.whole main_v42).slice (win0_11.rect t)).emb (ix2 r e) = ix2 (row t r) e := by
    blk_ext [idx t]
    rfl
  rw [h]
  pointwise

theorem b12 (r : Fin 256) (e : Fin 512) :
    (iblk m c 12 t : Vec Ideal S256x512 .bf16) (ix2 r e) = aD m c (ix2 (row t r) ⟨3072 + e, by omega⟩) := by
  blk_simp [iblk, idx t]
  entry_read
  have h : ((View.whole main_v44).slice (win0_12.rect t)).emb (ix2 r e) = ix2 (row t r) e := by
    blk_ext [idx t]
    rfl
  rw [h]
  pointwise

/-- The gates' cotangent. -/
theorem b13 (r : Fin 256) (e : Fin 3072) : (iblk m c 13 t : Vec Ideal S256x3072 .bf16) (ix2 r e) = aE m c (ix2 (row t r) e) := by
  blk_simp [iblk, idx t]
  entry_read
  have h : ((View.whole main_v45).slice (win0_13.rect t)).emb (ix2 r e) = ix2 (row t r) e := by
    blk_ext [idx t]
    rfl
  rw [h]
  pointwise

/-- The rows of the block's input. -/
theorem b14 (r : Fin 256) (i : Fin 1024) : (iblk m c 14 t : Vec Ideal S256x1024 .f32) (ix2 r i) = aX m c (ix2 (row t r) i) := by
  blk_simp [iblk, V, idx t]
  blk_ext [idx t]
  rfl

/-- The saved normalised rows. -/
theorem b15 (r : Fin 256) (i : Fin 1024) :
    (iblk m c 15 t : Vec Ideal S256x1024 .bf16) (ix2 r i) = hn (aX m c) (aG m c) (row t r) i := by
  blk_simp [iblk, idx t]
  entry_read
  have h : ((View.whole main_v18).slice (win0_15.rect t)).emb (ix2 r i) = ix2 (row t r) i := by
    blk_ext [idx t]
    rfl
  rw [h]
  pointwise [hn, xh, ms]

/-- The gain. -/
theorem b16 (i : Fin 1024) : (iblk m c 16 t : Vec Ideal S1x1024 .f32) (ix2 0 i) = aG m c (ix2 0 i) := by
  blk_simp [iblk, V, idx t]
  blk_ext [idx t]

/-- The residual's cotangent. -/
theorem b17 (r : Fin 256) (i : Fin 1024) : (iblk m c 17 t : Vec Ideal S256x1024 .f32) (ix2 r i) = aY m c (ix2 (row t r) i) := by
  blk_simp [iblk, V, idx t]
  blk_ext [idx t]
  rfl

/-- The input projection's weight, one chip's columns after the other. -/
theorem b18 (j : Fin 4) (i : Fin 1024) (e : Fin 896) :
    (iblk m c 18 t : Vec Ideal S4x1024x896 .bf16) (ix3 j i e) = aW m c (ix2 i (col j e)) := by
  blk_simp [iblk, idx t]
  entry_read
  have h : ((View.whole main_v2).slice (win0_18.rect t)).emb (ix3 j i e) = ix3 j i e := by
    blk_ext [idx t]
  rw [h]
  pointwise
  rfl

/-- The gate projection's weight, one chip's columns after the other. -/
theorem b19 (j : Fin 4) (i : Fin 1024) (e : Fin 768) :
    (iblk m c 19 t : Vec Ideal S4x1024x768 .bf16) (ix3 j i e) = aK m c (ix2 i (colg j e)) := by
  blk_simp [iblk, idx t]
  entry_read
  have h : ((View.whole main_v5).slice (win0_19.rect t)).emb (ix3 j i e) = ix3 j i e := by
    blk_ext [idx t]
  rw [h]
  pointwise
  rfl

end Cert.InProj

end
-- ==== Proof.InProj.KerPay.lean ====
/- The pieces of the projection's cotangent put together, and what the kernel computes at a grid point. -/
module

public import proofs.«01_k».proof.Proof.InProj.KerBlk
public import Idealize.ShloMosaic.Lib.Pipeline.ReadBack

@[expose] public section

set_option maxRecDepth 16384

noncomputable section

namespace Cert.InProj

open Cert.Conv Cert.Kernel2Ideal Cert.Kernel2Ideal.Gen Idealize.ShloMosaic Idealize.ShloMosaic.TcCoe Idealize.SL.Sem
open Idealize.ShloMosaic.Pipeline (Dat)

/-- A piece of the cotangent. -/
theorem piece_apply {w : ℕ} (D : Mat 4096 3584) (R : Fin 256 → Fin 4096) (o : ℕ) (ho : o + w ≤ 3584)
    (P : (⟨2, ![256, w]⟩ : Shape).Idx → EReal)
    (hP : ∀ (r : Fin 256) (e : Fin w), P (ix2 r e) = D (ix2 (R r) ⟨o + e, by omega⟩)) (y : S256x3584.Idx)
    (z : (⟨2, ![256, w]⟩ : Shape).Idx) (h0 : (y 0 : ℕ) = z 0) (h1 : (y 1 : ℕ) = o + z 1) : P z = D (ix2 (R (y 0)) (y 1)) := by
  have hz : z = ix2 (z 0) (z 1) := by
    funext d
    fin_cases d <;> rfl
  have e0 : y 0 = z 0 := Fin.ext h0
  refine (congrArg P hz).trans ((hP (z 0) (z 1)).trans (congrArg D ?_))
  rw [e0]
  exact congrArg (ix2 _) (Fin.ext h1.symm)

section Whole

variable (P0 P1 P2 P3 P4 P5 P6 P7 P8 : Vec Ideal S256x256 .bf16) (P9 P12 : Vec Ideal S256x512 .bf16) (P10 P11 : Vec Ideal S256x128 .bf16)

/-- The thirteen pieces, in the order they are stored, the last first. -/
abbrev pieces : List (View.Piece (Elt Ideal) S256x3584 .bf16) :=
  [⟨Rect.unit ![0, 3072] ![256, 512] inb_S256x3584_S256x512_0_3072, P12⟩,
    ⟨Rect.unit ![0, 2944] ![256, 128] inb_S256x3584_S256x128_0_2944, P11⟩,
    ⟨Rect.unit ![0, 2816] ![256, 128] inb_S256x3584_S256x128_0_2816, P10⟩,
    ⟨Rect.unit ![0, 2304] ![256, 512] inb_S256x3584_S256x512_0_2304, P9⟩,
    ⟨Rect.unit ![0, 2048] ![256, 256] inb_S256x3584_S256x256_0_2048, P8⟩,
    ⟨Rect.unit ![0, 1792] ![256, 256] inb_S256x3584_S256x256_0_1792, P7⟩,
    ⟨Rect.unit ![0, 1536] ![256, 256] inb_S256x3584_S256x256_0_1536, P6⟩,
    ⟨Rect.unit ![0, 1280] ![256, 256] inb_S256x3584_S256x256_0_1280, P5⟩,
    ⟨Rect.unit ![0, 1024] ![256, 256] inb_S256x3584_S256x256_0_1024, P4⟩,
    ⟨Rect.unit ![0, 768] ![256, 256] inb_S256x3584_S256x256_0_768, P3⟩,
    ⟨Rect.unit ![0, 512] ![256, 256] inb_S256x3584_S256x256_0_512, P2⟩,
    ⟨Rect.unit ![0, 256] ![256, 256] inb_S256x3584_S256x256_0_256, P1⟩,
    ⟨Rect.unit ![0, 0] ![256, 256] inb_S256x3584_S256x256_0_0, P0⟩]

/-- Put together, the pieces are the whole cotangent. -/
theorem canon_pieces (D : Mat 4096 3584) (R : Fin 256 → Fin 4096)
    (q0 : ∀ (r : Fin 256) (e : Fin 256), P0 (ix2 r e) = D (ix2 (R r) ⟨0 + e, by omega⟩))
    (q1 : ∀ (r : Fin 256) (e : Fin 256), P1 (ix2 r e) = D (ix2 (R r) ⟨256 + e, by omega⟩))
    (q2 : ∀ (r : Fin 256) (e : Fin 256), P2 (ix2 r e) = D (ix2 (R r) ⟨512 + e, by omega⟩))
    (q3 : ∀ (r : Fin 256) (e : Fin 256), P3 (ix2 r e) = D (ix2 (R r) ⟨768 + e, by omega⟩))
    (q4 : ∀ (r : Fin 256) (e : Fin 256), P4 (ix2 r e) = D (ix2 (R r) ⟨1024 + e, by omega⟩))
    (q5 : ∀ (r : Fin 256) (e : Fin 256), P5 (ix2 r e) = D (ix2 (R r) ⟨1280 + e, by omega⟩))
    (q6 : ∀ (r : Fin 256) (e : Fin 256), P6 (ix2 r e) = D (ix2 (R r) ⟨1536 + e, by omega⟩))
    (q7 : ∀ (r : Fin 256) (e : Fin 256), P7 (ix2 r e) = D (ix2 (R r) ⟨1792 + e, by omega⟩))
    (q8 : ∀ (r : Fin 256) (e : Fin 256), P8 (ix2 r e) = D (ix2 (R r) ⟨2048 + e, by omega⟩))
    (q9 : ∀ (r : Fin 256) (e : Fin 512), P9 (ix2 r e) = D (ix2 (R r) ⟨2304 + e, by omega⟩))
    (q10 : ∀ (r : Fin 256) (e : Fin 128), P10 (ix2 r e) = D (ix2 (R r) ⟨2816 + e, by omega⟩))
    (q11 : ∀ (r : Fin 256) (e : Fin 128), P11 (ix2 r e) = D (ix2 (R r) ⟨2944 + e, by omega⟩))
    (q12 : ∀ (r : Fin 256) (e : Fin 512), P12 (ix2 r e) = D (ix2 (R r) ⟨3072 + e, by omega⟩))
    (y : S256x3584.Idx) :
    View.canon (pieces P0 P1 P2 P3 P4 P5 P6 P7 P8 P9 P12 P10 P11) y = D (ix2 (R (y 0)) (y 1)) := by
  have hc : ∃ p ∈ pieces P0 P1 P2 P3 P4 P5 P6 P7 P8 P9 P12 P10 P11, y ∈ p.1.set := View.cover_of_tiledBy _ ![256, 128] (by sl_kernel_rfl) y
  canon_tiles y h using hc
  case piece0 => exact piece_apply D R 3072 (by decide) P12 q12 _ y h0 h1
  case piece1 => exact piece_apply D R 2944 (by decide) P11 q11 _ y h0 h1
  case piece2 => exact piece_apply D R 2816 (by decide) P10 q10 _ y h0 h1
  case piece3 => exact piece_apply D R 2304 (by decide) P9 q9 _ y h0 h1
  case piece4 => exact piece_apply D R 2048 (by decide) P8 q8 _ y h0 h1
  case piece5 => exact piece_apply D R 1792 (by decide) P7 q7 _ y h0 h1
  case piece6 => exact piece_apply D R 1536 (by decide) P6 q6 _ y h0 h1
  case piece7 => exact piece_apply D R 1280 (by decide) P5 q5 _ y h0 h1
  case piece8 => exact piece_apply D R 1024 (by decide) P4 q4 _ y h0 h1
  case piece9 => exact piece_apply D R 768 (by decide) P3 q3 _ y h0 h1
  case piece10 => exact piece_apply D R 512 (by decide) P2 q2 _ y h0 h1
  case piece11 => exact piece_apply D R 256 (by decide) P1 q1 _ y h0 h1
  case piece12 => exact piece_apply D R 0 (by decide) P0 q0 _ y h0 (h1.trans (Nat.zero_add _).symm)

end Whole

variable (m : (ℓ : Loc nD τ sig) → Buf (Elt Ideal) ℓ) (c : Dev nD) (t : Fin cfg0.N)

theorem p0 (P : Vec Ideal S256x256 .bf16) : k0_pay7 (F := Ideal) P = P := by
  funext y
  pointwise! [k0_pay7]

theorem p1 (P : Vec Ideal S256x256 .bf16) : k0_pay8 (F := Ideal) P = P := by
  funext y
  pointwise! [k0_pay8]

theorem p2 (P : Vec Ideal S256x256 .bf16) : k0_pay9 (F := Ideal) P = P := by
  funext y
  pointwise! [k0_pay9]

theorem p3 (P : Vec Ideal S256x256 .bf16) : k0_pay10 (F := Ideal) P = P := by
  funext y
  pointwise! [k0_pay10]

theorem p4 (P : Vec Ideal S256x256 .bf16) : k0_pay11 (F := Ideal) P = P := by
  funext y
  pointwise! [k0_pay11]

theorem p5 (P : Vec Ideal S256x256 .bf16) : k0_pay12 (F := Ideal) P = P := by
  funext y
  pointwise! [k0_pay12]

theorem p6 (P : Vec Ideal S256x256 .bf16) : k0_pay13 (F := Ideal) P = P := by
  funext y
  pointwise! [k0_pay13]

theorem p7 (P : Vec Ideal S256x256 .bf16) : k0_pay14 (F := Ideal) P = P := by
  funext y
  pointwise! [k0_pay14]

theorem p8 (P : Vec Ideal S256x256 .bf16) : k0_pay15 (F := Ideal) P = P := by
  funext y
  pointwise! [k0_pay15]

theorem p9 (P : Vec Ideal S256x512 .bf16) : k0_pay16 (F := Ideal) P = P := by
  funext y
  pointwise! [k0_pay16]

theorem p10 (P : Vec Ideal S256x128 .bf16) : k0_pay17 (F := Ideal) P = P := by
  funext y
  pointwise! [k0_pay17]

theorem p11 (P : Vec Ideal S256x128 .bf16) : k0_pay18 (F := Ideal) P = P := by
  funext y
  pointwise! [k0_pay18]

theorem p12 (P : Vec Ideal S256x512 .bf16) : k0_pay19 (F := Ideal) P = P := by
  funext y
  pointwise! [k0_pay19]

abbrev pcs : List (View.Piece (Elt Ideal) S256x3584 .bf16) :=
  pieces (k0_pay7 (F := Ideal) (iblk m c 0 t)) (k0_pay8 (F := Ideal) (iblk m c 1 t)) (k0_pay9 (F := Ideal) (iblk m c 2 t)) (k0_pay10 (F := Ideal) (iblk m c 3 t)) (k0_pay11 (F := Ideal) (iblk m c 4 t)) (k0_pay12 (F := Ideal) (iblk m c 5 t)) (k0_pay13 (F := Ideal) (iblk m c 6 t)) (k0_pay14 (F := Ideal) (iblk m c 7 t)) (k0_pay15 (F := Ideal) (iblk m c 8 t)) (k0_pay16 (F := Ideal) (iblk m c 9 t)) (k0_pay19 (F := Ideal) (iblk m c 12 t)) (k0_pay17 (F := Ideal) (iblk m c 10 t)) (k0_pay18 (F := Ideal) (iblk m c 11 t))

/-- The cotangent's rows of a grid point, in the scratch. -/
theorem canon_pcs (y : S256x3584.Idx) : View.canon (pcs m c t) y = aD m c (ix2 (row t (y 0)) (y 1)) :=
  canon_pieces _ _ _ _ _ _ _ _ _ _ _ _ _ (aD m c) (row t)
    (fun r e => (congrFun (p0 (iblk m c 0 t)) (ix2 r e)).trans (b0 m c t r e))
    (fun r e => (congrFun (p1 (iblk m c 1 t)) (ix2 r e)).trans (b1 m c t r e))
    (fun r e => (congrFun (p2 (iblk m c 2 t)) (ix2 r e)).trans (b2 m c t r e))
    (fun r e => (congrFun (p3 (iblk m c 3 t)) (ix2 r e)).trans (b3 m c t r e))
    (fun r e => (congrFun (p4 (iblk m c 4 t)) (ix2 r e)).trans (b4 m c t r e))
    (fun r e => (congrFun (p5 (iblk m c 5 t)) (ix2 r e)).trans (b5 m c t r e))
    (fun r e => (congrFun (p6 (iblk m c 6 t)) (ix2 r e)).trans (b6 m c t r e))
    (fun r e => (congrFun (p7 (iblk m c 7 t)) (ix2 r e)).trans (b7 m c t r e))
    (fun r e => (congrFun (p8 (iblk m c 8 t)) (ix2 r e)).trans (b8 m c t r e))
    (fun r e => (congrFun (p9 (iblk m c 9 t)) (ix2 r e)).trans (b9 m c t r e))
    (fun r e => (congrFun (p10 (iblk m c 10 t)) (ix2 r e)).trans (b10 m c t r e))
    (fun r e => (congrFun (p11 (iblk m c 11 t)) (ix2 r e)).trans (b11 m c t r e))
    (fun r e => (congrFun (p12 (iblk m c 12 t)) (ix2 r e)).trans (b12 m c t r e)) y

/-- A chip's columns of the cotangent, read back. -/
abbrev dc (o : ℕ) (inb : ∀ a, (![0, o] : Fin 2 → ℕ) a + (![256, 896] : Fin 2 → ℕ) a ≤ S256x3584.size a) : Vec Ideal S256x896 .bf16 :=
  (View.whole cc0_scratch0 : View sig .tc .vmem S256x3584 .bf16).readCov (Val := Elt Ideal) (pcs m c t)
    (Rect.unit (s := S256x3584) ![0, o] ![256, 896] inb).toLoadRect

theorem dc_apply (o : ℕ) (inb : ∀ a, (![0, o] : Fin 2 → ℕ) a + (![256, 896] : Fin 2 → ℕ) a ≤ S256x3584.size a) (j : Fin 4) (ho : o = j * 896)
    (r : Fin 256) (e : Fin 896) : dc m c t o inb (ix2 r e) = aD m c (ix2 (row t r) (col j e)) := by
  unfold dc
  rw [View.readCov_eq_canon']
  refine (canon_pcs m c t _).trans (congrArg (aD m c) ?_)
  subst ho
  refine congrArg₂ ix2 (congrArg (row t) (Fin.ext ?_)) (Fin.ext ?_)
  · simp [LoadRect.idx, Rect.unit, Rect.toLoadRect]
  · simp [LoadRect.idx, Rect.unit, Rect.toLoadRect, col]

/-- Chip 0's columns, read back from the pieces stored by then. -/
abbrev d0 : Vec Ideal S256x896 .bf16 :=
  (View.whole cc0_scratch0 : View sig .tc .vmem S256x3584 .bf16).readCov (Val := Elt Ideal)
    [⟨Rect.unit ![0, 768] ![256, 256] inb_S256x3584_S256x256_0_768, k0_pay10 (F := Ideal) (iblk m c 3 t)⟩,
      ⟨Rect.unit ![0, 512] ![256, 256] inb_S256x3584_S256x256_0_512, k0_pay9 (F := Ideal) (iblk m c 2 t)⟩,
      ⟨Rect.unit ![0, 256] ![256, 256] inb_S256x3584_S256x256_0_256, k0_pay8 (F := Ideal) (iblk m c 1 t)⟩,
      ⟨Rect.unit ![0, 0] ![256, 256] inb_S256x3584_S256x256_0_0, k0_pay7 (F := Ideal) (iblk m c 0 t)⟩]
    (Rect.unit (s := S256x3584) ![0, 0] ![256, 896] inb_S256x3584_S256x896_0_0).toLoadRect

theorem d0_apply (r : Fin 256) (e : Fin 896) : d0 m c t (ix2 r e) = aD m c (ix2 (row t r) (col 0 e)) := by
  refine Eq.trans ?_ (dc_apply m c t 0 inb_S256x3584_S256x896_0_0 0 rfl r e)
  unfold dc
  simp (disch := decide) only [↓View.readCov_skip]

/-- Chip 1's columns, read back from the pieces stored by then. -/
abbrev d1 : Vec Ideal S256x896 .bf16 :=
  (View.whole cc0_scratch0 : View sig .tc .vmem S256x3584 .bf16).readCov (Val := Elt Ideal)
    [⟨Rect.unit ![0, 1536] ![256, 256] inb_S256x3584_S256x256_0_1536, k0_pay13 (F := Ideal) (iblk m c 6 t)⟩,
      ⟨Rect.unit ![0, 1280] ![256, 256] inb_S256x3584_S256x256_0_1280, k0_pay12 (F := Ideal) (iblk m c 5 t)⟩,
      ⟨Rect.unit ![0, 1024] ![256, 256] inb_S256x3584_S256x256_0_1024, k0_pay11 (F := Ideal) (iblk m c 4 t)⟩,
      ⟨Rect.unit ![0, 768] ![256, 256] inb_S256x3584_S256x256_0_768, k0_pay10 (F := Ideal) (iblk m c 3 t)⟩,
      ⟨Rect.unit ![0, 512] ![256, 256] inb_S256x3584_S256x256_0_512, k0_pay9 (F := Ideal) (iblk m c 2 t)⟩,
      ⟨Rect.unit ![0, 256] ![256, 256] inb_S256x3584_S256x256_0_256, k0_pay8 (F := Ideal) (iblk m c 1 t)⟩,
      ⟨Rect.unit ![0, 0] ![256, 256] inb_S256x3584_S256x256_0_0, k0_pay7 (F := Ideal) (iblk m c 0 t)⟩]
    (Rect.unit (s := S256x3584) ![0, 896] ![256, 896] inb_S256x3584_S256x896_0_896).toLoadRect

theorem d1_apply (r : Fin 256) (e : Fin 896) : d1 m c t (ix2 r e) = aD m c (ix2 (row t r) (col 1 e)) := by
  refine Eq.trans ?_ (dc_apply m c t 896 inb_S256x3584_S256x896_0_896 1 rfl r e)
  unfold dc
  simp (disch := decide) only [↓View.readCov_skip]

/-- Chip 2's columns, read back from the pieces stored by then. -/
abbrev d2 : Vec Ideal S256x896 .bf16 :=
  (View.whole cc0_scratch0 : View sig .tc .vmem S256x3584 .bf16).readCov (Val := Elt Ideal)
    [⟨Rect.unit ![0, 2304] ![256, 512] inb_S256x3584_S256x512_0_2304, k0_pay16 (F := Ideal) (iblk m c 9 t)⟩,
      ⟨Rect.unit ![0, 2048] ![256, 256] inb_S256x3584_S256x256_0_2048, k0_pay15 (F := Ideal) (iblk m c 8 t)⟩,
      ⟨Rect.unit ![0, 1792] ![256, 256] inb_S256x3584_S256x256_0_1792, k0_pay14 (F := Ideal) (iblk m c 7 t)⟩,
      ⟨Rect.unit ![0, 1536] ![256, 256] inb_S256x3584_S256x256_0_1536, k0_pay13 (F := Ideal) (iblk m c 6 t)⟩,
      ⟨Rect.unit ![0, 1280] ![256, 256] inb_S256x3584_S256x256_0_1280, k0_pay12 (F := Ideal) (iblk m c 5 t)⟩,
      ⟨Rect.unit ![0, 1024] ![256, 256] inb_S256x3584_S256x256_0_1024, k0_pay11 (F := Ideal) (iblk m c 4 t)⟩,
      ⟨Rect.unit ![0, 768] ![256, 256] inb_S256x3584_S256x256_0_768, k0_pay10 (F := Ideal) (iblk m c 3 t)⟩,
      ⟨Rect.unit ![0, 512] ![256, 256] inb_S256x3584_S256x256_0_512, k0_pay9 (F := Ideal) (iblk m c 2 t)⟩,
      ⟨Rect.unit ![0, 256] ![256, 256] inb_S256x3584_S256x256_0_256, k0_pay8 (F := Ideal) (iblk m c 1 t)⟩,
      ⟨Rect.unit ![0, 0] ![256, 256] inb_S256x3584_S256x256_0_0, k0_pay7 (F := Ideal) (iblk m c 0 t)⟩]
    (Rect.unit (s := S256x3584) ![0, 1792] ![256, 896] inb_S256x3584_S256x896_0_1792).toLoadRect

theorem d2_apply (r : Fin 256) (e : Fin 896) : d2 m c t (ix2 r e) = aD m c (ix2 (row t r) (col 2 e)) := by
  refine Eq.trans ?_ (dc_apply m c t 1792 inb_S256x3584_S256x896_0_1792 2 rfl r e)
  unfold dc
  simp (disch := decide) only [↓View.readCov_skip]

/-- Chip 3's columns, read back from the pieces stored by then. -/
abbrev d3 : Vec Ideal S256x896 .bf16 :=
  (View.whole cc0_scratch0 : View sig .tc .vmem S256x3584 .bf16).readCov (Val := Elt Ideal)
    [⟨Rect.unit ![0, 3072] ![256, 512] inb_S256x3584_S256x512_0_3072, k0_pay19 (F := Ideal) (iblk m c 12 t)⟩,
      ⟨Rect.unit ![0, 2944] ![256, 128] inb_S256x3584_S256x128_0_2944, k0_pay18 (F := Ideal) (iblk m c 11 t)⟩,
      ⟨Rect.unit ![0, 2816] ![256, 128] inb_S256x3584_S256x128_0_2816, k0_pay17 (F := Ideal) (iblk m c 10 t)⟩,
      ⟨Rect.unit ![0, 2304] ![256, 512] inb_S256x3584_S256x512_0_2304, k0_pay16 (F := Ideal) (iblk m c 9 t)⟩,
      ⟨Rect.unit ![0, 2048] ![256, 256] inb_S256x3584_S256x256_0_2048, k0_pay15 (F := Ideal) (iblk m c 8 t)⟩,
      ⟨Rect.unit ![0, 1792] ![256, 256] inb_S256x3584_S256x256_0_1792, k0_pay14 (F := Ideal) (iblk m c 7 t)⟩,
      ⟨Rect.unit ![0, 1536] ![256, 256] inb_S256x3584_S256x256_0_1536, k0_pay13 (F := Ideal) (iblk m c 6 t)⟩,
      ⟨Rect.unit ![0, 1280] ![256, 256] inb_S256x3584_S256x256_0_1280, k0_pay12 (F := Ideal) (iblk m c 5 t)⟩,
      ⟨Rect.unit ![0, 1024] ![256, 256] inb_S256x3584_S256x256_0_1024, k0_pay11 (F := Ideal) (iblk m c 4 t)⟩,
      ⟨Rect.unit ![0, 768] ![256, 256] inb_S256x3584_S256x256_0_768, k0_pay10 (F := Ideal) (iblk m c 3 t)⟩,
      ⟨Rect.unit ![0, 512] ![256, 256] inb_S256x3584_S256x256_0_512, k0_pay9 (F := Ideal) (iblk m c 2 t)⟩,
      ⟨Rect.unit ![0, 256] ![256, 256] inb_S256x3584_S256x256_0_256, k0_pay8 (F := Ideal) (iblk m c 1 t)⟩,
      ⟨Rect.unit ![0, 0] ![256, 256] inb_S256x3584_S256x256_0_0, k0_pay7 (F := Ideal) (iblk m c 0 t)⟩]
    (Rect.unit (s := S256x3584) ![0, 2688] ![256, 896] inb_S256x3584_S256x896_0_2688).toLoadRect

theorem d3_apply (r : Fin 256) (e : Fin 896) : d3 m c t (ix2 r e) = aD m c (ix2 (row t r) (col 3 e)) := by
  refine Eq.trans ?_ (dc_apply m c t 2688 inb_S256x3584_S256x896_0_2688 3 rfl r e)
  unfold dc
  simp (disch := decide) only [↓View.readCov_skip]

end Cert.InProj

end
-- ==== Proof.InProj.KerDh.lean ====
/- The gradient of the normalised rows at a grid point, and the input gradient's block. -/
module

public import proofs.«01_k».proof.Proof.InProj.KerPay

@[expose] public section

set_option maxRecDepth 16384

noncomputable section

namespace Cert.InProj

open Cert.Conv Cert.Kernel2Ideal Cert.Kernel2Ideal.Gen Idealize.ShloMosaic Idealize.ShloMosaic.TcCoe Idealize.SL.Sem
open Idealize.ShloMosaic.Pipeline (Dat)

/-- A sum over all columns, chip by chip. -/
theorem sum_col (f : Fin 3584 → EReal) : ∑ c : Fin 3584, f c = ∑ j : Fin 4, ∑ e : Fin 896, f (col j e) := by
  have h : ∑ c : Fin (4 * 896), f c = ∑ j : Fin 4, ∑ e : Fin 896, f (col j e) := by
    rw [← finProdFinEquiv.sum_comp, Fintype.sum_prod_type]
    refine Finset.sum_congr rfl fun j _ => Finset.sum_congr rfl fun e _ => congrArg f (Fin.ext ?_)
    simp [finProdFinEquiv, col]
    omega
  exact h

theorem sum_colg (f : Fin 3072 → EReal) : ∑ c : Fin 3072, f c = ∑ j : Fin 4, ∑ e : Fin 768, f (colg j e) := by
  have h : ∑ c : Fin (4 * 768), f c = ∑ j : Fin 4, ∑ e : Fin 768, f (colg j e) := by
    rw [← finProdFinEquiv.sum_comp, Fintype.sum_prod_type]
    refine Finset.sum_congr rfl fun j _ => Finset.sum_congr rfl fun e _ => congrArg f (Fin.ext ?_)
    simp [finProdFinEquiv, colg]
    omega
  exact h

section Payloads

variable (A : FVec Ideal S256x1024 .f32) (d : Vec Ideal S256x896 .bf16) (w : Vec Ideal S1x1024x896 .bf16) (g : Vec Ideal S256x768 .bf16)
  (k : Vec Ideal S1x1024x768 .bf16) (d' : Vec Ideal S256x896 .bf16) (w' : Vec Ideal S1x1024x896 .bf16) (g' : Vec Ideal S256x768 .bf16)
  (k' : Vec Ideal S1x1024x768 .bf16)

/-- One chip's product with its columns of a weight. -/
def tm (r : Fin 256) (i : Fin 1024) : EReal := ∑ e : Fin 896, d (ix2 r e) * w (ix3 0 i e)

def tg (r : Fin 256) (i : Fin 1024) : EReal := ∑ e : Fin 768, g (ix2 r e) * k (ix3 0 i e)

theorem pay22 (r : Fin 256) (i : Fin 1024) : k0_pay22 (F := Ideal) d w (ix2 r i) = tm d w r i := by
  unfold tm
  pointwise [k0_pay22]
  try rw [zero_add]
  try rfl

theorem pay23 (r : Fin 256) (i : Fin 1024) : k0_pay23 (F := Ideal) g k (ix2 r i) = tg g k r i := by
  unfold tg
  pointwise [k0_pay23]
  try rfl

theorem pay25 (B : FVec Ideal S256x1024 .f32) (r : Fin 256) (i : Fin 1024) : k0_pay25 (F := Ideal) A B d w g k (ix2 r i)
    = A (ix2 r i) + B (ix2 r i) + tm d w r i + tg g k r i := by
  unfold tm tg
  pointwise [k0_pay25]
  try rfl

theorem pay28 (r : Fin 256) (i : Fin 1024) : k0_pay28 (F := Ideal) A d w g k d' w' g' k' (ix2 r i)
    = A (ix2 r i) + tm d w r i + tg g k r i + tm d' w' r i + tg g' k' r i := by
  unfold tm tg
  pointwise [k0_pay28]
  try rfl

end Payloads

variable (m : (ℓ : Loc nD τ sig) → Buf (Elt Ideal) ℓ) (c : Dev nD) (t : Fin cfg0.N)

/-- A chip's chunk of a stack, loaded. -/
theorem ld3 {n k : ℕ} {el : EltTy} (X : Vec Ideal (⟨3, ![4, n, k]⟩ : Shape) el) (j : Fin 4) (o : ℕ) (ho : o = j) (inb) (i : Fin n) (e : Fin k) :
    (View.ld X (Rect.unit (s := ⟨3, ![4, n, k]⟩) ![o, 0, 0] ![1, n, k] inb) : Vec Ideal (⟨3, ![1, n, k]⟩ : Shape) el) (ix3 0 i e) = X (ix3 j i e) :=
  View.ld_unit_apply_of X _ _ _ _ _ fun a => by fin_cases a <;> simp [ho]

/-- A chip's columns of the gates' cotangent, loaded. -/
theorem ldg {n : ℕ} {el : EltTy} (X : Vec Ideal (⟨2, ![n, 3072]⟩ : Shape) el) (j : Fin 4) (o : ℕ) (ho : o = j * 768) (inb) (r : Fin n) (e : Fin 768) :
    (View.ld X (Rect.unit (s := ⟨2, ![n, 3072]⟩) ![0, o] ![n, 768] inb) : Vec Ideal (⟨2, ![n, 768]⟩ : Shape) el) (ix2 r e) = X (ix2 r (colg j e)) :=
  View.ld_unit_apply_of X _ _ _ _ _ fun a => by fin_cases a <;> simp [colg, ho]

theorem w0_apply (i : Fin 1024) (e : Fin 896) : (View.ld (iblk m c 18 t) (Rect.unit (s := S4x1024x896) ![0, 0, 0] ![1, 1024, 896] inb_S4x1024x896_S1x1024x896_0_0_0) : Vec Ideal S1x1024x896 .bf16) (ix3 0 i e) = aW m c (ix2 i (col 0 e)) :=
  (ld3 (iblk m c 18 t : Vec Ideal S4x1024x896 .bf16) 0 0 rfl _ i e).trans (b18 m c t 0 i e)

theorem k0_apply (i : Fin 1024) (e : Fin 768) : (View.ld (iblk m c 19 t) (Rect.unit (s := S4x1024x768) ![0, 0, 0] ![1, 1024, 768] inb_S4x1024x768_S1x1024x768_0_0_0) : Vec Ideal S1x1024x768 .bf16) (ix3 0 i e) = aK m c (ix2 i (colg 0 e)) :=
  (ld3 (iblk m c 19 t : Vec Ideal S4x1024x768 .bf16) 0 0 rfl _ i e).trans (b19 m c t 0 i e)

theorem g0_apply (r : Fin 256) (e : Fin 768) : (View.ld (iblk m c 13 t) (Rect.unit (s := S256x3072) ![0, 0] ![256, 768] inb_S256x3072_S256x768_0_0) : Vec Ideal S256x768 .bf16) (ix2 r e) = aE m c (ix2 (row t r) (colg 0 e)) :=
  (ldg (iblk m c 13 t : Vec Ideal S256x3072 .bf16) 0 0 rfl _ r e).trans (b13 m c t r (colg 0 e))

theorem w1_apply (i : Fin 1024) (e : Fin 896) : (View.ld (iblk m c 18 t) (Rect.unit (s := S4x1024x896) ![1, 0, 0] ![1, 1024, 896] inb_S4x1024x896_S1x1024x896_1_0_0) : Vec Ideal S1x1024x896 .bf16) (ix3 0 i e) = aW m c (ix2 i (col 1 e)) :=
  (ld3 (iblk m c 18 t : Vec Ideal S4x1024x896 .bf16) 1 1 rfl _ i e).trans (b18 m c t 1 i e)

theorem k1_apply (i : Fin 1024) (e : Fin 768) : (View.ld (iblk m c 19 t) (Rect.unit (s := S4x1024x768) ![1, 0, 0] ![1, 1024, 768] inb_S4x1024x768_S1x1024x768_1_0_0) : Vec Ideal S1x1024x768 .bf16) (ix3 0 i e) = aK m c (ix2 i (colg 1 e)) :=
  (ld3 (iblk m c 19 t : Vec Ideal S4x1024x768 .bf16) 1 1 rfl _ i e).trans (b19 m c t 1 i e)

theorem g1_apply (r : Fin 256) (e : Fin 768) : (View.ld (iblk m c 13 t) (Rect.unit (s := S256x3072) ![0, 768] ![256, 768] inb_S256x3072_S256x768_0_768) : Vec Ideal S256x768 .bf16) (ix2 r e) = aE m c (ix2 (row t r) (colg 1 e)) :=
  (ldg (iblk m c 13 t : Vec Ideal S256x3072 .bf16) 1 768 rfl _ r e).trans (b13 m c t r (colg 1 e))

theorem w2_apply (i : Fin 1024) (e : Fin 896) : (View.ld (iblk m c 18 t) (Rect.unit (s := S4x1024x896) ![2, 0, 0] ![1, 1024, 896] inb_S4x1024x896_S1x1024x896_2_0_0) : Vec Ideal S1x1024x896 .bf16) (ix3 0 i e) = aW m c (ix2 i (col 2 e)) :=
  (ld3 (iblk m c 18 t : Vec Ideal S4x1024x896 .bf16) 2 2 rfl _ i e).trans (b18 m c t 2 i e)

theorem k2_apply (i : Fin 1024) (e : Fin 768) : (View.ld (iblk m c 19 t) (Rect.unit (s := S4x1024x768) ![2, 0, 0] ![1, 1024, 768] inb_S4x1024x768_S1x1024x768_2_0_0) : Vec Ideal S1x1024x768 .bf16) (ix3 0 i e) = aK m c (ix2 i (colg 2 e)) :=
  (ld3 (iblk m c 19 t : Vec Ideal S4x1024x768 .bf16) 2 2 rfl _ i e).trans (b19 m c t 2 i e)

theorem g2_apply (r : Fin 256) (e : Fin 768) : (View.ld (iblk m c 13 t) (Rect.unit (s := S256x3072) ![0, 1536] ![256, 768] inb_S256x3072_S256x768_0_1536) : Vec Ideal S256x768 .bf16) (ix2 r e) = aE m c (ix2 (row t r) (colg 2 e)) :=
  (ldg (iblk m c 13 t : Vec Ideal S256x3072 .bf16) 2 1536 rfl _ r e).trans (b13 m c t r (colg 2 e))

theorem w3_apply (i : Fin 1024) (e : Fin 896) : (View.ld (iblk m c 18 t) (Rect.unit (s := S4x1024x896) ![3, 0, 0] ![1, 1024, 896] inb_S4x1024x896_S1x1024x896_3_0_0) : Vec Ideal S1x1024x896 .bf16) (ix3 0 i e) = aW m c (ix2 i (col 3 e)) :=
  (ld3 (iblk m c 18 t : Vec Ideal S4x1024x896 .bf16) 3 3 rfl _ i e).trans (b18 m c t 3 i e)

theorem k3_apply (i : Fin 1024) (e : Fin 768) : (View.ld (iblk m c 19 t) (Rect.unit (s := S4x1024x768) ![3, 0, 0] ![1, 1024, 768] inb_S4x1024x768_S1x1024x768_3_0_0) : Vec Ideal S1x1024x768 .bf16) (ix3 0 i e) = aK m c (ix2 i (colg 3 e)) :=
  (ld3 (iblk m c 19 t : Vec Ideal S4x1024x768 .bf16) 3 3 rfl _ i e).trans (b19 m c t 3 i e)

theorem g3_apply (r : Fin 256) (e : Fin 768) : (View.ld (iblk m c 13 t) (Rect.unit (s := S256x3072) ![0, 2304] ![256, 768] inb_S256x3072_S256x768_0_2304) : Vec Ideal S256x768 .bf16) (ix2 r e) = aE m c (ix2 (row t r) (colg 3 e)) :=
  (ldg (iblk m c 13 t : Vec Ideal S256x3072 .bf16) 3 2304 rfl _ r e).trans (b13 m c t r (colg 3 e))

/-- The gradient of the normalised rows, chip by chip. -/
abbrev dhv : FVec Ideal S256x1024 .f32 :=
  k0_pay28 (F := Ideal)
    (k0_pay25 (F := Ideal) (k0_pay22 (F := Ideal) (d0 m c t) (View.ld (iblk m c 18 t) (Rect.unit (s := S4x1024x896) ![0, 0, 0] ![1, 1024, 896] inb_S4x1024x896_S1x1024x896_0_0_0)))
      (k0_pay23 (F := Ideal) (View.ld (iblk m c 13 t) (Rect.unit (s := S256x3072) ![0, 0] ![256, 768] inb_S256x3072_S256x768_0_0))
        (View.ld (iblk m c 19 t) (Rect.unit (s := S4x1024x768) ![0, 0, 0] ![1, 1024, 768] inb_S4x1024x768_S1x1024x768_0_0_0)))
      (d1 m c t) (View.ld (iblk m c 18 t) (Rect.unit (s := S4x1024x896) ![1, 0, 0] ![1, 1024, 896] inb_S4x1024x896_S1x1024x896_1_0_0))
      (View.ld (iblk m c 13 t) (Rect.unit (s := S256x3072) ![0, 768] ![256, 768] inb_S256x3072_S256x768_0_768))
      (View.ld (iblk m c 19 t) (Rect.unit (s := S4x1024x768) ![1, 0, 0] ![1, 1024, 768] inb_S4x1024x768_S1x1024x768_1_0_0)))
    (d2 m c t) (View.ld (iblk m c 18 t) (Rect.unit (s := S4x1024x896) ![2, 0, 0] ![1, 1024, 896] inb_S4x1024x896_S1x1024x896_2_0_0))
    (View.ld (iblk m c 13 t) (Rect.unit (s := S256x3072) ![0, 1536] ![256, 768] inb_S256x3072_S256x768_0_1536))
    (View.ld (iblk m c 19 t) (Rect.unit (s := S4x1024x768) ![2, 0, 0] ![1, 1024, 768] inb_S4x1024x768_S1x1024x768_2_0_0))
    (d3 m c t) (View.ld (iblk m c 18 t) (Rect.unit (s := S4x1024x896) ![3, 0, 0] ![1, 1024, 896] inb_S4x1024x896_S1x1024x896_3_0_0))
    (View.ld (iblk m c 13 t) (Rect.unit (s := S256x3072) ![0, 2304] ![256, 768] inb_S256x3072_S256x768_0_2304))
    (View.ld (iblk m c 19 t) (Rect.unit (s := S4x1024x768) ![3, 0, 0] ![1, 1024, 768] inb_S4x1024x768_S1x1024x768_3_0_0))

theorem dhv_apply (r : Fin 256) (i : Fin 1024) : dhv m c t (ix2 r i) = dh (aW m c) (aK m c) (aD m c) (aE m c) (row t r) i := by
  unfold dhv
  rw [pay28, pay25, pay22, pay23]
  unfold dh tm tg
  rw [sum_col, sum_colg, Fin.sum_univ_four, Fin.sum_univ_four]
  simp only [d0_apply, d1_apply, d2_apply, d3_apply, w0_apply, w1_apply, w2_apply, w3_apply, g0_apply, g1_apply, g2_apply, g3_apply,
    k0_apply, k1_apply, k2_apply, k3_apply]
  abel

end Cert.InProj

end
-- ==== Proof.InProj.KerOut.lean ====
/- What the projections' backward kernel leaves in its three results. -/
module

public import proofs.«01_k».proof.Proof.InProj.KerDh

@[expose] public section

set_option maxRecDepth 16384

noncomputable section

namespace Cert.InProj

open Cert.Conv (Mat row8 xh ms addNorm)
open Cert.Kernel2Ideal Cert.Kernel2Ideal.Gen Idealize.ShloMosaic Idealize.ShloMosaic.TcCoe Idealize.SL.Sem
open Idealize.ShloMosaic.Pipeline (Dat)

/-- Row `8 a + s` of a block. -/
def sub (a : Fin 32) (s : Fin 8) : Fin 256 := ⟨a * 8 + s, by omega⟩

/-- An index of a matrix is made of its two coordinates. -/
theorem ix2_eta {n k : ℕ} (y : (⟨2, ![n, k]⟩ : Shape).Idx) : y = ix2 (y 0) (y 1) := by
  funext d
  fin_cases d <;> rfl

theorem ix3_eta {l n k : ℕ} (y : (⟨3, ![l, n, k]⟩ : Shape).Idx) : y = ix3 (y 0) (y 1) (y 2) := by
  funext d
  fin_cases d <;> rfl

section Payloads

variable (H : FVec Ideal S256x1024 .bf16) (d : Vec Ideal S256x896 .bf16) (Q : Vec Ideal S1x1024x896 .f32)

/-- A block's part of one chip's columns of the weight gradient. -/
theorem pay21 (i : Fin 1024) (e : Fin 896) : k0_pay21 (F := Ideal) H d Q (ix3 0 i e) = Q (ix3 0 i e) + ∑ r : Fin 256, H (ix2 r i) * d (ix2 r e) := by
  pointwise [k0_pay21, k0_pay20]
  try rfl

theorem pay20 (r : Fin 256) (i : Fin 1024) : k0_pay20 (F := Ideal) H (ix2 r i) = H (ix2 r i) := by pointwise [k0_pay20]

theorem pay24 (i : Fin 1024) (e : Fin 896) : k0_pay24 (F := Ideal) H d Q (ix3 0 i e) = Q (ix3 0 i e) + ∑ r : Fin 256, H (ix2 r i) * d (ix2 r e) := by
  pointwise [k0_pay24]
  try rfl

theorem pay26 (i : Fin 1024) (e : Fin 896) : k0_pay26 (F := Ideal) H d Q (ix3 0 i e) = Q (ix3 0 i e) + ∑ r : Fin 256, H (ix2 r i) * d (ix2 r e) := by
  pointwise [k0_pay26]
  try rfl

theorem pay27 (i : Fin 1024) (e : Fin 896) : k0_pay27 (F := Ideal) H d Q (ix3 0 i e) = Q (ix3 0 i e) + ∑ r : Fin 256, H (ix2 r i) * d (ix2 r e) := by
  pointwise [k0_pay27]
  try rfl

end Payloads

variable (m : (ℓ : Loc nD τ sig) → Buf (Elt Ideal) ℓ) (c : Dev nD) (t : Fin cfg0.N)

/-- The input gradient at a grid point. -/
theorem gx_ix (r : Fin 256) (i : Fin 1024) :
    k0_pay4 (F := Ideal) (dhv m c t) (iblk m c 14 t) (k0_pay29 (F := Ideal) (iblk m c 14 t)) (iblk m c 17 t) (iblk m c 16 t) (ix2 r i)
    = dx (aX m c) (aG m c) (aW m c) (aK m c) (aD m c) (aE m c) (aY m c) (row t r) i := by
  have hh := fun i => dhv_apply m c t r i
  have hx := fun i => b14 m c t r i
  have hg := fun i => b16 m c t i
  have hr := b17 m c t r i
  unfold dx addNorm xh ms
  generalize dhv m c t = DH, iblk m c 14 t = V5, iblk m c 16 t = V6, iblk m c 17 t = V7 at *
  pointwise [k0_pay4, k0_pay1, k0_pay2, k0_pay29]
  simp only [hh, hx, hg, hr]

theorem gx_at (y : S256x1024.Idx) :
    k0_pay4 (F := Ideal) (dhv m c t) (iblk m c 14 t) (k0_pay29 (F := Ideal) (iblk m c 14 t)) (iblk m c 17 t) (iblk m c 16 t) y
    = dx (aX m c) (aG m c) (aW m c) (aK m c) (aD m c) (aE m c) (aY m c) (row t (y 0)) (y 1) :=
  (congrArg (k0_pay4 (F := Ideal) (dhv m c t) (iblk m c 14 t) (k0_pay29 (F := Ideal) (iblk m c 14 t)) (iblk m c 17 t) (iblk m c 16 t)) (ix2_eta y)).trans
    (gx_ix m c t (y 0) (y 1))

/-- Where a block's entry lies in the whole array. -/
theorem emb20 (y : S256x1024.Idx) : ((View.whole main_v46_0).slice (win0_20.rect t)).emb y = ix2 (row t (y 0)) (y 1) := by
  blk_ext [idx t]
  rfl

/-- The input's gradient. -/
theorem final20 : (dats m 0 c).arrAt 20 (cfgs 0).N
    = fun j : S4096x1024.Idx => dx (aX m c) (aG m c) (aW m c) (aK m c) (aD m c) (aE m c) (aY m c) (j 0) (j 1) := by
  refine (dats m 0 c).arrAt_eq_of_covers 20 _ (by decide +kernel) fun t hf y => ?_
  blk_simp
  rw [after0_20, emb20]
  show _ = dx (aX m c) (aG m c) (aW m c) (aK m c) (aD m c) (aE m c) (aY m c) (row t (y 0)) (y 1)
  have key := gx_at m c t y
  by_cases h : t.val % 16 = 0
  · rw [outsAt0_A m c t h]
    dsimp only
    frame_open
    simp (disch := decide) only [↓View.readCov_skip, ↓View.readCov_cons_toLoadRect]
    frame_out
    exact key
  · rw [outsAt0_B m c t h]
    dsimp only
    frame_open
    simp (disch := decide) only [↓View.readCov_skip, ↓View.readCov_cons_toLoadRect]
    frame_out
    exact key

/-- What one grid point adds to the gain's gradient. -/
def gainAt (s : Fin 8) (i : Fin 1024) : EReal :=
  ∑ a : Fin 32, dh (aW m c) (aK m c) (aD m c) (aE m c) (row t (sub a s)) i * xh (aX m c) (row t (sub a s)) i

theorem gain_ix (Q : Vec Ideal S8x1024 .f32) (s : Fin 8) (i : Fin 1024) :
    k0_pay3 (F := Ideal) (dhv m c t) (iblk m c 14 t) (k0_pay29 (F := Ideal) (iblk m c 14 t)) Q (ix2 s i) = Q (ix2 s i) + gainAt m c t s i := by
  have hh := fun r i => dhv_apply m c t r i
  have hx := fun r i => b14 m c t r i
  unfold gainAt xh ms
  generalize dhv m c t = DH, iblk m c 14 t = V5 at *
  pointwise [k0_pay3, k0_pay1, k0_pay2, k0_pay29]
  simp only [hh, hx]
  rfl

theorem gain_apply (Q : Vec Ideal S8x1024 .f32) (j : S8x1024.Idx) :
    k0_pay3 (F := Ideal) (dhv m c t) (iblk m c 14 t) (k0_pay29 (F := Ideal) (iblk m c 14 t)) Q j = Q j + gainAt m c t (j 0) (j 1) := by
  have key := gain_ix m c t Q (j 0) (j 1)
  have e := congrArg Q (ix2_eta j)
  rw [e]
  exact (congrArg (k0_pay3 (F := Ideal) (dhv m c t) (iblk m c 14 t) (k0_pay29 (F := Ideal) (iblk m c 14 t)) Q) (ix2_eta j)).trans key

theorem zero21 (j : S8x1024.Idx) : k0_pay5 (F := Ideal) j = 0 := by pointwise! [k0_pay5]

theorem gain_first (h : t.val % 16 = 0) (j : S8x1024.Idx) :
    (outsAt0 m c t.val t.isLt).2.1 j = (0 : EReal) + gainAt m c t (j 0) (j 1) := by
  rw [← zero21 j, outsAt0_A m c t h]
  dsimp only
  frame_open
  simp (disch := decide) only [↓View.readCov_skip, ↓View.readCov_cons_toLoadRect]
  frame_out
  exact gain_apply m c t _ j

theorem gain_step (h : ¬t.val % 16 = 0) (j : S8x1024.Idx) : (outsAt0 m c t.val t.isLt).2.1 j
    = (outsAt0 m c (t.val - 1) (Nat.lt_of_le_of_lt (Nat.sub_le _ _) t.isLt)).2.1 j + gainAt m c t (j 0) (j 1) := by
  rw [outsAt0_B m c t h]
  dsimp only
  frame_open
  simp (disch := decide) only [↓View.readCov_skip, ↓View.readCov_cons_toLoadRect]
  frame_out
  exact gain_apply m c t _ j

/-- A sum over the rows of one residue, block by block. -/
theorem sum_rows8 (f : Fin 4096 → EReal) (s : Fin 8) :
    ∑ t : Fin cfg0.N, ∑ a : Fin 32, f (row t (sub a s)) = ∑ a : Fin 512, f (row8 a s) := by
  have h : ∑ a : Fin (16 * 32), f (row8 a s) = ∑ t : Fin 16, ∑ a : Fin 32, f (row (t.cast N_0.symm) (sub a s)) := by
    rw [← finProdFinEquiv.sum_comp, Fintype.sum_prod_type]
    refine Finset.sum_congr rfl fun t _ => Finset.sum_congr rfl fun a _ => congrArg f (Fin.ext ?_)
    simp [finProdFinEquiv, row, row8, sub]
    omega
  refine Eq.trans ?_ h.symm
  exact (finCongr N_0).sum_comp fun t => ∑ a : Fin 32, f (row (t.cast N_0.symm) (sub a s))

/-- A sum over all rows, block by block. -/
theorem sum_rows (f : Fin 4096 → EReal) : ∑ t : Fin cfg0.N, ∑ r : Fin 256, f (row t r) = ∑ r : Fin 4096, f r := by
  have h : ∑ r : Fin (16 * 256), f r = ∑ t : Fin 16, ∑ r : Fin 256, f (row (t.cast N_0.symm) r) := by
    rw [← finProdFinEquiv.sum_comp, Fintype.sum_prod_type]
    refine Finset.sum_congr rfl fun t _ => Finset.sum_congr rfl fun a _ => congrArg f (Fin.ext ?_)
    simp [finProdFinEquiv, row]
    omega
  refine Eq.trans ?_ h.symm
  exact (finCongr N_0).sum_comp fun t => ∑ r : Fin 256, f (row (t.cast N_0.symm) r)

/-- The gain's gradient, summed over the rows of each residue. -/
theorem final21 : (dats m 0 c).arrAt 21 (cfgs 0).N
    = fun j : S8x1024.Idx => gain (aX m c) (aW m c) (aK m c) (aD m c) (aE m c) (j 0) (j 1) := by
  refine (dats m 0 c).arrAt_eq_of_after_last 21 t0_15 (by decide +kernel) _ fun j => ?_
  blk_simp
  rw [after0_21, Pipeline.eq_sum_fin_of_reset_step_apply_last (fun n h => (outsAt0 m c n h).2.1) 16 (fun _ => (0 : EReal))
    (fun t j => gainAt m c t (j 0) (j 1)) (fun t h j => gain_first m c t h j) (fun t h j => gain_step m c t h j)
    (le_of_eq N_0) t0_15 rfl j, zero_add]
  exact sum_rows8 (fun r => dh (aW m c) (aK m c) (aD m c) (aE m c) r (j 1) * xh (aX m c) r (j 1)) (j 0)

/-- What one grid point adds to the weight's gradient. -/
def dwAt (j : Fin 4) (i : Fin 1024) (e : Fin 896) : EReal :=
  ∑ r : Fin 256, hn (aX m c) (aG m c) (row t r) i * aD m c (ix2 (row t r) (col j e))

/-- The stores to the four chips' columns, the last first, over what stood there. -/
abbrev slices (Q : Vec Ideal S4x1024x896 .f32) : List (View.Piece (Elt Ideal) S4x1024x896 .f32) :=
  [⟨Rect.unit ![3, 0, 0] ![1, 1024, 896] inb_S4x1024x896_S1x1024x896_3_0_0, k0_pay27 (F := Ideal) (k0_pay20 (F := Ideal) (iblk m c 15 t)) (d3 m c t)
      (View.ld Q (Rect.unit ![3, 0, 0] ![1, 1024, 896] inb_S4x1024x896_S1x1024x896_3_0_0))⟩,
    ⟨Rect.unit ![2, 0, 0] ![1, 1024, 896] inb_S4x1024x896_S1x1024x896_2_0_0, k0_pay26 (F := Ideal) (k0_pay20 (F := Ideal) (iblk m c 15 t)) (d2 m c t)
      (View.ld Q (Rect.unit ![2, 0, 0] ![1, 1024, 896] inb_S4x1024x896_S1x1024x896_2_0_0))⟩,
    ⟨Rect.unit ![1, 0, 0] ![1, 1024, 896] inb_S4x1024x896_S1x1024x896_1_0_0, k0_pay24 (F := Ideal) (k0_pay20 (F := Ideal) (iblk m c 15 t)) (d1 m c t)
      (View.ld Q (Rect.unit ![1, 0, 0] ![1, 1024, 896] inb_S4x1024x896_S1x1024x896_1_0_0))⟩,
    ⟨Rect.unit ![0, 0, 0] ![1, 1024, 896] inb_S4x1024x896_S1x1024x896_0_0_0, k0_pay21 (F := Ideal) (iblk m c 15 t) (d0 m c t)
      (View.ld Q (Rect.unit ![0, 0, 0] ![1, 1024, 896] inb_S4x1024x896_S1x1024x896_0_0_0))⟩]

/-- One chip's columns, stored. -/
theorem slice_apply (Q : Vec Ideal S4x1024x896 .f32) (j : Fin 4) (o : ℕ) (ho : o = j) (inb) (P : Vec Ideal S1x1024x896 .f32)
    (hP : ∀ i e, P (ix3 0 i e) = (View.ld Q (Rect.unit (s := S4x1024x896) ![o, 0, 0] ![1, 1024, 896] inb) : Vec Ideal S1x1024x896 .f32) (ix3 0 i e)
      + dwAt m c t j i e) (x : S1x1024x896.Idx) :
    P x = Q ((Rect.unit (s := S4x1024x896) ![o, 0, 0] ![1, 1024, 896] inb).emb x)
      + dwAt m c t ((Rect.unit (s := S4x1024x896) ![o, 0, 0] ![1, 1024, 896] inb).emb x 0)
        ((Rect.unit (s := S4x1024x896) ![o, 0, 0] ![1, 1024, 896] inb).emb x 1) ((Rect.unit (s := S4x1024x896) ![o, 0, 0] ![1, 1024, 896] inb).emb x 2) := by
  have hx0 : x 0 = (0 : Fin 1) := Subsingleton.elim (α := Fin 1) _ _
  have hx : x = ix3 0 (x 1) (x 2) := by
    funext d
    fin_cases d
    · exact hx0
    · rfl
    · rfl
  have he : (Rect.unit (s := S4x1024x896) ![o, 0, 0] ![1, 1024, 896] inb).emb x = ix3 j (x 1) (x 2) := by
    funext a
    refine Fin.ext ((Rect.idx_unit_val _ _ inb x a).trans ?_)
    fin_cases a
    · show o + ((x 0 : Fin 1) : ℕ) = (j : ℕ)
      rw [hx0, ho]
      rfl
    · exact Nat.zero_add _
    · exact Nat.zero_add _
  rw [he]
  refine (congrArg P hx).trans ((hP (x 1) (x 2)).trans ?_)
  rw [ld3 Q j o ho inb (x 1) (x 2)]
  rfl

theorem canon_slices (Q : Vec Ideal S4x1024x896 .f32) (L : List (View.Piece (Elt Ideal) S4x1024x896 .f32)) (y : S4x1024x896.Idx) :
    View.canon (slices m c t Q ++ L) y = Q y + dwAt m c t (y 0) (y 1) (y 2) := by
  have hH := fun r i => b15 m c t r i
  have hd0 := d0_apply m c t
  have hd1 := d1_apply m c t
  have hd2 := d2_apply m c t
  have hd3 := d3_apply m c t
  refine View.canon_append_of_piecesOf (fun y => Q y + dwAt m c t (y 0) (y 1) (y 2)) L (slices m c t Q) ⟨?_, ?_, ?_, ?_, trivial⟩ y
    (View.cover_of_tiledL _ ![1, 1024, 896] (by sl_kernel_rfl) y)
  · refine slice_apply m c t Q 3 3 rfl inb_S4x1024x896_S1x1024x896_3_0_0 _ fun i e => ?_
    refine (pay27 _ _ _ i e).trans ?_
    simp only [pay20, hH, hd3]
    rfl
  · refine slice_apply m c t Q 2 2 rfl inb_S4x1024x896_S1x1024x896_2_0_0 _ fun i e => ?_
    refine (pay26 _ _ _ i e).trans ?_
    simp only [pay20, hH, hd2]
    rfl
  · refine slice_apply m c t Q 1 1 rfl inb_S4x1024x896_S1x1024x896_1_0_0 _ fun i e => ?_
    refine (pay24 _ _ _ i e).trans ?_
    simp only [pay20, hH, hd1]
    rfl
  · refine slice_apply m c t Q 0 0 rfl inb_S4x1024x896_S1x1024x896_0_0_0 _ fun i e => ?_
    refine (pay21 _ _ _ i e).trans ?_
    simp only [hH, hd0]
    rfl

theorem zero22 (j : S4x1024x896.Idx) : k0_pay6 (F := Ideal) j = 0 := by pointwise! [k0_pay6]

theorem dw_first (h : t.val % 16 = 0) (j : S4x1024x896.Idx) :
    (outsAt0 m c t.val t.isLt).2.2 j = (0 : EReal) + dwAt m c t (j 0) (j 1) (j 2) := by
  rw [← zero22 j, outsAt0_A m c t h]
  dsimp only
  frame_open
  simp (disch := decide) only [↓View.readCov_skip, ↓View.readCov_cons_toLoadRect]
  frame_out
  simp (disch := decide) only [View.readCov_fill]
  exact canon_slices m c t (k0_pay6 (F := Ideal)) [_] j

theorem dw_step (h : ¬t.val % 16 = 0) (j : S4x1024x896.Idx) : (outsAt0 m c t.val t.isLt).2.2 j
    = (outsAt0 m c (t.val - 1) (Nat.lt_of_le_of_lt (Nat.sub_le _ _) t.isLt)).2.2 j + dwAt m c t (j 0) (j 1) (j 2) := by
  rw [outsAt0_B m c t h]
  dsimp only
  frame_open
  simp (disch := decide) only [↓View.readCov_skip, ↓View.readCov_cons_toLoadRect]
  frame_out
  exact canon_slices m c t _ [] j

/-- The input projection's weight gradient. -/
theorem final22 : (dats m 0 c).arrAt 22 (cfgs 0).N
    = fun j : S4x1024x896.Idx => dw (aX m c) (aG m c) (aD m c) (j 0) (j 1) (j 2) := by
  refine (dats m 0 c).arrAt_eq_of_after_last 22 t0_15 (by decide +kernel) _ fun j => ?_
  blk_simp
  rw [after0_22, Pipeline.eq_sum_fin_of_reset_step_apply_last (fun n h => (outsAt0 m c n h).2.2) 16 (fun _ => (0 : EReal))
    (fun t j => dwAt m c t (j 0) (j 1) (j 2)) (fun t h j => dw_first m c t h j) (fun t h j => dw_step m c t h j)
    (le_of_eq N_0) t0_15 rfl j, zero_add]
  exact sum_rows (fun r => hn (aX m c) (aG m c) r (j 1) * aD m c (ix2 r (col (j 0) (j 2))))

end Cert.InProj

end
-- ==== Proof.InProj.Ref.lean ====
/- The reference's three results, entry by entry. -/
module

public import proofs.«01_k».proof.Proof.InProj.Spec
public import proofs.«01_k».proof.Proof.Gen.Reference2Ideal.Run

@[expose] public section

set_option maxRecDepth 16384

noncomputable section

namespace Cert.InProj

open Cert.Reference2Ideal Cert.Reference2Ideal.Gen Cert.Reference2Ideal.Value
open Idealize.ShloMosaic Idealize.ShloMosaic.TcCoe Idealize.SL.Sem Idealize.ShloMosaic.StableHlo
open Cert.Conv (Mat row8 ms xh half addNorm')

namespace Ref

/-- The mean square of each row plus the small constant. -/
def msv (X : Mat 4096 1024) : FVec Ideal S4096x1 .f32 :=
  addf (Host.divf (broadcastInDim S4096x1 ![0] bcast_S4096_S4096x1_0 (Host.reduceAdd (mulf X X) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

/-- The normalised rows, before the gain. -/
def xhv (X : Mat 4096 1024) : FVec Ideal S4096x1024 .f32 :=
  mulf X (broadcastInDim S4096x1024 ![0, 1] bcast_S4096x1_S4096x1024_0_1 (Host.rsqrt (msv X)))

/-- The gain, repeated for every row. -/
def gv (G : Mat 1 1024) : FVec Ideal S512x8x1024 .f32 :=
  broadcastInDim S512x8x1024 ![0, 1, 2] bcast_S1x8x1024_S512x8x1024_0_1_2 (broadcastInDim S1x8x1024 ![1, 2] bcast_S8x1024_S1x8x1024_1_2
    (broadcastInDim S8x1024 ![0, 1] bcast_S1x1024_S8x1024_0_1 G))

/-- The rows times the gain. -/
def gained (A : FVec Ideal S4096x1024 .f32) (G : Mat 1 1024) : FVec Ideal S4096x1024 .f32 :=
  shapeCast _ (mulf (shapeCast _ A shapeCasts_S4096x1024_S512x8x1024) (gv G)) shapeCasts_S512x8x1024_S4096x1024

/-- The gradient of the normalised rows. -/
def dhv (W : Mat 1024 3584) (K : Mat 1024 3072) (D : Mat 4096 3584) (E : Mat 4096 3072) : FVec Ideal S4096x1024 .f32 :=
  addf (Host.dotGeneral dot_S4096x3072_S1024x3072_S4096x1024_1_1_0_0_n_n none E K)
    (Host.dotGeneral dot_S4096x3584_S1024x3584_S4096x1024_1_1_0_0_n_n none D W)

/-- The part of the normalisation's gradient that is the same for a whole row. -/
def halfv (X : Mat 4096 1024) (A : FVec Ideal S4096x1024 .f32) : FVec Ideal S4096x1024 .f32 :=
  broadcastInDim S4096x1024 ![0] bcast_S4096_S4096x1024_0 (Host.reduceAdd (Host.divf (mulf (shapeCast _ (Host.reduceAdd (mulf X A)
    (constant S_ .f32 0x00000000#32) reducesTo_S4096x1024_S4096_d1 h_S_) shapeCasts_S4096_S4096x1) (mulf (broadcastInDim S4096x1 ![]
    bcast_S_S4096x1 (constant S_ .f32 0xBF000000#32)) (Host.divf (Host.rsqrt (msv X)) (msv X)))) (broadcastInDim S4096x1 ![] bcast_S_S4096x1
    (constant S_ .f32 0x44800000#32))) (constant S_ .f32 0x00000000#32) reducesTo_S4096x1_S4096_d1 h_S_)

/-- The gradient of the block's input. -/
def dxv (X : Mat 4096 1024) (A : FVec Ideal S4096x1024 .f32) (Y : Mat 4096 1024) : FVec Ideal S4096x1024 .f32 :=
  addf (addf (addf Y (mulf A (broadcastInDim S4096x1024 ![0, 1] bcast_S4096x1_S4096x1024_0_1 (Host.rsqrt (msv X))))) (mulf X (halfv X A)))
    (mulf (halfv X A) X)

/-- The gain's gradient. -/
def gainv (A B : FVec Ideal S4096x1024 .f32) : FVec Ideal S8x1024 .f32 :=
  Host.reduceAdd (shapeCast _ (Host.reduceAdd (mulf (shapeCast _ A shapeCasts_S4096x1024_S512x8x1024)
    (shapeCast _ B shapeCasts_S4096x1024_S512x8x1024)) (constant S_ .f32 0x00000000#32) reducesTo_S512x8x1024_S8x1024_d0 h_S_)
    shapeCasts_S8x1024_S1x8x1024) (constant S_ .f32 0x00000000#32) reducesTo_S1x8x1024_S8x1024_d0 h_S_

/-- The weight's gradient. -/
def dwv (D : Mat 4096 3584) (A : FVec Ideal S4096x1024 .f32) : FVec Ideal S4x1024x896 .f32 :=
  transpose S4x1024x896 [1, 0, 2] (shapeCast _ (transpose S1024x3584 [1, 0]
    (Host.dotGeneral dot_S4096x3584_S4096x1024_S3584x1024_0_0_1_1_n_n none D A) transposes_S3584x1024_S1024x3584_1_0)
    shapeCasts_S1024x3584_S1024x4x896) transposes_S1024x4x896_S4x1024x896_1_0_2

variable (X : Mat 4096 1024) (G : Mat 1 1024) (W : Mat 1024 3584) (K : Mat 1024 3072) (D : Mat 4096 3584) (E : Mat 4096 3072)
  (Y : Mat 4096 1024)

theorem ms_apply (r : Fin 4096) (z : Fin 1) : msv X (ix2 r z) = ms X r := by
  pointwise [msv]
  rfl

theorem xh_apply (r : Fin 4096) (i : Fin 1024) : xhv X (ix2 r i) = xh X r i := by
  have h := ms_apply X r 0
  unfold xh
  rw [← h]
  unfold xhv
  generalize msv X = M
  pointwise

theorem gained_apply (A : FVec Ideal S4096x1024 .f32) (r : Fin 4096) (i : Fin 1024) : gained A G (ix2 r i) = A (ix2 r i) * G (ix2 0 i) := by
  pointwise [gained, gv]

theorem dh_apply (r : Fin 4096) (i : Fin 1024) : dhv W K D E (ix2 r i) = dh W K D E r i := by
  unfold dh
  rw [add_comm]
  pointwise [dhv]

theorem half_apply (A : FVec Ideal S4096x1024 .f32) (r : Fin 4096) (i : Fin 1024) : halfv X A (ix2 r i)
    = Ideal.div ((∑ k : Fin 1024, X (ix2 r k) * A (ix2 r k)) * (Ideal.ofBits .f32 0xBF000000#32 * Ideal.div (Ideal.rsqrt (ms X r)) (ms X r)))
      (Ideal.ofBits .f32 0x44800000#32) := by
  have h := fun z => ms_apply X r z
  simp only [← h 0]
  unfold halfv
  generalize msv X = M
  pointwise
  rw [Fin.sum_univ_one]

theorem dx_apply (r : Fin 4096) (i : Fin 1024) : dxv X (gained (dhv W K D E) G) Y (ix2 r i) = dx' X G W K D E Y r i := by
  have h := ms_apply X r 0
  have hA := fun k => (gained_apply G (dhv W K D E) r k).trans (congrArg (· * _) (dh_apply W K D E r k))
  have hh := half_apply X (gained (dhv W K D E) G) r i
  unfold dx' addNorm' half
  simp only [← hA]
  rw [← hh, ← h]
  unfold dxv
  generalize gained (dhv W K D E) G = A
  generalize halfv X A = H, msv X = M
  pointwise

theorem gain_apply (s : Fin 8) (i : Fin 1024) : gainv (xhv X) (dhv W K D E) (ix2 s i) = gain X W K D E s i := by
  have hx := fun r => xh_apply X r i
  have hd := fun r => dh_apply W K D E r i
  unfold gain
  simp only [← hx, ← hd]
  generalize xhv X = A, dhv W K D E = B
  pointwise [gainv]
  rw [Fin.sum_univ_one]
  refine Finset.sum_congr rfl fun a _ => ?_
  rw [mul_comm, show (⟨(a : ℕ) * 8 + s, by omega⟩ : Fin 4096) = row8 a s from Fin.ext (by simp [row8]; omega)]

theorem dw_apply (j : Fin 4) (i : Fin 1024) (e : Fin 896) : dwv D (gained (xhv X) G) (ix3 j i e) = dw X G D j i e := by
  have hA := fun r => (gained_apply G (xhv X) r i).trans (congrArg (· * _) (xh_apply X r i))
  unfold dw hn
  simp only [← hA]
  generalize gained (xhv X) G = A
  pointwise [dwv]
  refine Finset.sum_congr rfl fun r _ => ?_
  rw [mul_comm]
  rfl

end Ref

end Cert.InProj

end
-- ==== Proof.InProj.Finite.lean ====
/- Over finite arguments the two ways of writing the block's input gradient agree. -/
module

public import proofs.«01_k».proof.Proof.Conv.Finite
public import proofs.«01_k».proof.Proof.InProj.Spec
public import proofs.«01_k».proof.Proof.Gen.Pre_finite2

@[expose] public section

set_option maxRecDepth 16384

noncomputable section

namespace Cert.InProj

open Idealize.ShloMosaic
open Cert.Conv (Mat IsReal real_of_lt addNorm_eq)

instance : Subsingleton (Cert.Pre_finite2.S_ : Shape).Idx := ⟨fun a b => funext fun d => d.elim0⟩

/-- What the precondition says. -/
theorem fn_true (a0 : Mat 4096 1024) (a1 : Mat 1 1024) (a2 : Mat 1024 3584) (a3 : Mat 1024 3072) (a4 : Mat 4096 3584) (a5 : Mat 4096 3072)
   (a6 : Mat 4096 1024) [hf : Cert.Pre_finite2.Facts] (h : Cert.Pre_finite2.fn (F := Ideal) a0 a1 a2 a3 a4 a5 a6 = fun _ => 1#1) :
   (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  have h := congrFun h (fun d => d.elim0)
  unfold Pre_finite2.fn Pre_finite2.fn_part1 at h
  dsimp only [andi] at h
  rw [IntOp.andi_eq_one, IntOp.andi_eq_one, IntOp.andi_eq_one, IntOp.andi_eq_one, IntOp.andi_eq_one] at h
  obtain ⟨⟨⟨⟨⟨h0, h1⟩, h2⟩, h3⟩, h4⟩, h5⟩ := h
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i), fun i => real_of_lt _ (Host.reduce_andi_all _ _ _ _ _ h5 i)⟩

variable (X : Mat 4096 1024) (G : Mat 1 1024) (W : Mat 1024 3584) (K : Mat 1024 3072) (D : Mat 4096 3584) (E : Mat 4096 3072)
  (Y : Mat 4096 1024)

theorem dh_real (hW : ∀ i, IsReal (W i)) (hK : ∀ i, IsReal (K i)) (hD : ∀ i, IsReal (D i)) (hE : ∀ i, IsReal (E i)) (r : Fin 4096)
    (i : Fin 1024) : IsReal (dh W K D E r i) :=
  (IsReal.sum fun _ => (hD _).mul (hW _)).add (IsReal.sum fun _ => (hE _).mul (hK _))

/-- One expression for the block's input gradient is the other. -/
theorem dx_eq (hX : ∀ i, IsReal (X i)) (hG : ∀ i, IsReal (G i)) (hW : ∀ i, IsReal (W i)) (hK : ∀ i, IsReal (K i))
    (hD : ∀ i, IsReal (D i)) (hE : ∀ i, IsReal (E i)) (r : Fin 4096) (i : Fin 1024) : dx X G W K D E Y r i = dx' X G W K D E Y r i :=
  addNorm_eq X G hX hG _ (dh_real W K D E hW hK hD hE r) _ r i

end Cert.InProj

end
-- ==== Proof.InProj.Frames.lean ====
/- The projections' backward call at the machine's own floats: its frame is the run over any floats, read there. -/
module

public import proofs.«01_k».proof.Proof.InProj.Value
public import proofs.«01_k».proof.Proof.Gen.Kernel2
public import proofs.«01_k».proof.Defs

@[expose] public section

set_option maxRecDepth 16384

noncomputable section

namespace Cert.InProj

open Idealize.ShloMosaic Idealize.ShloMosaic.TcCoe Idealize.SL.Sem

/-- The frame claim over any floats. -/
def Frame (F : FTy → Type) [FloatOps F] : Prop :=
  ∀ (m : (ℓ : Loc Cert.Kernel2Ideal.nD Cert.Kernel2Ideal.τ Cert.Kernel2Ideal.sig) → Buf (Elt F) ℓ) (g : Dev Cert.Kernel2Ideal.nD → PrngReg), True →
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

theorem frame_any (F : FTy → Type) [FloatOps F] : Frame F := fun m ρ _ => Cert.Kernel2Ideal.Gen.frame m ρ

/-- The program as lowered for the floats and as lowered for the extended reals are one program. -/
theorem frame_eq : Frame Bits = Cert.quiescent_Kernel2 := by sl_kernel_rfl

/-- The kernel runs, leaves its arguments as they were, and its counters at zero. -/
theorem frame_kernel : Cert.quiescent_Kernel2 := frame_eq ▸ frame_any Bits

end Cert.InProj

end
-- ==== Proof.InProj.Algebraic.lean ====
/- The input projection's backward call: its kernel computes its reference's results, from finite arguments. -/
module

public import proofs.«01_k».proof.Proof.InProj.KerOut
public import proofs.«01_k».proof.Proof.InProj.Ref
public import proofs.«01_k».proof.Proof.InProj.Finite
public import proofs.«01_k».proof.Proof.InProj.Frames
public import Idealize.ShloMosaic.Lib.Quiescent

@[expose] public section

set_option maxRecDepth 16384

noncomputable section

namespace Cert.InProj

open Idealize.ShloMosaic Idealize.ShloMosaic.TcCoe Idealize.SL.Sem
open Cert.Conv (Mat IsReal)

/-- The reference runs, leaves its arguments as they were, and its counters at zero. -/
theorem frame_reference : Cert.quiescent_Reference2Ideal := fun m ρ _ =>
  (θ_run Cert.Reference2Ideal.defs _ _).mono
    (fun r h => ⟨fun c => ((h c).2.2.2), sem_eq_zero_of_no_sems rfl r.2⟩) (Cert.Reference2Ideal.Value.run (F := Ideal) m ρ)

section Reference
open Cert.Reference2Ideal Cert.Reference2Ideal.Gen

variable (X : Mat 4096 1024) (G : Mat 1 1024) (W : Mat 1024 3584) (K : Mat 1024 3072) (D : Mat 4096 3584) (E : Mat 4096 3072)
  (Y : Mat 4096 1024)

theorem ref_dx (hX : ∀ i, IsReal (X i)) (hG : ∀ i, IsReal (G i)) (hW : ∀ i, IsReal (W i)) (hK : ∀ i, IsReal (K i))
    (hD : ∀ i, IsReal (D i)) (hE : ∀ i, IsReal (E i)) : Ref.dxv X (Ref.gained (Ref.dhv W K D E) G) Y
      = fun j : S4096x1024.Idx => dx X G W K D E Y (j 0) (j 1) :=
  funext fun j => (congrArg _ (ix2_eta j)).trans ((Ref.dx_apply X G W K D E Y (j 0) (j 1)).trans
    (dx_eq X G W K D E Y hX hG hW hK hD hE (j 0) (j 1)).symm)

theorem ref_gain : Ref.gainv (Ref.xhv X) (Ref.dhv W K D E) = fun j : S8x1024.Idx => gain X W K D E (j 0) (j 1) :=
  funext fun j => (congrArg _ (ix2_eta j)).trans (Ref.gain_apply X W K D E (j 0) (j 1))

theorem ref_dw : Ref.dwv D (Ref.gained (Ref.xhv X) G) = fun j : S4x1024x896.Idx => dw X G D (j 0) (j 1) (j 2) :=
  funext fun j => (congrArg _ (ix3_eta j)).trans (Ref.dw_apply X G D (j 0) (j 1) (j 2))

end Reference

section Kernel
open Cert.Kernel2Ideal Cert.Kernel2Ideal.Gen

/-- Every result of the kernel, as a function of the arguments. -/
theorem kernel_run (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c : Thread nD τ).loc main_v46_0)
        = (fun j : S4096x1024.Idx => dx (aX m c) (aG m c) (aW m c) (aK m c) (aD m c) (aE m c) (aY m c) (j 0) (j 1))
      ∧ r.2.mem ((c : Thread nD τ).loc main_v46_1)
        = (fun j : S8x1024.Idx => gain (aX m c) (aW m c) (aK m c) (aD m c) (aE m c) (j 0) (j 1))
      ∧ r.2.mem ((c : Thread nD τ).loc main_v46_2)
        = (fun j : S4x1024x896.Idx => dw (aX m c) (aG m c) (aD m c) (j 0) (j 1) (j 2)) :=
  (θ_run defs _ _).mono (fun r h c => ⟨(h c).1.trans (final20 m c), (h c).2.1.trans (final21 m c), (h c).2.2.1.trans (final22 m c)⟩)
    (Cert.Kernel2Ideal.Value.run_blocks m ρ)

end Kernel

/-- The kernel computes the reference's results, over the extended reals, from finite arguments. -/
theorem algebraic : Cert.algebraic_Kernel2Ideal_Reference2Ideal_pre_finite2 := by
  intro m g m' g' hp ha
  refine ⟨fun c => _, fun c => _, fun c => _,
    (θ_run Cert.Kernel2Ideal.defs _ _).mono (fun r h c => ⟨(h.1 c).1, (h.1 c).2.1, (h.1 c).2.2, h.2.1 c⟩)
      (θ_run_and (kernel_run m g) (Cert.Kernel2Ideal.Gen.frame m g)),
    (θ_run Cert.Reference2Ideal.defs _ _).mono (fun r h c => ?_)
      (θ_run_and (Cert.Reference2Ideal.Value.run (F := Ideal) m' g') (frame_reference m' g' trivial))⟩
  obtain ⟨e0, e1, e2, e3, e4, e5, e6⟩ := ha c
  obtain ⟨hX, hG, hW, hK, hD, hE⟩ := fn_true _ _ _ _ _ _ _ (hp c)
  refine ⟨(h.1 c).1.trans ?_, (h.1 c).2.1.trans ?_, (h.1 c).2.2.1.trans ?_, h.2.1 c⟩
  · refine Eq.trans (b := Ref.dxv _ (Ref.gained (Ref.dhv _ _ _ _) _) _) rfl ?_
    rw [e0, e1, e2, e3, e4, e5, e6]
    exact ref_dx _ _ _ _ _ _ _ hX hG hW hK hD hE
  · refine Eq.trans (b := Ref.gainv (Ref.xhv _) (Ref.dhv _ _ _ _)) rfl ?_
    rw [e0, e2, e3, e4, e5]
    exact ref_gain _ _ _ _ _
  · refine Eq.trans (b := Ref.dwv _ (Ref.gained (Ref.xhv _) _)) rfl ?_
    rw [e0, e1, e4]
    exact ref_dw _ _ _

end Cert.InProj

end
-- ==== Proof.WGrad.Up.lean ====
/- The up projection's weight gradient: the kernel's sum over blocks of rows is the reference's product. -/
module

public import proofs.«01_k».proof.Proof.Gen.Kernel3Ideal.Value
public import proofs.«01_k».proof.Proof.Gen.Kernel3Ideal.Frame
public import proofs.«01_k».proof.Proof.Gen.Reference3Ideal.Run
public import proofs.«01_k».proof.Defs
public import Idealize.ShloMosaic.Lib.Pipeline.ValueKit
public import Idealize.ShloMosaic.Lib.Pointwise
public import Idealize.ShloMosaic.Lib.Quiescent

@[expose] public section

set_option maxRecDepth 16384

noncomputable section

namespace Cert.WGrad.Up

open Idealize.ShloMosaic Idealize.ShloMosaic.TcCoe Idealize.SL.Sem
open Idealize.ShloMosaic.Pipeline (Dat)

/-- Column `e` of the `j`-th chip's chunk. -/
def col (j : Fin 4) (e : Fin 1408) : Fin 5632 := ⟨j * 1408 + e, by omega⟩

/-- The weight gradient, one chip's columns after the other: the rows' activations times their cotangents. -/
def dw (H : FVec Ideal (⟨2, ![4096, 1024]⟩ : Shape) .f32) (D : FVec Ideal (⟨2, ![4096, 5632]⟩ : Shape) .f32)
    (j : Fin 4) (i : Fin 1024) (e : Fin 1408) : EReal := ∑ r : Fin 4096, H (ix2 r i) * D (ix2 r (col j e))

section Kernel
open Cert.Kernel3Ideal Cert.Kernel3Ideal.Gen

variable (m : (ℓ : Loc nD τ sig) → Buf (Elt Ideal) ℓ) (c : Dev nD)

/-- Every window's block index at every grid point: the chunk of columns, then the block of rows. -/
theorem idx : ∀ t : Fin cfg0.N, win0_0.index t = ![t.val % 2, 0] ∧ win0_1.index t = ![t.val % 2, t.val / 2]
    ∧ win0_2.index t = ![t.val / 2, 0, 0] := (by decide +kernel : ∀ t : Fin grid0.N, _)

theorem zero (j : S1x1024x1408.Idx) : k0_pay1 (F := Ideal) j = 0 := by pointwise! [k0_pay1]

/-- A grid point adds its rows' products. -/
theorem pay (Q : Vec Ideal S1x1024x1408 .f32) (x0 : Vec Ideal S2048x1024 .bf16) (x1 : Vec Ideal S2048x1408 .bf16) (j : S1x1024x1408.Idx) :
    k0_pay2 Q x0 x1 j = Q j + ∑ k : Fin 2048, x0 (ix2 k (j 1)) * x1 (ix2 k (j 2)) := by
  pointwise! [k0_pay2]

/-- The block of activations. -/
theorem b0 (t : Fin cfg0.N) (k : Fin 2048) (i : Fin 1024) (r : Fin 4096) (h : (r : ℕ) = t.val % 2 * 2048 + k) :
    (iblk m c 0 t : Vec Ideal S2048x1024 .bf16) (ix2 k i) = m ((c : Thread nD τ).loc main_arg0) (ix2 r i) := by
  blk_simp [iblk, idx t]
  entry_read
  have e : ((View.whole main_v0).slice (win0_0.rect t)).emb (ix2 k i) = ix2 r i := by
    blk_ext [idx t]
  rw [e]
  pointwise

/-- The block of cotangents. -/
theorem b1 (t : Fin cfg0.N) (k : Fin 2048) (e : Fin 1408) (r : Fin 4096) (j : Fin 4) (h : (r : ℕ) = t.val % 2 * 2048 + k)
    (hj : (j : ℕ) = t.val / 2) :
    (iblk m c 1 t : Vec Ideal S2048x1408 .bf16) (ix2 k e) = m ((c : Thread nD τ).loc main_arg1) (ix2 r (col j e)) := by
  blk_simp [iblk, idx t]
  entry_read
  have e' : ((View.whole main_v1).slice (win0_1.rect t)).emb (ix2 k e) = ix2 r (col j e) := by
    unfold col
    blk_ext [idx t]
  rw [e']
  pointwise

/-- The kernel's result. -/
theorem final : (dats m 0 c).arrAt 2 (cfgs 0).N
    = fun j : S4x1024x1408.Idx => dw (m ((c : Thread nD τ).loc main_arg0)) (m ((c : Thread nD τ).loc main_arg1)) (j 0) (j 1) (j 2) := by
  refine (dats m 0 c).arrAt_eq_of_covers 2 _ (by decide +kernel) fun t hf y => ?_
  blk_simp
  rw [after0_2, Pipeline.eq_sum_fin_of_reset_step_apply_of_flush (fun n h => outsAt0 m c n h) 2 (fun _ => (0 : EReal))
    (fun p j => ∑ k : Fin 2048, (show Vec Ideal S2048x1024 .bf16 from iblk m c 0 p) (ix2 k (j 1))
      * (show Vec Ideal S2048x1408 .bf16 from iblk m c 1 p) (ix2 k (j 2)))
    (fun t h j => by rw [outsAt0_A m c t h]; frame_out; rw [pay, zero]) (fun t h j => by rw [outsAt0_B m c t h]; frame_out; rw [pay])
    t ((flush0_2 t).mp hf) _, zero_add]
  have ht : t.val < 8 := N_0 ▸ t.isLt
  have y0 : (y 0 : ℕ) < 1 := (y 0).isLt
  have hy : ((View.whole main_v2).slice (win0_2.rect t)).emb y = ix3 (⟨t.val / 2, by omega⟩ : Fin 4) (y 1) (y 2) := by
    blk_ext [idx t]
  rw [hy]
  show _ = dw _ _ (⟨t.val / 2, by omega⟩ : Fin 4) (y 1) (y 2)
  unfold dw
  refine Fin.sum_mul_add_congr fun s k hl => ?_
  have h1 : (2 * (t.val / 2) + s.val) % 2 = s := by omega
  have h2 : (2 * (t.val / 2) + s.val) / 2 = t.val / 2 := by omega
  exact congrArg₂ (HMul.hMul : EReal → EReal → EReal)
    (b0 m c ⟨2 * (t.val / 2) + s.val, _⟩ k (y 1) ⟨s * 2048 + k, hl⟩ (by show _ = _ % 2 * _ + _; rw [h1]))
    (b1 m c ⟨2 * (t.val / 2) + s.val, _⟩ k (y 2) ⟨s * 2048 + k, hl⟩ ⟨t.val / 2, by omega⟩ (by show _ = _ % 2 * _ + _; rw [h1])
      h2.symm)

end Kernel

/-- The reference's result. -/
theorem ref (H : FVec Ideal Cert.Reference3Ideal.S4096x1024 .f32) (D : FVec Ideal Cert.Reference3Ideal.S4096x5632 .f32)
    (j : Cert.Reference3Ideal.S4x1024x1408.Idx) :
    transpose Cert.Reference3Ideal.S4x1024x1408 [1, 0, 2] (shapeCast _ (transpose Cert.Reference3Ideal.S1024x5632 [1, 0]
      (Host.dotGeneral Cert.Reference3Ideal.dot_S4096x5632_S4096x1024_S5632x1024_0_0_1_1_n_n none D H)
      Cert.Reference3Ideal.Gen.transposes_S5632x1024_S1024x5632_1_0) Cert.Reference3Ideal.Gen.shapeCasts_S1024x5632_S1024x4x1408)
      Cert.Reference3Ideal.Gen.transposes_S1024x4x1408_S4x1024x1408_1_0_2 j = dw H D (j 0) (j 1) (j 2) := by
  unfold dw col
  pointwise
  exact Finset.sum_congr rfl fun r _ => mul_comm _ _

/-- The reference runs, leaves its arguments as they were, and its counters at zero. -/
theorem frame_reference : Cert.quiescent_Reference3Ideal := fun m ρ _ =>
  (θ_run Cert.Reference3Ideal.defs _ _).mono
    (fun r h => ⟨fun c => (h c).2, sem_eq_zero_of_no_sems rfl r.2⟩) (Cert.Reference3Ideal.Value.run (F := Ideal) m ρ)

/-- The kernel computes the reference's weight gradient, over the extended reals, from any arguments. -/
theorem algebraic : Cert.algebraic_Kernel3Ideal_Reference3Ideal := by
  intro m g m' g' hp ha
  refine ⟨fun c => _,
    (θ_run Cert.Kernel3Ideal.defs _ _).mono (fun r h c => ⟨(h.1 c).1.trans (final m c), h.2.1 c⟩)
      (θ_run_and (Cert.Kernel3Ideal.Value.run_blocks m g) (Cert.Kernel3Ideal.Gen.frame m g)),
    (θ_run Cert.Reference3Ideal.defs _ _).mono (fun r h c => ?_)
      (θ_run_and (Cert.Reference3Ideal.Value.run (F := Ideal) m' g') (frame_reference m' g' trivial))⟩
  obtain ⟨e0, e1⟩ := ha c
  refine ⟨(h.1 c).1.trans ?_, h.2.1 c⟩
  rw [e0, e1]
  exact funext fun j => ref _ _ j

end Cert.WGrad.Up

end
-- ==== Proof.WGrad.Down.lean ====
/- The down projection's weight gradient: the kernel's sum over blocks of rows is the reference's product. -/
module

public import proofs.«01_k».proof.Proof.Gen.Kernel4Ideal.Value
public import proofs.«01_k».proof.Proof.Gen.Kernel4Ideal.Frame
public import proofs.«01_k».proof.Proof.Gen.Reference4Ideal.Run
public import proofs.«01_k».proof.Defs
public import Idealize.ShloMosaic.Lib.Pipeline.ValueKit
public import Idealize.ShloMosaic.Lib.Pointwise
public import Idealize.ShloMosaic.Lib.Quiescent

@[expose] public section

set_option maxRecDepth 16384

noncomputable section

namespace Cert.WGrad.Down

open Idealize.ShloMosaic Idealize.ShloMosaic.TcCoe Idealize.SL.Sem
open Idealize.ShloMosaic.Pipeline (Dat)

/-- The weight gradient: the rows' activations times their cotangents. -/
def dw (H : FVec Ideal (⟨2, ![4096, 2816]⟩ : Shape) .f32) (D : FVec Ideal (⟨2, ![4096, 1024]⟩ : Shape) .f32)
    (i : Fin 2816) (e : Fin 1024) : EReal := ∑ r : Fin 4096, H (ix2 r i) * D (ix2 r e)

section Kernel
open Cert.Kernel4Ideal Cert.Kernel4Ideal.Gen

variable (m : (ℓ : Loc nD τ sig) → Buf (Elt Ideal) ℓ) (c : Dev nD)

/-- Every window's block index at every grid point: the half of the columns, then the block of rows. -/
theorem idx : ∀ t : Fin cfg0.N, win0_0.index t = ![t.val % 4, 0] ∧ win0_1.index t = ![t.val % 4, t.val / 4]
    ∧ win0_2.index t = ![0, t.val / 4] := (by decide +kernel : ∀ t : Fin grid0.N, _)

theorem zero (j : S2816x512.Idx) : k0_pay1 (F := Ideal) j = 0 := by pointwise! [k0_pay1]

/-- A grid point adds its rows' products. -/
theorem pay (Q : Vec Ideal S2816x512 .f32) (x0 : Vec Ideal S1024x2816 .bf16) (x1 : Vec Ideal S1024x512 .f32) (j : S2816x512.Idx) :
    k0_pay2 Q x0 x1 j = Q j + ∑ k : Fin 1024, x0 (ix2 k (j 0)) * x1 (ix2 k (j 1)) := by
  pointwise! [k0_pay2]

/-- The block of activations. -/
theorem b0 (t : Fin cfg0.N) (k : Fin 1024) (i : Fin 2816) (r : Fin 4096) (h : (r : ℕ) = t.val % 4 * 1024 + k) :
    (iblk m c 0 t : Vec Ideal S1024x2816 .bf16) (ix2 k i) = m ((c : Thread nD τ).loc main_arg0) (ix2 r i) := by
  blk_simp [iblk, idx t]
  entry_read
  have e : ((View.whole main_v0).slice (win0_0.rect t)).emb (ix2 k i) = ix2 r i := by
    blk_ext [idx t]
  rw [e]
  pointwise

/-- The block of cotangents. -/
theorem b1 (t : Fin cfg0.N) (k : Fin 1024) (e : Fin 512) (r : Fin 4096) (q : Fin 1024) (h : (r : ℕ) = t.val % 4 * 1024 + k)
    (hq : (q : ℕ) = t.val / 4 * 512 + e) :
    (iblk m c 1 t : Vec Ideal S1024x512 .f32) (ix2 k e) = m ((c : Thread nD τ).loc main_arg1) (ix2 r q) := by
  blk_simp [iblk, V, idx t]
  blk_ext [idx t]

/-- The kernel's result. -/
theorem final : (dats m 0 c).arrAt 2 (cfgs 0).N
    = fun j : S2816x1024.Idx => dw (m ((c : Thread nD τ).loc main_arg0)) (m ((c : Thread nD τ).loc main_arg1)) (j 0) (j 1) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun p j => ∑ k : Fin 1024, (show Vec Ideal S1024x2816 .bf16 from iblk m c 0 p) (ix2 k (j 0))
      * (show Vec Ideal S1024x512 .f32 from iblk m c 1 p) (ix2 k (j 1)))
    (fun t h j => by rw [outsAt0_A m c t h]; frame_out; rw [pay, zero]) (fun t h j => by rw [outsAt0_B m c t h]; frame_out; rw [pay])
    t ((flush0_2 t).mp hf) _, zero_add]
  have ht : t.val < 8 := N_0 ▸ t.isLt
  have y1 : (y 1 : ℕ) < 512 := (y 1).isLt
  have hy : ((View.whole main_v1).slice (win0_2.rect t)).emb y = ix2 (y 0) (⟨t.val / 4 * 512 + y 1, by omega⟩ : Fin 1024) := by
    blk_ext [idx t]
  rw [hy]
  show _ = dw _ _ (y 0) (⟨t.val / 4 * 512 + y 1, by omega⟩ : Fin 1024)
  unfold dw
  refine Fin.sum_mul_add_congr fun s k hl => ?_
  have h1 : (4 * (t.val / 4) + s.val) % 4 = s := by omega
  have h2 : (4 * (t.val / 4) + s.val) / 4 = t.val / 4 := by omega
  exact congrArg₂ (HMul.hMul : EReal → EReal → EReal)
    (b0 m c ⟨4 * (t.val / 4) + s.val, _⟩ k (y 0) ⟨s * 1024 + k, hl⟩ (by show _ = _ % 4 * _ + _; rw [h1]))
    (b1 m c ⟨4 * (t.val / 4) + s.val, _⟩ k (y 1) ⟨s * 1024 + k, hl⟩ ⟨t.val / 4 * 512 + y 1, by omega⟩
      (by show _ = _ % 4 * _ + _; rw [h1]) (by show _ = _ / 4 * _ + _; rw [h2]))

end Kernel

/-- The reference's result. -/
theorem ref (H : FVec Ideal Cert.Reference4Ideal.S4096x2816 .f32) (D : FVec Ideal Cert.Reference4Ideal.S4096x1024 .f32)
    (j : Cert.Reference4Ideal.S2816x1024.Idx) :
    transpose Cert.Reference4Ideal.S2816x1024 [1, 0]
      (Host.dotGeneral Cert.Reference4Ideal.dot_S4096x1024_S4096x2816_S1024x2816_0_0_1_1_n_n none D H)
      Cert.Reference4Ideal.Gen.transposes_S1024x2816_S2816x1024_1_0 j = dw H D (j 0) (j 1) := by
  unfold dw
  pointwise
  exact Finset.sum_congr rfl fun r _ => mul_comm _ _

/-- The reference runs, leaves its arguments as they were, and its counters at zero. -/
theorem frame_reference : Cert.quiescent_Reference4Ideal := fun m ρ _ =>
  (θ_run Cert.Reference4Ideal.defs _ _).mono
    (fun r h => ⟨fun c => (h c).2, sem_eq_zero_of_no_sems rfl r.2⟩) (Cert.Reference4Ideal.Value.run (F := Ideal) m ρ)

/-- The kernel computes the reference's weight gradient, over the extended reals, from any arguments. -/
theorem algebraic : Cert.algebraic_Kernel4Ideal_Reference4Ideal := by
  intro m g m' g' hp ha
  refine ⟨fun c => _,
    (θ_run Cert.Kernel4Ideal.defs _ _).mono (fun r h c => ⟨(h.1 c).1.trans (final m c), h.2.1 c⟩)
      (θ_run_and (Cert.Kernel4Ideal.Value.run_blocks m g) (Cert.Kernel4Ideal.Gen.frame m g)),
    (θ_run Cert.Reference4Ideal.defs _ _).mono (fun r h c => ?_)
      (θ_run_and (Cert.Reference4Ideal.Value.run (F := Ideal) m' g') (frame_reference m' g' trivial))⟩
  obtain ⟨e0, e1⟩ := ha c
  refine ⟨(h.1 c).1.trans ?_, h.2.1 c⟩
  rw [e0, e1]
  exact funext fun j => ref _ _ j

end Cert.WGrad.Down

end
-- ==== Proof.UpProj.Algebraic.lean ====
/- The up projection: the kernel's chunks of columns, block by block of rows, are the reference's product. -/
module

public import proofs.«01_k».proof.Proof.Gen.Kernel5Ideal.Value
public import proofs.«01_k».proof.Proof.Gen.Kernel5Ideal.Frame
public import proofs.«01_k».proof.Proof.Gen.Reference5Ideal.Run
public import proofs.«01_k».proof.Defs
public import Idealize.ShloMosaic.Lib.Pipeline.ValueKit
public import Idealize.ShloMosaic.Lib.Pointwise
public import Idealize.ShloMosaic.Lib.Quiescent

@[expose] public section

set_option maxRecDepth 16384

noncomputable section

namespace Cert.UpProj

open Idealize.ShloMosaic Idealize.ShloMosaic.TcCoe Idealize.SL.Sem
open Idealize.ShloMosaic.Pipeline (Dat)

/-- Column `e` of the `j`-th chip's chunk. -/
def col (j : Fin 4) (e : Fin 1408) : Fin 5632 := ⟨j * 1408 + e, by omega⟩

/-- A row of the activations times a column of the weight. -/
def u (H : FVec Ideal (⟨2, ![4096, 1024]⟩ : Shape) .f32) (W : FVec Ideal (⟨2, ![1024, 5632]⟩ : Shape) .f32)
    (r : Fin 4096) (e : Fin 5632) : EReal := ∑ k : Fin 1024, H (ix2 r k) * W (ix2 k e)

section Kernel
open Cert.Kernel5Ideal Cert.Kernel5Ideal.Gen

variable (m : (ℓ : Loc nD τ sig) → Buf (Elt Ideal) ℓ) (c : Dev nD)

/-- Every window's block index at every grid point: the block of rows; the weight is one block. -/
theorem idx : ∀ t : Fin cfg0.N, win0_0.index t = ![t.val, 0] ∧ win0_1.index t = ![0, 0, 0]
    ∧ win0_2.index t = ![t.val, 0] := (by decide +kernel : ∀ t : Fin grid0.N, _)

/-- A row of the block, in the array. -/
def row (t : Fin cfg0.N) (r : Fin 256) : Fin 4096 := ⟨t.val * 256 + r, by have h : t.val < 16 := N_0 ▸ t.isLt; omega⟩

/-- The block of activations. -/
theorem b0 (t : Fin cfg0.N) (r : Fin 256) (k : Fin 1024) :
    (iblk m c 0 t : Vec Ideal S256x1024 .bf16) (ix2 r k) = m ((c : Thread nD τ).loc main_arg0) (ix2 (row t r) k) := by
  blk_simp [iblk, idx t]
  entry_read
  have e : ((View.whole main_v0).slice (win0_0.rect t)).emb (ix2 r k) = ix2 (row t r) k := by
    unfold row
    blk_ext [idx t]
  rw [e]
  pointwise

/-- The weight, laid out by chip. -/
theorem b1 (t : Fin cfg0.N) (j : Fin 4) (k : Fin 1024) (e : Fin 1408) :
    (iblk m c 1 t : Vec Ideal S4x1024x1408 .bf16) (ix3 j k e) = m ((c : Thread nD τ).loc main_arg1) (ix2 k (col j e)) := by
  blk_simp [iblk, idx t]
  entry_read
  have e' : ((View.whole main_v3).slice (win0_1.rect t)).emb (ix3 j k e) = ix3 j k e := by
    blk_ext [idx t]
  rw [e']
  unfold col
  pointwise

/-- A chunk's piece of the block. -/
theorem piece (t : Fin cfg0.N) (j : Fin 4) (P : Vec Ideal S256x1408 .f32) (x0 : Vec Ideal S256x1024 .bf16) (x1 : Vec Ideal S1x1024x1408 .bf16)
    (hx0 : x0 = iblk m c 0 t)
    (hP : ∀ r e, P (ix2 r e) = ∑ k : Fin 1024, x0 (ix2 r k) * x1 (ix3 0 k e))
    (hx : ∀ k e, x1 (ix3 0 k e) = (iblk m c 1 t : Vec Ideal S4x1024x1408 .bf16) (ix3 j k e))
    (y : S256x5632.Idx) (z : S256x1408.Idx) (h0 : (y 0 : ℕ) = z 0) (h1 : (y 1 : ℕ) = j * 1408 + z 1) :
    P z = u (m ((c : Thread nD τ).loc main_arg0)) (m ((c : Thread nD τ).loc main_arg1)) (row t (y 0)) (y 1) := by
  have hz : z = ix2 (z 0) (z 1) := by
    funext d
    fin_cases d <;> rfl
  have e0 : y 0 = z 0 := Fin.ext h0
  have e1 : y 1 = col j (z 1) := Fin.ext h1
  rw [e0, e1, hz]
  refine (hP _ _).trans (Finset.sum_congr rfl fun k _ => congrArg₂ (HMul.hMul : EReal → EReal → EReal) ((congrFun hx0 _).trans (b0 m c t _ k)) ?_)
  exact (hx _ _).trans (b1 m c t j k _)

theorem pay2_ix (h : Vec Ideal S256x1024 .bf16) (w : Vec Ideal S1x1024x1408 .bf16) (r : Fin 256) (e : Fin 1408) :
    k0_pay2 h w (ix2 r e) = ∑ k : Fin 1024, h (ix2 r k) * w (ix3 0 k e) := by
  pointwise! [k0_pay2, k0_pay1]

theorem pay3_ix (h : Vec Ideal S256x1024 .bf16) (w : Vec Ideal S1x1024x1408 .bf16) (r : Fin 256) (e : Fin 1408) :
    k0_pay3 h w (ix2 r e) = ∑ k : Fin 1024, h (ix2 r k) * w (ix3 0 k e) := by
  pointwise! [k0_pay3, k0_pay1]

theorem pay4_ix (h : Vec Ideal S256x1024 .bf16) (w : Vec Ideal S1x1024x1408 .bf16) (r : Fin 256) (e : Fin 1408) :
    k0_pay4 h w (ix2 r e) = ∑ k : Fin 1024, h (ix2 r k) * w (ix3 0 k e) := by
  pointwise! [k0_pay4, k0_pay1]

theorem pay5_ix (h : Vec Ideal S256x1024 .bf16) (w : Vec Ideal S1x1024x1408 .bf16) (r : Fin 256) (e : Fin 1408) :
    k0_pay5 h w (ix2 r e) = ∑ k : Fin 1024, h (ix2 r k) * w (ix3 0 k e) := by
  pointwise! [k0_pay5, k0_pay1]

/-- A chunk of the weight, loaded. -/
theorem chunk (X : Vec Ideal S4x1024x1408 .bf16) (j : Fin 4) (inb) (k : Fin 1024) (e : Fin 1408) :
    (View.ld X (Rect.unit (s := S4x1024x1408) ![(j : ℕ), 0, 0] ![1, 1024, 1408] inb) : Vec Ideal S1x1024x1408 .bf16) (ix3 0 k e) = X (ix3 j k e) :=
  View.ld_unit_apply_of X _ _ _ _ _ fun a => by fin_cases a <;> simp

/-- The kernel's result. -/
theorem final : (dats m 0 c).arrAt 2 (cfgs 0).N
    = fun j : S4096x5632.Idx => u (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  have hy : ((View.whole main_v4).slice (win0_2.rect t)).emb y = ix2 (row t (y 0)) (y 1) := by
    unfold row
    blk_ext [idx t]
  rw [hy]
  show _ = u _ _ (row t (y 0)) (y 1)
  frame_out
  canon_tiles y h
  case piece0 => exact piece m c t 3 _ _ _ rfl (pay5_ix _ _) (fun k e => chunk _ 3 _ k e) _ y h0 h1
  case piece1 => exact piece m c t 2 _ _ _ rfl (pay4_ix _ _) (fun k e => chunk _ 2 _ k e) _ y h0 h1
  case piece2 => exact piece m c t 1 _ _ _ rfl (pay3_ix _ _) (fun k e => chunk _ 1 _ k e) _ y h0 h1
  case piece3 => exact piece m c t 0 _ _ _ rfl (pay2_ix _ _) (fun k e => chunk _ 0 _ k e) _ y h0 (h1.trans (Nat.zero_add _).symm)

end Kernel

/-- The reference runs, leaves its arguments as they were, and its counters at zero. -/
theorem frame_reference : Cert.quiescent_Reference5Ideal := fun m ρ _ =>
  (θ_run Cert.Reference5Ideal.defs _ _).mono
    (fun r h => ⟨fun c => (h c).2, sem_eq_zero_of_no_sems rfl r.2⟩) (Cert.Reference5Ideal.Value.run (F := Ideal) m ρ)

/-- The reference's result. -/
theorem ref (H : FVec Ideal Cert.Reference5Ideal.S4096x1024 .f32) (W : FVec Ideal Cert.Reference5Ideal.S1024x5632 .f32)
    (j : Cert.Reference5Ideal.S4096x5632.Idx) :
    Host.dotGeneral Cert.Reference5Ideal.dot_S4096x1024_S1024x5632_S4096x5632_1_0_0_1_n_n none H W j = u H W (j 0) (j 1) := by
  unfold u
  pointwise

/-- The kernel computes the reference's product, over the extended reals, from any arguments. -/
theorem algebraic : Cert.algebraic_Kernel5Ideal_Reference5Ideal := by
  intro m g m' g' hp ha
  refine ⟨fun c => _,
    (θ_run Cert.Kernel5Ideal.defs _ _).mono (fun r h c => ⟨(h.1 c).1.trans (final m c), h.2.1 c⟩)
      (θ_run_and (Cert.Kernel5Ideal.Value.run_blocks m g) (Cert.Kernel5Ideal.Gen.frame m g)),
    (θ_run Cert.Reference5Ideal.defs _ _).mono (fun r h c => ?_)
      (θ_run_and (Cert.Reference5Ideal.Value.run (F := Ideal) m' g') (frame_reference m' g' trivial))⟩
  obtain ⟨e0, e1⟩ := ha c
  refine ⟨(h.1 c).1.trans ?_, h.2.1 c⟩
  rw [e0, e1]
  exact funext fun j => ref _ _ j

end Cert.UpProj

end
-- ==== Proof.Ffn.Spec.lean ====
/- What the convolution, the gated feed-forward block after it, the loss and their gradients compute, entry by entry, on the
   extended reals. -/
module

public import proofs.«01_k».proof.Proof.Conv.Spec

@[expose] public section

noncomputable section

namespace Cert.Ffn

open Idealize.ShloMosaic
open Cert.Conv (Mat row8)

variable (U : Mat 4096 5632) (W : Mat 3 5632) (B : Mat 1 5632) (D : Mat 2816 1024) (X : Mat 4096 1024) (T : Mat 4096 1024)

/-- The projection `k` rows further back, zero before the first row. -/
def behind (k : ℕ) (r : Fin 4096) (e : Fin 5632) : EReal := if k ≤ (r : ℕ) then U (ix2 ⟨r - k, by omega⟩ e) else 0

/-- The causal convolution of three taps, with its bias. -/
def conv (r : Fin 4096) (e : Fin 5632) : EReal :=
  B (ix2 0 e) + W (ix2 0 e) * behind U 2 r e + W (ix2 1 e) * behind U 1 r e + W (ix2 2 e) * U (ix2 r e)

/-- The logistic function. -/
def logi (a : EReal) : EReal :=
  Ideal.div 1 (1 + Ideal.exp (-a))

/-- The column `k` of the convolution's first half, which is the gate's. -/
def lo (k : Fin 2816) : Fin 5632 := ⟨k, by omega⟩

/-- The column `k` of the convolution's second half, which the gate multiplies. -/
def hi (k : Fin 2816) : Fin 5632 := ⟨2816 + k, by omega⟩

/-- The gated activations. -/
def act (r : Fin 4096) (k : Fin 2816) : EReal :=
  conv U W B r (lo k) * logi (conv U W B r (lo k)) * conv U W B r (hi k)

/-- The block's output less the target. -/
def err (r : Fin 4096) (i : Fin 1024) : EReal := X (ix2 r i) + (∑ k : Fin 2816, act U W B r k * D (ix2 k i)) - T (ix2 r i)

/-- The loss's gradient at the block's output. -/
def dy (r : Fin 4096) (i : Fin 1024) : EReal := err U W B D X T r i * Ideal.ofBits .f32 0x3A800000#32

/-- The gradient of the gated activations. -/
def df (r : Fin 4096) (k : Fin 2816) : EReal := ∑ i : Fin 1024, dy U W B D X T r i * D (ix2 k i)

/-- The gradient of the gate's columns. -/
def dlo (r : Fin 4096) (k : Fin 2816) : EReal :=
  df U W B D X T r k * conv U W B r (hi k) * (logi (conv U W B r (lo k))
    * (1 + conv U W B r (lo k) * (1 - logi (conv U W B r (lo k)))))

/-- The gradient of the columns that the gate multiplies. -/
def dhi (r : Fin 4096) (k : Fin 2816) : EReal :=
  df U W B D X T r k * (conv U W B r (lo k) * logi (conv U W B r (lo k)))

/-- The gradient of the convolution's output. -/
def dc (r : Fin 4096) (e : Fin 5632) : EReal :=
  if h : (e : ℕ) < 2816 then dlo U W B D X T r ⟨e, h⟩ else dhi U W B D X T r ⟨e - 2816, by omega⟩

/-- The partial sums of the squared errors: one for each row residue modulo 8. -/
def loss (s : Fin 8) (i : Fin 1024) : EReal :=
  ∑ a : Fin 512, err U W B D X T (row8 a s) i * err U W B D X T (row8 a s) i

end Cert.Ffn

end
-- ==== Proof.Ffn.KerBlk.lean ====
/- What the kernel reads at a grid point: every block, entry by entry, in the arguments. -/
module

public import proofs.«01_k».proof.Proof.Ffn.Spec
public import proofs.«01_k».proof.Proof.Gen.Kernel6Ideal.Value

@[expose] public section

set_option maxRecDepth 16384

noncomputable section

namespace Cert.Ffn

open Cert.Kernel6Ideal Cert.Kernel6Ideal.Gen Idealize.ShloMosaic Idealize.ShloMosaic.TcCoe Idealize.SL.Sem
open Idealize.ShloMosaic.Pipeline (Dat)
open Cert.Conv (Mat)

variable (m : (ℓ : Loc nD τ sig) → Buf (Elt Ideal) ℓ)

/-- Row `r` of block `t`. -/
def row (t : Fin cfg0.N) (r : Fin 256) : Fin 4096 := ⟨t.val * 256 + r, by have h : t.val < 16 := N_0 ▸ t.isLt; omega⟩

/-- Column `e` of the `j`-th chip's chunk. -/
def col (j : Fin 4) (e : Fin 1408) : Fin 5632 := ⟨j * 1408 + e, by omega⟩

/-- Every window's block index at every grid point. -/
theorem idx : ∀ t : Fin cfg0.N, win0_0.index t = ![t.val, 0] ∧ win0_1.index t = ![32 * t.val - 1, 0]
    ∧ win0_2.index t = ![0, 0, 0] ∧ win0_3.index t = ![0, 0] ∧ win0_4.index t = ![0, 0]
    ∧ win0_5.index t = ![0, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![0, 0] :=
  (by decide +kernel : ∀ t : Fin grid0.N, _)

/-- The grid's one coordinate is the point's number. -/
theorem coord : ∀ t : Fin cfg0.N, (grid0.coords t 0).val = t.val := (by decide +kernel : ∀ t : Fin grid0.N, _)

variable (c : Dev nD) (t : Fin cfg0.N)

abbrev aU : Mat 4096 5632 := m ((c : Thread nD τ).loc main_arg0)
abbrev aW : Mat 3 5632 := m ((c : Thread nD τ).loc main_arg1)
abbrev aB : Mat 1 5632 := m ((c : Thread nD τ).loc main_arg2)
abbrev aD : Mat 2816 1024 := m ((c : Thread nD τ).loc main_arg3)
abbrev aX : Mat 4096 1024 := m ((c : Thread nD τ).loc main_arg4)
abbrev aT : Mat 4096 1024 := m ((c : Thread nD τ).loc main_arg5)

/-- The projection's block. -/
theorem b0 (r : Fin 256) (e : Fin 5632) : (iblk m c 0 t : Vec Ideal S256x5632 .f32) (ix2 r e) = aU m c (ix2 (row t r) e) := by
  blk_simp [iblk, V, idx t]
  blk_ext [idx t]
  rfl

/-- The rows before the block: the last ones of the block before, zero before the first block. -/
theorem b1 (q : Fin 8) (e : Fin 5632) :
    k0_pay6 (grid0.coords t) (iblk m c 1 t) (ix2 q e) = behind (aU m c) (8 - q) (row t 0) e := by
  have ht : t.val < 16 := N_0 ▸ t.isLt
  pointwise [k0_pay6]
  unfold behind
  by_cases h : 0 < t.val
  · rw [if_pos (by simp [row]; omega)]
    have h2 : Scalar.cmpi CmpIPredicate.sgt (BitVec.ofNat 32 ↑(grid0.coords t 0)) 0#32 = 1#1 := by
      rw [coord]
      interval_cases t.val <;> first | rfl | omega
    rw [h2]
    show iblk m c 1 t (ix2 q e) = _
    blk_simp [iblk, V, idx t]
    blk_ext [idx t]
    · simp [row]; omega
  · rw [if_neg (by simp [row]; omega)]
    have h2 : Scalar.cmpi CmpIPredicate.sgt (BitVec.ofNat 32 ↑(grid0.coords t 0)) 0#32 = 0#1 := by
      rw [coord, show t.val = 0 by omega]
      rfl
    rw [h2]
    rfl

/-- The convolution's taps, one chunk of columns after the other. -/
theorem b2 (j : Fin 4) (k : Fin 3) (e : Fin 1408) :
    (iblk m c 2 t : Vec Ideal S4x3x1408 .f32) (ix3 j k e) = aW m c (ix2 k (col j e)) := by
  blk_simp [iblk, idx t]
  entry_read
  have h : ((View.whole main_v2).slice (win0_2.rect t)).emb (ix3 j k e) = ix3 j k e := by
    blk_ext [idx t]
  rw [h]
  pointwise
  rfl

/-- The bias. -/
theorem b3 (e : Fin 5632) : (iblk m c 3 t : Vec Ideal S1x5632 .f32) (ix2 0 e) = aB m c (ix2 0 e) := by
  blk_simp [iblk, V, idx t]
  blk_ext [idx t]

/-- The down projection's weight. -/
theorem b4 (k : Fin 2816) (i : Fin 1024) : (iblk m c 4 t : Vec Ideal S2816x1024 .bf16) (ix2 k i) = aD m c (ix2 k i) := by
  blk_simp [iblk, idx t]
  entry_read
  have h : ((View.whole main_v0).slice (win0_4.rect t)).emb (ix2 k i) = ix2 k i := by
    blk_ext [idx t]
  rw [h]
  pointwise

/-- The same weight, transposed. -/
theorem b5 (i : Fin 1024) (k : Fin 2816) : (iblk m c 5 t : Vec Ideal S1024x2816 .bf16) (ix2 i k) = aD m c (ix2 k i) := by
  blk_simp [iblk, idx t]
  entry_read
  have h : ((View.whole main_v3).slice (win0_5.rect t)).emb (ix2 i k) = ix2 i k := by
    blk_ext [idx t]
  rw [h]
  pointwise

/-- The rows of the residual. -/
theorem b6 (r : Fin 256) (i : Fin 1024) : (iblk m c 6 t : Vec Ideal S256x1024 .f32) (ix2 r i) = aX m c (ix2 (row t r) i) := by
  blk_simp [iblk, V, idx t]
  blk_ext [idx t]
  rfl

/-- The rows of the target. -/
theorem b7 (r : Fin 256) (i : Fin 1024) : (iblk m c 7 t : Vec Ideal S256x1024 .f32) (ix2 r i) = aT m c (ix2 (row t r) i) := by
  blk_simp [iblk, V, idx t]
  blk_ext [idx t]
  rfl

/-- A chunk of columns, loaded. -/
theorem ld_col {n : ℕ} {el : EltTy} (X : Vec Ideal (⟨2, ![n, 5632]⟩ : Shape) el) (j : Fin 4) (o : ℕ) (ho : o = j * 1408) (inb) (r : Fin n) (e : Fin 1408) :
    (View.ld X (Rect.unit (s := ⟨2, ![n, 5632]⟩) ![0, o] ![n, 1408] inb) : Vec Ideal (⟨2, ![n, 1408]⟩ : Shape) el) (ix2 r e) = X (ix2 r (col j e)) :=
  View.ld_unit_apply_of X _ _ _ _ _ fun a => by fin_cases a <;> simp [col, ho]

/-- A tap's chunk of columns, loaded. -/
theorem ld_tap (X : Vec Ideal S4x3x1408 .f32) (j : Fin 4) (k : Fin 3) (inb) (e : Fin 1408) :
    (View.ld X (Rect.unit (s := S4x3x1408) ![(j : ℕ), (k : ℕ), 0] ![1, 1, 1408] inb) : Vec Ideal S1x1x1408 .f32) (ix3 0 0 e) = X (ix3 j k e) :=
  View.ld_unit_apply_of X _ _ _ _ _ fun a => by fin_cases a <;> simp

end Cert.Ffn

end
-- ==== Proof.Ffn.KerConv.lean ====
/- The causal convolution that the kernel computes at a grid point, one chip's columns after the other. -/
module

public import proofs.«01_k».proof.Proof.Ffn.KerBlk

@[expose] public section

set_option maxRecDepth 16384

noncomputable section

namespace Cert.Ffn

open Cert.Kernel6Ideal Cert.Kernel6Ideal.Gen Idealize.ShloMosaic Idealize.ShloMosaic.TcCoe Idealize.SL.Sem
open Idealize.ShloMosaic.Pipeline (Dat)
open Cert.Conv (Mat)

/-- A select on a row number. -/
theorem sel_row (n : ℕ) (hn : n < 8) (k : ℕ) (hk : k < 8) (a b : EReal) :
    Scalar.select (IntOp.cmpi CmpIPredicate.eq (BitVec.ofNat 32 n) (BitVec.ofNat 32 k)) a b = if n = k then a else b := by
  interval_cases n <;> interval_cases k <;> rfl

variable (t : Fin cfg0.N)

/-- One row back: the block's own rows, and before them the row before the block. -/
theorem shift1 (U : Mat 4096 5632) (V : Vec Ideal S256x1408 .f32) (H : EReal) (r : Fin 256) (e : Fin 1408) (k : Fin 5632)
    (hV : ∀ r, V (ix2 r e) = U (ix2 (row t r) k)) (hH : H = behind U 1 (row t 0) k) :
    (if _ : (r : ℕ) < 8 then Scalar.select (IntOp.cmpi CmpIPredicate.eq (BitVec.ofNat 32 (r : ℕ)) 0#32) H
        (V (ix2 ⟨((r : ℕ) + 256 - 1) % 256, Nat.mod_lt _ (by norm_num)⟩ e))
      else V (ix2 ⟨(8 + ((r : ℕ) - 8) + 256 - 1) % 256, Nat.mod_lt _ (by norm_num)⟩ e)) = behind U 1 (row t r) k := by
  have ht : t.val < 16 := N_0 ▸ t.isLt
  split_ifs with h1
  · rw [sel_row _ (by omega) 0 (by omega)]
    split_ifs with h2
    · rw [hH, show r = 0 from Fin.ext (by simp; omega)]
    · rw [hV, behind, if_pos (by simp [row]; omega)]
      exact congrArg (fun s => U (ix2 s k)) (Fin.ext (by simp [row]; omega))
  · rw [hV, behind, if_pos (by simp [row]; omega)]
    exact congrArg (fun s => U (ix2 s k)) (Fin.ext (by simp [row]; omega))

/-- Two rows back. -/
theorem shift2 (U : Mat 4096 5632) (V : Vec Ideal S256x1408 .f32) (H H' : EReal) (r : Fin 256) (e : Fin 1408) (k : Fin 5632)
    (hV : ∀ r, V (ix2 r e) = U (ix2 (row t r) k)) (hH : H = behind U 1 (row t 0) k) (hH' : H' = behind U 2 (row t 0) k) :
    (if _ : (r : ℕ) < 8 then Scalar.select (IntOp.cmpi CmpIPredicate.eq (BitVec.ofNat 32 (r : ℕ)) 1#32) H
        (Scalar.select (IntOp.cmpi CmpIPredicate.eq (BitVec.ofNat 32 (r : ℕ)) 0#32) H'
          (V (ix2 ⟨((r : ℕ) + 256 - 2) % 256, Nat.mod_lt _ (by norm_num)⟩ e)))
      else V (ix2 ⟨(8 + ((r : ℕ) - 8) + 256 - 2) % 256, Nat.mod_lt _ (by norm_num)⟩ e)) = behind U 2 (row t r) k := by
  have ht : t.val < 16 := N_0 ▸ t.isLt
  split_ifs with h1
  · rw [sel_row _ (by omega) 1 (by omega), sel_row _ (by omega) 0 (by omega)]
    split_ifs with h2 h3
    · rw [hH, show r = 1 from Fin.ext (by simp; omega), behind, behind]
      have e1 : (1 ≤ ((row t 0 : Fin 4096) : ℕ)) = (2 ≤ ((row t 1 : Fin 4096) : ℕ)) := by
        apply propext; simp [row]
      simp only [e1]
      split_ifs with h4
      · exact congrArg (fun s => U (ix2 s k)) (Fin.ext (by simp [row]))
      · rfl
    · rw [hH', show r = 0 from Fin.ext (by simp; omega)]
    · rw [hV, behind, if_pos (by simp [row]; omega)]
      exact congrArg (fun s => U (ix2 s k)) (Fin.ext (by simp [row]; omega))
  · rw [hV, behind, if_pos (by simp [row]; omega)]
    exact congrArg (fun s => U (ix2 s k)) (Fin.ext (by simp [row]; omega))

variable (m : (ℓ : Loc nD τ sig) → Buf (Elt Ideal) ℓ) (c : Dev nD)

/-- Chunk 0 of the convolution, from any block, rows before it, taps and bias. -/
theorem chunk0 (U : Mat 4096 5632) (W : Mat 3 5632) (B : Mat 1 5632) (i : grid0.Coords) (v1 : Vec Ideal S8x5632 .f32)
    (V : Vec Ideal S256x1408 .f32) (b : Vec Ideal S1x1408 .f32) (w0 w1 w2 : Vec Ideal S1x1x1408 .f32) (r : Fin 256) (e : Fin 1408)
    (hV : ∀ r, V (ix2 r e) = U (ix2 (row t r) (col 0 e)))
    (hH : ∀ (q : Fin 8) (k : Fin 5632), k = col 0 e → k0_pay6 i v1 (ix2 q k) = behind U (8 - q) (row t 0) (col 0 e))
    (hb : b (ix2 0 e) = B (ix2 0 (col 0 e))) (h0 : w0 (ix3 0 0 e) = W (ix2 0 (col 0 e))) (h1 : w1 (ix3 0 0 e) = W (ix2 1 (col 0 e)))
    (h2 : w2 (ix3 0 0 e) = W (ix2 2 (col 0 e))) :
    k0_pay14 V (k0_pay8 i v1 V b w0) (k0_pay9 w1) (k0_pay10 V) (k0_pay11 V) k0_pay12 (k0_pay13 i v1) w2 (ix2 r e)
      = conv U W B (row t r) (col 0 e) := by
  pointwise [k0_pay14, k0_pay8, k0_pay9, k0_pay10, k0_pay11, k0_pay12, k0_pay13, k0_pay7]
  rw [hb, h0, h1, h2, hV r]
  unfold conv
  have e7 := hH 7 ⟨e, by omega⟩ (Fin.ext (by simp [col]))
  have e6 := hH 6 ⟨e, by omega⟩ (Fin.ext (by simp [col]))
  refine congrArg₂ (HAdd.hAdd : EReal → EReal → EReal) (congrArg₂ (HAdd.hAdd : EReal → EReal → EReal) (congrArg (B (ix2 0 (col 0 e)) + ·)
    (congrArg (W (ix2 0 (col 0 e)) * ·) ?_)) (congrArg (W (ix2 1 (col 0 e)) * ·) ?_)) rfl
  · exact shift2 t U V _ _ r e (col 0 e) hV e7 e6
  · exact shift1 t U V _ r e (col 0 e) hV e7

/-- Chunk 0 of the convolution's output at a grid point. -/
abbrev c0 : FVec Ideal S256x1408 .f32 :=
  k0_pay14 (View.ld (iblk m c 0 t) (Rect.unit ![0, 0] ![256, 1408] inb_S256x5632_S256x1408_0_0)) (k0_pay8 (grid0.coords t) (iblk m c 1 t) (View.ld (iblk m c 0 t) (Rect.unit ![0, 0] ![256, 1408] inb_S256x5632_S256x1408_0_0)) (View.ld (iblk m c 3 t) (Rect.unit ![0, 0] ![1, 1408] inb_S1x5632_S1x1408_0_0)) (View.ld (iblk m c 2 t) (Rect.unit ![0, 0, 0] ![1, 1, 1408] inb_S4x3x1408_S1x1x1408_0_0_0))) (k0_pay9 (View.ld (iblk m c 2 t) (Rect.unit ![0, 1, 0] ![1, 1, 1408] inb_S4x3x1408_S1x1x1408_0_1_0))) (k0_pay10 (View.ld (iblk m c 0 t) (Rect.unit ![0, 0] ![256, 1408] inb_S256x5632_S256x1408_0_0))) (k0_pay11 (View.ld (iblk m c 0 t) (Rect.unit ![0, 0] ![256, 1408] inb_S256x5632_S256x1408_0_0))) k0_pay12 (k0_pay13 (grid0.coords t) (iblk m c 1 t)) (View.ld (iblk m c 2 t) (Rect.unit ![0, 2, 0] ![1, 1, 1408] inb_S4x3x1408_S1x1x1408_0_2_0))

theorem c0_apply (r : Fin 256) (e : Fin 1408) :
    c0 t m c (ix2 r e) = conv (aU m c) (aW m c) (aB m c) (row t r) (col 0 e) :=
  chunk0 t (aU m c) (aW m c) (aB m c) _ _ _ _ _ _ _ r e (fun r => (ld_col _ 0 0 rfl _ r e).trans (b0 m c t r _))
    (fun q k hk => hk ▸ b1 m c t q _) ((ld_col _ 0 0 rfl _ 0 e).trans (b3 m c t _))
    ((ld_tap _ 0 0 _ e).trans (b2 m c t 0 0 e)) ((ld_tap _ 0 1 _ e).trans (b2 m c t 0 1 e))
    ((ld_tap _ 0 2 _ e).trans (b2 m c t 0 2 e))

/-- Chunk 1 of the convolution, from any block, rows before it, taps and bias. -/
theorem chunk1 (U : Mat 4096 5632) (W : Mat 3 5632) (B : Mat 1 5632) (i : grid0.Coords) (v1 : Vec Ideal S8x5632 .f32)
    (V : Vec Ideal S256x1408 .f32) (b : Vec Ideal S1x1408 .f32) (w0 w1 w2 : Vec Ideal S1x1x1408 .f32) (r : Fin 256) (e : Fin 1408)
    (hV : ∀ r, V (ix2 r e) = U (ix2 (row t r) (col 1 e)))
    (hH : ∀ (q : Fin 8) (k : Fin 5632), k = col 1 e → k0_pay6 i v1 (ix2 q k) = behind U (8 - q) (row t 0) (col 1 e))
    (hb : b (ix2 0 e) = B (ix2 0 (col 1 e))) (h0 : w0 (ix3 0 0 e) = W (ix2 0 (col 1 e))) (h1 : w1 (ix3 0 0 e) = W (ix2 1 (col 1 e)))
    (h2 : w2 (ix3 0 0 e) = W (ix2 2 (col 1 e))) :
    k0_pay17 V (k0_pay15 (k0_pay6 i v1)) (k0_pay16 (k0_pay6 i v1) V b w0) w1 w2 (ix2 r e)
      = conv U W B (row t r) (col 1 e) := by
  pointwise [k0_pay17, k0_pay15, k0_pay16]
  rw [hb, h0, h1, h2, hV r]
  unfold conv
  have e7 := hH 7 ⟨1408 + e, by omega⟩ (Fin.ext (by simp [col]))
  have e6 := hH 6 ⟨1408 + e, by omega⟩ (Fin.ext (by simp [col]))
  refine congrArg₂ (HAdd.hAdd : EReal → EReal → EReal) (congrArg₂ (HAdd.hAdd : EReal → EReal → EReal) (congrArg (B (ix2 0 (col 1 e)) + ·)
    (congrArg (W (ix2 0 (col 1 e)) * ·) ?_)) (congrArg (W (ix2 1 (col 1 e)) * ·) ?_)) rfl
  · exact shift2 t U V _ _ r e (col 1 e) hV e7 e6
  · exact shift1 t U V _ r e (col 1 e) hV e7

/-- Chunk 1 of the convolution's output at a grid point. -/
abbrev c1 : FVec Ideal S256x1408 .f32 :=
  k0_pay17 (View.ld (iblk m c 0 t) (Rect.unit ![0, 1408] ![256, 1408] inb_S256x5632_S256x1408_0_1408)) (k0_pay15 (k0_pay6 (grid0.coords t) (iblk m c 1 t))) (k0_pay16 (k0_pay6 (grid0.coords t) (iblk m c 1 t)) (View.ld (iblk m c 0 t) (Rect.unit ![0, 1408] ![256, 1408] inb_S256x5632_S256x1408_0_1408)) (View.ld (iblk m c 3 t) (Rect.unit ![0, 1408] ![1, 1408] inb_S1x5632_S1x1408_0_1408)) (View.ld (iblk m c 2 t) (Rect.unit ![1, 0, 0] ![1, 1, 1408] inb_S4x3x1408_S1x1x1408_1_0_0))) (View.ld (iblk m c 2 t) (Rect.unit ![1, 1, 0] ![1, 1, 1408] inb_S4x3x1408_S1x1x1408_1_1_0)) (View.ld (iblk m c 2 t) (Rect.unit ![1, 2, 0] ![1, 1, 1408] inb_S4x3x1408_S1x1x1408_1_2_0))

theorem c1_apply (r : Fin 256) (e : Fin 1408) :
    c1 t m c (ix2 r e) = conv (aU m c) (aW m c) (aB m c) (row t r) (col 1 e) :=
  chunk1 t (aU m c) (aW m c) (aB m c) _ _ _ _ _ _ _ r e (fun r => (ld_col _ 1 1408 rfl _ r e).trans (b0 m c t r _))
    (fun q k hk => hk ▸ b1 m c t q _) ((ld_col _ 1 1408 rfl _ 0 e).trans (b3 m c t _))
    ((ld_tap _ 1 0 _ e).trans (b2 m c t 1 0 e)) ((ld_tap _ 1 1 _ e).trans (b2 m c t 1 1 e))
    ((ld_tap _ 1 2 _ e).trans (b2 m c t 1 2 e))

/-- Chunk 2 of the convolution, from any block, rows before it, taps and bias. -/
theorem chunk2 (U : Mat 4096 5632) (W : Mat 3 5632) (B : Mat 1 5632) (i : grid0.Coords) (v1 : Vec Ideal S8x5632 .f32)
    (V : Vec Ideal S256x1408 .f32) (b : Vec Ideal S1x1408 .f32) (w0 w1 w2 : Vec Ideal S1x1x1408 .f32) (r : Fin 256) (e : Fin 1408)
    (hV : ∀ r, V (ix2 r e) = U (ix2 (row t r) (col 2 e)))
    (hH : ∀ (q : Fin 8) (k : Fin 5632), k = col 2 e → k0_pay6 i v1 (ix2 q k) = behind U (8 - q) (row t 0) (col 2 e))
    (hb : b (ix2 0 e) = B (ix2 0 (col 2 e))) (h0 : w0 (ix3 0 0 e) = W (ix2 0 (col 2 e))) (h1 : w1 (ix3 0 0 e) = W (ix2 1 (col 2 e)))
    (h2 : w2 (ix3 0 0 e) = W (ix2 2 (col 2 e))) :
    k0_pay24 V (k0_pay18 (k0_pay6 i v1)) b (k0_pay19 w0) (k0_pay20 V) (k0_pay21 (k0_pay6 i v1) V) k0_pay22 (k0_pay23 (k0_pay6 i v1)) w1 w2 (ix2 r e)
      = conv U W B (row t r) (col 2 e) := by
  pointwise [k0_pay24, k0_pay18, k0_pay19, k0_pay20, k0_pay21, k0_pay22, k0_pay23]
  rw [hb, h0, h1, h2, hV r]
  unfold conv
  have e7 := hH 7 ⟨2816 + e, by omega⟩ (Fin.ext (by simp [col]))
  have e6 := hH 6 ⟨2816 + e, by omega⟩ (Fin.ext (by simp [col]))
  refine congrArg₂ (HAdd.hAdd : EReal → EReal → EReal) (congrArg₂ (HAdd.hAdd : EReal → EReal → EReal) (congrArg (B (ix2 0 (col 2 e)) + ·)
    (congrArg (W (ix2 0 (col 2 e)) * ·) ?_)) (congrArg (W (ix2 1 (col 2 e)) * ·) ?_)) rfl
  · exact shift2 t U V _ _ r e (col 2 e) hV e7 e6
  · exact shift1 t U V _ r e (col 2 e) hV e7

/-- Chunk 2 of the convolution's output at a grid point. -/
abbrev c2 : FVec Ideal S256x1408 .f32 :=
  k0_pay24 (View.ld (iblk m c 0 t) (Rect.unit ![0, 2816] ![256, 1408] inb_S256x5632_S256x1408_0_2816)) (k0_pay18 (k0_pay6 (grid0.coords t) (iblk m c 1 t))) (View.ld (iblk m c 3 t) (Rect.unit ![0, 2816] ![1, 1408] inb_S1x5632_S1x1408_0_2816)) (k0_pay19 (View.ld (iblk m c 2 t) (Rect.unit ![2, 0, 0] ![1, 1, 1408] inb_S4x3x1408_S1x1x1408_2_0_0))) (k0_pay20 (View.ld (iblk m c 0 t) (Rect.unit ![0, 2816] ![256, 1408] inb_S256x5632_S256x1408_0_2816))) (k0_pay21 (k0_pay6 (grid0.coords t) (iblk m c 1 t)) (View.ld (iblk m c 0 t) (Rect.unit ![0, 2816] ![256, 1408] inb_S256x5632_S256x1408_0_2816))) k0_pay22 (k0_pay23 (k0_pay6 (grid0.coords t) (iblk m c 1 t))) (View.ld (iblk m c 2 t) (Rect.unit ![2, 1, 0] ![1, 1, 1408] inb_S4x3x1408_S1x1x1408_2_1_0)) (View.ld (iblk m c 2 t) (Rect.unit ![2, 2, 0] ![1, 1, 1408] inb_S4x3x1408_S1x1x1408_2_2_0))

theorem c2_apply (r : Fin 256) (e : Fin 1408) :
    c2 t m c (ix2 r e) = conv (aU m c) (aW m c) (aB m c) (row t r) (col 2 e) :=
  chunk2 t (aU m c) (aW m c) (aB m c) _ _ _ _ _ _ _ r e (fun r => (ld_col _ 2 2816 rfl _ r e).trans (b0 m c t r _))
    (fun q k hk => hk ▸ b1 m c t q _) ((ld_col _ 2 2816 rfl _ 0 e).trans (b3 m c t _))
    ((ld_tap _ 2 0 _ e).trans (b2 m c t 2 0 e)) ((ld_tap _ 2 1 _ e).trans (b2 m c t 2 1 e))
    ((ld_tap _ 2 2 _ e).trans (b2 m c t 2 2 e))

/-- Chunk 3 of the convolution, from any block, rows before it, taps and bias. -/
theorem chunk3 (U : Mat 4096 5632) (W : Mat 3 5632) (B : Mat 1 5632) (i : grid0.Coords) (v1 : Vec Ideal S8x5632 .f32)
    (V : Vec Ideal S256x1408 .f32) (b : Vec Ideal S1x1408 .f32) (w0 w1 w2 : Vec Ideal S1x1x1408 .f32) (r : Fin 256) (e : Fin 1408)
    (hV : ∀ r, V (ix2 r e) = U (ix2 (row t r) (col 3 e)))
    (hH : ∀ (q : Fin 8) (k : Fin 5632), k = col 3 e → k0_pay6 i v1 (ix2 q k) = behind U (8 - q) (row t 0) (col 3 e))
    (hb : b (ix2 0 e) = B (ix2 0 (col 3 e))) (h0 : w0 (ix3 0 0 e) = W (ix2 0 (col 3 e))) (h1 : w1 (ix3 0 0 e) = W (ix2 1 (col 3 e)))
    (h2 : w2 (ix3 0 0 e) = W (ix2 2 (col 3 e))) :
    k0_pay30 V (k0_pay25 (k0_pay6 i v1)) b (k0_pay26 w0) (k0_pay27 V) (iota .tc S8x1408 32 [0] iota_S8x1408_d0_w32) (k0_pay28 V) k0_pay29 w1 w2 (ix2 r e)
      = conv U W B (row t r) (col 3 e) := by
  pointwise [k0_pay30, k0_pay25, k0_pay26, k0_pay27, k0_pay28, k0_pay29]
  rw [hb, h0, h1, h2, hV r]
  unfold conv
  have e7 := hH 7 ⟨4224 + e, by omega⟩ (Fin.ext (by simp [col]))
  have e6 := hH 6 ⟨4224 + e, by omega⟩ (Fin.ext (by simp [col]))
  refine congrArg₂ (HAdd.hAdd : EReal → EReal → EReal) (congrArg₂ (HAdd.hAdd : EReal → EReal → EReal) (congrArg (B (ix2 0 (col 3 e)) + ·)
    (congrArg (W (ix2 0 (col 3 e)) * ·) ?_)) (congrArg (W (ix2 1 (col 3 e)) * ·) ?_)) rfl
  · exact shift2 t U V _ _ r e (col 3 e) hV e7 e6
  · exact shift1 t U V _ r e (col 3 e) hV e7

/-- Chunk 3 of the convolution's output at a grid point. -/
abbrev c3 : FVec Ideal S256x1408 .f32 :=
  k0_pay30 (View.ld (iblk m c 0 t) (Rect.unit ![0, 4224] ![256, 1408] inb_S256x5632_S256x1408_0_4224)) (k0_pay25 (k0_pay6 (grid0.coords t) (iblk m c 1 t))) (View.ld (iblk m c 3 t) (Rect.unit ![0, 4224] ![1, 1408] inb_S1x5632_S1x1408_0_4224)) (k0_pay26 (View.ld (iblk m c 2 t) (Rect.unit ![3, 0, 0] ![1, 1, 1408] inb_S4x3x1408_S1x1x1408_3_0_0))) (k0_pay27 (View.ld (iblk m c 0 t) (Rect.unit ![0, 4224] ![256, 1408] inb_S256x5632_S256x1408_0_4224))) (iota .tc S8x1408 32 [0] iota_S8x1408_d0_w32) (k0_pay28 (View.ld (iblk m c 0 t) (Rect.unit ![0, 4224] ![256, 1408] inb_S256x5632_S256x1408_0_4224))) k0_pay29 (View.ld (iblk m c 2 t) (Rect.unit ![3, 1, 0] ![1, 1, 1408] inb_S4x3x1408_S1x1x1408_3_1_0)) (View.ld (iblk m c 2 t) (Rect.unit ![3, 2, 0] ![1, 1, 1408] inb_S4x3x1408_S1x1x1408_3_2_0))

theorem c3_apply (r : Fin 256) (e : Fin 1408) :
    c3 t m c (ix2 r e) = conv (aU m c) (aW m c) (aB m c) (row t r) (col 3 e) :=
  chunk3 t (aU m c) (aW m c) (aB m c) _ _ _ _ _ _ _ r e (fun r => (ld_col _ 3 4224 rfl _ r e).trans (b0 m c t r _))
    (fun q k hk => hk ▸ b1 m c t q _) ((ld_col _ 3 4224 rfl _ 0 e).trans (b3 m c t _))
    ((ld_tap _ 3 0 _ e).trans (b2 m c t 3 0 e)) ((ld_tap _ 3 1 _ e).trans (b2 m c t 3 1 e))
    ((ld_tap _ 3 2 _ e).trans (b2 m c t 3 2 e))

end Cert.Ffn

end
-- ==== Proof.Ffn.KerF.lean ====
/- The gated activations at a grid point, and everything the kernel computes of them there. -/
module

public import proofs.«01_k».proof.Proof.Ffn.KerConv

@[expose] public section

set_option maxRecDepth 16384

noncomputable section

namespace Cert.Ffn

open Cert.Kernel6Ideal Cert.Kernel6Ideal.Gen Idealize.ShloMosaic Idealize.ShloMosaic.TcCoe Idealize.SL.Sem
open Idealize.ShloMosaic.Pipeline (Dat)
open Cert.Conv (Mat)

/-- Column `e` of the first or second chunk of the gate. -/
def ck (j : Fin 2) (e : Fin 1408) : Fin 2816 := ⟨j * 1408 + e, by omega⟩

theorem col_lo0 (e : Fin 1408) : col 0 e = lo (ck 0 e) := rfl
theorem col_lo1 (e : Fin 1408) : col 1 e = lo (ck 1 e) := rfl
theorem col_hi0 (e : Fin 1408) : col 2 e = hi (ck 0 e) := Fin.ext (by simp [col, hi, ck])
theorem col_hi1 (e : Fin 1408) : col 3 e = hi (ck 1 e) := Fin.ext (by simp [col, hi, ck]; omega)

/-- The logistic function of a chunk. -/
theorem pay32 (X : FVec Ideal S256x1408 .f32) (r : Fin 256) (e : Fin 1408) :
    k0_pay32 (F := Ideal) X (FloatOps.ofBits .f32 0#32) (ix2 r e) = logi (X (ix2 r e)) := by
  pointwise [k0_pay32, k0_pay31]
  rw [zero_sub]
  rfl

theorem pay35 (X : FVec Ideal S256x1408 .f32) (r : Fin 256) (e : Fin 1408) : k0_pay35 (F := Ideal) X (ix2 r e) = logi (X (ix2 r e)) := by
  pointwise [k0_pay35, k0_pay34]
  rw [zero_sub]
  rfl

/-- The gated activations of a chunk. -/
theorem pay33 (X Y : FVec Ideal S256x1408 .f32) (r : Fin 256) (e : Fin 1408) :
    k0_pay33 (F := Ideal) X Y (FloatOps.ofBits .f32 0#32) (ix2 r e) = X (ix2 r e) * logi (X (ix2 r e)) * Y (ix2 r e) := by
  pointwise [k0_pay33, k0_pay31]
  rw [zero_sub]
  rfl

theorem pay36 (X Y : FVec Ideal S256x1408 .f32) (r : Fin 256) (e : Fin 1408) :
    k0_pay36 (F := Ideal) X Y (ix2 r e) = X (ix2 r e) * logi (X (ix2 r e)) * Y (ix2 r e) := by
  pointwise [k0_pay36, k0_pay34]
  rw [zero_sub]
  rfl

variable (t : Fin cfg0.N) (m : (ℓ : Loc nD τ sig) → Buf (Elt Ideal) ℓ) (c : Dev nD)

/-- The two chunks of the gated activations, read back whole. -/
abbrev fw : Vec Ideal S256x2816 .bf16 :=
  (View.whole cc0_scratch1 : View sig .tc .vmem S256x2816 .bf16).readCov (Val := Elt Ideal)
    [⟨Rect.unit ![0, 1408] ![256, 1408] inb_S256x2816_S256x1408_0_1408, k0_pay36 (F := Ideal) (c1 t m c) (c3 t m c)⟩,
      ⟨Rect.unit ![0, 0] ![256, 1408] inb_S256x2816_S256x1408_0_0, k0_pay33 (F := Ideal) (c0 t m c) (c2 t m c) (FloatOps.ofBits .f32 0#32)⟩]
    (Rect.unit (s := S256x2816) ![0, 0] ![256, 2816] inb_S256x2816_S256x2816_0_0).toLoadRect

theorem f0_apply (r : Fin 256) (e : Fin 1408) : k0_pay33 (F := Ideal) (c0 t m c) (c2 t m c) (FloatOps.ofBits .f32 0#32) (ix2 r e)
    = act (aU m c) (aW m c) (aB m c) (row t r) (ck 0 e) := by
  have e0 := c0_apply t m c r e
  have e2 := c2_apply t m c r e
  rw [pay33, e0, e2, col_lo0, col_hi0]
  rfl

theorem f1_apply (r : Fin 256) (e : Fin 1408) : k0_pay36 (F := Ideal) (c1 t m c) (c3 t m c) (ix2 r e)
    = act (aU m c) (aW m c) (aB m c) (row t r) (ck 1 e) := by
  have e1 := c1_apply t m c r e
  have e3 := c3_apply t m c r e
  rw [pay36, e1, e3, col_lo1, col_hi1]
  rfl

/-- A chunk's piece of the activations. -/
theorem fw_piece (j : Fin 2) (o : ℕ) (ho : o = j * 1408) (P : Vec Ideal S256x1408 .bf16)
    (hP : ∀ r e, P (ix2 r e) = act (aU m c) (aW m c) (aB m c) (row t r) (ck j e)) (y : S256x2816.Idx) (z : S256x1408.Idx)
    (h0 : (y 0 : ℕ) = z 0) (h1 : (y 1 : ℕ) = o + z 1) : P z = act (aU m c) (aW m c) (aB m c) (row t (y 0)) (y 1) := by
  have hz : z = ix2 (z 0) (z 1) := by
    funext d
    fin_cases d <;> rfl
  have e0 : y 0 = z 0 := Fin.ext h0
  have e1 : y 1 = ck j (z 1) := Fin.ext (h1.trans (congrArg (· + (z 1 : ℕ)) ho))
  rw [e0, e1, hz]
  exact hP _ _

/-- A whole array read back is what its stores left. -/
theorem readCov_whole {sg : RefSig} {κ : Kind} {sp : Space} {S : Shape} {el : EltTy} (v : View sg κ sp S el) (L : List (View.Piece (Elt Ideal) S el))
    {off : Fin S.rank → ℕ} (inb : ∀ a, off a + S.size a ≤ S.size a) (y : S.Idx) :
    v.readCov L (Rect.unit off S.size inb).toLoadRect y = View.canon L y := by
  rw [View.readCov_eq_canon']
  refine congrArg (View.canon L) (funext fun a => Fin.ext ?_)
  have h := inb a
  simp [LoadRect.idx, Rect.unit, Rect.toLoadRect]
  omega

theorem fw_apply (r : Fin 256) (k : Fin 2816) : fw t m c (ix2 r k) = act (aU m c) (aW m c) (aB m c) (row t r) k := by
  unfold fw
  refine (readCov_whole _ _ _ _).trans ?_
  generalize hj : (ix2 r k : S256x2816.Idx) = y
  have e0 : r = y 0 := hj ▸ rfl
  have e1 : k = y 1 := hj ▸ rfl
  rw [e0, e1]
  canon_tiles y h
  case piece0 => exact fw_piece t m c 1 1408 rfl (k0_pay36 (F := Ideal) (c1 t m c) (c3 t m c)) (fun r e => f1_apply t m c r e) _ y h0 h1
  case piece1 =>
    exact fw_piece t m c 0 0 rfl (k0_pay33 (F := Ideal) (c0 t m c) (c2 t m c) (FloatOps.ofBits .f32 0#32)) (fun r e => f0_apply t m c r e) _ y h0
      (h1.trans (Nat.zero_add _).symm)

end Cert.Ffn

end
-- ==== Proof.Ffn.KerOut.lean ====
/- What the kernel leaves in its four results. -/
module

public import proofs.«01_k».proof.Proof.Ffn.KerF
public import Idealize.ShloMosaic.Lib.Pipeline.ReadBack

@[expose] public section

set_option maxRecDepth 16384

noncomputable section

namespace Cert.Ffn

open Cert.Kernel6Ideal Cert.Kernel6Ideal.Gen Idealize.ShloMosaic Idealize.ShloMosaic.TcCoe Idealize.SL.Sem
open Idealize.ShloMosaic.Pipeline (Dat)
open Cert.Conv (Mat row8)

/-- Row `8 a + s` of a block. -/
def sub (a : Fin 32) (s : Fin 8) : Fin 256 := ⟨a * 8 + s, by omega⟩

section Payloads

variable (A : Vec Ideal S256x2816 .bf16) (X6 : Vec Ideal S256x1024 .f32) (X4 : Vec Ideal S2816x1024 .bf16) (X7 : Vec Ideal S256x1024 .f32)
  (X5 : Vec Ideal S1024x2816 .bf16)

/-- A block's output less its target. -/
def er (r : Fin 256) (i : Fin 1024) : EReal := X6 (ix2 r i) + (∑ k : Fin 2816, A (ix2 r k) * X4 (ix2 k i)) - X7 (ix2 r i)

theorem pay37 (r : Fin 256) (i : Fin 1024) : k0_pay37 (F := Ideal) A X6 X4 X7 (ix2 r i) = er A X6 X4 X7 r i := by
  unfold er
  pointwise [k0_pay37]

theorem pay38 (r : Fin 256) (i : Fin 1024) :
    k0_pay38 (F := Ideal) A X6 X4 X7 (ix2 r i) = er A X6 X4 X7 r i * Ideal.ofBits .f32 0x3A800000#32 := by
  have h := pay37 A X6 X4 X7 r i
  unfold k0_pay38
  generalize k0_pay37 (F := Ideal) A X6 X4 X7 = E at *
  pointwise
  rw [h]

theorem pay41 (r : Fin 256) (k : Fin 2816) : k0_pay41 (F := Ideal) A X6 X4 X7 X5 (ix2 r k)
    = ∑ i : Fin 1024, er A X6 X4 X7 r i * Ideal.ofBits .f32 0x3A800000#32 * X5 (ix2 i k) := by
  have h := fun i => pay38 A X6 X4 X7 r i
  unfold k0_pay41
  generalize k0_pay38 (F := Ideal) A X6 X4 X7 = E at *
  pointwise
  simp only [h]

theorem pay40 (Q : Vec Ideal S8x1024 .f32) (s : Fin 8) (i : Fin 1024) : k0_pay40 (F := Ideal) A X6 X4 X7 Q (ix2 s i)
    = Q (ix2 s i) + ∑ a : Fin 32, er A X6 X4 X7 (sub a s) i * er A X6 X4 X7 (sub a s) i := by
  have h := fun r => pay37 A X6 X4 X7 r i
  unfold k0_pay40
  generalize k0_pay37 (F := Ideal) A X6 X4 X7 = E at *
  pointwise
  simp only [← h]
  rfl

variable (G : FVec Ideal S256x2816 .f32) (C0 S0 C1 C3 S1 G0 : Vec Ideal S256x1408 .f32)

theorem pay1 (r : Fin 256) (e : Fin 1408) : k0_pay1 (F := Ideal) C0 S0 G0 (ix2 r e)
    = G0 (ix2 r e) * (S0 (ix2 r e) * (1 + C0 (ix2 r e) * (1 - S0 (ix2 r e)))) := by
  pointwise [k0_pay1]

theorem pay2 (r : Fin 256) (e : Fin 1408) : k0_pay2 (F := Ideal) C0 S0 G0 (ix2 r e)
    = G0 (ix2 r e) * (C0 (ix2 r e) * S0 (ix2 r e)) := by
  pointwise [k0_pay2]

theorem pay4 (r : Fin 256) (e : Fin 1408) : k0_pay4 (F := Ideal) G C1 C3 S1 (ix2 r e)
    = G (ix2 r (ck 1 e)) * C3 (ix2 r e) * (S1 (ix2 r e) * (1 + C1 (ix2 r e) * (1 - S1 (ix2 r e)))) := by
  pointwise [k0_pay4, k0_pay3]
  rfl

theorem pay5 (r : Fin 256) (e : Fin 1408) : k0_pay5 (F := Ideal) G C1 S1 (ix2 r e)
    = G (ix2 r (ck 1 e)) * (C1 (ix2 r e) * S1 (ix2 r e)) := by
  pointwise [k0_pay5, k0_pay3]
  rfl

theorem pay42 (r : Fin 256) (e : Fin 1408) : k0_pay42 (F := Ideal) A X6 X4 X7 X5 (ix2 r e)
    = k0_pay41 (F := Ideal) A X6 X4 X7 X5 (ix2 r (ck 0 e)) := by
  unfold k0_pay42
  generalize k0_pay41 (F := Ideal) A X6 X4 X7 X5 = E
  pointwise
  exact congrArg E (congrArg (ix2 r) (Fin.ext (by simp [ck])))

theorem pay43 (r : Fin 256) (e : Fin 1408) : k0_pay43 (F := Ideal) A X6 X4 X7 X5 G0 (ix2 r e)
    = k0_pay41 (F := Ideal) A X6 X4 X7 X5 (ix2 r (ck 0 e)) * G0 (ix2 r e) := by
  rw [← pay42]
  unfold k0_pay43
  generalize k0_pay42 (F := Ideal) A X6 X4 X7 X5 = E
  pointwise

end Payloads

variable (m : (ℓ : Loc nD τ sig) → Buf (Elt Ideal) ℓ) (c : Dev nD) (t : Fin cfg0.N)

theorem er_apply (r : Fin 256) (i : Fin 1024) : er (fw t m c) (iblk m c 6 t) (iblk m c 4 t) (iblk m c 7 t) r i
    = err (aU m c) (aW m c) (aB m c) (aD m c) (aX m c) (aT m c) (row t r) i := by
  have hA := fun k => fw_apply t m c r k
  have h6 := b6 m c t r i
  have h7 := b7 m c t r i
  have h4 := fun k => b4 m c t k i
  unfold err
  generalize fw t m c = A, iblk m c 6 t = X6, iblk m c 4 t = X4, iblk m c 7 t = X7 at *
  unfold er
  simp only [hA, h6, h7, h4]

theorem dy_apply (r : Fin 256) (i : Fin 1024) : k0_pay38 (F := Ideal) (fw t m c) (iblk m c 6 t) (iblk m c 4 t) (iblk m c 7 t) (ix2 r i)
    = dy (aU m c) (aW m c) (aB m c) (aD m c) (aX m c) (aT m c) (row t r) i := by
  rw [pay38, er_apply]
  rfl

theorem df_apply (r : Fin 256) (k : Fin 2816) :
    k0_pay41 (F := Ideal) (fw t m c) (iblk m c 6 t) (iblk m c 4 t) (iblk m c 7 t) (iblk m c 5 t) (ix2 r k)
    = df (aU m c) (aW m c) (aB m c) (aD m c) (aX m c) (aT m c) (row t r) k := by
  rw [pay41]
  unfold df dy
  refine Finset.sum_congr rfl fun i _ => ?_
  rw [er_apply]
  exact congrArg (_ * ·) (b5 m c t i k)

/-- The gradient of each of the convolution's four chunks. -/
theorem dc0_apply (r : Fin 256) (e : Fin 1408) : k0_pay1 (F := Ideal) (c0 t m c) (k0_pay32 (F := Ideal) (c0 t m c) (FloatOps.ofBits .f32 0#32))
      (k0_pay43 (F := Ideal) (fw t m c) (iblk m c 6 t) (iblk m c 4 t) (iblk m c 7 t) (iblk m c 5 t) (c2 t m c)) (ix2 r e)
    = dlo (aU m c) (aW m c) (aB m c) (aD m c) (aX m c) (aT m c) (row t r) (ck 0 e) := by
  have e0 := c0_apply t m c r e
  have e2 := c2_apply t m c r e
  rw [pay1, pay43, df_apply, pay32, e0, e2, col_lo0, col_hi0]
  rfl

theorem dc2_apply (r : Fin 256) (e : Fin 1408) : k0_pay2 (F := Ideal) (c0 t m c) (k0_pay32 (F := Ideal) (c0 t m c) (FloatOps.ofBits .f32 0#32))
      (k0_pay42 (F := Ideal) (fw t m c) (iblk m c 6 t) (iblk m c 4 t) (iblk m c 7 t) (iblk m c 5 t)) (ix2 r e)
    = dhi (aU m c) (aW m c) (aB m c) (aD m c) (aX m c) (aT m c) (row t r) (ck 0 e) := by
  have e0 := c0_apply t m c r e
  rw [pay2, pay42, df_apply, pay32, e0, col_lo0]
  rfl

theorem dc1_apply (r : Fin 256) (e : Fin 1408) :
    k0_pay4 (F := Ideal) (k0_pay41 (F := Ideal) (fw t m c) (iblk m c 6 t) (iblk m c 4 t) (iblk m c 7 t) (iblk m c 5 t)) (c1 t m c) (c3 t m c)
      (k0_pay35 (F := Ideal) (c1 t m c)) (ix2 r e)
    = dlo (aU m c) (aW m c) (aB m c) (aD m c) (aX m c) (aT m c) (row t r) (ck 1 e) := by
  have e1 := c1_apply t m c r e
  have e3 := c3_apply t m c r e
  rw [pay4, df_apply, pay35, e1, e3, col_lo1, col_hi1]
  rfl

theorem dc3_apply (r : Fin 256) (e : Fin 1408) :
    k0_pay5 (F := Ideal) (k0_pay41 (F := Ideal) (fw t m c) (iblk m c 6 t) (iblk m c 4 t) (iblk m c 7 t) (iblk m c 5 t)) (c1 t m c)
      (k0_pay35 (F := Ideal) (c1 t m c)) (ix2 r e)
    = dhi (aU m c) (aW m c) (aB m c) (aD m c) (aX m c) (aT m c) (row t r) (ck 1 e) := by
  have e1 := c1_apply t m c r e
  rw [pay5, df_apply, pay35, e1, col_lo1]
  rfl

/-- An index of a matrix is made of its two coordinates. -/
theorem ix2_eta {n k : ℕ} (y : (⟨2, ![n, k]⟩ : Shape).Idx) : y = ix2 (y 0) (y 1) := by
  funext d
  fin_cases d <;> rfl

theorem dy_at (y : S256x1024.Idx) : k0_pay38 (F := Ideal) (fw t m c) (iblk m c 6 t) (iblk m c 4 t) (iblk m c 7 t) y
    = dy (aU m c) (aW m c) (aB m c) (aD m c) (aX m c) (aT m c) (row t (y 0)) (y 1) :=
  (congrArg (k0_pay38 (F := Ideal) (fw t m c) (iblk m c 6 t) (iblk m c 4 t) (iblk m c 7 t)) (ix2_eta y)).trans (dy_apply m c t (y 0) (y 1))

theorem fw_at (y : S256x2816.Idx) : fw t m c y = act (aU m c) (aW m c) (aB m c) (row t (y 0)) (y 1) :=
  (congrArg (fw t m c) (ix2_eta y)).trans (fw_apply t m c (y 0) (y 1))

/-- Where a block's entry lies in the whole array. -/
theorem emb8 (y : S256x1024.Idx) : ((View.whole main_v4_0).slice (win0_8.rect t)).emb y = ix2 (row t (y 0)) (y 1) := by
  blk_ext [idx t]
  rfl

theorem emb9 (y : S256x2816.Idx) : ((View.whole main_v4_1).slice (win0_9.rect t)).emb y = ix2 (row t (y 0)) (y 1) := by
  blk_ext [idx t]
  rfl

theorem emb10 (y : S256x5632.Idx) : ((View.whole main_v4_2).slice (win0_10.rect t)).emb y = ix2 (row t (y 0)) (y 1) := by
  blk_ext [idx t]
  rfl

/-- The loss's gradient at the block's output. -/
theorem final8 : (dats m 0 c).arrAt 8 (cfgs 0).N
    = fun j : S4096x1024.Idx => dy (aU m c) (aW m c) (aB m c) (aD m c) (aX m c) (aT m c) (j 0) (j 1) := by
  refine (dats m 0 c).arrAt_eq_of_covers 8 _ (by decide +kernel) fun t hf y => ?_
  blk_simp
  rw [after0_8, emb8]
  show _ = dy (aU m c) (aW m c) (aB m c) (aD m c) (aX m c) (aT m c) (row t (y 0)) (y 1)
  have key := dy_at m c t y
  by_cases h : t.val % 16 = 0
  · rw [outsAt0_A m c t h]
    dsimp only
    frame_open
    simp (disch := decide) only [↓View.readCov_skip, ↓View.readCov_cons_toLoadRect]
    frame_out
    exact key
  · rw [outsAt0_B m c t h]
    dsimp only
    frame_open
    simp (disch := decide) only [↓View.readCov_skip, ↓View.readCov_cons_toLoadRect]
    frame_out
    exact key

/-- The gated activations. -/
theorem final9 : (dats m 0 c).arrAt 9 (cfgs 0).N
    = fun j : S4096x2816.Idx => act (aU m c) (aW m c) (aB m c) (j 0) (j 1) := by
  refine (dats m 0 c).arrAt_eq_of_covers 9 _ (by decide +kernel) fun t hf y => ?_
  blk_simp
  rw [after0_9, emb9]
  show _ = act (aU m c) (aW m c) (aB m c) (row t (y 0)) (y 1)
  have key := fw_at m c t y
  by_cases h : t.val % 16 = 0
  · rw [outsAt0_A m c t h]
    dsimp only
    frame_open
    simp (disch := decide) only [↓View.readCov_skip, ↓View.readCov_cons_toLoadRect]
    frame_out
    exact key
  · rw [outsAt0_B m c t h]
    dsimp only
    frame_open
    simp (disch := decide) only [↓View.readCov_skip, ↓View.readCov_cons_toLoadRect]
    frame_out
    exact key

/-- A chunk's piece of the convolution's gradient. -/
theorem lo_piece (j : Fin 2) (o : ℕ) (ho : o = j * 1408) (P : Vec Ideal S256x1408 .f32)
    (hP : ∀ r e, P (ix2 r e) = dlo (aU m c) (aW m c) (aB m c) (aD m c) (aX m c) (aT m c) (row t r) (ck j e)) (y : S256x5632.Idx)
    (z : S256x1408.Idx) (h0 : (y 0 : ℕ) = z 0) (h1 : (y 1 : ℕ) = o + z 1) :
    P z = dc (aU m c) (aW m c) (aB m c) (aD m c) (aX m c) (aT m c) (row t (y 0)) (y 1) := by
  have hz : z = ix2 (z 0) (z 1) := by funext d; fin_cases d <;> rfl
  have hl : (z 1 : ℕ) < 1408 := (z 1).isLt
  have e0 : y 0 = z 0 := Fin.ext h0
  unfold dc
  rw [dif_pos (by omega), e0]
  refine (congrArg P hz).trans ((hP _ _).trans (congrArg (dlo _ _ _ _ _ _ _) (Fin.ext ?_)))
  show (j : ℕ) * 1408 + (z 1 : ℕ) = (y 1 : ℕ)
  omega

theorem hi_piece (j : Fin 2) (o : ℕ) (ho : o = 2816 + j * 1408) (P : Vec Ideal S256x1408 .f32)
    (hP : ∀ r e, P (ix2 r e) = dhi (aU m c) (aW m c) (aB m c) (aD m c) (aX m c) (aT m c) (row t r) (ck j e)) (y : S256x5632.Idx)
    (z : S256x1408.Idx) (h0 : (y 0 : ℕ) = z 0) (h1 : (y 1 : ℕ) = o + z 1) :
    P z = dc (aU m c) (aW m c) (aB m c) (aD m c) (aX m c) (aT m c) (row t (y 0)) (y 1) := by
  have hz : z = ix2 (z 0) (z 1) := by funext d; fin_cases d <;> rfl
  have hl : (z 1 : ℕ) < 1408 := (z 1).isLt
  have e0 : y 0 = z 0 := Fin.ext h0
  unfold dc
  rw [dif_neg (by omega), e0]
  refine (congrArg P hz).trans ((hP _ _).trans (congrArg (dhi _ _ _ _ _ _ _) (Fin.ext ?_)))
  show (j : ℕ) * 1408 + (z 1 : ℕ) = (y 1 : ℕ) - 2816
  omega

/-- The gradient of the convolution's output. -/
theorem final10 : (dats m 0 c).arrAt 10 (cfgs 0).N
    = fun j : S4096x5632.Idx => dc (aU m c) (aW m c) (aB m c) (aD m c) (aX m c) (aT m c) (j 0) (j 1) := by
  refine (dats m 0 c).arrAt_eq_of_covers 10 _ (by decide +kernel) fun t hf y => ?_
  blk_simp
  rw [after0_10, emb10]
  show _ = dc (aU m c) (aW m c) (aB m c) (aD m c) (aX m c) (aT m c) (row t (y 0)) (y 1)
  by_cases h : t.val % 16 = 0
  · rw [outsAt0_A m c t h]
    dsimp only
    frame_open
    simp (disch := decide) only [↓View.readCov_skip, ↓View.readCov_cons_toLoadRect]
    frame_out
    canon_tiles y h
    case piece0 => exact hi_piece m c t 1 4224 rfl (k0_pay5 (F := Ideal) _ _ _) (fun r e => dc3_apply m c t r e) _ y h0 h1
    case piece1 => exact lo_piece m c t 1 1408 rfl (k0_pay4 (F := Ideal) _ _ _ _) (fun r e => dc1_apply m c t r e) _ y h0 h1
    case piece2 => exact hi_piece m c t 0 2816 rfl (k0_pay2 (F := Ideal) _ _ _) (fun r e => dc2_apply m c t r e) _ y h0 h1
    case piece3 => exact lo_piece m c t 0 0 rfl (k0_pay1 (F := Ideal) _ _ _) (fun r e => dc0_apply m c t r e) _ y h0 (h1.trans (Nat.zero_add _).symm)
  · rw [outsAt0_B m c t h]
    dsimp only
    frame_open
    simp (disch := decide) only [↓View.readCov_skip, ↓View.readCov_cons_toLoadRect]
    frame_out
    canon_tiles y h
    case piece0 => exact hi_piece m c t 1 4224 rfl (k0_pay5 (F := Ideal) _ _ _) (fun r e => dc3_apply m c t r e) _ y h0 h1
    case piece1 => exact lo_piece m c t 1 1408 rfl (k0_pay4 (F := Ideal) _ _ _ _) (fun r e => dc1_apply m c t r e) _ y h0 h1
    case piece2 => exact hi_piece m c t 0 2816 rfl (k0_pay2 (F := Ideal) _ _ _) (fun r e => dc2_apply m c t r e) _ y h0 h1
    case piece3 => exact lo_piece m c t 0 0 rfl (k0_pay1 (F := Ideal) _ _ _) (fun r e => dc0_apply m c t r e) _ y h0 (h1.trans (Nat.zero_add _).symm)

/-- What one grid point adds to the squared errors. -/
def lossAt (s : Fin 8) (i : Fin 1024) : EReal :=
  ∑ a : Fin 32, err (aU m c) (aW m c) (aB m c) (aD m c) (aX m c) (aT m c) (row t (sub a s)) i
    * err (aU m c) (aW m c) (aB m c) (aD m c) (aX m c) (aT m c) (row t (sub a s)) i

theorem loss_ix (Q : Vec Ideal S8x1024 .f32) (s : Fin 8) (i : Fin 1024) :
    k0_pay40 (F := Ideal) (fw t m c) (iblk m c 6 t) (iblk m c 4 t) (iblk m c 7 t) Q (ix2 s i) = Q (ix2 s i) + lossAt m c t s i := by
  rw [pay40]
  simp only [er_apply]
  rfl

theorem loss_apply (Q : Vec Ideal S8x1024 .f32) (j : S8x1024.Idx) :
    k0_pay40 (F := Ideal) (fw t m c) (iblk m c 6 t) (iblk m c 4 t) (iblk m c 7 t) Q j = Q j + lossAt m c t (j 0) (j 1) := by
  have key := loss_ix m c t Q (j 0) (j 1)
  have e := congrArg Q (ix2_eta j)
  rw [e]
  exact (congrArg (k0_pay40 (F := Ideal) (fw t m c) (iblk m c 6 t) (iblk m c 4 t) (iblk m c 7 t) Q) (ix2_eta j)).trans key

theorem zero11 (j : S8x1024.Idx) : k0_pay39 (F := Ideal) j = 0 := by pointwise! [k0_pay39]

theorem loss_first (h : t.val % 16 = 0) (j : S8x1024.Idx) :
    (outsAt0 m c t.val t.isLt).2.2.2 j = (0 : EReal) + lossAt m c t (j 0) (j 1) := by
  rw [← zero11 j, outsAt0_A m c t h]
  dsimp only
  frame_open
  simp (disch := decide) only [↓View.readCov_skip, ↓View.readCov_cons_toLoadRect]
  frame_out
  exact loss_apply m c t _ j

theorem loss_step (h : ¬t.val % 16 = 0) (j : S8x1024.Idx) : (outsAt0 m c t.val t.isLt).2.2.2 j
    = (outsAt0 m c (t.val - 1) (Nat.lt_of_le_of_lt (Nat.sub_le _ _) t.isLt)).2.2.2 j + lossAt m c t (j 0) (j 1) := by
  rw [outsAt0_B m c t h]
  dsimp only
  frame_open
  simp (disch := decide) only [↓View.readCov_skip, ↓View.readCov_cons_toLoadRect]
  frame_out
  exact loss_apply m c t _ j

/-- A sum over the rows of one residue, block by block. -/
theorem sum_rows (f : Fin 4096 → EReal) (s : Fin 8) :
    ∑ t : Fin cfg0.N, ∑ a : Fin 32, f (row t (sub a s)) = ∑ a : Fin 512, f (row8 a s) := by
  have h : ∑ a : Fin (16 * 32), f (row8 a s) = ∑ t : Fin 16, ∑ a : Fin 32, f (row (t.cast N_0.symm) (sub a s)) := by
    rw [← finProdFinEquiv.sum_comp, Fintype.sum_prod_type]
    refine Finset.sum_congr rfl fun t _ => Finset.sum_congr rfl fun a _ => congrArg f (Fin.ext ?_)
    simp [finProdFinEquiv, row, row8, sub]
    omega
  refine Eq.trans ?_ h.symm
  exact (finCongr N_0).sum_comp fun t => ∑ a : Fin 32, f (row (t.cast N_0.symm) (sub a s))

/-- The squared errors, summed over all rows. -/
theorem final11 : (dats m 0 c).arrAt 11 (cfgs 0).N
    = fun j : S8x1024.Idx => loss (aU m c) (aW m c) (aB m c) (aD m c) (aX m c) (aT m c) (j 0) (j 1) := by
  refine (dats m 0 c).arrAt_eq_of_after_last 11 t0_15 (by decide +kernel) _ fun j => ?_
  blk_simp
  rw [after0_11, Pipeline.eq_sum_fin_of_reset_step_apply_last (fun n h => (outsAt0 m c n h).2.2.2) 16 (fun _ => (0 : EReal))
    (fun t j => lossAt m c t (j 0) (j 1)) (fun t h j => loss_first m c t h j) (fun t h j => loss_step m c t h j)
    (le_of_eq N_0) t0_15 rfl j, zero_add]
  exact sum_rows (fun r => err (aU m c) (aW m c) (aB m c) (aD m c) (aX m c) (aT m c) r (j 1)
    * err (aU m c) (aW m c) (aB m c) (aD m c) (aX m c) (aT m c) r (j 1)) (j 0)

end Cert.Ffn

end
-- ==== Proof.Ffn.Ref.lean ====
/- The reference's four results, entry by entry. -/
module

public import proofs.«01_k».proof.Proof.Ffn.Spec
public import proofs.«01_k».proof.Proof.Conv.Finite
public import proofs.«01_k».proof.Proof.Gen.Reference6Ideal.Run
public import Idealize.ShloMosaic.Lib.Affine

@[expose] public section

set_option maxRecDepth 16384

noncomputable section

namespace Cert.Ffn

open Cert.Reference6Ideal Cert.Reference6Ideal.Gen Cert.Reference6Ideal.Value
open Idealize.ShloMosaic Idealize.ShloMosaic.TcCoe Idealize.SL.Sem Idealize.ShloMosaic.StableHlo
open Cert.Conv (Mat row8)

namespace Ref

/-- The convolution. -/
def cc (U : Mat 4096 5632) (W : Mat 3 5632) (B : Mat 1 5632) : FVec Ideal S4096x5632 .f32 :=
  addf (addf (addf (broadcastInDim S4096x5632 ![0, 1] bcast_S1x5632_S4096x5632_0_1 B) (mulf (broadcastInDim S4096x5632 ![0, 1]
    bcast_S1x5632_S4096x5632_0_1 (broadcastInDim S1x5632 ![1] bcast_S5632_S1x5632_1 (shapeCast _ (extractStridedSlice S1x5632 ![0, 0] W
    slices_S3x5632_S1x5632_0_0) shapeCasts_S1x5632_S5632))) (extractStridedSlice S4096x5632 ![0, 0] (pad S4098x5632 ![2, 0] ![0, 0] ![0, 0] U (sitofp
    .f32 (constantI S_ 32 0#32)) pads_S4096x5632_S4098x5632_200_000 h_S_) slices_S4098x5632_S4096x5632_0_0))) (mulf (broadcastInDim S4096x5632 ![0, 1]
    bcast_S1x5632_S4096x5632_0_1 (broadcastInDim S1x5632 ![1] bcast_S5632_S1x5632_1 (shapeCast _ (extractStridedSlice S1x5632 ![1, 0] W
    slices_S3x5632_S1x5632_1_0) shapeCasts_S1x5632_S5632))) (extractStridedSlice S4096x5632 ![1, 0] (pad S4098x5632 ![2, 0] ![0, 0] ![0, 0] U (sitofp
    .f32 (constantI S_ 32 0#32)) pads_S4096x5632_S4098x5632_200_000 h_S_) slices_S4098x5632_S4096x5632_1_0))) (mulf (broadcastInDim S4096x5632 ![0, 1]
    bcast_S1x5632_S4096x5632_0_1 (broadcastInDim S1x5632 ![1] bcast_S5632_S1x5632_1 (shapeCast _ (extractStridedSlice S1x5632 ![2, 0] W
    slices_S3x5632_S1x5632_2_0) shapeCasts_S1x5632_S5632))) (extractStridedSlice S4096x5632 ![2, 0] (pad S4098x5632 ![2, 0] ![0, 0] ![0, 0] U (sitofp
    .f32 (constantI S_ 32 0#32)) pads_S4096x5632_S4098x5632_200_000 h_S_) slices_S4098x5632_S4096x5632_2_0))

/-- Its two halves, and the logistic function of the first. -/
def lo_ (C : FVec Ideal S4096x5632 .f32) : FVec Ideal S4096x2816 .f32 := extractStridedSlice S4096x2816 ![0, 0] C slices_S4096x5632_S4096x2816_0_0
def hi_ (C : FVec Ideal S4096x5632 .f32) : FVec Ideal S4096x2816 .f32 := extractStridedSlice S4096x2816 ![0, 2816] C slices_S4096x5632_S4096x2816_0_2816
def sg (L : FVec Ideal S4096x2816 .f32) : FVec Ideal S4096x2816 .f32 :=
  Host.divf (broadcastInDim S4096x2816 ![] bcast_S_S4096x2816 (constant S_ .f32 0x3F800000#32))
    (addf (broadcastInDim S4096x2816 ![] bcast_S_S4096x2816 (constant S_ .f32 0x3F800000#32)) (Host.exp (Host.negf L)))

/-- The gated activations. -/
def ff (C : FVec Ideal S4096x5632 .f32) : FVec Ideal S4096x2816 .f32 := mulf (mulf (lo_ C) (sg (lo_ C))) (hi_ C)

/-- The output less the target. -/
def er (A : FVec Ideal S4096x2816 .f32) (D : Mat 2816 1024) (X T : Mat 4096 1024) : FVec Ideal S4096x1024 .f32 :=
  subf (addf X (Host.dotGeneral dot_S4096x2816_S2816x1024_S4096x1024_1_0_0_1_n_n none A D)) T

/-- The loss's gradient at the output. -/
def dyv (E : FVec Ideal S4096x1024 .f32) : FVec Ideal S4096x1024 .f32 :=
  mulf (broadcastInDim S4096x1024 ![0] bcast_S4096_S4096x1024_0 (Host.divf
    (broadcastInDim S4096 ![] bcast_S_S4096 (mulf (constant S_ .f32 0x3F000000#32) (constant S_ .f32 0x3F800000#32)))
    (broadcastInDim S4096 ![] bcast_S_S4096 (constant S_ .f32 0x44800000#32))))
    (mulf (broadcastInDim S4096x1024 ![] bcast_S_S4096x1024 (constant S_ .f32 0x40000000#32)) E)

/-- The gradient of the activations. -/
def dfv (G : FVec Ideal S4096x1024 .f32) (D : Mat 2816 1024) : FVec Ideal S4096x2816 .f32 :=
  Host.dotGeneral dot_S4096x1024_S2816x1024_S4096x2816_1_1_0_0_n_n none G D

/-- The gradient of the convolution. -/
def dcv (C : FVec Ideal S4096x5632 .f32) (G : FVec Ideal S4096x2816 .f32) : FVec Ideal S4096x5632 .f32 :=
  concatenate S4096x5632 1 [⟨S4096x2816, addf (mulf (mulf G (hi_ C)) (sg (lo_ C))) (mulf (mulf (lo_ C) (mulf G (hi_ C)))
      (mulf (sg (lo_ C)) (subf (broadcastInDim S4096x2816 ![] bcast_S_S4096x2816 (constant S_ .f32 0x3F800000#32)) (sg (lo_ C)))))⟩,
    ⟨S4096x2816, mulf (mulf (lo_ C) (sg (lo_ C))) G⟩] concatenates_S4096x2816_S4096x2816_S4096x5632_d1

/-- The partial sums of the squared errors. -/
def lossv (E : FVec Ideal S4096x1024 .f32) : FVec Ideal S8x1024 .f32 :=
  Host.reduceAdd (shapeCast _ (mulf E E) shapeCasts_S4096x1024_S512x8x1024) (constant S_ .f32 0x00000000#32) reducesTo_S512x8x1024_S8x1024_d0 h_S_

variable (m : (ℓ : Loc nD τ sig) → Buf (Elt Ideal) ℓ) (c : Dev nD)

theorem res0 : res_main_v47 m c = dyv (er (ff (cc (m ((c : Thread nD τ).loc main_arg0)) (m ((c : Thread nD τ).loc main_arg1)) (m ((c : Thread nD τ).loc main_arg2))))
    (m ((c : Thread nD τ).loc main_arg3)) (m ((c : Thread nD τ).loc main_arg4)) (m ((c : Thread nD τ).loc main_arg5))) := rfl

theorem res1 : res_main_v53 m c = truncf .bf16 (ff (cc (m ((c : Thread nD τ).loc main_arg0)) (m ((c : Thread nD τ).loc main_arg1)) (m ((c : Thread nD τ).loc main_arg2)))) bitsLt_bf16_f32 := rfl

theorem res2 : res_main_v52 m c = dcv (cc (m ((c : Thread nD τ).loc main_arg0)) (m ((c : Thread nD τ).loc main_arg1)) (m ((c : Thread nD τ).loc main_arg2)))
    (dfv (dyv (er (ff (cc (m ((c : Thread nD τ).loc main_arg0)) (m ((c : Thread nD τ).loc main_arg1)) (m ((c : Thread nD τ).loc main_arg2))))
      (m ((c : Thread nD τ).loc main_arg3)) (m ((c : Thread nD τ).loc main_arg4)) (m ((c : Thread nD τ).loc main_arg5))))
      (m ((c : Thread nD τ).loc main_arg3))) := rfl

theorem res3 : res_main_v57 m c = lossv (er (ff (cc (m ((c : Thread nD τ).loc main_arg0)) (m ((c : Thread nD τ).loc main_arg1)) (m ((c : Thread nD τ).loc main_arg2))))
    (m ((c : Thread nD τ).loc main_arg3)) (m ((c : Thread nD τ).loc main_arg4)) (m ((c : Thread nD τ).loc main_arg5))) := rfl

variable (U : Mat 4096 5632) (W : Mat 3 5632) (B : Mat 1 5632) (D : Mat 2816 1024) (X T : Mat 4096 1024)

theorem zero_int : (FloatOps.sitofp (F := Ideal) FTy.f32 (0#32 : BitVec 32) : EReal) = 0 := by
  simp [FloatOps.sitofp]

theorem cc_apply (r : Fin 4096) (e : Fin 5632) : cc U W B (ix2 r e) = conv U W B r e := by
  pointwise [cc]
  unfold conv
  refine congrArg₂ (HAdd.hAdd : EReal → EReal → EReal) (congrArg₂ (HAdd.hAdd : EReal → EReal → EReal) (congrArg (B (ix2 0 e) + ·)
    (congrArg (W (ix2 0 e) * ·) ?_)) (congrArg (W (ix2 1 e) * ·) ?_)) rfl
  · unfold behind
    by_cases h : 2 ≤ (r : ℕ)
    · rw [dif_pos ⟨h, by omega⟩, if_pos h]
    · rw [dif_neg (fun a => h a.1), if_neg h, zero_int]
  · unfold behind
    by_cases h : 1 ≤ (r : ℕ)
    · rw [dif_pos ⟨by omega, by omega⟩, if_pos h]
      exact congrArg (fun s => U (ix2 s e)) (Fin.ext (by simp; omega))
    · rw [dif_neg (fun a => h (by omega)), if_neg h, zero_int]

theorem lo_apply (r : Fin 4096) (k : Fin 2816) : lo_ (cc U W B) (ix2 r k) = conv U W B r (lo k) := by
  rw [← cc_apply]
  generalize cc U W B = C
  pointwise [lo_]
  exact congrArg C (congrArg (ix2 r) (Fin.ext (by simp [lo])))

theorem hi_apply (r : Fin 4096) (k : Fin 2816) : hi_ (cc U W B) (ix2 r k) = conv U W B r (hi k) := by
  rw [← cc_apply]
  generalize cc U W B = C
  pointwise [hi_]
  rfl

theorem sg_apply (L : FVec Ideal S4096x2816 .f32) (r : Fin 4096) (k : Fin 2816) : sg L (ix2 r k) = logi (L (ix2 r k)) := by
  pointwise [sg]
  rfl

theorem ff_apply (r : Fin 4096) (k : Fin 2816) : ff (cc U W B) (ix2 r k) = act U W B r k := by
  have hl := lo_apply U W B r k
  have hh := hi_apply U W B r k
  have hs := sg_apply (lo_ (cc U W B)) r k
  unfold ff act
  rw [← hl, ← hh, ← hs]
  generalize lo_ (cc U W B) = L, hi_ (cc U W B) = H
  generalize sg L = S
  pointwise

theorem er_apply (r : Fin 4096) (i : Fin 1024) : er (ff (cc U W B)) D X T (ix2 r i) = err U W B D X T r i := by
  have hf := fun k => ff_apply U W B r k
  unfold err
  simp only [← hf]
  generalize ff (cc U W B) = A
  pointwise [er]

theorem bits_scale : Ideal.ofBits .f32 0x3A800000#32 = ((1 / 1024 : ℝ) : EReal) := by
  simp [Ideal.ofBits, Ideal.ieee, -EReal.coe_mul]
  norm_num

theorem bits_half : Ideal.ofBits .f32 0x3F000000#32 = ((1 / 2 : ℝ) : EReal) := by
  simp [Ideal.ofBits, Ideal.ieee, -EReal.coe_mul]
  norm_num

theorem bits_two : Ideal.ofBits .f32 0x40000000#32 = ((2 : ℝ) : EReal) := by
  simp [Ideal.ofBits, Ideal.ieee, -EReal.coe_mul]
  norm_num

theorem dy_apply (r : Fin 4096) (i : Fin 1024) : dyv (er (ff (cc U W B)) D X T) (ix2 r i) = dy U W B D X T r i := by
  have he := er_apply U W B D X T r i
  unfold dy
  rw [← he]
  generalize er (ff (cc U W B)) D X T = E
  pointwise [dyv]
  rw [bits_half, Cert.Conv.bits_1024, Cert.Conv.coe_div _ _ (by norm_num), bits_two, bits_scale, ← mul_assoc, ← EReal.coe_mul, mul_comm]
  exact congrArg (E (ix2 r i) * ·) (congrArg (fun x : ℝ => (x : EReal)) (by norm_num))

theorem df_apply (r : Fin 4096) (k : Fin 2816) : dfv (dyv (er (ff (cc U W B)) D X T)) D (ix2 r k) = df U W B D X T r k := by
  have hy := fun i => dy_apply U W B D X T r i
  unfold df
  simp only [← hy]
  generalize dyv (er (ff (cc U W B)) D X T) = G
  pointwise [dfv]

theorem loss_apply (s : Fin 8) (i : Fin 1024) : lossv (er (ff (cc U W B)) D X T) (ix2 s i) = loss U W B D X T s i := by
  have he := fun r => er_apply U W B D X T r i
  unfold loss
  simp only [← he]
  generalize er (ff (cc U W B)) D X T = E
  pointwise [lossv]
  exact Finset.sum_congr rfl fun a _ => by rw [show (⟨(a : ℕ) * 8 + s, by omega⟩ : Fin 4096) = row8 a s from Fin.ext (by simp [row8]; omega)]

theorem dc_lo (r : Fin 4096) (k : Fin 2816) : dcv (cc U W B) (dfv (dyv (er (ff (cc U W B)) D X T)) D) (ix2 r (lo k))
    = df U W B D X T r k * conv U W B r (hi k) * logi (conv U W B r (lo k)) + conv U W B r (lo k) * (df U W B D X T r k * conv U W B r (hi k))
      * (logi (conv U W B r (lo k)) * (1 - logi (conv U W B r (lo k)))) := by
  have hl := lo_apply U W B r k
  have hh := hi_apply U W B r k
  have hs := sg_apply (lo_ (cc U W B)) r k
  have hd := df_apply U W B D X T r k
  rw [← hd, ← hl, ← hh, ← hs]
  generalize dfv (dyv (er (ff (cc U W B)) D X T)) D = G
  unfold dcv
  generalize lo_ (cc U W B) = L, hi_ (cc U W B) = H
  generalize sg L = S
  pointwise
  rw [dif_pos (show ((lo k : Fin 5632) : ℕ) < 2816 from k.isLt)]
  rfl

theorem dc_hi (r : Fin 4096) (k : Fin 2816) : dcv (cc U W B) (dfv (dyv (er (ff (cc U W B)) D X T)) D) (ix2 r (hi k))
    = conv U W B r (lo k) * logi (conv U W B r (lo k)) * df U W B D X T r k := by
  have hl := lo_apply U W B r k
  have hs := sg_apply (lo_ (cc U W B)) r k
  have hd := df_apply U W B D X T r k
  rw [← hd, ← hl, ← hs]
  generalize dfv (dyv (er (ff (cc U W B)) D X T)) D = G
  unfold dcv
  generalize lo_ (cc U W B) = L, hi_ (cc U W B) = H
  generalize sg L = S
  pointwise
  have h : ¬ ((hi k : Fin 5632) : ℕ) < 2816 := by simp [hi]
  have e : (⟨((hi k : Fin 5632) : ℕ) - 2816, by simp [hi]⟩ : Fin 2816) = k := Fin.ext (by simp [hi])
  rw [dif_neg h, e]

end Ref

end Cert.Ffn

end
-- ==== Proof.Ffn.Finite.lean ====
/- Over finite arguments the two ways of writing the gate's gradient agree. -/
module

public import proofs.«01_k».proof.Proof.Conv.Finite
public import proofs.«01_k».proof.Proof.Ffn.Spec
public import proofs.«01_k».proof.Proof.Gen.Pre_finite6

@[expose] public section

set_option maxRecDepth 16384

noncomputable section

namespace Cert.Ffn

open Idealize.ShloMosaic
open Cert.Conv (Mat IsReal real_of_lt coe_sum coe_div)

instance : Subsingleton (Cert.Pre_finite6.S_ : Shape).Idx := ⟨fun a b => funext fun d => d.elim0⟩

/-- What the precondition says. -/
theorem fn_true (a0 : Mat 4096 5632) (a1 : Mat 3 5632) (a2 : Mat 1 5632) (a3 : Mat 2816 1024) (a4 : Mat 4096 1024) (a5 : Mat 4096 1024)
   [hf : Cert.Pre_finite6.Facts] (h : Cert.Pre_finite6.fn (F := Ideal) a0 a1 a2 a3 a4 a5 = fun _ => 1#1) :
   (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  have h := congrFun h (fun d => d.elim0)
  unfold Pre_finite6.fn Pre_finite6.fn_part1 at h
  dsimp only [andi] at h
  rw [IntOp.andi_eq_one, IntOp.andi_eq_one, IntOp.andi_eq_one, IntOp.andi_eq_one, IntOp.andi_eq_one] at h
  obtain ⟨⟨⟨⟨⟨h0, h1⟩, h2⟩, h3⟩, h4⟩, h5⟩ := h
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i), fun i => real_of_lt _ (Host.reduce_andi_all _ _ _ _ _ h5 i)⟩

/-- The logistic function of a real number is a real number. -/
theorem logi_real {a : EReal} (h : IsReal a) : IsReal (logi a) := by
  obtain ⟨x, rfl⟩ := h
  refine ⟨1 / (1 + Real.exp (-x)), ?_⟩
  have e : Ideal.exp (-(x : EReal)) = (Real.exp (-x) : EReal) := by
    rw [← EReal.coe_neg]
    rfl
  unfold logi
  rw [e, ← EReal.coe_one, ← EReal.coe_add, coe_div _ _ (by positivity)]

variable (U : Mat 4096 5632) (W : Mat 3 5632) (B : Mat 1 5632) (D : Mat 2816 1024) (X : Mat 4096 1024) (T : Mat 4096 1024)

theorem behind_real (hU : ∀ i, IsReal (U i)) (k : ℕ) (r : Fin 4096) (e : Fin 5632) : IsReal (behind U k r e) := by
  unfold behind
  split
  · exact hU _
  · exact ⟨0, rfl⟩

theorem conv_real (hU : ∀ i, IsReal (U i)) (hW : ∀ i, IsReal (W i)) (hB : ∀ i, IsReal (B i)) (r : Fin 4096) (e : Fin 5632) :
    IsReal (conv U W B r e) :=
  (((hB _).add ((hW _).mul (behind_real U hU 2 r e))).add ((hW _).mul (behind_real U hU 1 r e))).add ((hW _).mul (hU _))

theorem act_real (hU : ∀ i, IsReal (U i)) (hW : ∀ i, IsReal (W i)) (hB : ∀ i, IsReal (B i)) (r : Fin 4096) (k : Fin 2816) :
    IsReal (act U W B r k) :=
  ((conv_real U W B hU hW hB _ _).mul (logi_real (conv_real U W B hU hW hB _ _))).mul (conv_real U W B hU hW hB _ _)

theorem sub_real {a b : EReal} : IsReal a → IsReal b → IsReal (a - b) := by
  rintro ⟨x, rfl⟩ ⟨y, rfl⟩
  exact ⟨x - y, (EReal.coe_sub x y).symm⟩

theorem bits_scale : Ideal.ofBits .f32 0x3A800000#32 = ((1 / 1024 : ℝ) : EReal) := by
  simp [Ideal.ofBits, Ideal.ieee, -EReal.coe_mul]
  norm_num

theorem df_real (hU : ∀ i, IsReal (U i)) (hW : ∀ i, IsReal (W i)) (hB : ∀ i, IsReal (B i)) (hD : ∀ i, IsReal (D i)) (hX : ∀ i, IsReal (X i))
    (hT : ∀ i, IsReal (T i)) (r : Fin 4096) (k : Fin 2816) : IsReal (df U W B D X T r k) :=
  IsReal.sum fun i => ((sub_real ((hX _).add (IsReal.sum fun k => (act_real U W B hU hW hB r k).mul (hD _))) (hT _)).mul
    ⟨_, bits_scale⟩).mul (hD _)

/-- Over real numbers one expression for the gate's gradient is the other. -/
theorem dlo_eq (hU : ∀ i, IsReal (U i)) (hW : ∀ i, IsReal (W i)) (hB : ∀ i, IsReal (B i)) (hD : ∀ i, IsReal (D i)) (hX : ∀ i, IsReal (X i))
    (hT : ∀ i, IsReal (T i)) (r : Fin 4096) (k : Fin 2816) :
    df U W B D X T r k * conv U W B r (hi k) * logi (conv U W B r (lo k)) + conv U W B r (lo k) * (df U W B D X T r k * conv U W B r (hi k))
      * (logi (conv U W B r (lo k)) * (1 - logi (conv U W B r (lo k)))) = dlo U W B D X T r k := by
  obtain ⟨s, hs⟩ := logi_real (conv_real U W B hU hW hB r (lo k))
  obtain ⟨l, hl⟩ := conv_real U W B hU hW hB r (lo k)
  obtain ⟨h, hh⟩ := conv_real U W B hU hW hB r (hi k)
  obtain ⟨d, hd⟩ := df_real U W B D X T hU hW hB hD hX hT r k
  unfold dlo
  rw [hs, hl, hh, hd, ← EReal.coe_one]
  simp only [← EReal.coe_mul, ← EReal.coe_sub, ← EReal.coe_add]
  exact congrArg (fun x : ℝ => (x : EReal)) (by ring)

end Cert.Ffn

end
-- ==== Proof.Ffn.Algebraic.lean ====
/- The forward call: its kernel computes its reference's results, from finite arguments. -/
module

public import proofs.«01_k».proof.Proof.Ffn.KerOut
public import proofs.«01_k».proof.Proof.Ffn.Ref
public import proofs.«01_k».proof.Proof.Ffn.Finite
public import proofs.«01_k».proof.Proof.Gen.Kernel6Ideal.Frame
public import proofs.«01_k».proof.Proof.Gen.Kernel6Ideal.Value
public import Idealize.ShloMosaic.Lib.Quiescent

@[expose] public section

set_option maxRecDepth 16384

noncomputable section

namespace Cert.Ffn

open Idealize.ShloMosaic Idealize.ShloMosaic.TcCoe Idealize.SL.Sem
open Cert.Conv (Mat IsReal)

/-- The reference runs, leaves its arguments as they were, and its counters at zero. -/
theorem frame_reference : Cert.quiescent_Reference6Ideal := fun m ρ _ =>
  (θ_run Cert.Reference6Ideal.defs _ _).mono
    (fun r h => ⟨fun c => ((h c).2.2.2.2), sem_eq_zero_of_no_sems rfl r.2⟩) (Cert.Reference6Ideal.Value.run (F := Ideal) m ρ)

section Reference
open Cert.Reference6Ideal Cert.Reference6Ideal.Gen

variable (U : Mat 4096 5632) (W : Mat 3 5632) (B : Mat 1 5632) (D : Mat 2816 1024) (X T : Mat 4096 1024)

theorem ref_dy : Ref.dyv (Ref.er (Ref.ff (Ref.cc U W B)) D X T) = fun j : S4096x1024.Idx => dy U W B D X T (j 0) (j 1) :=
  funext fun j => (congrArg _ (ix2_eta j)).trans (Ref.dy_apply U W B D X T (j 0) (j 1))

theorem ref_act : truncf .bf16 (Ref.ff (Ref.cc U W B)) Cert.Reference6Ideal.Gen.bitsLt_bf16_f32
    = fun j : S4096x2816.Idx => act U W B (j 0) (j 1) :=
  funext fun j => (congrArg (Ref.ff (Ref.cc U W B)) (ix2_eta j)).trans (Ref.ff_apply U W B (j 0) (j 1))

theorem ref_loss : Ref.lossv (Ref.er (Ref.ff (Ref.cc U W B)) D X T) = fun j : S8x1024.Idx => loss U W B D X T (j 0) (j 1) :=
  funext fun j => (congrArg _ (ix2_eta j)).trans (Ref.loss_apply U W B D X T (j 0) (j 1))

theorem ref_dc_ix (hU : ∀ i, IsReal (U i)) (hW : ∀ i, IsReal (W i)) (hB : ∀ i, IsReal (B i)) (hD : ∀ i, IsReal (D i)) (hX : ∀ i, IsReal (X i))
    (hT : ∀ i, IsReal (T i)) (r : Fin 4096) (e : Fin 5632) :
    Ref.dcv (Ref.cc U W B) (Ref.dfv (Ref.dyv (Ref.er (Ref.ff (Ref.cc U W B)) D X T)) D) (ix2 r e) = dc U W B D X T r e := by
  unfold dc
  split_ifs with h
  · rw [← dlo_eq U W B D X T hU hW hB hD hX hT, ← Ref.dc_lo]
    rfl
  · have he : e = hi ⟨e - 2816, by omega⟩ := Fin.ext (by simp [hi]; omega)
    refine (congrArg (fun e => Ref.dcv _ _ (ix2 r e)) he).trans ((Ref.dc_hi U W B D X T r _).trans ?_)
    unfold dhi
    rw [mul_comm]

theorem ref_dc (hU : ∀ i, IsReal (U i)) (hW : ∀ i, IsReal (W i)) (hB : ∀ i, IsReal (B i)) (hD : ∀ i, IsReal (D i)) (hX : ∀ i, IsReal (X i))
    (hT : ∀ i, IsReal (T i)) : Ref.dcv (Ref.cc U W B) (Ref.dfv (Ref.dyv (Ref.er (Ref.ff (Ref.cc U W B)) D X T)) D)
      = fun j : S4096x5632.Idx => dc U W B D X T (j 0) (j 1) :=
  funext fun j => (congrArg _ (ix2_eta j)).trans (ref_dc_ix U W B D X T hU hW hB hD hX hT (j 0) (j 1))

end Reference

section Kernel
open Cert.Kernel6Ideal Cert.Kernel6Ideal.Gen

/-- Every result of the kernel, as a function of the arguments. -/
theorem kernel_run (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c : Thread nD τ).loc main_v4_0)
        = (fun j : S4096x1024.Idx => dy (aU m c) (aW m c) (aB m c) (aD m c) (aX m c) (aT m c) (j 0) (j 1))
      ∧ r.2.mem ((c : Thread nD τ).loc main_v4_1) = (fun j : S4096x2816.Idx => act (aU m c) (aW m c) (aB m c) (j 0) (j 1))
      ∧ r.2.mem ((c : Thread nD τ).loc main_v4_2)
        = (fun j : S4096x5632.Idx => dc (aU m c) (aW m c) (aB m c) (aD m c) (aX m c) (aT m c) (j 0) (j 1))
      ∧ r.2.mem ((c : Thread nD τ).loc main_v4_3)
        = (fun j : S8x1024.Idx => loss (aU m c) (aW m c) (aB m c) (aD m c) (aX m c) (aT m c) (j 0) (j 1)) :=
  (θ_run defs _ _).mono (fun r h c => ⟨(h c).1.trans (final8 m c), (h c).2.1.trans (final9 m c), (h c).2.2.1.trans (final10 m c),
    (h c).2.2.2.1.trans (final11 m c)⟩) (Cert.Kernel6Ideal.Value.run_blocks m ρ)

end Kernel

/-- The kernel computes the reference's results, over the extended reals, from finite arguments. -/
theorem algebraic : Cert.algebraic_Kernel6Ideal_Reference6Ideal_pre_finite6 := by
  intro m g m' g' hp ha
  refine ⟨fun c => _, fun c => _, fun c => _, fun c => _,
    (θ_run Cert.Kernel6Ideal.defs _ _).mono (fun r h c => ⟨(h.1 c).1, (h.1 c).2.1, (h.1 c).2.2.1, (h.1 c).2.2.2, h.2.1 c⟩)
      (θ_run_and (kernel_run m g) (Cert.Kernel6Ideal.Gen.frame m g)),
    (θ_run Cert.Reference6Ideal.defs _ _).mono (fun r h c => ?_)
      (θ_run_and (Cert.Reference6Ideal.Value.run (F := Ideal) m' g') (frame_reference m' g' trivial))⟩
  obtain ⟨e0, e1, e2, e3, e4, e5⟩ := ha c
  obtain ⟨hU, hW, hB, hD, hX, hT⟩ := fn_true _ _ _ _ _ _ (hp c)
  refine ⟨(h.1 c).1.trans ?_, (h.1 c).2.1.trans ?_, (h.1 c).2.2.1.trans ?_, (h.1 c).2.2.2.1.trans ?_, h.2.1 c⟩
  · rw [Ref.res0, e0, e1, e2, e3, e4, e5]
    exact ref_dy _ _ _ _ _ _
  · rw [Ref.res1, e0, e1, e2]
    exact ref_act _ _ _
  · rw [Ref.res2, e0, e1, e2, e3, e4, e5]
    exact ref_dc _ _ _ _ _ _ hU hW hB hD hX hT
  · rw [Ref.res3, e0, e1, e2, e3, e4, e5]
    exact ref_loss _ _ _ _ _ _

end Cert.Ffn

end
-- ==== Proof.Merge.Spec.lean ====
/- What the merge of the three branches, its output projection and the normalisation after it compute, entry by entry, on the
   extended reals. -/
module

public import proofs.«01_k».proof.Proof.Ffn.Spec

@[expose] public section

noncomputable section

namespace Cert.Merge

open Idealize.ShloMosaic
open Cert.Conv (Mat)
open Cert.Ffn (logi)

/-- The largest of three numbers. -/
def top (a b c : EReal) : EReal := max (max a b) c

/-- The sum of the three exponentials, each scaled down by the largest. -/
def den (a b c : EReal) : EReal := Ideal.exp (a - top a b c) + Ideal.exp (b - top a b c) + Ideal.exp (c - top a b c)

/-- Three numbers weighted by the softmax of three others. -/
def mix (a b c x y z : EReal) : EReal :=
  Ideal.exp (a - top a b c) * Ideal.div 1 (den a b c) * x + Ideal.exp (b - top a b c) * Ideal.div 1 (den a b c) * y
    + Ideal.exp (c - top a b c) * Ideal.div 1 (den a b c) * z

/-- The head of a column. -/
def hd (e : Fin 256) : Fin 4 := ⟨e / 64, by omega⟩

/-- The three groups' outputs, mixed by head. -/
def mixed (O0 O1 O2 : Mat 4096 256) (L0 L1 L2 : Mat 4096 4) (r : Fin 4096) (e : Fin 256) : EReal :=
  mix (L0 (ix2 r (hd e))) (L1 (ix2 r (hd e))) (L2 (ix2 r (hd e))) (O0 (ix2 r e)) (O1 (ix2 r e)) (O2 (ix2 r e))

/-- The gates. -/
def gate (H : Mat 4096 1024) (WG : Mat 1024 3072) (BG : Mat 1 3072) (r : Fin 4096) (e : Fin 3072) : EReal :=
  logi ((∑ k : Fin 1024, H (ix2 r k) * WG (ix2 k e)) + BG (ix2 0 e))

/-- Column `e` of the gates of branch `b`. -/
def br (b : Fin 3) (e : Fin 1024) : Fin 3072 := ⟨b * 1024 + e, by omega⟩

/-- The three branches' projections, each times its gate. -/
def merged (A : Fin 4096 → Fin 256 → EReal) (Q : Fin 4096 → Fin 3072 → EReal) (OB OM : Mat 4096 512) (WA : Mat 256 1024) (WB WM : Mat 512 1024)
    (r : Fin 4096) (e : Fin 1024) : EReal :=
  Q r (br 0 e) * (∑ k : Fin 256, A r k * WA (ix2 k e)) + Q r (br 1 e) * (∑ k : Fin 512, OB (ix2 r k) * WB (ix2 k e))
    + Q r (br 2 e) * (∑ k : Fin 512, OM (ix2 r k) * WM (ix2 k e))

/-- The residual plus the output projection. -/
def resid (M : Fin 4096 → Fin 1024 → EReal) (X : Mat 4096 1024) (WO : Mat 1024 1024) (r : Fin 4096) (i : Fin 1024) : EReal :=
  X (ix2 r i) + ∑ k : Fin 1024, M r k * WO (ix2 k i)

/-- Its normalisation. -/
def normed (Y : Fin 4096 → Fin 1024 → EReal) (G : Mat 1 1024) (r : Fin 4096) (i : Fin 1024) : EReal :=
  Y r i * Ideal.rsqrt (Ideal.div (∑ k : Fin 1024, Y r k * Y r k) (Ideal.ofBits .f32 0x44800000#32) + Ideal.ofBits .f32 0x358637BD#32) * G (ix2 0 i)

end Cert.Merge

end
-- ==== Proof.Merge.KerBlk.lean ====
/- What the kernel reads at a grid point: every block, entry by entry, in the arguments. -/
module

public import proofs.«01_k».proof.Proof.Merge.Spec
public import proofs.«01_k».proof.Proof.Gen.Kernel7Ideal.Value

@[expose] public section

set_option maxRecDepth 16384

noncomputable section

namespace Cert.Merge

open Cert.Kernel7Ideal Cert.Kernel7Ideal.Gen Idealize.ShloMosaic Idealize.ShloMosaic.TcCoe Idealize.SL.Sem
open Idealize.ShloMosaic.Pipeline (Dat)
open Cert.Conv (Mat)

variable (m : (ℓ : Loc nD τ sig) → Buf (Elt Ideal) ℓ)

/-- Row `r` of block `t`. -/
def row (t : Fin cfg0.N) (r : Fin 512) : Fin 4096 := ⟨t.val * 512 + r, by have h : t.val < 8 := N_0 ▸ t.isLt; omega⟩

/-- Column `e` of the `j`-th chip's chunk of a projection. -/
def col (j : Fin 4) (e : Fin 256) : Fin 1024 := ⟨j * 256 + e, by omega⟩

/-- Column `e` of the `j`-th chip's chunk of the gates. -/
def gcol (j : Fin 4) (e : Fin 768) : Fin 3072 := ⟨j * 768 + e, by omega⟩

/-- Every window's block index at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] ∧ win0_9.index t = ![t.val, 0]
    ∧ win0_10.index t = ![0, 0, 0] ∧ win0_11.index t = ![0, 0] ∧ win0_12.index t = ![0, 0, 0] ∧ win0_13.index t = ![0, 0, 0]
    ∧ win0_14.index t = ![0, 0, 0] ∧ win0_15.index t = ![0, 0] ∧ win0_16.index t = ![0, 0]
    ∧ win0_17.index t = ![t.val, 0] ∧ win0_18.index t = ![t.val, 0] ∧ win0_19.index t = ![t.val, 0] ∧ win0_20.index t = ![t.val, 0]
    ∧ win0_21.index t = ![t.val, 0] :=
  (by decide +kernel : ∀ t : Fin grid0.N, _)

variable (c : Dev nD) (t : Fin cfg0.N)

abbrev aO0 : Mat 4096 256 := m ((c : Thread nD τ).loc main_arg0)
abbrev aO1 : Mat 4096 256 := m ((c : Thread nD τ).loc main_arg1)
abbrev aO2 : Mat 4096 256 := m ((c : Thread nD τ).loc main_arg2)
abbrev aL0 : Mat 4096 4 := m ((c : Thread nD τ).loc main_arg3)
abbrev aL1 : Mat 4096 4 := m ((c : Thread nD τ).loc main_arg4)
abbrev aL2 : Mat 4096 4 := m ((c : Thread nD τ).loc main_arg5)
abbrev aOB : Mat 4096 512 := m ((c : Thread nD τ).loc main_arg6)
abbrev aOM : Mat 4096 512 := m ((c : Thread nD τ).loc main_arg7)
abbrev aH : Mat 4096 1024 := m ((c : Thread nD τ).loc main_arg8)
abbrev aX : Mat 4096 1024 := m ((c : Thread nD τ).loc main_arg9)
abbrev aWG : Mat 1024 3072 := m ((c : Thread nD τ).loc main_arg10)
abbrev aBG : Mat 1 3072 := m ((c : Thread nD τ).loc main_arg11)
abbrev aWA : Mat 256 1024 := m ((c : Thread nD τ).loc main_arg12)
abbrev aWB : Mat 512 1024 := m ((c : Thread nD τ).loc main_arg13)
abbrev aWM : Mat 512 1024 := m ((c : Thread nD τ).loc main_arg14)
abbrev aWO : Mat 1024 1024 := m ((c : Thread nD τ).loc main_arg15)
abbrev aG : Mat 1 1024 := m ((c : Thread nD τ).loc main_arg16)

/-- The groups' outputs. -/
theorem b0 (r : Fin 512) (e : Fin 256) : (iblk m c 0 t : Vec Ideal S512x256 .f32) (ix2 r e) = aO0 m c (ix2 (row t r) e) := by
  blk_simp [iblk, V, idx t]
  blk_ext [idx t]
  rfl

theorem b1 (r : Fin 512) (e : Fin 256) : (iblk m c 1 t : Vec Ideal S512x256 .f32) (ix2 r e) = aO1 m c (ix2 (row t r) e) := by
  blk_simp [iblk, V, idx t]
  blk_ext [idx t]
  rfl

theorem b2 (r : Fin 512) (e : Fin 256) : (iblk m c 2 t : Vec Ideal S512x256 .f32) (ix2 r e) = aO2 m c (ix2 (row t r) e) := by
  blk_simp [iblk, V, idx t]
  blk_ext [idx t]
  rfl

/-- The groups' logits, one for each column of a head. -/
theorem b3 (r : Fin 512) (e : Fin 256) : (iblk m c 3 t : Vec Ideal S512x256 .f32) (ix2 r e) = aL0 m c (ix2 (row t r) (hd e)) := by
  blk_simp [iblk, idx t]
  entry_read
  have h : ((View.whole main_v2).slice (win0_3.rect t)).emb (ix2 r e) = ix2 (row t r) e := by
    blk_ext [idx t]
    rfl
  rw [h]
  pointwise
  rfl

theorem b4 (r : Fin 512) (e : Fin 256) : (iblk m c 4 t : Vec Ideal S512x256 .f32) (ix2 r e) = aL1 m c (ix2 (row t r) (hd e)) := by
  blk_simp [iblk, idx t]
  entry_read
  have h : ((View.whole main_v5).slice (win0_4.rect t)).emb (ix2 r e) = ix2 (row t r) e := by
    blk_ext [idx t]
    rfl
  rw [h]
  pointwise
  rfl

theorem b5 (r : Fin 512) (e : Fin 256) : (iblk m c 5 t : Vec Ideal S512x256 .f32) (ix2 r e) = aL2 m c (ix2 (row t r) (hd e)) := by
  blk_simp [iblk, idx t]
  entry_read
  have h : ((View.whole main_v8).slice (win0_5.rect t)).emb (ix2 r e) = ix2 (row t r) e := by
    blk_ext [idx t]
    rfl
  rw [h]
  pointwise
  rfl

/-- The other two branches' outputs. -/
theorem b6 (r : Fin 512) (e : Fin 512) : (iblk m c 6 t : Vec Ideal S512x512 .f32) (ix2 r e) = aOB m c (ix2 (row t r) e) := by
  blk_simp [iblk, V, idx t]
  blk_ext [idx t]
  rfl

theorem b7 (r : Fin 512) (e : Fin 512) : (iblk m c 7 t : Vec Ideal S512x512 .f32) (ix2 r e) = aOM m c (ix2 (row t r) e) := by
  blk_simp [iblk, V, idx t]
  blk_ext [idx t]
  rfl

/-- The normalised input. -/
theorem b8 (r : Fin 512) (e : Fin 1024) : (iblk m c 8 t : Vec Ideal S512x1024 .bf16) (ix2 r e) = aH m c (ix2 (row t r) e) := by
  blk_simp [iblk, idx t]
  entry_read
  have h : ((View.whole main_v21).slice (win0_8.rect t)).emb (ix2 r e) = ix2 (row t r) e := by
    blk_ext [idx t]
    rfl
  rw [h]
  pointwise

/-- The residual. -/
theorem b9 (r : Fin 512) (e : Fin 1024) : (iblk m c 9 t : Vec Ideal S512x1024 .f32) (ix2 r e) = aX m c (ix2 (row t r) e) := by
  blk_simp [iblk, V, idx t]
  blk_ext [idx t]
  rfl

/-- The gates' weight, one chunk of columns after the other. -/
theorem b10 (j : Fin 4) (k : Fin 1024) (e : Fin 768) :
    (iblk m c 10 t : Vec Ideal S4x1024x768 .bf16) (ix3 j k e) = aWG m c (ix2 k (gcol j e)) := by
  blk_simp [iblk, idx t]
  entry_read
  have h : ((View.whole main_v11).slice (win0_10.rect t)).emb (ix3 j k e) = ix3 j k e := by
    blk_ext [idx t]
  rw [h]
  pointwise
  rfl

/-- The gates' bias. -/
theorem b11 (e : Fin 3072) : (iblk m c 11 t : Vec Ideal S1x3072 .f32) (ix2 0 e) = aBG m c (ix2 0 e) := by
  blk_simp [iblk, V, idx t]
  blk_ext [idx t]

/-- The three branches' projections, one chunk of columns after the other. -/
theorem b12 (j : Fin 4) (k : Fin 256) (e : Fin 256) :
    (iblk m c 12 t : Vec Ideal S4x256x256 .bf16) (ix3 j k e) = aWA m c (ix2 k (col j e)) := by
  blk_simp [iblk, idx t]
  entry_read
  have h : ((View.whole main_v14).slice (win0_12.rect t)).emb (ix3 j k e) = ix3 j k e := by
    blk_ext [idx t]
  rw [h]
  pointwise
  rfl

theorem b13 (j : Fin 4) (k : Fin 512) (e : Fin 256) :
    (iblk m c 13 t : Vec Ideal S4x512x256 .bf16) (ix3 j k e) = aWB m c (ix2 k (col j e)) := by
  blk_simp [iblk, idx t]
  entry_read
  have h : ((View.whole main_v17).slice (win0_13.rect t)).emb (ix3 j k e) = ix3 j k e := by
    blk_ext [idx t]
  rw [h]
  pointwise
  rfl

theorem b14 (j : Fin 4) (k : Fin 512) (e : Fin 256) :
    (iblk m c 14 t : Vec Ideal S4x512x256 .bf16) (ix3 j k e) = aWM m c (ix2 k (col j e)) := by
  blk_simp [iblk, idx t]
  entry_read
  have h : ((View.whole main_v20).slice (win0_14.rect t)).emb (ix3 j k e) = ix3 j k e := by
    blk_ext [idx t]
  rw [h]
  pointwise
  rfl

/-- The output projection. -/
theorem b15 (k : Fin 1024) (i : Fin 1024) : (iblk m c 15 t : Vec Ideal S1024x1024 .bf16) (ix2 k i) = aWO m c (ix2 k i) := by
  blk_simp [iblk, idx t]
  entry_read
  have h : ((View.whole main_v22).slice (win0_15.rect t)).emb (ix2 k i) = ix2 k i := by
    blk_ext [idx t]
  rw [h]
  pointwise

/-- The normalisation's gain. -/
theorem b16 (i : Fin 1024) : (iblk m c 16 t : Vec Ideal S1x1024 .f32) (ix2 0 i) = aG m c (ix2 0 i) := by
  blk_simp [iblk, V, idx t]
  blk_ext [idx t]

/-- A chunk of the gates' weight, loaded. -/
theorem ld_wg (X : Vec Ideal S4x1024x768 .bf16) (j : Fin 4) (inb) (k : Fin 1024) (e : Fin 768) :
    (View.ld X (Rect.unit (s := S4x1024x768) ![(j : ℕ), 0, 0] ![1, 1024, 768] inb) : Vec Ideal S1x1024x768 .bf16) (ix3 0 k e) = X (ix3 j k e) :=
  View.ld_unit_apply_of X _ _ _ _ _ fun a => by fin_cases a <;> simp

/-- A chunk of the bias, loaded. -/
theorem ld_bg (X : Vec Ideal S1x3072 .f32) (j : Fin 4) (o : ℕ) (ho : o = j * 768) (inb) (e : Fin 768) :
    (View.ld X (Rect.unit (s := S1x3072) ![0, o] ![1, 768] inb) : Vec Ideal S1x768 .f32) (ix2 0 e) = X (ix2 0 (gcol j e)) :=
  View.ld_unit_apply_of X _ _ _ _ _ fun a => by fin_cases a <;> simp [gcol, ho]

/-- A chunk of a branch's projection, loaded. -/
theorem ld_w {n : ℕ} (X : Vec Ideal (⟨3, ![4, n, 256]⟩ : Shape) .bf16) (j : Fin 4) (inb) (k : Fin n) (e : Fin 256) :
    (View.ld X (Rect.unit (s := ⟨3, ![4, n, 256]⟩) ![(j : ℕ), 0, 0] ![1, n, 256] inb) : Vec Ideal (⟨3, ![1, n, 256]⟩ : Shape) .bf16) (ix3 0 k e)
      = X (ix3 j k e) :=
  View.ld_unit_apply_of X _ _ _ _ _ fun a => by fin_cases a <;> simp

end Cert.Merge

end
-- ==== Proof.Merge.KerPay.lean ====
/- What the kernel computes at a grid point, entry by entry, from its blocks. -/
module

public import proofs.«01_k».proof.Proof.Merge.KerBlk

@[expose] public section

set_option maxRecDepth 16384

noncomputable section

namespace Cert.Merge

open Cert.Kernel7Ideal Cert.Kernel7Ideal.Gen Idealize.ShloMosaic Idealize.ShloMosaic.TcCoe Idealize.SL.Sem
open Cert.Conv (Mat)
open Cert.Ffn (logi)

/-- An index of a matrix is made of its two coordinates. -/
theorem ix2_eta {n k : ℕ} (y : (⟨2, ![n, k]⟩ : Shape).Idx) : y = ix2 (y 0) (y 1) := by
  funext d
  fin_cases d <;> rfl

section Gates

variable (H : Vec Ideal S512x1024 .bf16) (W : Vec Ideal S1x1024x768 .bf16) (B : Vec Ideal S1x768 .f32) (r : Fin 512) (e : Fin 768)

theorem pay3_eq : k0_pay3 (F := Ideal) H = H := by
  funext y
  pointwise! [k0_pay3]

/-- A chunk of the gates. -/
theorem pay4_ix : k0_pay4 (F := Ideal) H W B (ix2 r e) = logi ((∑ k : Fin 1024, H (ix2 r k) * W (ix3 0 k e)) + B (ix2 0 e)) := by
  unfold k0_pay4
  rw [pay3_eq]
  pointwise
  rw [zero_sub]
  rfl

theorem pay5_ix : k0_pay5 (F := Ideal) H W B (ix2 r e) = logi ((∑ k : Fin 1024, H (ix2 r k) * W (ix3 0 k e)) + B (ix2 0 e)) := by
  unfold k0_pay5
  rw [pay3_eq]
  pointwise
  rw [zero_sub]
  rfl

theorem pay6_ix : k0_pay6 (F := Ideal) (k0_pay3 (F := Ideal) H) W B (ix2 r e)
    = logi ((∑ k : Fin 1024, H (ix2 r k) * W (ix3 0 k e)) + B (ix2 0 e)) := by
  rw [pay3_eq]
  pointwise [k0_pay6]
  rw [zero_sub]
  rfl

theorem pay7_ix : k0_pay7 (F := Ideal) (k0_pay3 (F := Ideal) H) W B (ix2 r e)
    = logi ((∑ k : Fin 1024, H (ix2 r k) * W (ix3 0 k e)) + B (ix2 0 e)) := by
  rw [pay3_eq]
  pointwise [k0_pay7]
  rw [zero_sub]
  rfl

end Gates

/-- The groups' mixture. -/
theorem pay10_ix (L0 L1 L2 O0 O1 O2 : Vec Ideal S512x256 .f32) (r : Fin 512) (e : Fin 256) :
    k0_pay10 (F := Ideal) (k0_pay8 (F := Ideal) L0) (k0_pay9 (F := Ideal) L1) L2 O0 O1 O2 (ix2 r e)
      = mix (L0 (ix2 r e)) (L1 (ix2 r e)) (L2 (ix2 r e)) (O0 (ix2 r e)) (O1 (ix2 r e)) (O2 (ix2 r e)) := by
  pointwise [k0_pay10, k0_pay8, k0_pay9]
  rfl

section Chunks

variable (A : FVec Ideal S512x256 .f32) (OB OM : Vec Ideal S512x512 .f32) (WA : Vec Ideal S1x256x256 .bf16) (WB WM : Vec Ideal S1x512x256 .bf16)
  (G0 G1 G2 : Vec Ideal S512x256 .f32)

/-- A chunk of the merged branches, from the chunks of the gates. -/
def chk (r : Fin 512) (e : Fin 256) : EReal :=
  G0 (ix2 r e) * (∑ k : Fin 256, A (ix2 r k) * WA (ix3 0 k e)) + G1 (ix2 r e) * (∑ k : Fin 512, OB (ix2 r k) * WB (ix3 0 k e))
    + G2 (ix2 r e) * (∑ k : Fin 512, OM (ix2 r k) * WM (ix3 0 k e))

variable (r : Fin 512) (e : Fin 256)

theorem pay13_ix (L0 L1 : FVec Ideal S512x256 .f32) (L2 O0 O1 O2 : Vec Ideal S512x256 .f32) :
    k0_pay13 (F := Ideal) OM (k0_pay11 (F := Ideal) L0 L1 L2 O0 O1 O2 WA) (k0_pay12 (F := Ideal) OB WB) WM G0 G1 G2 (ix2 r e)
      = chk (k0_pay10 (F := Ideal) L0 L1 L2 O0 O1 O2) OB OM WA WB WM G0 G1 G2 r e := by
  unfold k0_pay11
  generalize k0_pay10 (F := Ideal) L0 L1 L2 O0 O1 O2 = P
  unfold chk
  pointwise [k0_pay13, k0_pay12]

theorem pay17_ix : k0_pay17 (F := Ideal) (k0_pay14 (F := Ideal) OB WB) (k0_pay15 (F := Ideal) OM WM) (k0_pay16 (F := Ideal) A WA G0) G1 G2 (ix2 r e)
    = chk A OB OM WA WB WM G0 G1 G2 r e := by
  unfold chk
  pointwise [k0_pay17, k0_pay14, k0_pay15, k0_pay16]

theorem pay18_ix : k0_pay19 (F := Ideal) (k0_pay18 (F := Ideal) A OB OM WA WB WM G0 G1 G2) (ix2 r e) = chk A OB OM WA WB WM G0 G1 G2 r e := by
  unfold chk
  pointwise [k0_pay18, k0_pay19]

theorem pay20_ix : k0_pay20 (F := Ideal) A OB OM WA WB WM G0 G1 G2 (ix2 r e) = chk A OB OM WA WB WM G0 G1 G2 r e := by
  unfold chk
  pointwise [k0_pay20]

end Chunks

section Output

variable (M : FVec Ideal S512x1024 .bf16) (X : Vec Ideal S512x1024 .f32) (WO : Vec Ideal S1024x1024 .bf16) (G : Vec Ideal S1x1024 .f32)
  (r : Fin 512) (i : Fin 1024)

/-- The residual plus the output projection. -/
theorem pay1_ix : k0_pay1 (F := Ideal) M X WO (ix2 r i) = X (ix2 r i) + ∑ k : Fin 1024, M (ix2 r k) * WO (ix2 k i) := by
  pointwise [k0_pay1]

/-- Its normalisation. -/
theorem pay2_ix : k0_pay2 (F := Ideal) M X WO G (ix2 r i) = k0_pay1 (F := Ideal) M X WO (ix2 r i)
    * Ideal.rsqrt (Ideal.div (∑ k : Fin 1024, k0_pay1 (F := Ideal) M X WO (ix2 r k) * k0_pay1 (F := Ideal) M X WO (ix2 r k))
      (Ideal.ofBits .f32 0x44800000#32) + Ideal.ofBits .f32 0x358637BD#32) * G (ix2 0 i) := by
  unfold k0_pay2
  generalize k0_pay1 (F := Ideal) M X WO = P
  pointwise

end Output

/-- The merged branches, as stored. -/
theorem pay21_eq (M : Vec Ideal S512x1024 .f32) (y : S512x1024.Idx) : k0_pay21 (F := Ideal) M y = M y := by
  pointwise! [k0_pay21]

variable (m : (ℓ : Loc nD τ sig) → Buf (Elt Ideal) ℓ) (c : Dev nD) (t : Fin cfg0.N)

/-- The four chunks of the gates, as stored. -/
abbrev gpcs : List (View.Piece (Elt Ideal) S512x3072 .f32) :=
  [⟨Rect.unit ![0, 2304] ![512, 768] inb_S512x3072_S512x768_0_2304, k0_pay7 (F := Ideal) (k0_pay3 (F := Ideal) (iblk m c 8 t))
      (View.ld (iblk m c 10 t) (Rect.unit ![3, 0, 0] ![1, 1024, 768] inb_S4x1024x768_S1x1024x768_3_0_0))
      (View.ld (iblk m c 11 t) (Rect.unit ![0, 2304] ![1, 768] inb_S1x3072_S1x768_0_2304))⟩,
    ⟨Rect.unit ![0, 1536] ![512, 768] inb_S512x3072_S512x768_0_1536, k0_pay6 (F := Ideal) (k0_pay3 (F := Ideal) (iblk m c 8 t))
      (View.ld (iblk m c 10 t) (Rect.unit ![2, 0, 0] ![1, 1024, 768] inb_S4x1024x768_S1x1024x768_2_0_0))
      (View.ld (iblk m c 11 t) (Rect.unit ![0, 1536] ![1, 768] inb_S1x3072_S1x768_0_1536))⟩,
    ⟨Rect.unit ![0, 768] ![512, 768] inb_S512x3072_S512x768_0_768, k0_pay5 (F := Ideal) (iblk m c 8 t)
      (View.ld (iblk m c 10 t) (Rect.unit ![1, 0, 0] ![1, 1024, 768] inb_S4x1024x768_S1x1024x768_1_0_0))
      (View.ld (iblk m c 11 t) (Rect.unit ![0, 768] ![1, 768] inb_S1x3072_S1x768_0_768))⟩,
    ⟨Rect.unit ![0, 0] ![512, 768] inb_S512x3072_S512x768_0_0, k0_pay4 (F := Ideal) (iblk m c 8 t)
      (View.ld (iblk m c 10 t) (Rect.unit ![0, 0, 0] ![1, 1024, 768] inb_S4x1024x768_S1x1024x768_0_0_0))
      (View.ld (iblk m c 11 t) (Rect.unit ![0, 0] ![1, 768] inb_S1x3072_S1x768_0_0))⟩]

/-- One of the chunks. -/
theorem g_piece (j : Fin 4) (o : ℕ) (ho : o = j * 768) (P : Vec Ideal S512x768 .f32) (x8 : Vec Ideal S512x1024 .bf16)
    (w : Vec Ideal S1x1024x768 .bf16) (b : Vec Ideal S1x768 .f32) (h8 : x8 = iblk m c 8 t)
    (hP : ∀ r e, P (ix2 r e) = logi ((∑ k : Fin 1024, x8 (ix2 r k) * w (ix3 0 k e)) + b (ix2 0 e)))
    (hw : ∀ k e, w (ix3 0 k e) = (iblk m c 10 t : Vec Ideal S4x1024x768 .bf16) (ix3 j k e))
    (hb : ∀ e, b (ix2 0 e) = (iblk m c 11 t : Vec Ideal S1x3072 .f32) (ix2 0 (gcol j e)))
    (y : S512x3072.Idx) (z : S512x768.Idx) (h0 : (y 0 : ℕ) = z 0) (h1 : (y 1 : ℕ) = o + z 1) :
    P z = gate (aH m c) (aWG m c) (aBG m c) (row t (y 0)) (y 1) := by
  have e0 : y 0 = z 0 := Fin.ext h0
  have e1 : y 1 = gcol j (z 1) := Fin.ext (h1.trans (congrArg (· + (z 1 : ℕ)) ho))
  rw [e0, e1]
  refine (congrArg P (ix2_eta z)).trans ((hP _ _).trans ?_)
  unfold gate
  refine congrArg logi (congrArg₂ (HAdd.hAdd : EReal → EReal → EReal) (Finset.sum_congr rfl fun k _ => ?_) ((hb _).trans (b11 m c t _)))
  exact congrArg₂ (HMul.hMul : EReal → EReal → EReal) ((congrFun h8 _).trans (b8 m c t _ k)) ((hw _ _).trans (b10 m c t j k _))

/-- The gates of a grid point's rows. -/
theorem canon_gpcs (y : S512x3072.Idx) : View.canon (gpcs m c t) y = gate (aH m c) (aWG m c) (aBG m c) (row t (y 0)) (y 1) := by
  unfold gpcs
  canon_tiles y h
  case piece0 => exact g_piece m c t 3 2304 rfl (k0_pay7 (F := Ideal) _ _ _) _ _ _ rfl (pay7_ix _ _ _) (fun k e => ld_wg _ 3 _ k e) (fun e => ld_bg _ 3 2304 rfl _ e) _ y h0 h1
  case piece1 => exact g_piece m c t 2 1536 rfl (k0_pay6 (F := Ideal) _ _ _) _ _ _ rfl (pay6_ix _ _ _) (fun k e => ld_wg _ 2 _ k e) (fun e => ld_bg _ 2 1536 rfl _ e) _ y h0 h1
  case piece2 => exact g_piece m c t 1 768 rfl (k0_pay5 (F := Ideal) _ _ _) _ _ _ rfl (pay5_ix _ _ _) (fun k e => ld_wg _ 1 _ k e) (fun e => ld_bg _ 1 768 rfl _ e) _ y h0 h1
  case piece3 =>
    exact g_piece m c t 0 0 rfl (k0_pay4 (F := Ideal) _ _ _) _ _ _ rfl (pay4_ix _ _ _) (fun k e => ld_wg _ 0 _ k e) (fun e => ld_bg _ 0 0 rfl _ e) _ y h0
      (h1.trans (Nat.zero_add _).symm)

/-- A chunk of one branch's gates, read back. -/
abbrev gr (o : ℕ) (inb : ∀ a, (![0, o] : Fin 2 → ℕ) a + (![512, 256] : Fin 2 → ℕ) a ≤ S512x3072.size a) : Vec Ideal S512x256 .f32 :=
  (ms0_21 t).view.readCov (Val := Elt Ideal) (gpcs m c t) (Rect.unit (s := S512x3072) ![0, o] ![512, 256] inb).toLoadRect

theorem gr_apply (o : ℕ) (inb : ∀ a, (![0, o] : Fin 2 → ℕ) a + (![512, 256] : Fin 2 → ℕ) a ≤ S512x3072.size a) (b : Fin 3) (j : Fin 4)
    (ho : o = b * 1024 + j * 256) (r : Fin 512) (e : Fin 256) :
    gr m c t o inb (ix2 r e) = gate (aH m c) (aWG m c) (aBG m c) (row t r) (br b (col j e)) := by
  unfold gr
  rw [View.readCov_eq_canon']
  subst ho
  refine (canon_gpcs m c t _).trans (congrArg₂ (gate (aH m c) (aWG m c) (aBG m c)) (congrArg (row t) (Fin.ext ?_)) (Fin.ext ?_))
  · simp [LoadRect.idx, Rect.unit, Rect.toLoadRect]
  · simp [LoadRect.idx, Rect.unit, Rect.toLoadRect, col, br]
    omega

end Cert.Merge

end
-- ==== Proof.Merge.KerOut.lean ====
/- What the kernel leaves in its five results. -/
module

public import proofs.«01_k».proof.Proof.Merge.KerPay
public import Idealize.ShloMosaic.Lib.Pipeline.ReadBack

@[expose] public section

set_option maxRecDepth 16384

noncomputable section

namespace Cert.Merge

open Cert.Kernel7Ideal Cert.Kernel7Ideal.Gen Idealize.ShloMosaic Idealize.ShloMosaic.TcCoe Idealize.SL.Sem
open Idealize.ShloMosaic.Pipeline (Dat)
open Cert.Conv (Mat)

/-- A whole array read back is what its stores left. -/
theorem readCov_whole {sg : RefSig} {κ : Kind} {sp : Space} {S : Shape} {el : EltTy} (v : View sg κ sp S el) (L : List (View.Piece (Elt Ideal) S el))
    {off : Fin S.rank → ℕ} (inb : ∀ a, off a + S.size a ≤ S.size a) (y : S.Idx) :
    v.readCov L (Rect.unit off S.size inb).toLoadRect y = View.canon L y := by
  rw [View.readCov_eq_canon']
  refine congrArg (View.canon L) (funext fun a => Fin.ext ?_)
  have h := inb a
  simp [LoadRect.idx, Rect.unit, Rect.toLoadRect]
  omega

variable (m : (ℓ : Loc nD τ sig) → Buf (Elt Ideal) ℓ) (c : Dev nD) (t : Fin cfg0.N)

/-- The results, in the arguments. -/
abbrev fO : Fin 4096 → Fin 256 → EReal := mixed (aO0 m c) (aO1 m c) (aO2 m c) (aL0 m c) (aL1 m c) (aL2 m c)
abbrev fG : Fin 4096 → Fin 3072 → EReal := gate (aH m c) (aWG m c) (aBG m c)
abbrev fM : Fin 4096 → Fin 1024 → EReal := merged (fO m c) (fG m c) (aOB m c) (aOM m c) (aWA m c) (aWB m c) (aWM m c)
abbrev fX : Fin 4096 → Fin 1024 → EReal := resid (fM m c) (aX m c) (aWO m c)
abbrev fN : Fin 4096 → Fin 1024 → EReal := normed (fX m c) (aG m c)

/-- The groups' mixture at a grid point. -/
abbrev oa : FVec Ideal S512x256 .f32 :=
  k0_pay10 (F := Ideal) (k0_pay8 (F := Ideal) (iblk m c 3 t)) (k0_pay9 (F := Ideal) (iblk m c 4 t)) (iblk m c 5 t) (iblk m c 0 t) (iblk m c 1 t) (iblk m c 2 t)

theorem oa_apply (r : Fin 512) (e : Fin 256) : oa m c t (ix2 r e) = fO m c (row t r) e := by
  have h0 := b0 m c t r e
  have h1 := b1 m c t r e
  have h2 := b2 m c t r e
  have h3 := b3 m c t r e
  have h4 := b4 m c t r e
  have h5 := b5 m c t r e
  unfold oa
  rw [pay10_ix, h0, h1, h2, h3, h4, h5]
  rfl

/-- A chunk of the merged branches, in the arguments. -/
theorem chk_apply (j : Fin 4) (A : FVec Ideal S512x256 .f32) (B6 B7 : Vec Ideal S512x512 .f32) (WA : Vec Ideal S1x256x256 .bf16)
    (WB WM : Vec Ideal S1x512x256 .bf16) (G0 G1 G2 : Vec Ideal S512x256 .f32)
    (hA : A = oa m c t) (h6 : B6 = iblk m c 6 t) (h7 : B7 = iblk m c 7 t)
    (hWA : ∀ k e, WA (ix3 0 k e) = (iblk m c 12 t : Vec Ideal S4x256x256 .bf16) (ix3 j k e))
    (hWB : ∀ k e, WB (ix3 0 k e) = (iblk m c 13 t : Vec Ideal S4x512x256 .bf16) (ix3 j k e))
    (hWM : ∀ k e, WM (ix3 0 k e) = (iblk m c 14 t : Vec Ideal S4x512x256 .bf16) (ix3 j k e))
    (h0 : ∀ r e, G0 (ix2 r e) = fG m c (row t r) (br 0 (col j e)))
    (h1 : ∀ r e, G1 (ix2 r e) = fG m c (row t r) (br 1 (col j e)))
    (h2 : ∀ r e, G2 (ix2 r e) = fG m c (row t r) (br 2 (col j e))) (r : Fin 512) (e : Fin 256) :
    chk A B6 B7 WA WB WM G0 G1 G2 r e = fM m c (row t r) (col j e) := by
  unfold chk fM merged
  refine congrArg₂ (HAdd.hAdd : EReal → EReal → EReal) (congrArg₂ (HAdd.hAdd : EReal → EReal → EReal) ?_ ?_) ?_
  · refine congrArg₂ (HMul.hMul : EReal → EReal → EReal) (h0 r e) (Finset.sum_congr rfl fun k _ => congrArg₂ (HMul.hMul : EReal → EReal → EReal) ?_ ?_)
    · exact (congrFun hA _).trans (oa_apply m c t r k)
    · exact (hWA k e).trans (b12 m c t j k e)
  · refine congrArg₂ (HMul.hMul : EReal → EReal → EReal) (h1 r e) (Finset.sum_congr rfl fun k _ => congrArg₂ (HMul.hMul : EReal → EReal → EReal) ?_ ?_)
    · exact (congrFun h6 _).trans (b6 m c t r k)
    · exact (hWB k e).trans (b13 m c t j k e)
  · refine congrArg₂ (HMul.hMul : EReal → EReal → EReal) (h2 r e) (Finset.sum_congr rfl fun k _ => congrArg₂ (HMul.hMul : EReal → EReal → EReal) ?_ ?_)
    · exact (congrFun h7 _).trans (b7 m c t r k)
    · exact (hWM k e).trans (b14 m c t j k e)

/-- A chunk's piece of the merged branches. -/
theorem m_piece (j : Fin 4) (o : ℕ) (ho : o = j * 256) (P : Vec Ideal S512x256 .f32)
    (hP : ∀ r e, P (ix2 r e) = fM m c (row t r) (col j e)) (y : S512x1024.Idx) (z : S512x256.Idx)
    (h0 : (y 0 : ℕ) = z 0) (h1 : (y 1 : ℕ) = o + z 1) : P z = fM m c (row t (y 0)) (y 1) := by
  have e0 : y 0 = z 0 := Fin.ext h0
  have e1 : y 1 = col j (z 1) := Fin.ext (h1.trans (congrArg (· + (z 1 : ℕ)) ho))
  rw [e0, e1]
  exact (congrArg P (ix2_eta z)).trans (hP _ _)

/-- The chunks of the three projections at a grid point. -/
abbrev wa (o : ℕ) (inb : ∀ a, (![o, 0, 0] : Fin 3 → ℕ) a + (![1, 256, 256] : Fin 3 → ℕ) a ≤ S4x256x256.size a) : Vec Ideal S1x256x256 .bf16 :=
  View.ld (iblk m c 12 t : Vec Ideal S4x256x256 .bf16) (Rect.unit (s := S4x256x256) ![o, 0, 0] ![1, 256, 256] inb)
abbrev wb (o : ℕ) (inb : ∀ a, (![o, 0, 0] : Fin 3 → ℕ) a + (![1, 512, 256] : Fin 3 → ℕ) a ≤ S4x512x256.size a) : Vec Ideal S1x512x256 .bf16 :=
  View.ld (iblk m c 13 t : Vec Ideal S4x512x256 .bf16) (Rect.unit (s := S4x512x256) ![o, 0, 0] ![1, 512, 256] inb)
abbrev wm (o : ℕ) (inb : ∀ a, (![o, 0, 0] : Fin 3 → ℕ) a + (![1, 512, 256] : Fin 3 → ℕ) a ≤ S4x512x256.size a) : Vec Ideal S1x512x256 .bf16 :=
  View.ld (iblk m c 14 t : Vec Ideal S4x512x256 .bf16) (Rect.unit (s := S4x512x256) ![o, 0, 0] ![1, 512, 256] inb)

/-- The four chunks of the merged branches, as stored. -/
abbrev mpcs : List (View.Piece (Elt Ideal) S512x1024 .f32) :=
  [⟨Rect.unit ![0, 768] ![512, 256] inb_S512x1024_S512x256_0_768, k0_pay20 (F := Ideal) (oa m c t) (iblk m c 6 t) (iblk m c 7 t)
      (wa m c t 3 inb_S4x256x256_S1x256x256_3_0_0) (wb m c t 3 inb_S4x512x256_S1x512x256_3_0_0) (wm m c t 3 inb_S4x512x256_S1x512x256_3_0_0)
      (gr m c t 768 inb_S512x3072_S512x256_0_768) (gr m c t 1792 inb_S512x3072_S512x256_0_1792) (gr m c t 2816 inb_S512x3072_S512x256_0_2816)⟩,
    ⟨Rect.unit ![0, 512] ![512, 256] inb_S512x1024_S512x256_0_512, k0_pay19 (F := Ideal) (k0_pay18 (F := Ideal) (oa m c t) (iblk m c 6 t) (iblk m c 7 t)
      (wa m c t 2 inb_S4x256x256_S1x256x256_2_0_0) (wb m c t 2 inb_S4x512x256_S1x512x256_2_0_0) (wm m c t 2 inb_S4x512x256_S1x512x256_2_0_0)
      (gr m c t 512 inb_S512x3072_S512x256_0_512) (gr m c t 1536 inb_S512x3072_S512x256_0_1536) (gr m c t 2560 inb_S512x3072_S512x256_0_2560))⟩,
    ⟨Rect.unit ![0, 256] ![512, 256] inb_S512x1024_S512x256_0_256, k0_pay17 (F := Ideal)
      (k0_pay14 (F := Ideal) (iblk m c 6 t) (wb m c t 1 inb_S4x512x256_S1x512x256_1_0_0))
      (k0_pay15 (F := Ideal) (iblk m c 7 t) (wm m c t 1 inb_S4x512x256_S1x512x256_1_0_0))
      (k0_pay16 (F := Ideal) (oa m c t) (wa m c t 1 inb_S4x256x256_S1x256x256_1_0_0) (gr m c t 256 inb_S512x3072_S512x256_0_256))
      (gr m c t 1280 inb_S512x3072_S512x256_0_1280) (gr m c t 2304 inb_S512x3072_S512x256_0_2304)⟩,
    ⟨Rect.unit ![0, 0] ![512, 256] inb_S512x1024_S512x256_0_0, k0_pay13 (F := Ideal) (iblk m c 7 t)
      (k0_pay11 (F := Ideal) (k0_pay8 (F := Ideal) (iblk m c 3 t)) (k0_pay9 (F := Ideal) (iblk m c 4 t)) (iblk m c 5 t) (iblk m c 0 t) (iblk m c 1 t)
        (iblk m c 2 t) (wa m c t 0 inb_S4x256x256_S1x256x256_0_0_0))
      (k0_pay12 (F := Ideal) (iblk m c 6 t) (wb m c t 0 inb_S4x512x256_S1x512x256_0_0_0)) (wm m c t 0 inb_S4x512x256_S1x512x256_0_0_0)
      (gr m c t 0 inb_S512x3072_S512x256_0_0) (gr m c t 1024 inb_S512x3072_S512x256_0_1024) (gr m c t 2048 inb_S512x3072_S512x256_0_2048)⟩]

/-- The merged branches at a grid point's rows. -/
theorem canon_mpcs (y : S512x1024.Idx) : View.canon (mpcs m c t) y = fM m c (row t (y 0)) (y 1) := by
  unfold mpcs
  canon_tiles y h
  case piece0 =>
    refine m_piece m c t 3 768 rfl (k0_pay20 (F := Ideal) _ _ _ _ _ _ _ _ _) (fun r e => (pay20_ix _ _ _ _ _ _ _ _ _ r e).trans ?_) _ y h0 h1
    exact chk_apply m c t 3 _ _ _ _ _ _ _ _ _ rfl rfl rfl (fun k e => ld_w _ 3 _ k e) (fun k e => ld_w _ 3 _ k e) (fun k e => ld_w _ 3 _ k e)
      (fun r e => gr_apply m c t 768 _ 0 3 rfl r e) (fun r e => gr_apply m c t 1792 _ 1 3 rfl r e) (fun r e => gr_apply m c t 2816 _ 2 3 rfl r e) r e
  case piece1 =>
    refine m_piece m c t 2 512 rfl (k0_pay19 (F := Ideal) (k0_pay18 (F := Ideal) _ _ _ _ _ _ _ _ _))
      (fun r e => (pay18_ix _ _ _ _ _ _ _ _ _ r e).trans ?_) _ y h0 h1
    exact chk_apply m c t 2 _ _ _ _ _ _ _ _ _ rfl rfl rfl (fun k e => ld_w _ 2 _ k e) (fun k e => ld_w _ 2 _ k e) (fun k e => ld_w _ 2 _ k e)
      (fun r e => gr_apply m c t 512 _ 0 2 rfl r e) (fun r e => gr_apply m c t 1536 _ 1 2 rfl r e) (fun r e => gr_apply m c t 2560 _ 2 2 rfl r e) r e
  case piece2 =>
    refine m_piece m c t 1 256 rfl (k0_pay17 (F := Ideal) (k0_pay14 (F := Ideal) _ _) (k0_pay15 (F := Ideal) _ _) (k0_pay16 (F := Ideal) _ _ _) _ _)
      (fun r e => (pay17_ix _ _ _ _ _ _ _ _ _ r e).trans ?_) _ y h0 h1
    exact chk_apply m c t 1 _ _ _ _ _ _ _ _ _ rfl rfl rfl (fun k e => ld_w _ 1 _ k e) (fun k e => ld_w _ 1 _ k e) (fun k e => ld_w _ 1 _ k e)
      (fun r e => gr_apply m c t 256 _ 0 1 rfl r e) (fun r e => gr_apply m c t 1280 _ 1 1 rfl r e) (fun r e => gr_apply m c t 2304 _ 2 1 rfl r e) r e
  case piece3 =>
    refine m_piece m c t 0 0 rfl (k0_pay13 (F := Ideal) _ (k0_pay11 (F := Ideal) _ _ _ _ _ _ _) (k0_pay12 (F := Ideal) _ _) _ _ _ _)
      (fun r e => (pay13_ix _ _ _ _ _ _ _ _ r e _ _ _ _ _ _).trans ?_) _ y h0 (h1.trans (Nat.zero_add _).symm)
    exact chk_apply m c t 0 _ _ _ _ _ _ _ _ _ rfl rfl rfl (fun k e => ld_w _ 0 _ k e) (fun k e => ld_w _ 0 _ k e) (fun k e => ld_w _ 0 _ k e)
      (fun r e => gr_apply m c t 0 _ 0 0 rfl r e) (fun r e => gr_apply m c t 1024 _ 1 0 rfl r e) (fun r e => gr_apply m c t 2048 _ 2 0 rfl r e) r e

/-- The merged branches, read back whole. -/
abbrev mg : FVec Ideal S512x1024 .bf16 :=
  k0_pay21 (F := Ideal) ((View.whole cc0_scratch0 : View sig .tc .vmem S512x1024 .f32).readCov (Val := Elt Ideal) (mpcs m c t)
    (Rect.unit (s := S512x1024) ![0, 0] ![512, 1024] inb_S512x1024_S512x1024_0_0).toLoadRect)

theorem mg_at (y : S512x1024.Idx) : mg m c t y = fM m c (row t (y 0)) (y 1) :=
  (pay21_eq _ y).trans ((readCov_whole _ _ _ y).trans (canon_mpcs m c t y))

theorem x_apply (r : Fin 512) (i : Fin 1024) : k0_pay1 (F := Ideal) (mg m c t) (iblk m c 9 t) (iblk m c 15 t) (ix2 r i) = fX m c (row t r) i := by
  have hM := fun k => mg_at m c t (ix2 r k)
  have h9 := b9 m c t r i
  have h15 := fun k => b15 m c t k i
  generalize mg m c t = M, iblk m c 9 t = X, iblk m c 15 t = WO at *
  rw [pay1_ix]
  simp only [hM, h9, h15]
  rfl

theorem x_at (y : S512x1024.Idx) : k0_pay1 (F := Ideal) (mg m c t) (iblk m c 9 t) (iblk m c 15 t) y = fX m c (row t (y 0)) (y 1) :=
  (congrArg (k0_pay1 (F := Ideal) (mg m c t) (iblk m c 9 t) (iblk m c 15 t)) (ix2_eta y)).trans (x_apply m c t (y 0) (y 1))

theorem n_apply (r : Fin 512) (i : Fin 1024) :
    k0_pay2 (F := Ideal) (mg m c t) (iblk m c 9 t) (iblk m c 15 t) (iblk m c 16 t) (ix2 r i) = fN m c (row t r) i := by
  have hX := fun k => x_apply m c t r k
  have h16 := b16 m c t i
  generalize mg m c t = M, iblk m c 9 t = X, iblk m c 15 t = WO, iblk m c 16 t = G at *
  rw [pay2_ix]
  simp only [hX, h16]
  rfl

theorem n_at (y : S512x1024.Idx) : k0_pay2 (F := Ideal) (mg m c t) (iblk m c 9 t) (iblk m c 15 t) (iblk m c 16 t) y = fN m c (row t (y 0)) (y 1) :=
  (congrArg (k0_pay2 (F := Ideal) (mg m c t) (iblk m c 9 t) (iblk m c 15 t) (iblk m c 16 t)) (ix2_eta y)).trans (n_apply m c t (y 0) (y 1))

/-- Where a block's entry lies in the whole array. -/
theorem emb17 (y : S512x256.Idx) : ((View.whole main_v23_0).slice (win0_17.rect t)).emb y = ix2 (row t (y 0)) (y 1) := by
  blk_ext [idx t]
  rfl

theorem emb18 (y : S512x1024.Idx) : ((View.whole main_v23_1).slice (win0_18.rect t)).emb y = ix2 (row t (y 0)) (y 1) := by
  blk_ext [idx t]
  rfl

theorem emb19 (y : S512x1024.Idx) : ((View.whole main_v23_2).slice (win0_19.rect t)).emb y = ix2 (row t (y 0)) (y 1) := by
  blk_ext [idx t]
  rfl

theorem emb20 (y : S512x1024.Idx) : ((View.whole main_v23_3).slice (win0_20.rect t)).emb y = ix2 (row t (y 0)) (y 1) := by
  blk_ext [idx t]
  rfl

theorem emb21 (y : S512x3072.Idx) : ((View.whole main_v23_4).slice (win0_21.rect t)).emb y = ix2 (row t (y 0)) (y 1) := by
  blk_ext [idx t]
  rfl

/-- The groups' mixture. -/
theorem final17 : (dats m 0 c).arrAt 17 (cfgs 0).N = fun j : S4096x256.Idx => fO m c (j 0) (j 1) := by
  refine (dats m 0 c).arrAt_eq_of_covers 17 _ (by decide +kernel) fun t hf y => ?_
  blk_simp
  rw [after0_17, emb17]
  show _ = fO m c (row t (y 0)) (y 1)
  have key := (congrArg (oa m c t) (ix2_eta y)).trans (oa_apply m c t (y 0) (y 1))
  unfold outsAt0
  dsimp only
  frame_out
  exact key

/-- The merged branches. -/
theorem final18 : (dats m 0 c).arrAt 18 (cfgs 0).N = fun j : S4096x1024.Idx => fM m c (j 0) (j 1) := by
  refine (dats m 0 c).arrAt_eq_of_covers 18 _ (by decide +kernel) fun t hf y => ?_
  blk_simp
  rw [after0_18, emb18]
  show _ = fM m c (row t (y 0)) (y 1)
  have key := mg_at m c t y
  frame_out
  exact key

/-- The residual after the output projection. -/
theorem final19 : (dats m 0 c).arrAt 19 (cfgs 0).N = fun j : S4096x1024.Idx => fX m c (j 0) (j 1) := by
  refine (dats m 0 c).arrAt_eq_of_covers 19 _ (by decide +kernel) fun t hf y => ?_
  blk_simp
  rw [after0_19, emb19]
  show _ = fX m c (row t (y 0)) (y 1)
  have key := x_at m c t y
  frame_out
  exact key

/-- Its normalisation. -/
theorem final20 : (dats m 0 c).arrAt 20 (cfgs 0).N = fun j : S4096x1024.Idx => fN m c (j 0) (j 1) := by
  refine (dats m 0 c).arrAt_eq_of_covers 20 _ (by decide +kernel) fun t hf y => ?_
  blk_simp
  rw [after0_20, emb20]
  show _ = fN m c (row t (y 0)) (y 1)
  have key := n_at m c t y
  frame_out
  exact key

/-- The gates. -/
theorem final21 : (dats m 0 c).arrAt 21 (cfgs 0).N = fun j : S4096x3072.Idx => fG m c (j 0) (j 1) := by
  refine (dats m 0 c).arrAt_eq_of_covers 21 _ (by decide +kernel) fun t hf y => ?_
  blk_simp
  rw [after0_21, emb21]
  show _ = fG m c (row t (y 0)) (y 1)
  have key := canon_gpcs m c t y
  frame_out
  exact key

end Cert.Merge

end
-- ==== Proof.Merge.Finite.lean ====
/- Over finite logits the two ways of writing the softmax's weights agree. -/
module

public import proofs.«01_k».proof.Proof.Conv.Finite
public import proofs.«01_k».proof.Proof.Merge.Spec
public import proofs.«01_k».proof.Proof.Gen.Pre_finite7
public import Idealize.ShloMosaic.Lib.IdealHost

@[expose] public section

set_option maxRecDepth 16384

noncomputable section

namespace Cert.Merge

open Idealize.ShloMosaic
open Cert.Conv (Mat IsReal real_of_lt)

instance : Subsingleton (Cert.Pre_finite7.S_ : Shape).Idx := ⟨fun a b => funext fun d => d.elim0⟩

/-- What the precondition says. -/
theorem fn_true (a0 a1 a2 : Mat 4096 256) (a3 a4 a5 : Mat 4096 4) (a6 a7 : Mat 4096 512) (a8 a9 : Mat 4096 1024) (a10 : Mat 1024 3072)
    (a11 : Mat 1 3072) (a12 : Mat 256 1024) (a13 a14 : Mat 512 1024) (a15 : Mat 1024 1024) (a16 : Mat 1 1024)
    [hf : Cert.Pre_finite7.Facts]
    (h : Cert.Pre_finite7.fn (F := Ideal) a0 a1 a2 a3 a4 a5 a6 a7 a8 a9 a10 a11 a12 a13 a14 a15 a16 = fun _ => 1#1) :
    (∀ i, IsReal (a3 i)) ∧ (∀ i, IsReal (a4 i)) ∧ (∀ i, IsReal (a5 i)) := by
  have h := congrFun h (fun d => d.elim0)
  unfold Pre_finite7.fn at h
  dsimp only [andi] at h
  rw [IntOp.andi_eq_one, IntOp.andi_eq_one] at h
  obtain ⟨⟨h3, h4⟩, h5⟩ := h
  exact ⟨fun i => real_of_lt _ (Host.reduce_andi_all _ _ _ _ _ h3 i), fun i => real_of_lt _ (Host.reduce_andi_all _ _ _ _ _ h4 i),
    fun i => real_of_lt _ (Host.reduce_andi_all _ _ _ _ _ h5 i)⟩

/-- The exponential of a real number. -/
theorem exp_sub (x y : ℝ) : Ideal.exp ((x : EReal) - y) = (Real.exp (x - y) : EReal) := by
  rw [← EReal.coe_sub]
  rfl

/-- Of finite logits the exponentials' sum is not zero. -/
theorem den_ne {a b c : EReal} (ha : IsReal a) (hb : IsReal b) (hc : IsReal c) : den a b c ≠ 0 := by
  obtain ⟨x, rfl⟩ := ha
  obtain ⟨y, rfl⟩ := hb
  obtain ⟨z, rfl⟩ := hc
  obtain ⟨t, ht⟩ : IsReal (top x y z) := ⟨max (max x y) z, by
    unfold top
    rw [EReal.coe_strictMono.monotone.map_max, EReal.coe_strictMono.monotone.map_max]⟩
  unfold den
  rw [ht, exp_sub, exp_sub, exp_sub, ← EReal.coe_add, ← EReal.coe_add]
  intro h
  have h' := EReal.coe_eq_zero.mp h
  have hx := Real.exp_pos (x - t)
  have hy := Real.exp_pos (y - t)
  have hz := Real.exp_pos (z - t)
  linarith

/-- The mixture, with each weight one quotient. -/
theorem mix_eq {a b c : EReal} (ha : IsReal a) (hb : IsReal b) (hc : IsReal c) (x y z : EReal) :
    x * Ideal.div (Ideal.exp (a - top a b c)) (den a b c) + y * Ideal.div (Ideal.exp (b - top a b c)) (den a b c)
      + z * Ideal.div (Ideal.exp (c - top a b c)) (den a b c) = mix a b c x y z := by
  have h := den_ne ha hb hc
  unfold mix
  rw [Ideal.mul_one_div h, Ideal.mul_one_div h, Ideal.mul_one_div h, mul_comm x, mul_comm y, mul_comm z]

end Cert.Merge

end
-- ==== Proof.Merge.Ref.lean ====
/- The reference's five results, entry by entry. -/
module

public import proofs.«01_k».proof.Proof.Merge.Finite
public import proofs.«01_k».proof.Proof.Gen.Reference7Ideal.Run

@[expose] public section

set_option maxRecDepth 16384

noncomputable section

namespace Cert.Merge

open Cert.Reference7Ideal Cert.Reference7Ideal.Gen Cert.Reference7Ideal.Value
open Idealize.ShloMosaic Idealize.ShloMosaic.TcCoe Idealize.SL.Sem Idealize.ShloMosaic.StableHlo
open Cert.Conv (Mat IsReal)
open Cert.Ffn (logi)

namespace Ref

/-- The three groups' logits, one after the other. -/
def ls (L0 L1 L2 : Mat 4096 4) : FVec Ideal S3x4096x4 .f32 :=
  concatenate S3x4096x4 0 [⟨S1x4096x4, broadcastInDim S1x4096x4 ![1, 2] bcast_S4096x4_S1x4096x4_1_2 L0⟩,
    ⟨S1x4096x4, broadcastInDim S1x4096x4 ![1, 2] bcast_S4096x4_S1x4096x4_1_2 L1⟩,
    ⟨S1x4096x4, broadcastInDim S1x4096x4 ![1, 2] bcast_S4096x4_S1x4096x4_1_2 L2⟩] concatenates_S1x4096x4_S1x4096x4_S1x4096x4_S3x4096x4_d0

/-- Their largest. -/
def mx (L : FVec Ideal S3x4096x4 .f32) : FVec Ideal S4096x4 .f32 :=
  maximumf (broadcastInDim S4096x4 ![] bcast_S_S4096x4 (constant S_ .f32 0xFF800000#32))
    (Host.reduce FloatOps.maximumf L (constant S_ .f32 0xFF800000#32) reducesTo_S3x4096x4_S4096x4_d0 h_S_)

/-- The exponentials. -/
def ex (L : FVec Ideal S3x4096x4 .f32) (M : FVec Ideal S4096x4 .f32) : FVec Ideal S3x4096x4 .f32 :=
  Host.exp (subf L (broadcastInDim S3x4096x4 ![0, 1, 2] bcast_S1x4096x4_S3x4096x4_0_1_2
    (broadcastInDim S1x4096x4 ![1, 2] bcast_S4096x4_S1x4096x4_1_2 M)))

/-- The softmax's weights. -/
def wt (E : FVec Ideal S3x4096x4 .f32) : FVec Ideal S3x4096x4 .f32 :=
  Host.divf E (broadcastInDim S3x4096x4 ![0, 1, 2] bcast_S1x4096x4_S3x4096x4_0_1_2
    (broadcastInDim S1x4096x4 ![1, 2] bcast_S4096x4_S1x4096x4_1_2
      (Host.reduceAdd E (constant S_ .f32 0x00000000#32) reducesTo_S3x4096x4_S4096x4_d0 h_S_)))

/-- The three groups' outputs, one after the other. -/
def os (O0 O1 O2 : Mat 4096 256) : FVec Ideal S3x4096x256 .f32 :=
  concatenate S3x4096x256 0 [⟨S1x4096x256, broadcastInDim S1x4096x256 ![1, 2] bcast_S4096x256_S1x4096x256_1_2 O0⟩,
    ⟨S1x4096x256, broadcastInDim S1x4096x256 ![1, 2] bcast_S4096x256_S1x4096x256_1_2 O1⟩,
    ⟨S1x4096x256, broadcastInDim S1x4096x256 ![1, 2] bcast_S4096x256_S1x4096x256_1_2 O2⟩] concatenates_S1x4096x256_S1x4096x256_S1x4096x256_S3x4096x256_d0

/-- The weighted outputs' sum. -/
def oa (O : FVec Ideal S3x4096x256 .f32) (W : FVec Ideal S3x4096x4 .f32) : FVec Ideal S4096x256 .f32 :=
  shapeCast _ (Host.reduceAdd (mulf (shapeCast _ O shapeCasts_S3x4096x256_S3x4096x4x64)
    (broadcastInDim S3x4096x4x64 ![0, 1, 2, 3] bcast_S3x4096x4x1_S3x4096x4x64_0_1_2_3
      (broadcastInDim S3x4096x4x1 ![0, 1, 2] bcast_S3x4096x4_S3x4096x4x1_0_1_2 W)))
    (constant S_ .f32 0x00000000#32) reducesTo_S3x4096x4x64_S4096x4x64_d0 h_S_) shapeCasts_S4096x4x64_S4096x256

/-- The gates. -/
def gt (H : Mat 4096 1024) (WG : Mat 1024 3072) (BG : Mat 1 3072) : FVec Ideal S4096x3072 .f32 :=
  Host.divf (broadcastInDim S4096x3072 ![] bcast_S_S4096x3072 (constant S_ .f32 0x3F800000#32))
    (addf (broadcastInDim S4096x3072 ![] bcast_S_S4096x3072 (constant S_ .f32 0x3F800000#32))
      (Host.exp (Host.negf (addf (Host.dotGeneral dot_S4096x1024_S1024x3072_S4096x3072_1_0_0_1_n_n none H WG)
        (broadcastInDim S4096x3072 ![0, 1] bcast_S1x3072_S4096x3072_0_1 BG)))))

/-- The gated branches' sum. -/
def mer (A : FVec Ideal S4096x256 .f32) (Q : FVec Ideal S4096x3072 .f32) (OB OM : Mat 4096 512) (WA : Mat 256 1024) (WB WM : Mat 512 1024) :
    FVec Ideal S4096x1024 .f32 :=
  addf (addf (mulf (extractStridedSlice S4096x1024 ![0, 0] Q slices_S4096x3072_S4096x1024_0_0)
      (Host.dotGeneral dot_S4096x256_S256x1024_S4096x1024_1_0_0_1_n_n none A WA))
    (mulf (extractStridedSlice S4096x1024 ![0, 1024] Q slices_S4096x3072_S4096x1024_0_1024)
      (Host.dotGeneral dot_S4096x512_S512x1024_S4096x1024_1_0_0_1_n_n none OB WB)))
    (mulf (extractStridedSlice S4096x1024 ![0, 2048] Q slices_S4096x3072_S4096x1024_0_2048)
      (Host.dotGeneral dot_S4096x512_S512x1024_S4096x1024_1_0_0_1_n_n none OM WM))

/-- The residual plus the output projection. -/
def xx (M : FVec Ideal S4096x1024 .f32) (X : Mat 4096 1024) (WO : Mat 1024 1024) : FVec Ideal S4096x1024 .f32 :=
  addf X (Host.dotGeneral dot_S4096x1024_S1024x1024_S4096x1024_1_0_0_1_n_n none M WO)

/-- Its normalisation. -/
def nn (Y : FVec Ideal S4096x1024 .f32) (G : Mat 1 1024) : FVec Ideal S4096x1024 .f32 :=
  mulf (mulf Y (broadcastInDim S4096x1024 ![0, 1] bcast_S4096x1_S4096x1024_0_1 (Host.rsqrt (addf (Host.divf
    (broadcastInDim S4096x1 ![0] bcast_S4096_S4096x1_0 (Host.reduceAdd (mulf Y Y) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 G)

section Results

variable (m : (ℓ : Loc nD τ sig) → Buf (Elt Ideal) ℓ) (c : Dev nD)

abbrev rO : FVec Ideal S4096x256 .f32 :=
  oa (os (m ((c : Thread nD τ).loc main_arg0)) (m ((c : Thread nD τ).loc main_arg1)) (m ((c : Thread nD τ).loc main_arg2)))
    (wt (ex (ls (m ((c : Thread nD τ).loc main_arg3)) (m ((c : Thread nD τ).loc main_arg4)) (m ((c : Thread nD τ).loc main_arg5)))
      (mx (ls (m ((c : Thread nD τ).loc main_arg3)) (m ((c : Thread nD τ).loc main_arg4)) (m ((c : Thread nD τ).loc main_arg5))))))

abbrev rG : FVec Ideal S4096x3072 .f32 :=
  gt (m ((c : Thread nD τ).loc main_arg8)) (m ((c : Thread nD τ).loc main_arg10)) (m ((c : Thread nD τ).loc main_arg11))

abbrev rM : FVec Ideal S4096x1024 .f32 :=
  mer (rO m c) (rG m c) (m ((c : Thread nD τ).loc main_arg6)) (m ((c : Thread nD τ).loc main_arg7)) (m ((c : Thread nD τ).loc main_arg12))
    (m ((c : Thread nD τ).loc main_arg13)) (m ((c : Thread nD τ).loc main_arg14))

abbrev rX : FVec Ideal S4096x1024 .f32 := xx (rM m c) (m ((c : Thread nD τ).loc main_arg9)) (m ((c : Thread nD τ).loc main_arg15))

theorem res0 : res_main_v24 m c = rO m c := rfl
theorem res1 : res_main_v59 m c = truncf .bf16 (rM m c) bitsLt_bf16_f32 := rfl
theorem res2 : res_main_v46 m c = rX m c := rfl
theorem res3 : res_main_v60 m c = truncf .bf16 (nn (rX m c) (m ((c : Thread nD τ).loc main_arg16))) bitsLt_bf16_f32 := rfl

end Results

theorem ls_apply (L0 L1 L2 : Mat 4096 4) (g : Fin 3) (r : Fin 4096) (q : Fin 4) :
    ls L0 L1 L2 (ix3 g r q) = ![L0 (ix2 r q), L1 (ix2 r q), L2 (ix2 r q)] g := by
  fin_cases g <;> pointwise [ls] <;> rfl

theorem os_apply (O0 O1 O2 : Mat 4096 256) (g : Fin 3) (r : Fin 4096) (e : Fin 256) :
    os O0 O1 O2 (ix3 g r e) = ![O0 (ix2 r e), O1 (ix2 r e), O2 (ix2 r e)] g := by
  fin_cases g <;> pointwise [os] <;> rfl

theorem bits_bot : Ideal.ofBits .f32 0xFF800000#32 = ⊥ := by
  simp [Ideal.ofBits, Ideal.ieee]

theorem mx_apply (L : FVec Ideal S3x4096x4 .f32) (r : Fin 4096) (q : Fin 4) :
    mx L (ix2 r q) = top (L (ix3 0 r q)) (L (ix3 1 r q)) (L (ix3 2 r q)) := by
  pointwise [mx]
  have h : (Finset.univ : Finset (Fin 3)) = {0, 1, 2} := rfl
  rw [bits_bot, h]
  simp [top, max_assoc]

theorem ex_apply (L : FVec Ideal S3x4096x4 .f32) (M : FVec Ideal S4096x4 .f32) (g : Fin 3) (r : Fin 4096) (q : Fin 4) :
    ex L M (ix3 g r q) = Ideal.exp (L (ix3 g r q) - M (ix2 r q)) := by
  pointwise [ex]

theorem wt_apply (E : FVec Ideal S3x4096x4 .f32) (g : Fin 3) (r : Fin 4096) (q : Fin 4) :
    wt E (ix3 g r q) = Ideal.div (E (ix3 g r q)) (E (ix3 0 r q) + E (ix3 1 r q) + E (ix3 2 r q)) := by
  pointwise [wt]
  rw [Fin.sum_univ_three]

theorem oa_apply (O : FVec Ideal S3x4096x256 .f32) (W : FVec Ideal S3x4096x4 .f32) (r : Fin 4096) (e : Fin 256) :
    oa O W (ix2 r e) = O (ix3 0 r e) * W (ix3 0 r (hd e)) + O (ix3 1 r e) * W (ix3 1 r (hd e)) + O (ix3 2 r e) * W (ix3 2 r (hd e)) := by
  pointwise [oa]
  rw [Fin.sum_univ_three]
  rfl

theorem gt_apply (H : Mat 4096 1024) (WG : Mat 1024 3072) (BG : Mat 1 3072) (r : Fin 4096) (e : Fin 3072) :
    gt H WG BG (ix2 r e) = gate H WG BG r e := by
  pointwise [gt]
  rfl

theorem mer_apply (A : FVec Ideal S4096x256 .f32) (Q : FVec Ideal S4096x3072 .f32) (OB OM : Mat 4096 512) (WA : Mat 256 1024) (WB WM : Mat 512 1024)
    (r : Fin 4096) (e : Fin 1024) :
    mer A Q OB OM WA WB WM (ix2 r e) = merged (fun r k => A (ix2 r k)) (fun r e => Q (ix2 r e)) OB OM WA WB WM r e := by
  pointwise [mer]
  have h : (⟨e, by omega⟩ : Fin 3072) = br 0 e := Fin.ext (by simp [br])
  rw [h]
  rfl

theorem xx_apply (M : FVec Ideal S4096x1024 .f32) (X : Mat 4096 1024) (WO : Mat 1024 1024) (r : Fin 4096) (i : Fin 1024) :
    xx M X WO (ix2 r i) = resid (fun r k => M (ix2 r k)) X WO r i := by
  pointwise [xx]
  rfl

theorem nn_apply (Y : FVec Ideal S4096x1024 .f32) (G : Mat 1 1024) (r : Fin 4096) (i : Fin 1024) :
    nn Y G (ix2 r i) = normed (fun r k => Y (ix2 r k)) G r i := by
  pointwise [nn]
  rfl

end Ref

end Cert.Merge

end
-- ==== Proof.Merge.Algebraic.lean ====
/- The branches' merge: its kernel computes its reference's results, from finite logits. -/
module

public import proofs.«01_k».proof.Proof.Merge.KerOut
public import proofs.«01_k».proof.Proof.Merge.Ref
public import proofs.«01_k».proof.Proof.Merge.Finite
public import proofs.«01_k».proof.Proof.Gen.Kernel7Ideal.Frame
public import proofs.«01_k».proof.Proof.Gen.Kernel7Ideal.Value
public import Idealize.ShloMosaic.Lib.Quiescent

@[expose] public section

set_option maxRecDepth 16384

noncomputable section

namespace Cert.Merge

open Idealize.ShloMosaic Idealize.ShloMosaic.TcCoe Idealize.SL.Sem
open Cert.Conv (Mat IsReal)

/-- The reference runs, leaves its arguments as they were, and its counters at zero. -/
theorem frame_reference : Cert.quiescent_Reference7Ideal := fun m ρ _ =>
  (θ_run Cert.Reference7Ideal.defs _ _).mono
    (fun r h => ⟨fun c => ((h c).2.2.2.2.2), sem_eq_zero_of_no_sems rfl r.2⟩) (Cert.Reference7Ideal.Value.run (F := Ideal) m ρ)

section Reference
open Cert.Reference7Ideal Cert.Reference7Ideal.Gen

variable (O0 O1 O2 : Mat 4096 256) (L0 L1 L2 : Mat 4096 4) (OB OM : Mat 4096 512) (H X : Mat 4096 1024) (WG : Mat 1024 3072) (BG : Mat 1 3072)
  (WA : Mat 256 1024) (WB WM : Mat 512 1024) (WO : Mat 1024 1024) (G : Mat 1 1024)

/-- The reference's mixture of the groups. -/
abbrev rO : FVec Ideal S4096x256 .f32 := Ref.oa (Ref.os O0 O1 O2) (Ref.wt (Ref.ex (Ref.ls L0 L1 L2) (Ref.mx (Ref.ls L0 L1 L2))))

theorem rO_apply (h0 : ∀ i, IsReal (L0 i)) (h1 : ∀ i, IsReal (L1 i)) (h2 : ∀ i, IsReal (L2 i)) (r : Fin 4096) (e : Fin 256) :
    rO O0 O1 O2 L0 L1 L2 (ix2 r e) = mixed O0 O1 O2 L0 L1 L2 r e := by
  unfold rO mixed
  rw [Ref.oa_apply]
  simp only [Ref.wt_apply, Ref.ex_apply, Ref.mx_apply, Ref.ls_apply, Ref.os_apply]
  exact mix_eq (h0 _) (h1 _) (h2 _) _ _ _

/-- The reference's gates, merged branches, residual and normalisation. -/
abbrev rG : FVec Ideal S4096x3072 .f32 := Ref.gt H WG BG
abbrev rM : FVec Ideal S4096x1024 .f32 := Ref.mer (rO O0 O1 O2 L0 L1 L2) (rG H WG BG) OB OM WA WB WM
abbrev rX : FVec Ideal S4096x1024 .f32 := Ref.xx (rM O0 O1 O2 L0 L1 L2 OB OM H WG BG WA WB WM) X WO
abbrev rN : FVec Ideal S4096x1024 .f32 := Ref.nn (rX O0 O1 O2 L0 L1 L2 OB OM H X WG BG WA WB WM WO) G

variable (h0 : ∀ i, IsReal (L0 i)) (h1 : ∀ i, IsReal (L1 i)) (h2 : ∀ i, IsReal (L2 i))
include h0 h1 h2

theorem ref_O : rO O0 O1 O2 L0 L1 L2 = fun j : S4096x256.Idx => mixed O0 O1 O2 L0 L1 L2 (j 0) (j 1) :=
  funext fun j => (congrArg _ (ix2_eta j)).trans (rO_apply O0 O1 O2 L0 L1 L2 h0 h1 h2 (j 0) (j 1))

omit h0 h1 h2 in
theorem ref_G : rG H WG BG = fun j : S4096x3072.Idx => gate H WG BG (j 0) (j 1) :=
  funext fun j => (congrArg _ (ix2_eta j)).trans (Ref.gt_apply H WG BG (j 0) (j 1))

theorem ref_M : rM O0 O1 O2 L0 L1 L2 OB OM H WG BG WA WB WM
    = fun j : S4096x1024.Idx => merged (mixed O0 O1 O2 L0 L1 L2) (gate H WG BG) OB OM WA WB WM (j 0) (j 1) := by
  refine funext fun j => (congrArg _ (ix2_eta j)).trans ((Ref.mer_apply _ _ OB OM WA WB WM (j 0) (j 1)).trans ?_)
  rw [ref_O O0 O1 O2 L0 L1 L2 h0 h1 h2, ref_G H WG BG]
  rfl

theorem ref_X : rX O0 O1 O2 L0 L1 L2 OB OM H X WG BG WA WB WM WO
    = fun j : S4096x1024.Idx => resid (merged (mixed O0 O1 O2 L0 L1 L2) (gate H WG BG) OB OM WA WB WM) X WO (j 0) (j 1) := by
  refine funext fun j => (congrArg _ (ix2_eta j)).trans ((Ref.xx_apply _ X WO (j 0) (j 1)).trans ?_)
  rw [ref_M O0 O1 O2 L0 L1 L2 OB OM H WG BG WA WB WM h0 h1 h2]
  rfl

theorem ref_N : rN O0 O1 O2 L0 L1 L2 OB OM H X WG BG WA WB WM WO G
    = fun j : S4096x1024.Idx => normed (resid (merged (mixed O0 O1 O2 L0 L1 L2) (gate H WG BG) OB OM WA WB WM) X WO) G (j 0) (j 1) := by
  refine funext fun j => (congrArg _ (ix2_eta j)).trans ((Ref.nn_apply _ G (j 0) (j 1)).trans ?_)
  rw [ref_X O0 O1 O2 L0 L1 L2 OB OM H X WG BG WA WB WM WO h0 h1 h2]
  rfl

end Reference

section Kernel
open Cert.Kernel7Ideal Cert.Kernel7Ideal.Gen

/-- Every result of the kernel, as a function of the arguments. -/
theorem kernel_run (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c : Thread nD τ).loc main_v23_0) = (fun j : S4096x256.Idx => fO m c (j 0) (j 1))
      ∧ r.2.mem ((c : Thread nD τ).loc main_v23_1) = (fun j : S4096x1024.Idx => fM m c (j 0) (j 1))
      ∧ r.2.mem ((c : Thread nD τ).loc main_v23_2) = (fun j : S4096x1024.Idx => fX m c (j 0) (j 1))
      ∧ r.2.mem ((c : Thread nD τ).loc main_v23_3) = (fun j : S4096x1024.Idx => fN m c (j 0) (j 1))
      ∧ r.2.mem ((c : Thread nD τ).loc main_v23_4) = (fun j : S4096x3072.Idx => fG m c (j 0) (j 1)) :=
  (θ_run defs _ _).mono (fun r h c => ⟨(h c).1.trans (final17 m c), (h c).2.1.trans (final18 m c), (h c).2.2.1.trans (final19 m c),
    (h c).2.2.2.1.trans (final20 m c), (h c).2.2.2.2.1.trans (final21 m c)⟩) (Cert.Kernel7Ideal.Value.run_blocks m ρ)

end Kernel

set_option maxHeartbeats 1600000 in
/-- The kernel computes the reference's results, over the extended reals, from finite logits. -/
theorem algebraic : Cert.algebraic_Kernel7Ideal_Reference7Ideal_pre_finite7 := by
  intro m g m' g' hp ha
  refine ⟨fun c => _, fun c => _, fun c => _, fun c => _, fun c => _,
    (θ_run Cert.Kernel7Ideal.defs _ _).mono (fun r h c => ⟨(h.1 c).1, (h.1 c).2.1, (h.1 c).2.2.1, (h.1 c).2.2.2.1, (h.1 c).2.2.2.2, h.2.1 c⟩)
      (θ_run_and (kernel_run m g) (Cert.Kernel7Ideal.Gen.frame m g)),
    (θ_run Cert.Reference7Ideal.defs _ _).mono (fun r h c => ?_)
      (θ_run_and (Cert.Reference7Ideal.Value.run (F := Ideal) m' g') (frame_reference m' g' trivial))⟩
  obtain ⟨e0, e1, e2, e3, e4, e5, e6, e7, e8, e9, e10, e11, e12, e13, e14, e15, e16⟩ := ha c
  obtain ⟨h3, h4, h5⟩ := fn_true _ _ _ _ _ _ _ _ _ _ _ _ _ _ _ _ _ (hp c)
  refine ⟨(h.1 c).1.trans ?_, (h.1 c).2.1.trans ?_, (h.1 c).2.2.1.trans ?_, (h.1 c).2.2.2.1.trans ?_, (h.1 c).2.2.2.2.1.trans ?_, h.2.1 c⟩
  · rw [Ref.res0]
    dsimp only [Ref.rX, Ref.rM, Ref.rG, Ref.rO]
    rw [e0, e1, e2, e3, e4, e5]
    exact ref_O _ _ _ _ _ _ h3 h4 h5
  · rw [Ref.res1]
    dsimp only [Ref.rX, Ref.rM, Ref.rG, Ref.rO]
    rw [e0, e1, e2, e3, e4, e5, e6, e7, e8, e10, e11, e12, e13, e14]
    exact ref_M _ _ _ _ _ _ _ _ _ _ _ _ _ _ h3 h4 h5
  · rw [Ref.res2]
    dsimp only [Ref.rX, Ref.rM, Ref.rG, Ref.rO]
    rw [e0, e1, e2, e3, e4, e5, e6, e7, e8, e9, e10, e11, e12, e13, e14, e15]
    exact ref_X _ _ _ _ _ _ _ _ _ _ _ _ _ _ _ _ h3 h4 h5
  · rw [Ref.res3]
    dsimp only [Ref.rX, Ref.rM, Ref.rG, Ref.rO]
    rw [e0, e1, e2, e3, e4, e5, e6, e7, e8, e9, e10, e11, e12, e13, e14, e15, e16]
    exact ref_N _ _ _ _ _ _ _ _ _ _ _ _ _ _ _ _ _ h3 h4 h5
  · rw [e8, e10, e11]
    exact ref_G _ _ _

end Cert.Merge

end
-- ==== Proof.Proj.Spec.lean ====
/- What the input projection and the windowed branch's normalisation and rotation after it compute, entry by entry, on the
   extended reals. -/
module

public import proofs.«01_k».proof.Proof.Merge.Spec
public import Mathlib.Algebra.BigOperators.Fin

@[expose] public section

noncomputable section

namespace Cert.Proj

open Idealize.ShloMosaic
open Cert.Conv (Mat)
open Cert.Merge (normed)

/-- An index of a matrix is made of its two coordinates. -/
theorem ix2_eta {n k : ℕ} (y : (⟨2, ![n, k]⟩ : Shape).Idx) : y = ix2 (y 0) (y 1) := by
  funext d
  fin_cases d <;> rfl

/-- The normalised rows. -/
def hn (X : Mat 4096 1024) (G : Mat 1 1024) : Fin 4096 → Fin 1024 → EReal := normed (fun r k => X (ix2 r k)) G

/-- Their projection. -/
def prj (X : Mat 4096 1024) (G : Mat 1 1024) (W : Mat 1024 3584) (r : Fin 4096) (e : Fin 3584) : EReal :=
  ∑ k : Fin 1024, hn X G r k * W (ix2 k e)

/-- The `n` columns of a projection from the `o`-th on. -/
def cut (o n : ℕ) (ho : o + n ≤ 3584) (P : Fin 3584 → EReal) (e : Fin n) : EReal := P ⟨o + e, by omega⟩

/-- A head, normalised, with its gain. -/
def norm64 (f g : Fin 64 → EReal) (d : Fin 64) : EReal :=
  f d * Ideal.rsqrt (Ideal.div (∑ k : Fin 64, f k * f k) (Ideal.ofBits .f32 0x42800000#32) + Ideal.ofBits .f32 0x358637BD#32) * g d

/-- A head's first sixteen entries rotated, in pairs eight apart; the others as they are. -/
def turn (n : Fin 64 → EReal) (co si : Fin 8 → EReal) (d : Fin 64) : EReal :=
  if h : (d : ℕ) < 8 then n d * co ⟨d, h⟩ - n ⟨d + 8, by omega⟩ * si ⟨d, h⟩
  else if h' : (d : ℕ) < 16 then n d * co ⟨d - 8, by omega⟩ + n ⟨d - 8, by omega⟩ * si ⟨d - 8, by omega⟩
  else n d

theorem turn_mid (n : Fin 64 → EReal) (co si : Fin 8 → EReal) (d : Fin 64) (h : ¬ (d : ℕ) < 8) (h' : (d : ℕ) < 16) :
    turn n co si d = n d * co ⟨d - 8, by omega⟩ + n ⟨d - 8, by omega⟩ * si ⟨d - 8, by omega⟩ := by
  unfold turn
  rw [dif_neg h, dif_pos h']

theorem turn_high (n : Fin 64 → EReal) (co si : Fin 8 → EReal) (d : Fin 64) (h : 16 ≤ (d : ℕ)) : turn n co si d = n d := by
  unfold turn
  rw [dif_neg (by omega), dif_neg (by omega)]

/-- The head of column `e`. -/
def headOf {n : ℕ} (hn : n % 64 = 0) (Q : Fin n → EReal) (e : Fin n) (d : Fin 64) : EReal := Q ⟨64 * (e / 64) + d, by omega⟩

/-- The place of column `e` in its head. -/
def lane {n : ℕ} (e : Fin n) : Fin 64 := ⟨e % 64, by omega⟩

/-- Every head normalised and rotated. -/
def rot {n : ℕ} (hn : n % 64 = 0) (Q : Fin n → EReal) (g : Fin 64 → EReal) (co si : Fin 8 → EReal) (e : Fin n) : EReal :=
  turn (norm64 (headOf hn Q e) g) co si (lane e)

/-- The rows of the angles' tables that the block of rows reads. -/
def trow (r : Fin 4096) : Fin 16384 := ⟨12288 + r, by omega⟩

/-- The tables laid over 128 lanes. -/
def tabC (co : Fin 8 → EReal) (l : Fin 128) : EReal :=
  if h : (l : ℕ) % 64 < 8 then co ⟨l % 64, h⟩ else if h' : (l : ℕ) % 64 < 16 then co ⟨l % 64 - 8, by omega⟩ else 1
def tabA (si : Fin 8 → EReal) (l : Fin 128) : EReal := if h : (l : ℕ) % 64 < 8 then -si ⟨l % 64, h⟩ else 0
def tabB (si : Fin 8 → EReal) (l : Fin 128) : EReal :=
  if (l : ℕ) % 64 < 8 then 0 else if h' : (l : ℕ) % 64 < 16 then si ⟨l % 64 - 8, by omega⟩ else 0

/-- The rotation written with the tables and with the row rolled by eight lanes either way. -/
theorem turn_tab (N : Fin 64 → EReal) (T : Fin 128 → EReal) (co si : Fin 8 → EReal) (l : Fin 128)
    (hT : ∀ k : Fin 128, (k : ℕ) / 64 = l / 64 → T k = N (lane k)) :
    T l * tabC co l + T ⟨(l + 8) % 128, by omega⟩ * tabA si l + T ⟨(l + 120) % 128, by omega⟩ * tabB si l = turn N co si (lane l) := by
  have h0 := hT l rfl
  have hl := l.isLt
  rcases Nat.lt_or_ge ((l : ℕ) % 64) 8 with h | h
  · have h1 := hT ⟨(l + 8) % 128, by omega⟩ (by simp only; omega)
    have e1 : lane (⟨(l + 8) % 128, by omega⟩ : Fin 128) = (⟨l % 64 + 8, by omega⟩ : Fin 64) := Fin.ext (by simp only [lane]; omega)
    rw [e1] at h1
    rw [h0, h1]
    simp only [tabC, tabA, tabB, turn, lane, dif_pos h, if_pos h, mul_zero, add_zero, mul_neg, sub_eq_add_neg]
  · rcases Nat.lt_or_ge ((l : ℕ) % 64) 16 with h' | h'
    · have h1 := hT ⟨(l + 120) % 128, by omega⟩ (by simp only; omega)
      have e1 : lane (⟨(l + 120) % 128, by omega⟩ : Fin 128) = (⟨l % 64 - 8, by omega⟩ : Fin 64) := Fin.ext (by simp only [lane]; omega)
      rw [e1] at h1
      rw [h0, h1, turn_mid N co si (lane l) (Nat.not_lt.mpr h) h']
      simp only [tabC, tabA, tabB, dif_neg (Nat.not_lt.mpr h), if_neg (Nat.not_lt.mpr h), dif_pos h', mul_zero, add_zero]
      rfl
    · rw [h0, turn_high N co si (lane l) h']
      simp only [tabC, tabA, tabB, dif_neg (Nat.not_lt.mpr h), if_neg (Nat.not_lt.mpr h), dif_neg (Nat.not_lt.mpr h'), mul_zero,
        add_zero, mul_one]

/-- The columns of a head, picked out of a row. -/
theorem sum_head {n : ℕ} (hn : n % 64 = 0) (q : Fin n → EReal) (e : Fin n) :
    ∑ k : Fin n, q k * (if (e : ℕ) / 64 = k / 64 then 1 else 0) = ∑ d : Fin 64, headOf hn q e d := by
  simp only [mul_ite, mul_one, mul_zero]
  rw [← Finset.sum_filter]
  symm
  refine Finset.sum_bij (fun d _ => (⟨64 * (e / 64) + d, by omega⟩ : Fin n)) (fun d _ => ?_) (fun a _ b _ h => ?_) (fun k hk => ?_) (fun d _ => rfl)
  · rw [Finset.mem_filter]
    exact ⟨Finset.mem_univ _, by simp only; omega⟩
  · exact Fin.ext (by have := congrArg Fin.val h; simp only at this; omega)
  · have hk := (Finset.mem_filter.mp hk).2
    exact ⟨⟨k % 64, by omega⟩, Finset.mem_univ _, Fin.ext (by simp only; omega)⟩

end Cert.Proj

end
-- ==== Proof.Proj.Finite.lean ====
/- Over finite rows, gains and weights the heads' mean squares, as the kernel writes them, are the heads' mean squares. -/
module

public import proofs.«01_k».proof.Proof.Conv.Finite
public import proofs.«01_k».proof.Proof.Proj.Spec
public import proofs.«01_k».proof.Proof.Gen.Pre_finite8
public import Idealize.ShloMosaic.Lib.IdealHost

@[expose] public section

set_option maxRecDepth 16384

noncomputable section

namespace Cert.Proj

open Idealize.ShloMosaic
open Cert.Conv (Mat IsReal real_of_lt coe_sum coe_div coe_rsqrt bits_1024 bits_eps)
open Cert.Merge (normed)

instance : Subsingleton (Cert.Pre_finite8.S_ : Shape).Idx := ⟨fun a b => funext fun d => d.elim0⟩

/-- What the precondition says. -/
theorem fn_true (a0 : Mat 4096 1024) (a1 : Mat 1 1024) (a2 : Mat 1024 3584) (a3 a4 : Mat 1 64) (a5 a6 : Mat 16384 8)
    [hf : Cert.Pre_finite8.Facts] (h : Cert.Pre_finite8.fn (F := Ideal) a0 a1 a2 a3 a4 a5 a6 = fun _ => 1#1) :
    (∀ i, IsReal (a0 i)) ∧ (∀ i, IsReal (a1 i)) ∧ (∀ i, IsReal (a2 i)) := by
  have h := congrFun h (fun d => d.elim0)
  unfold Pre_finite8.fn at h
  dsimp only [andi] at h
  rw [IntOp.andi_eq_one, IntOp.andi_eq_one] at h
  obtain ⟨⟨h0, h1⟩, h2⟩ := h
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

theorem bits_64 : Ideal.ofBits .f32 0x42800000#32 = ((64 : ℝ) : EReal) := by
  simp [Ideal.ofBits, Ideal.ieee, -EReal.coe_mul]
  norm_num

theorem bits_64th : Ideal.ofBits .f32 0x3C800000#32 = ((1 / 64 : ℝ) : EReal) := by
  simp [Ideal.ofBits, Ideal.ieee, -EReal.coe_mul]
  norm_num

/-- The normalised rows are finite. -/
theorem hn_real (X : Mat 4096 1024) (G : Mat 1 1024) (hX : ∀ i, IsReal (X i)) (hG : ∀ i, IsReal (G i)) (r : Fin 4096) (i : Fin 1024) :
    IsReal (hn X G r i) := by
  choose x hx using hX
  obtain ⟨e, he, hb⟩ := bits_eps
  unfold hn normed
  have hv : Ideal.div (∑ k : Fin 1024, X (ix2 r k) * X (ix2 r k)) (Ideal.ofBits .f32 0x44800000#32) + Ideal.ofBits .f32 0x358637BD#32
      = (((∑ k : Fin 1024, x (ix2 r k) * x (ix2 r k)) / 1024 + e : ℝ) : EReal) := by
    simp only [hx, ← EReal.coe_mul]
    rw [coe_sum, bits_1024, hb, coe_div _ _ (by norm_num), ← EReal.coe_add]
  have hp : 0 < (∑ k : Fin 1024, x (ix2 r k) * x (ix2 r k)) / 1024 + e := by
    have : 0 ≤ ∑ k : Fin 1024, x (ix2 r k) * x (ix2 r k) := Finset.sum_nonneg fun k _ => mul_self_nonneg _
    positivity
  rw [hv, coe_rsqrt _ hp]
  exact (IsReal.mul ⟨_, hx _⟩ ⟨_, rfl⟩).mul (hG _)

/-- The projection is finite. -/
theorem prj_real (X : Mat 4096 1024) (G : Mat 1 1024) (W : Mat 1024 3584) (hX : ∀ i, IsReal (X i)) (hG : ∀ i, IsReal (G i))
    (hW : ∀ i, IsReal (W i)) (r : Fin 4096) (e : Fin 3584) : IsReal (prj X G W r e) :=
  Cert.Conv.IsReal.sum fun k => (hn_real X G hX hG r k).mul (hW _)

/-- A head's mean square, as the kernel writes it: the squares' coarse part and what is left of them, each summed over the head's columns. -/
def msk {n : ℕ} (q : Fin n → EReal) (e : Fin n) : EReal :=
  ((∑ k : Fin n, q k * q k * (if (e : ℕ) / 64 = k / 64 then 1 else 0))
    + ∑ k : Fin n, (q k * q k - q k * q k) * (if (e : ℕ) / 64 = k / 64 then 1 else 0)) * Ideal.ofBits .f32 0x3C800000#32

theorem msk_eq {n : ℕ} (hn : n % 64 = 0) (q : Fin n → EReal) (hq : ∀ k, IsReal (q k)) (e : Fin n) :
    msk q e = Ideal.div (∑ d : Fin 64, headOf hn q e d * headOf hn q e d) (Ideal.ofBits .f32 0x42800000#32) := by
  unfold msk
  have h0 : ∀ k, q k * q k - q k * q k = 0 := fun k => by
    obtain ⟨x, hx⟩ := (hq k).mul (hq k)
    rw [hx, ← EReal.coe_sub, sub_self, EReal.coe_zero]
  simp only [h0, zero_mul, Finset.sum_const_zero, add_zero]
  rw [sum_head hn (fun k => q k * q k) e]
  choose x hx using hq
  have hs : ∑ d : Fin 64, headOf hn (fun k => q k * q k) e d
      = ((∑ d : Fin 64, x ⟨64 * (e / 64) + d, by omega⟩ * x ⟨64 * (e / 64) + d, by omega⟩ : ℝ) : EReal) := by
    rw [← coe_sum]
    exact Finset.sum_congr rfl fun d _ => by rw [EReal.coe_mul]; exact congrArg₂ (HMul.hMul : EReal → EReal → EReal) (hx _) (hx _)
  refine (congrArg (· * _) hs).trans ?_
  refine Eq.trans ?_ (congrArg (Ideal.div · _) hs.symm)
  rw [bits_64, bits_64th, coe_div _ _ (by norm_num), ← EReal.coe_mul]
  congr 1
  ring

end Cert.Proj

end
-- ==== Proof.Proj.KerPay.lean ====
/- What the kernel computes at a grid point, entry by entry, from its blocks. -/
module

public import proofs.«01_k».proof.Proof.Proj.Finite
public import proofs.«01_k».proof.Proof.Gen.Kernel8Ideal.Skeleton

@[expose] public section

set_option maxRecDepth 16384

noncomputable section

namespace Cert.Proj

open Cert.Kernel8Ideal Cert.Kernel8Ideal.Gen Idealize.ShloMosaic Idealize.ShloMosaic.TcCoe Idealize.SL.Sem
open Cert.Conv (Mat)

/-- The normalised rows. -/
theorem pay3_ix (X : Vec Ideal S512x1024 .f32) (G : Vec Ideal S1x1024 .f32) (r : Fin 512) (i : Fin 1024) :
    k0_pay3 (F := Ideal) X G (ix2 r i) = X (ix2 r i) * Ideal.rsqrt (Ideal.div (∑ k : Fin 1024, X (ix2 r k) * X (ix2 r k))
      (Ideal.ofBits .f32 0x44800000#32) + Ideal.ofBits .f32 0x358637BD#32) * G (ix2 0 i) := by
  pointwise [k0_pay3]

section Chunks

variable (X : Vec Ideal S512x1024 .f32) (G : Vec Ideal S1x1024 .f32) (W : Vec Ideal S1x1024x896 .bf16) (r : Fin 512) (e : Fin 896)

/-- A chunk of the projection. -/
theorem pay4_ix : k0_pay4 (F := Ideal) X G W (ix2 r e) = ∑ k : Fin 1024, k0_pay3 (F := Ideal) X G (ix2 r k) * W (ix3 0 k e) := by
  unfold k0_pay4
  generalize k0_pay3 (F := Ideal) X G = P
  pointwise

theorem pay5_ix : k0_pay5 (F := Ideal) X G W (ix2 r e) = ∑ k : Fin 1024, k0_pay3 (F := Ideal) X G (ix2 r k) * W (ix3 0 k e) := by
  unfold k0_pay5
  generalize k0_pay3 (F := Ideal) X G = P
  pointwise

theorem pay6_ix : k0_pay7 (F := Ideal) (k0_pay6 (F := Ideal) X G W) (ix2 r e) = ∑ k : Fin 1024, k0_pay3 (F := Ideal) X G (ix2 r k) * W (ix3 0 k e) := by
  unfold k0_pay6
  generalize k0_pay3 (F := Ideal) X G = P
  pointwise [k0_pay7]

theorem pay8_ix : k0_pay8 (F := Ideal) (k0_pay3 (F := Ideal) X G) W (ix2 r e) = ∑ k : Fin 1024, k0_pay3 (F := Ideal) X G (ix2 r k) * W (ix3 0 k e) := by
  generalize k0_pay3 (F := Ideal) X G = P
  pointwise [k0_pay8]

end Chunks

/-- The kernel's choice of a head's columns. -/
theorem sel_head (e k : ℕ) (he : e < 512) (hk : k < 512) (a : EReal) :
    Scalar.select (IntOp.cmpi .eq (IntOp.shrui .vector (BitVec.ofNat 32 e) 6#32) (IntOp.shrui .vector (BitVec.ofNat 32 k) 6#32)) a 0
      = a * (if e / 64 = k / 64 then 1 else 0) := by
  have hs : ∀ n : ℕ, n < 512 → IntOp.shrui .vector (BitVec.ofNat 32 n) 6#32 = BitVec.ofNat 32 (n / 64) := fun n hn => by
    apply BitVec.eq_of_toNat_eq
    simp [IntOp.shrui, Nat.shiftRight_eq_div_pow]
    omega
  rw [hs e he, hs k hk]
  have hc : IntOp.cmpi .eq (BitVec.ofNat 32 (e / 64)) (BitVec.ofNat 32 (k / 64)) = if e / 64 = k / 64 then 1#1 else 0#1 := by
    unfold IntOp.cmpi
    by_cases h : e / 64 = k / 64
    · rw [if_pos h, h]
      simp
    · rw [if_neg h]
      have : ¬ BitVec.ofNat 32 (e / 64) = BitVec.ofNat 32 (k / 64) := fun h' => h (by
        have := congrArg BitVec.toNat h'
        simp at this
        omega)
      rw [beq_eq_false_iff_ne.mpr this]
      rfl
  rw [hc]
  by_cases h : e / 64 = k / 64
  · simp [h, Scalar.select]
  · simp [h, Scalar.select]

/-- The queries, normalised by head. -/
theorem pay12_ix (Q : Vec Ideal S512x512 .f32) (r e : Fin 512) :
    k0_pay12 (F := Ideal) Q (ix2 r e) = Q (ix2 r e) * Ideal.rsqrt (msk (fun k : Fin 512 => Q (ix2 r k)) e + Ideal.ofBits .f32 0x358637BD#32) := by
  pointwise [k0_pay12]
  unfold msk
  simp only [sel_head _ _ e.isLt (Fin.isLt _)]

/-- A tile of 128 columns, rotated with the tables. -/
def tile (T C A B : Fin 128 → EReal) (l : Fin 128) : EReal :=
  T l * C l + T ⟨(l + 8) % 128, by omega⟩ * A l + T ⟨(l + 120) % 128, by omega⟩ * B l

section Rotation

variable (C A B : FVec Ideal S512x128 .f32)

abbrev rope (T : FVec Ideal S512x128 .f32) : FVec Ideal S512x128 .f32 :=
  addf (addf (mulf T C) (mulf (dynamicRotate 1 120#32 none T rotates_S512x128_d1) A)) (mulf (dynamicRotate 1 8#32 none T rotates_S512x128_d1) B)

theorem rope_ix (T : FVec Ideal S512x128 .f32) (r : Fin 512) (l : Fin 128) :
    rope C A B T (ix2 r l) = tile (fun k => T (ix2 r k)) (fun k => C (ix2 r k)) (fun k => A (ix2 r k)) (fun k => B (ix2 r k)) l := by
  pointwise [rope]
  unfold tile
  have h1 : (⟨((l : ℕ) + 128 - 120) % 128, by omega⟩ : Fin 128) = ⟨(l + 8) % 128, by omega⟩ := Fin.ext (by simp only; omega)
  have h2 : (⟨((l : ℕ) + 128 - 8) % 128, by omega⟩ : Fin 128) = ⟨(l + 120) % 128, by omega⟩ := Fin.ext (by simp only; omega)
  rw [h1, h2]

/-- Column `k` of the `i`-th tile. -/
def qcol (i : Fin 4) (k : Fin 128) : Fin 512 := ⟨128 * i + k, by omega⟩

/-- The tile of a column. -/
def tileOf (e : Fin 512) : Fin 4 := ⟨e / 128, by omega⟩

/-- Four tiles side by side. -/
theorem cat_ix (P0 P1 P2 P3 : FVec Ideal S512x128 .f32) (f : Fin 4 → Fin 128 → EReal) (r e : Fin 512) (h0 : ∀ l, P0 (ix2 r l) = f 0 l)
    (h1 : ∀ l, P1 (ix2 r l) = f 1 l) (h2 : ∀ l, P2 (ix2 r l) = f 2 l) (h3 : ∀ l, P3 (ix2 r l) = f 3 l) :
    truncf .bf16 (concatenate S512x512 1 [⟨S512x128, P0⟩, ⟨S512x128, P1⟩, ⟨S512x128, P2⟩, ⟨S512x128, P3⟩]
      concatenates_S512x128_S512x128_S512x128_S512x128_S512x512_d1) bitsLt_bf16_f32 (ix2 r e) = f (tileOf e) ⟨e % 128, by omega⟩ := by
  pointwise
  have he := e.isLt
  have key : ∀ (i : Fin 4) (l : Fin 128), (e : ℕ) = 128 * i + l → f i l = f (tileOf e) ⟨e % 128, by omega⟩ := by
    intro i l h
    have hi : tileOf e = i := Fin.ext (by show (e : ℕ) / 128 = i; omega)
    have hl : (⟨e % 128, by omega⟩ : Fin 128) = l := Fin.ext (by show (e : ℕ) % 128 = l; omega)
    rw [hi, hl]
  split_ifs
  any_goals exact absurd rfl ‹¬ _›
  · exact (h0 _).trans (key 0 _ (by show (e : ℕ) = 128 * 0 + e; omega))
  · exact (h1 _).trans (key 1 _ (by show (e : ℕ) = 128 * 1 + (e - 128); omega))
  · exact (h2 _).trans (key 2 _ (by show (e : ℕ) = 128 * 2 + (e - 128 - 128); omega))
  · exact (h3 _).trans (key 3 _ (by show (e : ℕ) = 128 * 3 + (e - 128 - 128 - 128); omega))

/-- The queries, rotated. -/
theorem pay14_ix (V : FVec Ideal S512x512 .f32) (G : FVec Ideal S1x512 .f32) (r e : Fin 512) :
    k0_pay14 (F := Ideal) C A B V G (ix2 r e)
      = tile (fun k => V (ix2 r (qcol (tileOf e) k)) * G (ix2 0 (qcol (tileOf e) k)))
          (fun k => C (ix2 r k)) (fun k => A (ix2 r k)) (fun k => B (ix2 r k)) ⟨e % 128, by omega⟩ := by
  refine cat_ix (rope C A B _) (rope C A B _) (rope C A B _) (rope C A B _) (fun i => tile (fun k => V (ix2 r (qcol i k)) * G (ix2 0 (qcol i k)))
    (fun k => C (ix2 r k)) (fun k => A (ix2 r k)) (fun k => B (ix2 r k))) r e (fun l => ?_) (fun l => ?_) (fun l => ?_) (fun l => ?_)
  all_goals
    rw [rope_ix]
    congr 1
    funext k
    pointwise
    simp [qcol]

/-- The keys, normalised by head and rotated. -/
theorem pay1_ix (K : Vec Ideal S512x128 .f32) (G : Vec Ideal S1x128 .f32) (r : Fin 512) (e : Fin 128) :
    k0_pay1 (F := Ideal) C A B K (k0_pay15 (F := Ideal) K) (k0_pay16) (k0_pay17) G (ix2 r e)
      = tile (fun l => K (ix2 r l) * Ideal.rsqrt (msk (fun k : Fin 128 => K (ix2 r k)) l + Ideal.ofBits .f32 0x358637BD#32) * G (ix2 0 l))
          (fun k => C (ix2 r k)) (fun k => A (ix2 r k)) (fun k => B (ix2 r k)) e := by
  pointwise [k0_pay1, k0_pay15, k0_pay16, k0_pay17]
  have he := e.isLt
  have h1 : ((e : ℕ) + 128 - 120) % 128 = (e + 8) % 128 := by omega
  have h2 : ((e : ℕ) + 128 - 8) % 128 = (e + 120) % 128 := by omega
  have s0 := fun (x : Fin 128) a => sel_head e x (by omega) (by omega) a
  have s1 := fun (x : Fin 128) a => sel_head ((e + 8) % 128) x (by omega) (by omega) a
  have s2 := fun (x : Fin 128) a => sel_head ((e + 120) % 128) x (by omega) (by omega) a
  simp only [h1, h2, s0, s1, s2]
  rfl

end Rotation

theorem pay2_ix (K : Vec Ideal S512x128 .f32) (y : S512x128.Idx) : k0_pay2 (F := Ideal) K y = K y := by
  pointwise! [k0_pay2]

theorem pay9_eq (K : Vec Ideal S512x128 .f32) : k0_pay9 (F := Ideal) K = K := by
  funext y
  pointwise! [k0_pay9]

theorem pay10_eq (K : Vec Ideal S512x128 .f32) : k0_pay10 (F := Ideal) K = K := by
  funext y
  pointwise! [k0_pay10]

theorem pay11_eq (K : Vec Ideal S512x128 .f32) : k0_pay11 (F := Ideal) K = K := by
  funext y
  pointwise! [k0_pay11]

theorem pay13_eq (K : Vec Ideal S1x512 .f32) : k0_pay13 (F := Ideal) K = K := by
  funext y
  pointwise! [k0_pay13]

end Cert.Proj

end
-- ==== Proof.Proj.KerBlk.lean ====
/- What the kernel reads at a grid point: every block, entry by entry, in the arguments. -/
module

public import proofs.«01_k».proof.Proof.Proj.KerPay
public import proofs.«01_k».proof.Proof.Gen.Kernel8Ideal.Value

@[expose] public section

set_option maxRecDepth 16384

noncomputable section

namespace Cert.Proj

open Cert.Kernel8Ideal Cert.Kernel8Ideal.Gen Idealize.ShloMosaic Idealize.ShloMosaic.TcCoe Idealize.SL.Sem
open Idealize.ShloMosaic.Pipeline (Dat)
open Idealize.ShloMosaic.StableHlo
open Cert.Conv (Mat)

variable (m : (ℓ : Loc nD τ sig) → Buf (Elt Ideal) ℓ)

/-- Row `r` of block `t`. -/
def row (t : Fin cfg0.N) (r : Fin 512) : Fin 4096 := ⟨t.val * 512 + r, by have h : t.val < 8 := N_0 ▸ t.isLt; omega⟩

/-- Column `e` of the `j`-th chip's chunk of the projection. -/
def col (j : Fin 4) (e : Fin 896) : Fin 3584 := ⟨j * 896 + e, by omega⟩

/-- Every window's block index at every grid point. -/
theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![t.val + 24, 0]
    ∧ win0_6.index t = ![t.val + 24, 0] ∧ win0_7.index t = ![t.val + 24, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0]
    ∧ win0_17.index t = ![t.val, 0] ∧ win0_18.index t = ![t.val, 0] :=
  (by decide +kernel : ∀ t : Fin grid0.N, _)

variable (c : Dev nD) (t : Fin cfg0.N)

abbrev aX : Mat 4096 1024 := m ((c : Thread nD τ).loc main_arg0)
abbrev aG : Mat 1 1024 := m ((c : Thread nD τ).loc main_arg1)
abbrev aW : Mat 1024 3584 := m ((c : Thread nD τ).loc main_arg2)
abbrev aQ : Mat 1 64 := m ((c : Thread nD τ).loc main_arg3)
abbrev aK : Mat 1 64 := m ((c : Thread nD τ).loc main_arg4)
abbrev aC : Mat 16384 8 := m ((c : Thread nD τ).loc main_arg5)
abbrev aS : Mat 16384 8 := m ((c : Thread nD τ).loc main_arg6)

/-- The rows. -/
theorem b0 (r : Fin 512) (e : Fin 1024) : (iblk m c 0 t : Vec Ideal S512x1024 .f32) (ix2 r e) = aX m c (ix2 (row t r) e) := by
  blk_simp [iblk, V, idx t]
  blk_ext [idx t]
  rfl

/-- The normalisation's gain. -/
theorem b1 (i : Fin 1024) : (iblk m c 1 t : Vec Ideal S1x1024 .f32) (ix2 0 i) = aG m c (ix2 0 i) := by
  blk_simp [iblk, V, idx t]
  blk_ext [idx t]

/-- The projection's weight, one chunk of columns after the other. -/
theorem b2 (j : Fin 4) (k : Fin 1024) (e : Fin 896) :
    (iblk m c 2 t : Vec Ideal S4x1024x896 .bf16) (ix3 j k e) = aW m c (ix2 k (col j e)) := by
  blk_simp [iblk, idx t]
  entry_read
  have h : ((View.whole main_v2).slice (win0_2.rect t)).emb (ix3 j k e) = ix3 j k e := by
    blk_ext [idx t]
  rw [h]
  pointwise
  rfl

/-- The gains of the queries and the keys, one for each column of a head. -/
theorem b3 (e : Fin 512) : (iblk m c 3 t : Vec Ideal S1x512 .f32) (ix2 0 e) = aQ m c (ix2 0 (lane e)) := by
  blk_simp [iblk, idx t]
  entry_read
  have h : ((View.whole main_v18).slice (win0_3.rect t)).emb (ix2 0 e) = ix2 0 e := by
    blk_ext [idx t]
  rw [h]
  pointwise
  rfl

theorem b4 (e : Fin 128) : (iblk m c 4 t : Vec Ideal S1x128 .f32) (ix2 0 e) = aK m c (ix2 0 (lane e)) := by
  blk_simp [iblk, idx t]
  entry_read
  have h : ((View.whole main_v19).slice (win0_4.rect t)).emb (ix2 0 e) = ix2 0 e := by
    blk_ext [idx t]
  rw [h]
  pointwise
  rfl

set_option maxHeartbeats 1000000 in
/-- Two heads' lanes side by side, each of two eighths and a rest. -/
theorem six_ix (P0 P1 : FVec Ideal S16384x8 .f32) (P2 : FVec Ideal S16384x48 .f32) (R : Fin 16384) (l : Fin 128) :
    concatenate S16384x128 1 [⟨S16384x8, P0⟩, ⟨S16384x8, P1⟩, ⟨S16384x48, P2⟩, ⟨S16384x8, P0⟩, ⟨S16384x8, P1⟩, ⟨S16384x48, P2⟩]
        concatenates_S16384x8_S16384x8_S16384x48_S16384x8_S16384x8_S16384x48_S16384x128_d1 (ix2 R l)
      = if h : (l : ℕ) % 64 < 8 then P0 (ix2 R ⟨l % 64, h⟩) else if h' : (l : ℕ) % 64 < 16 then P1 (ix2 R ⟨l % 64 - 8, by omega⟩)
        else P2 (ix2 R ⟨l % 64 - 16, by omega⟩) := by
  pointwise
  have hl := l.isLt
  split_ifs
  any_goals exact absurd rfl ‹¬ _›
  · rw [dif_pos (show (l : ℕ) % 64 < 8 by omega)]
    exact congrArg (fun i => P0 (ix2 R i)) (Fin.ext (by show _ = _; first | omega | (simp only; omega)))
  · rw [dif_neg (show ¬ (l : ℕ) % 64 < 8 by omega), dif_pos (show (l : ℕ) % 64 < 16 by omega)]
    exact congrArg (fun i => P1 (ix2 R i)) (Fin.ext (by show _ = _; first | omega | (simp only; omega)))
  · rw [dif_neg (show ¬ (l : ℕ) % 64 < 8 by omega), dif_neg (show ¬ (l : ℕ) % 64 < 16 by omega)]
    exact congrArg (fun i => P2 (ix2 R i)) (Fin.ext (by show _ = _; first | omega | (simp only; omega)))
  · rw [dif_pos (show (l : ℕ) % 64 < 8 by omega)]
    exact congrArg (fun i => P0 (ix2 R i)) (Fin.ext (by show _ = _; first | omega | (simp only; omega)))
  · rw [dif_neg (show ¬ (l : ℕ) % 64 < 8 by omega), dif_pos (show (l : ℕ) % 64 < 16 by omega)]
    exact congrArg (fun i => P1 (ix2 R i)) (Fin.ext (by show _ = _; first | omega | (simp only; omega)))
  · rw [dif_neg (show ¬ (l : ℕ) % 64 < 8 by omega), dif_neg (show ¬ (l : ℕ) % 64 < 16 by omega)]
    exact congrArg (fun i => P2 (ix2 R i)) (Fin.ext (by show _ = _; first | omega | (simp only; omega)))

/-- Lanes of which all the entries are one number. -/
abbrev fill48 (b : BitVec 32) : FVec Ideal S16384x48 .f32 := broadcastInDim S16384x48 ![] bcast_S_S16384x48 (constant (F := Ideal) S_ .f32 b)
abbrev fill8 (b : BitVec 32) : FVec Ideal S16384x8 .f32 := broadcastInDim S16384x8 ![] bcast_S_S16384x8 (constant (F := Ideal) S_ .f32 b)

/-- Two heads' lanes. -/
abbrev two (P0 P1 : FVec Ideal S16384x8 .f32) (P2 : FVec Ideal S16384x48 .f32) : FVec Ideal S16384x128 .f32 :=
  concatenate S16384x128 1 [⟨S16384x8, P0⟩, ⟨S16384x8, P1⟩, ⟨S16384x48, P2⟩, ⟨S16384x8, P0⟩, ⟨S16384x8, P1⟩, ⟨S16384x48, P2⟩]
    concatenates_S16384x8_S16384x8_S16384x48_S16384x8_S16384x8_S16384x48_S16384x128_d1

theorem V6 : V m c main_v6 = two (aC m c) (aC m c) (fill48 0x3F800000#32) := rfl
theorem V8 : V m c main_v8 = two (Host.negf (aS m c)) (fill8 0x00000000#32) (fill48 0x00000000#32) := rfl
theorem V9 : V m c main_v9 = two (fill8 0x00000000#32) (aS m c) (fill48 0x00000000#32) := rfl

/-- The angles' tables laid over the lanes. -/
theorem b5 (r : Fin 512) (l : Fin 128) :
    (iblk m c 5 t : Vec Ideal S512x128 .f32) (ix2 r l) = tabC (fun j => aC m c (ix2 (trow (row t r)) j)) l := by
  blk_simp [iblk, idx t]
  have h : ((View.whole main_v6).slice (win0_5.rect t)).emb (ix2 r l) = ix2 (trow (row t r)) l := by
    blk_ext [idx t]
    simp [trow, row]
    omega
  refine (congrArg (V m c main_v6) h).trans ?_
  rw [V6]
  generalize trow (row t r) = R
  refine (six_ix _ _ _ R l).trans ?_
  unfold tabC
  split_ifs
  · rfl
  · rfl
  · pointwise

theorem b6 (r : Fin 512) (l : Fin 128) :
    (iblk m c 6 t : Vec Ideal S512x128 .f32) (ix2 r l) = tabA (fun j => aS m c (ix2 (trow (row t r)) j)) l := by
  blk_simp [iblk, idx t]
  have h : ((View.whole main_v8).slice (win0_6.rect t)).emb (ix2 r l) = ix2 (trow (row t r)) l := by
    blk_ext [idx t]
    simp [trow, row]
    omega
  refine (congrArg (V m c main_v8) h).trans ?_
  rw [V8]
  generalize trow (row t r) = R
  refine (six_ix _ _ _ R l).trans ?_
  unfold tabA
  split_ifs
  · pointwise
  · pointwise
  · pointwise

theorem b7 (r : Fin 512) (l : Fin 128) :
    (iblk m c 7 t : Vec Ideal S512x128 .f32) (ix2 r l) = tabB (fun j => aS m c (ix2 (trow (row t r)) j)) l := by
  blk_simp [iblk, idx t]
  have h : ((View.whole main_v9).slice (win0_7.rect t)).emb (ix2 r l) = ix2 (trow (row t r)) l := by
    blk_ext [idx t]
    simp [trow, row]
    omega
  refine (congrArg (V m c main_v9) h).trans ?_
  rw [V9]
  generalize trow (row t r) = R
  refine (six_ix _ _ _ R l).trans ?_
  unfold tabB
  split_ifs
  · pointwise
  · rfl
  · pointwise

/-- A chunk of the weight, loaded. -/
theorem ld_w (X : Vec Ideal S4x1024x896 .bf16) (j : Fin 4) (inb) (k : Fin 1024) (e : Fin 896) :
    (View.ld X (Rect.unit (s := S4x1024x896) ![(j : ℕ), 0, 0] ![1, 1024, 896] inb) : Vec Ideal S1x1024x896 .bf16) (ix3 0 k e) = X (ix3 j k e) :=
  View.ld_unit_apply_of X _ _ _ _ _ fun a => by fin_cases a <;> simp

end Cert.Proj

end
-- ==== Proof.Proj.KerOut.lean ====
/- What the kernel leaves in its eleven results. -/
module

public import proofs.«01_k».proof.Proof.Proj.KerBlk
public import Idealize.ShloMosaic.Lib.Pipeline.ReadBack

@[expose] public section

set_option maxRecDepth 16384

noncomputable section

namespace Cert.Proj

open Cert.Kernel8Ideal Cert.Kernel8Ideal.Gen Idealize.ShloMosaic Idealize.ShloMosaic.TcCoe Idealize.SL.Sem
open Idealize.ShloMosaic.Pipeline (Dat)
open Cert.Conv (Mat IsReal)

/-- A tile of normalised columns, rotated with the laid-out tables, is the heads' rotation. -/
theorem rot_tile {n : ℕ} (hn : n % 64 = 0) (q : Fin n → EReal) (hq : ∀ k, IsReal (q k)) (g : Fin 64 → EReal) (co si : Fin 8 → EReal) (e : Fin n)
    (f : Fin 128 → Fin n) (hf : ∀ k, (f k : ℕ) = 128 * (e / 128) + k) :
    tile (fun k => q (f k) * Ideal.rsqrt (msk q (f k) + Ideal.ofBits .f32 0x358637BD#32) * g (lane (f k))) (tabC co) (tabA si) (tabB si)
      ⟨e % 128, by omega⟩ = rot hn q g co si e := by
  have hl : lane (⟨e % 128, by omega⟩ : Fin 128) = lane e := Fin.ext (by simp only [lane]; omega)
  unfold rot
  rw [← hl]
  refine turn_tab (norm64 (headOf hn q e) g)
    (fun k => q (f k) * Ideal.rsqrt (msk q (f k) + Ideal.ofBits .f32 0x358637BD#32) * g (lane (f k))) co si ⟨e % 128, by omega⟩ fun k hk => ?_
  have hk : (k : ℕ) / 64 = e % 128 / 64 := hk
  have h := hf k
  have h1 : q (f k) = headOf hn q e (lane k) := congrArg q (Fin.ext (by simp only [lane]; omega))
  have h2 : headOf hn q (f k) = headOf hn q e := funext fun d => congrArg q (Fin.ext (by simp only; omega))
  have h3 : lane (f k) = lane k := Fin.ext (by simp only [lane]; omega)
  show q (f k) * Ideal.rsqrt (msk q (f k) + Ideal.ofBits .f32 0x358637BD#32) * g (lane (f k)) = _
  rw [msk_eq hn q hq, h2, h1, h3]
  rfl

section Heads

variable (C A B : FVec Ideal S512x128 .f32) (r : Fin 512) (g : Fin 64 → EReal) (co si : Fin 8 → EReal)
  (hC : ∀ l, C (ix2 r l) = tabC co l) (hA : ∀ l, A (ix2 r l) = tabA si l) (hB : ∀ l, B (ix2 r l) = tabB si l)
include hC hA hB

/-- The queries. -/
theorem qn_rot (Q : Vec Ideal S512x512 .f32) (G : Vec Ideal S1x512 .f32) (q : Fin 512 → EReal) (hq : ∀ k, IsReal (q k))
    (hQ : ∀ k, Q (ix2 r k) = q k) (hG : ∀ k, G (ix2 0 k) = g (lane k)) (e : Fin 512) :
    k0_pay14 (F := Ideal) (k0_pay9 (F := Ideal) C) (k0_pay10 (F := Ideal) A) (k0_pay11 (F := Ideal) B) (k0_pay12 (F := Ideal) Q)
      (k0_pay13 (F := Ideal) G) (ix2 r e) = rot (n := 512) rfl q g co si e := by
  rw [pay9_eq, pay10_eq, pay11_eq, pay13_eq, pay14_ix]
  simp only [pay12_ix, hC, hA, hB, hQ, hG]
  exact rot_tile rfl q hq g co si e (qcol (tileOf e)) fun k => rfl

/-- The keys. -/
theorem kn_rot (K : Vec Ideal S512x128 .f32) (G : Vec Ideal S1x128 .f32) (q : Fin 128 → EReal) (hq : ∀ k, IsReal (q k))
    (hQ : ∀ k, K (ix2 r k) = q k) (hG : ∀ k, G (ix2 0 k) = g (lane k)) (e : Fin 128) :
    k0_pay1 (F := Ideal) (k0_pay9 (F := Ideal) C) (k0_pay10 (F := Ideal) A) (k0_pay11 (F := Ideal) B) K (k0_pay15 (F := Ideal) K) (k0_pay16) (k0_pay17) G
      (ix2 r e) = rot (n := 128) rfl q g co si e := by
  have he : (⟨e % 128, by omega⟩ : Fin 128) = e := Fin.ext (by simp only; omega)
  rw [pay9_eq, pay10_eq, pay11_eq, pay1_ix]
  simp only [hC, hA, hB, hQ, hG]
  have h := rot_tile (n := 128) rfl q hq g co si e (fun k => k) fun k => by omega
  rw [he] at h
  exact h

end Heads

variable (m : (ℓ : Loc nD τ sig) → Buf (Elt Ideal) ℓ) (c : Dev nD) (t : Fin cfg0.N)

/-- The results, in the arguments. -/
abbrev fH : Fin 4096 → Fin 1024 → EReal := hn (aX m c) (aG m c)
abbrev fP : Fin 4096 → Fin 3584 → EReal := prj (aX m c) (aG m c) (aW m c)
abbrev fC (r : Fin 4096) (j : Fin 8) : EReal := aC m c (ix2 (trow r) j)
abbrev fS (r : Fin 4096) (j : Fin 8) : EReal := aS m c (ix2 (trow r) j)
abbrev fQ (r : Fin 4096) : Fin 512 → EReal := rot (n := 512) rfl (cut 2304 512 (by omega) (fP m c r)) (fun k => aQ m c (ix2 0 k)) (fC m c r) (fS m c r)
abbrev fK (r : Fin 4096) : Fin 128 → EReal := rot (n := 128) rfl (cut 2816 128 (by omega) (fP m c r)) (fun k => aK m c (ix2 0 k)) (fC m c r) (fS m c r)

/-- The normalised rows at a grid point. -/
abbrev hh : FVec Ideal S512x1024 .bf16 := k0_pay3 (F := Ideal) (iblk m c 0 t) (iblk m c 1 t)

theorem hh_apply (r : Fin 512) (i : Fin 1024) : hh m c t (ix2 r i) = fH m c (row t r) i := by
  have h0 := fun k => b0 m c t r k
  have h1 := b1 m c t i
  unfold hh
  generalize iblk m c 0 t = X, iblk m c 1 t = G at *
  rw [pay3_ix]
  simp only [h0, h1]
  rfl

/-- A chunk of the weight at a grid point. -/
abbrev wc (o : ℕ) (inb : ∀ a, (![o, 0, 0] : Fin 3 → ℕ) a + (![1, 1024, 896] : Fin 3 → ℕ) a ≤ S4x1024x896.size a) : Vec Ideal S1x1024x896 .bf16 :=
  View.ld (iblk m c 2 t : Vec Ideal S4x1024x896 .bf16) (Rect.unit (s := S4x1024x896) ![o, 0, 0] ![1, 1024, 896] inb)

/-- A chunk of the projection, in the arguments. -/
theorem chk_apply (j : Fin 4) (inb) (r : Fin 512) (e : Fin 896) :
    ∑ k : Fin 1024, hh m c t (ix2 r k) * wc m c t j inb (ix3 0 k e) = fP m c (row t r) (col j e) :=
  Finset.sum_congr rfl fun k _ => congrArg₂ (HMul.hMul : EReal → EReal → EReal) (hh_apply m c t r k) ((ld_w _ j _ k e).trans (b2 m c t j k e))

/-- A chunk's piece of the projection. -/
theorem p_piece (j : Fin 4) (o : ℕ) (ho : o = j * 896) (P : Vec Ideal S512x896 .f32)
    (hP : ∀ r e, P (ix2 r e) = fP m c (row t r) (col j e)) (y : S512x3584.Idx) (z : S512x896.Idx)
    (h0 : (y 0 : ℕ) = z 0) (h1 : (y 1 : ℕ) = o + z 1) : P z = fP m c (row t (y 0)) (y 1) := by
  have e0 : y 0 = z 0 := Fin.ext h0
  have e1 : y 1 = col j (z 1) := Fin.ext (h1.trans (congrArg (· + (z 1 : ℕ)) ho))
  rw [e0, e1]
  exact (congrArg P (ix2_eta z)).trans (hP _ _)

/-- The four chunks, as stored. -/
abbrev pcs : List (View.Piece (Elt Ideal) S512x3584 .f32) :=
  [⟨Rect.unit ![0, 2688] ![512, 896] inb_S512x3584_S512x896_0_2688, k0_pay8 (F := Ideal) (hh m c t) (wc m c t 3 inb_S4x1024x896_S1x1024x896_3_0_0)⟩,
    ⟨Rect.unit ![0, 1792] ![512, 896] inb_S512x3584_S512x896_0_1792,
      k0_pay7 (F := Ideal) (k0_pay6 (F := Ideal) (iblk m c 0 t) (iblk m c 1 t) (wc m c t 2 inb_S4x1024x896_S1x1024x896_2_0_0))⟩,
    ⟨Rect.unit ![0, 896] ![512, 896] inb_S512x3584_S512x896_0_896,
      k0_pay5 (F := Ideal) (iblk m c 0 t) (iblk m c 1 t) (wc m c t 1 inb_S4x1024x896_S1x1024x896_1_0_0)⟩,
    ⟨Rect.unit ![0, 0] ![512, 896] inb_S512x3584_S512x896_0_0,
      k0_pay4 (F := Ideal) (iblk m c 0 t) (iblk m c 1 t) (wc m c t 0 inb_S4x1024x896_S1x1024x896_0_0_0)⟩]

/-- The projection at a grid point's rows. -/
theorem canon_pcs (y : S512x3584.Idx) : View.canon (pcs m c t) y = fP m c (row t (y 0)) (y 1) := by
  unfold pcs
  canon_tiles y h
  case piece0 =>
    exact p_piece m c t 3 2688 rfl (k0_pay8 (F := Ideal) _ _) (fun r e => (pay8_ix _ _ _ r e).trans (chk_apply m c t 3 _ r e)) _ y h0 h1
  case piece1 =>
    exact p_piece m c t 2 1792 rfl (k0_pay7 (F := Ideal) (k0_pay6 (F := Ideal) _ _ _))
      (fun r e => (pay6_ix _ _ _ r e).trans (chk_apply m c t 2 _ r e)) _ y h0 h1
  case piece2 =>
    exact p_piece m c t 1 896 rfl (k0_pay5 (F := Ideal) _ _ _) (fun r e => (pay5_ix _ _ _ r e).trans (chk_apply m c t 1 _ r e)) _ y h0 h1
  case piece3 =>
    exact p_piece m c t 0 0 rfl (k0_pay4 (F := Ideal) _ _ _) (fun r e => (pay4_ix _ _ _ r e).trans (chk_apply m c t 0 _ r e)) _ y h0
      (h1.trans (Nat.zero_add _).symm)

/-- Columns of the projection, read back. -/
abbrev sl (o n : ℕ) (inb : ∀ a, (![0, o] : Fin 2 → ℕ) a + (![512, n] : Fin 2 → ℕ) a ≤ S512x3584.size a) : Vec Ideal (⟨2, ![512, n]⟩ : Shape) .f32 :=
  (View.whole cc0_scratch0 : View sig .tc .vmem S512x3584 .f32).readCov (Val := Elt Ideal) (pcs m c t)
    (Rect.unit (s := S512x3584) ![0, o] ![512, n] inb).toLoadRect

theorem sl_apply (o n : ℕ) (inb) (ho : o + n ≤ 3584) (r : Fin 512) (e : Fin n) :
    sl m c t o n inb (ix2 r e) = cut o n ho (fP m c (row t r)) e := by
  unfold sl
  rw [View.readCov_eq_canon']
  refine (canon_pcs m c t _).trans (congrArg₂ (fP m c) (congrArg (row t) (Fin.ext ?_)) (Fin.ext ?_))
  · simp [LoadRect.idx, Rect.unit, Rect.toLoadRect]
  · simp [LoadRect.idx, Rect.unit, Rect.toLoadRect]

theorem sl_at (o n : ℕ) (inb) (ho : o + n ≤ 3584) (y : (⟨2, ![512, n]⟩ : Shape).Idx) :
    sl m c t o n inb y = cut o n ho (fP m c (row t (y 0))) (y 1) :=
  (congrArg (sl m c t o n inb) (ix2_eta y)).trans (sl_apply m c t o n inb ho (y 0) (y 1))

section Real

variable (hX : ∀ i, IsReal (aX m c i)) (hG : ∀ i, IsReal (aG m c i)) (hW : ∀ i, IsReal (aW m c i))
include hX hG hW

/-- The queries and the keys at a grid point. -/
theorem qn_at (y : S512x512.Idx) :
    k0_pay14 (F := Ideal) (k0_pay9 (F := Ideal) (iblk m c 5 t)) (k0_pay10 (F := Ideal) (iblk m c 6 t)) (k0_pay11 (F := Ideal) (iblk m c 7 t))
      (k0_pay12 (F := Ideal) (sl m c t 2304 512 inb_S512x3584_S512x512_0_2304)) (k0_pay13 (F := Ideal) (iblk m c 3 t)) y
      = fQ m c (row t (y 0)) (y 1) :=
  (congrArg (k0_pay14 (F := Ideal) (k0_pay9 (F := Ideal) (iblk m c 5 t)) (k0_pay10 (F := Ideal) (iblk m c 6 t)) (k0_pay11 (F := Ideal) (iblk m c 7 t))
      (k0_pay12 (F := Ideal) (sl m c t 2304 512 inb_S512x3584_S512x512_0_2304)) (k0_pay13 (F := Ideal) (iblk m c 3 t))) (ix2_eta y)).trans
    (qn_rot (iblk m c 5 t) (iblk m c 6 t) (iblk m c 7 t) (y 0) (fun k => aQ m c (ix2 0 k)) (fC m c (row t (y 0))) (fS m c (row t (y 0)))
      (b5 m c t (y 0)) (b6 m c t (y 0)) (b7 m c t (y 0)) _ (iblk m c 3 t) _ (fun k => prj_real _ _ _ hX hG hW _ _)
      (fun k => sl_apply m c t 2304 512 inb_S512x3584_S512x512_0_2304 (by omega) (y 0) k) (fun k => b3 m c t k) (y 1))

theorem kn_at (y : S512x128.Idx) :
    k0_pay1 (F := Ideal) (k0_pay9 (F := Ideal) (iblk m c 5 t)) (k0_pay10 (F := Ideal) (iblk m c 6 t)) (k0_pay11 (F := Ideal) (iblk m c 7 t))
      (sl m c t 2816 128 inb_S512x3584_S512x128_0_2816) (k0_pay15 (F := Ideal) (sl m c t 2816 128 inb_S512x3584_S512x128_0_2816)) k0_pay16 k0_pay17
      (iblk m c 4 t) y = fK m c (row t (y 0)) (y 1) :=
  (congrArg (k0_pay1 (F := Ideal) (k0_pay9 (F := Ideal) (iblk m c 5 t)) (k0_pay10 (F := Ideal) (iblk m c 6 t)) (k0_pay11 (F := Ideal) (iblk m c 7 t))
      (sl m c t 2816 128 inb_S512x3584_S512x128_0_2816) (k0_pay15 (F := Ideal) (sl m c t 2816 128 inb_S512x3584_S512x128_0_2816)) k0_pay16 k0_pay17
      (iblk m c 4 t)) (ix2_eta y)).trans
    (kn_rot (iblk m c 5 t) (iblk m c 6 t) (iblk m c 7 t) (y 0) (fun k => aK m c (ix2 0 k)) (fC m c (row t (y 0))) (fS m c (row t (y 0)))
      (b5 m c t (y 0)) (b6 m c t (y 0)) (b7 m c t (y 0)) _ (iblk m c 4 t) _ (fun k => prj_real _ _ _ hX hG hW _ _)
      (fun k => sl_apply m c t 2816 128 inb_S512x3584_S512x128_0_2816 (by omega) (y 0) k) (fun k => b4 m c t k) (y 1))

end Real

/-- Where a block's entry lies in the whole array. -/
theorem emb8 (y : S512x1024.Idx) : ((View.whole main_v20_0).slice (win0_8.rect t)).emb y = ix2 (row t (y 0)) (y 1) := by
  blk_ext [idx t]
  rfl

theorem emb9 (y : S512x768.Idx) : ((View.whole main_v20_1).slice (win0_9.rect t)).emb y = ix2 (row t (y 0)) (y 1) := by
  blk_ext [idx t]
  rfl

theorem emb10 (y : S512x768.Idx) : ((View.whole main_v20_2).slice (win0_10.rect t)).emb y = ix2 (row t (y 0)) (y 1) := by
  blk_ext [idx t]
  rfl

theorem emb11 (y : S512x768.Idx) : ((View.whole main_v20_3).slice (win0_11.rect t)).emb y = ix2 (row t (y 0)) (y 1) := by
  blk_ext [idx t]
  rfl

theorem emb12 (y : S512x512.Idx) : ((View.whole main_v20_4).slice (win0_12.rect t)).emb y = ix2 (row t (y 0)) (y 1) := by
  blk_ext [idx t]
  rfl

theorem emb13 (y : S512x128.Idx) : ((View.whole main_v20_5).slice (win0_13.rect t)).emb y = ix2 (row t (y 0)) (y 1) := by
  blk_ext [idx t]
  rfl

theorem emb14 (y : S512x128.Idx) : ((View.whole main_v20_6).slice (win0_14.rect t)).emb y = ix2 (row t (y 0)) (y 1) := by
  blk_ext [idx t]
  rfl

theorem emb15 (y : S512x512.Idx) : ((View.whole main_v20_7).slice (win0_15.rect t)).emb y = ix2 (row t (y 0)) (y 1) := by
  blk_ext [idx t]
  rfl

theorem emb16 (y : S512x512.Idx) : ((View.whole main_v20_8).slice (win0_16.rect t)).emb y = ix2 (row t (y 0)) (y 1) := by
  blk_ext [idx t]
  rfl

theorem emb17 (y : S512x128.Idx) : ((View.whole main_v20_9).slice (win0_17.rect t)).emb y = ix2 (row t (y 0)) (y 1) := by
  blk_ext [idx t]
  rfl

theorem emb18 (y : S512x128.Idx) : ((View.whole main_v20_10).slice (win0_18.rect t)).emb y = ix2 (row t (y 0)) (y 1) := by
  blk_ext [idx t]
  rfl

/-- The normalised rows. -/
theorem final8 : (dats m 0 c).arrAt 8 (cfgs 0).N = fun j : S4096x1024.Idx => fH m c (j 0) (j 1) := by
  refine (dats m 0 c).arrAt_eq_of_covers 8 _ (by decide +kernel) fun t hf y => ?_
  blk_simp
  rw [after0_8, emb8]
  show _ = fH m c (row t (y 0)) (y 1)
  have key := (congrArg (hh m c t) (ix2_eta y)).trans (hh_apply m c t (y 0) (y 1))
  unfold outsAt0
  dsimp only
  frame_out
  exact key

/-- The three dilated groups' projections. -/
theorem final9 : (dats m 0 c).arrAt 9 (cfgs 0).N = fun j : S4096x768.Idx => cut 0 768 (by omega) (fP m c (j 0)) (j 1) := by
  refine (dats m 0 c).arrAt_eq_of_covers 9 _ (by decide +kernel) fun t hf y => ?_
  blk_simp
  rw [after0_9, emb9]
  show _ = cut 0 768 (by omega) (fP m c (row t (y 0))) (y 1)
  have key := sl_at m c t 0 768 inb_S512x3584_S512x768_0_0 (by omega) y
  unfold outsAt0
  dsimp only
  frame_out
  exact key

/-- The second. -/
theorem final10 : (dats m 0 c).arrAt 10 (cfgs 0).N = fun j : S4096x768.Idx => cut 768 768 (by omega) (fP m c (j 0)) (j 1) := by
  refine (dats m 0 c).arrAt_eq_of_covers 10 _ (by decide +kernel) fun t hf y => ?_
  blk_simp
  rw [after0_10, emb10]
  show _ = cut 768 768 (by omega) (fP m c (row t (y 0))) (y 1)
  have key := sl_at m c t 768 768 inb_S512x3584_S512x768_0_768 (by omega) y
  unfold outsAt0
  dsimp only
  frame_out
  exact key

/-- The third. -/
theorem final11 : (dats m 0 c).arrAt 11 (cfgs 0).N = fun j : S4096x768.Idx => cut 1536 768 (by omega) (fP m c (j 0)) (j 1) := by
  refine (dats m 0 c).arrAt_eq_of_covers 11 _ (by decide +kernel) fun t hf y => ?_
  blk_simp
  rw [after0_11, emb11]
  show _ = cut 1536 768 (by omega) (fP m c (row t (y 0))) (y 1)
  have key := sl_at m c t 1536 768 inb_S512x3584_S512x768_0_1536 (by omega) y
  unfold outsAt0
  dsimp only
  frame_out
  exact key

/-- The windowed branch's queries. -/
theorem final12 : (dats m 0 c).arrAt 12 (cfgs 0).N = fun j : S4096x512.Idx => cut 2304 512 (by omega) (fP m c (j 0)) (j 1) := by
  refine (dats m 0 c).arrAt_eq_of_covers 12 _ (by decide +kernel) fun t hf y => ?_
  blk_simp
  rw [after0_12, emb12]
  show _ = cut 2304 512 (by omega) (fP m c (row t (y 0))) (y 1)
  have key := sl_at m c t 2304 512 inb_S512x3584_S512x512_0_2304 (by omega) y
  unfold outsAt0
  dsimp only
  frame_out
  exact key

/-- Its keys. -/
theorem final13 : (dats m 0 c).arrAt 13 (cfgs 0).N = fun j : S4096x128.Idx => cut 2816 128 (by omega) (fP m c (j 0)) (j 1) := by
  refine (dats m 0 c).arrAt_eq_of_covers 13 _ (by decide +kernel) fun t hf y => ?_
  blk_simp
  rw [after0_13, emb13]
  show _ = cut 2816 128 (by omega) (fP m c (row t (y 0))) (y 1)
  have key := sl_at m c t 2816 128 inb_S512x3584_S512x128_0_2816 (by omega) y
  unfold outsAt0
  dsimp only
  frame_out
  exact key

/-- Its values. -/
theorem final14 : (dats m 0 c).arrAt 14 (cfgs 0).N = fun j : S4096x128.Idx => cut 2944 128 (by omega) (fP m c (j 0)) (j 1) := by
  refine (dats m 0 c).arrAt_eq_of_covers 14 _ (by decide +kernel) fun t hf y => ?_
  blk_simp
  rw [after0_14, emb14]
  show _ = cut 2944 128 (by omega) (fP m c (row t (y 0))) (y 1)
  have key := sl_at m c t 2944 128 inb_S512x3584_S512x128_0_2944 (by omega) y
  unfold outsAt0
  dsimp only
  frame_out
  exact key

/-- The memory branch's queries. -/
theorem final15 : (dats m 0 c).arrAt 15 (cfgs 0).N = fun j : S4096x512.Idx => cut 3072 512 (by omega) (fP m c (j 0)) (j 1) := by
  refine (dats m 0 c).arrAt_eq_of_covers 15 _ (by decide +kernel) fun t hf y => ?_
  blk_simp
  rw [after0_15, emb15]
  show _ = cut 3072 512 (by omega) (fP m c (row t (y 0))) (y 1)
  have key := sl_at m c t 3072 512 inb_S512x3584_S512x512_0_3072 (by omega) y
  unfold outsAt0
  dsimp only
  frame_out
  exact key

/-- The queries, normalised and rotated. -/
theorem final16 (hX : ∀ i, IsReal (aX m c i)) (hG : ∀ i, IsReal (aG m c i)) (hW : ∀ i, IsReal (aW m c i)) : (dats m 0 c).arrAt 16 (cfgs 0).N = fun j : S4096x512.Idx => fQ m c (j 0) (j 1) := by
  refine (dats m 0 c).arrAt_eq_of_covers 16 _ (by decide +kernel) fun t hf y => ?_
  blk_simp
  rw [after0_16, emb16]
  show _ = fQ m c (row t (y 0)) (y 1)
  have key := qn_at m c t hX hG hW y
  unfold outsAt0
  dsimp only
  frame_out
  exact key

/-- The keys, normalised and rotated. -/
theorem final17 (hX : ∀ i, IsReal (aX m c i)) (hG : ∀ i, IsReal (aG m c i)) (hW : ∀ i, IsReal (aW m c i)) : (dats m 0 c).arrAt 17 (cfgs 0).N = fun j : S4096x128.Idx => fK m c (j 0) (j 1) := by
  refine (dats m 0 c).arrAt_eq_of_covers 17 _ (by decide +kernel) fun t hf y => ?_
  blk_simp
  rw [after0_17, emb17]
  show _ = fK m c (row t (y 0)) (y 1)
  have key := kn_at m c t hX hG hW y
  unfold outsAt0
  dsimp only
  frame_out
  exact key

/-- The values. -/
theorem final18 : (dats m 0 c).arrAt 18 (cfgs 0).N = fun j : S4096x128.Idx => cut 2944 128 (by omega) (fP m c (j 0)) (j 1) := by
  refine (dats m 0 c).arrAt_eq_of_covers 18 _ (by decide +kernel) fun t hf y => ?_
  blk_simp
  rw [after0_18, emb18]
  show _ = cut 2944 128 (by omega) (fP m c (row t (y 0))) (y 1)
  have key := (pay2_ix _ y).trans (sl_at m c t 2944 128 inb_S512x3584_S512x128_0_2944 (by omega) y)
  unfold outsAt0
  dsimp only
  frame_out
  exact key

end Cert.Proj

end
-- ==== Proof.Proj.Ref.lean ====
/- The reference's eleven results, entry by entry. -/
module

public import proofs.«01_k».proof.Proof.Proj.Finite
public import proofs.«01_k».proof.Proof.Gen.Reference8Ideal.Run

@[expose] public section

set_option maxRecDepth 16384

noncomputable section

namespace Cert.Proj

open Cert.Reference8Ideal Cert.Reference8Ideal.Gen Cert.Reference8Ideal.Value
open Idealize.ShloMosaic Idealize.ShloMosaic.TcCoe Idealize.SL.Sem Idealize.ShloMosaic.StableHlo
open Cert.Conv (Mat IsReal)

namespace Ref

/-- The normalised rows. -/
def nn (Y : Mat 4096 1024) (G : Mat 1 1024) : FVec Ideal S4096x1024 .f32 :=
  mulf (mulf Y (broadcastInDim S4096x1024 ![0, 1] bcast_S4096x1_S4096x1024_0_1 (Host.rsqrt (addf (Host.divf
    (broadcastInDim S4096x1 ![0] bcast_S4096_S4096x1_0 (Host.reduceAdd (mulf Y Y) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 G)

/-- Their projection. -/
def pr (H : FVec Ideal S4096x1024 .f32) (W : Mat 1024 3584) : FVec Ideal S4096x3584 .f32 :=
  Host.dotGeneral dot_S4096x1024_S1024x3584_S4096x3584_1_0_0_1_n_n none H W

/-- The angles of the rows' positions. -/
def ang (C : Mat 16384 8) : FVec Ideal S4096x8 .f32 := extractStridedSlice S4096x8 ![12288, 0] C slices_S16384x8_S4096x8_12288_0

/-- The keys by head, normalised. -/
def nk (P : FVec Ideal S4096x3584 .f32) (g : Mat 1 64) : FVec Ideal S4096x2x64 .f32 :=
  mulf (mulf (shapeCast _ (extractStridedSlice S4096x128 ![0, 2816] P slices_S4096x3584_S4096x128_0_2816) shapeCasts_S4096x128_S4096x2x64)
    (broadcastInDim S4096x2x64 ![0, 1, 2] bcast_S4096x2x1_S4096x2x64_0_1_2 (Host.rsqrt (addf (Host.divf
      (broadcastInDim S4096x2x1 ![0, 1] bcast_S4096x2_S4096x2x1_0_1 (Host.reduceAdd (mulf
        (shapeCast _ (extractStridedSlice S4096x128 ![0, 2816] P slices_S4096x3584_S4096x128_0_2816) shapeCasts_S4096x128_S4096x2x64)
        (shapeCast _ (extractStridedSlice S4096x128 ![0, 2816] P slices_S4096x3584_S4096x128_0_2816) shapeCasts_S4096x128_S4096x2x64))
        (constant S_ .f32 0x00000000#32) reducesTo_S4096x2x64_S4096x2_d2 h_S_))
      (broadcastInDim S4096x2x1 ![] bcast_S_S4096x2x1 (constant S_ .f32 0x42800000#32)))
      (broadcastInDim S4096x2x1 ![] bcast_S_S4096x2x1 (constant S_ .f32 0x358637BD#32))))))
    (broadcastInDim S4096x2x64 ![0, 1, 2] bcast_S1x1x64_S4096x2x64_0_1_2 (broadcastInDim S1x1x64 ![1, 2] bcast_S1x64_S1x1x64_1_2 g))

/-- The keys rotated. -/
def tk (N : FVec Ideal S4096x2x64 .f32) (C S : FVec Ideal S4096x8 .f32) : FVec Ideal S4096x2x64 .f32 :=
  concatenate S4096x2x64 2 [⟨S4096x2x16, concatenate S4096x2x16 2 [
      ⟨S4096x2x8, subf (mulf (extractStridedSlice S4096x2x8 ![0, 0, 0] N slices_S4096x2x64_S4096x2x8_0_0_0)
          (broadcastInDim S4096x2x8 ![0, 1, 2] bcast_S4096x1x8_S4096x2x8_0_1_2 (broadcastInDim S4096x1x8 ![0, 2] bcast_S4096x8_S4096x1x8_0_2 C)))
        (mulf (extractStridedSlice S4096x2x8 ![0, 0, 8] N slices_S4096x2x64_S4096x2x8_0_0_8)
          (broadcastInDim S4096x2x8 ![0, 1, 2] bcast_S4096x1x8_S4096x2x8_0_1_2 (broadcastInDim S4096x1x8 ![0, 2] bcast_S4096x8_S4096x1x8_0_2 S)))⟩,
      ⟨S4096x2x8, addf (mulf (extractStridedSlice S4096x2x8 ![0, 0, 8] N slices_S4096x2x64_S4096x2x8_0_0_8)
          (broadcastInDim S4096x2x8 ![0, 1, 2] bcast_S4096x1x8_S4096x2x8_0_1_2 (broadcastInDim S4096x1x8 ![0, 2] bcast_S4096x8_S4096x1x8_0_2 C)))
        (mulf (extractStridedSlice S4096x2x8 ![0, 0, 0] N slices_S4096x2x64_S4096x2x8_0_0_0)
          (broadcastInDim S4096x2x8 ![0, 1, 2] bcast_S4096x1x8_S4096x2x8_0_1_2 (broadcastInDim S4096x1x8 ![0, 2] bcast_S4096x8_S4096x1x8_0_2 S)))⟩]
      concatenates_S4096x2x8_S4096x2x8_S4096x2x16_d2⟩,
    ⟨S4096x2x48, extractStridedSlice S4096x2x48 ![0, 0, 16] N slices_S4096x2x64_S4096x2x48_0_0_16⟩] concatenates_S4096x2x16_S4096x2x48_S4096x2x64_d2

/-- The queries by head, normalised. -/
def nq (P : FVec Ideal S4096x3584 .f32) (g : Mat 1 64) : FVec Ideal S4096x8x64 .f32 :=
  mulf (mulf (shapeCast _ (extractStridedSlice S4096x512 ![0, 2304] P slices_S4096x3584_S4096x512_0_2304) shapeCasts_S4096x512_S4096x8x64)
    (broadcastInDim S4096x8x64 ![0, 1, 2] bcast_S4096x8x1_S4096x8x64_0_1_2 (Host.rsqrt (addf (Host.divf
      (broadcastInDim S4096x8x1 ![0, 1] bcast_S4096x8_S4096x8x1_0_1 (Host.reduceAdd (mulf
        (shapeCast _ (extractStridedSlice S4096x512 ![0, 2304] P slices_S4096x3584_S4096x512_0_2304) shapeCasts_S4096x512_S4096x8x64)
        (shapeCast _ (extractStridedSlice S4096x512 ![0, 2304] P slices_S4096x3584_S4096x512_0_2304) shapeCasts_S4096x512_S4096x8x64))
        (constant S_ .f32 0x00000000#32) reducesTo_S4096x8x64_S4096x8_d2 h_S_))
      (broadcastInDim S4096x8x1 ![] bcast_S_S4096x8x1 (constant S_ .f32 0x42800000#32)))
      (broadcastInDim S4096x8x1 ![] bcast_S_S4096x8x1 (constant S_ .f32 0x358637BD#32))))))
    (broadcastInDim S4096x8x64 ![0, 1, 2] bcast_S1x1x64_S4096x8x64_0_1_2 (broadcastInDim S1x1x64 ![1, 2] bcast_S1x64_S1x1x64_1_2 g))

/-- The queries rotated. -/
def tq (N : FVec Ideal S4096x8x64 .f32) (C S : FVec Ideal S4096x8 .f32) : FVec Ideal S4096x8x64 .f32 :=
  concatenate S4096x8x64 2 [⟨S4096x8x16, concatenate S4096x8x16 2 [
      ⟨S4096x8x8, subf (mulf (extractStridedSlice S4096x8x8 ![0, 0, 0] N slices_S4096x8x64_S4096x8x8_0_0_0)
          (broadcastInDim S4096x8x8 ![0, 1, 2] bcast_S4096x1x8_S4096x8x8_0_1_2 (broadcastInDim S4096x1x8 ![0, 2] bcast_S4096x8_S4096x1x8_0_2 C)))
        (mulf (extractStridedSlice S4096x8x8 ![0, 0, 8] N slices_S4096x8x64_S4096x8x8_0_0_8)
          (broadcastInDim S4096x8x8 ![0, 1, 2] bcast_S4096x1x8_S4096x8x8_0_1_2 (broadcastInDim S4096x1x8 ![0, 2] bcast_S4096x8_S4096x1x8_0_2 S)))⟩,
      ⟨S4096x8x8, addf (mulf (extractStridedSlice S4096x8x8 ![0, 0, 8] N slices_S4096x8x64_S4096x8x8_0_0_8)
          (broadcastInDim S4096x8x8 ![0, 1, 2] bcast_S4096x1x8_S4096x8x8_0_1_2 (broadcastInDim S4096x1x8 ![0, 2] bcast_S4096x8_S4096x1x8_0_2 C)))
        (mulf (extractStridedSlice S4096x8x8 ![0, 0, 0] N slices_S4096x8x64_S4096x8x8_0_0_0)
          (broadcastInDim S4096x8x8 ![0, 1, 2] bcast_S4096x1x8_S4096x8x8_0_1_2 (broadcastInDim S4096x1x8 ![0, 2] bcast_S4096x8_S4096x1x8_0_2 S)))⟩]
      concatenates_S4096x8x8_S4096x8x8_S4096x8x16_d2⟩,
    ⟨S4096x8x48, extractStridedSlice S4096x8x48 ![0, 0, 16] N slices_S4096x8x64_S4096x8x48_0_0_16⟩] concatenates_S4096x8x16_S4096x8x48_S4096x8x64_d2

section Results

variable (m : (ℓ : Loc nD τ sig) → Buf (Elt Ideal) ℓ) (c : Dev nD)

abbrev rH : FVec Ideal S4096x1024 .f32 := nn (m ((c : Thread nD τ).loc main_arg0)) (m ((c : Thread nD τ).loc main_arg1))
abbrev rP : FVec Ideal S4096x3584 .f32 := pr (rH m c) (m ((c : Thread nD τ).loc main_arg2))

theorem res8 : res_main_v86 m c = truncf .bf16 (shapeCast _ (tq (nq (rP m c) (m ((c : Thread nD τ).loc main_arg3)))
    (ang (m ((c : Thread nD τ).loc main_arg5))) (ang (m ((c : Thread nD τ).loc main_arg6)))) shapeCasts_S4096x8x64_S4096x512) bitsLt_bf16_f32 := rfl
theorem res9 : res_main_v87 m c = truncf .bf16 (shapeCast _ (tk (nk (rP m c) (m ((c : Thread nD τ).loc main_arg4)))
    (ang (m ((c : Thread nD τ).loc main_arg5))) (ang (m ((c : Thread nD τ).loc main_arg6)))) shapeCasts_S4096x2x64_S4096x128) bitsLt_bf16_f32 := rfl

end Results

theorem nn_apply (Y : Mat 4096 1024) (G : Mat 1 1024) (r : Fin 4096) (i : Fin 1024) : nn Y G (ix2 r i) = hn Y G r i := by
  pointwise [nn]
  rfl

theorem pr_apply (Y : Mat 4096 1024) (G : Mat 1 1024) (W : Mat 1024 3584) (r : Fin 4096) (e : Fin 3584) : pr (nn Y G) W (ix2 r e) = prj Y G W r e := by
  unfold prj
  simp only [← nn_apply]
  generalize nn Y G = H
  pointwise [pr]

theorem ang_apply (C : Mat 16384 8) (r : Fin 4096) (j : Fin 8) : ang C (ix2 r j) = C (ix2 (trow r) j) := by
  pointwise [ang]
  rfl

theorem nk_apply (P : FVec Ideal S4096x3584 .f32) (g : Mat 1 64) (r : Fin 4096) (a : Fin 2) (d : Fin 64) :
    nk P g (ix3 r a d) = norm64 (fun k => P (ix2 r ⟨2816 + (a * 64 + k), by omega⟩)) (fun k => g (ix2 0 k)) d := by
  pointwise [nk]
  rfl

theorem nq_apply (P : FVec Ideal S4096x3584 .f32) (g : Mat 1 64) (r : Fin 4096) (a : Fin 8) (d : Fin 64) :
    nq P g (ix3 r a d) = norm64 (fun k => P (ix2 r ⟨2304 + (a * 64 + k), by omega⟩)) (fun k => g (ix2 0 k)) d := by
  pointwise [nq]
  rfl

theorem turn_cases (n : Fin 64 → EReal) (co si : Fin 8 → EReal) (d : Fin 64) :
    (if h : (d : ℕ) < 16 then
      if h' : (d : ℕ) < 8 then n d * co ⟨d, h'⟩ - n ⟨8 + d, by omega⟩ * si ⟨d, h'⟩
      else n ⟨8 + (d - 8), by omega⟩ * co ⟨d - 8, by omega⟩ + n ⟨d - 8, by omega⟩ * si ⟨d - 8, by omega⟩
    else n ⟨16 + (d - 16), by omega⟩) = turn n co si d := by
  by_cases h' : (d : ℕ) < 8
  · have e : (⟨8 + d, by omega⟩ : Fin 64) = ⟨d + 8, by omega⟩ := Fin.ext (Nat.add_comm 8 d)
    rw [dif_pos (by omega : (d : ℕ) < 16), dif_pos h', e]
    unfold turn
    rw [dif_pos h']
  · by_cases h : (d : ℕ) < 16
    · have e : (⟨8 + (d - 8), by omega⟩ : Fin 64) = d := Fin.ext (by show 8 + ((d : ℕ) - 8) = d; omega)
      rw [dif_pos h, dif_neg h', turn_mid n co si d h' h, e]
    · have e : (⟨16 + (d - 16), by omega⟩ : Fin 64) = d := Fin.ext (by show 16 + ((d : ℕ) - 16) = d; omega)
      rw [dif_neg h, turn_high n co si d (by omega), e]

theorem tk_apply (N : FVec Ideal S4096x2x64 .f32) (C S : FVec Ideal S4096x8 .f32) (r : Fin 4096) (a : Fin 2) (d : Fin 64) :
    tk N C S (ix3 r a d) = turn (fun k => N (ix3 r a k)) (fun j => C (ix2 r j)) (fun j => S (ix2 r j)) d := by
  pointwise [tk]
  exact turn_cases (fun k => N (ix3 r a k)) (fun j => C (ix2 r j)) (fun j => S (ix2 r j)) d

theorem tq_apply (N : FVec Ideal S4096x8x64 .f32) (C S : FVec Ideal S4096x8 .f32) (r : Fin 4096) (a : Fin 8) (d : Fin 64) :
    tq N C S (ix3 r a d) = turn (fun k => N (ix3 r a k)) (fun j => C (ix2 r j)) (fun j => S (ix2 r j)) d := by
  pointwise [tq]
  exact turn_cases (fun k => N (ix3 r a k)) (fun j => C (ix2 r j)) (fun j => S (ix2 r j)) d

/-- A head of the keys and of the queries. -/
theorem kn_apply (Y : Mat 4096 1024) (G : Mat 1 1024) (W : Mat 1024 3584) (g : Mat 1 64) (C S : Mat 16384 8) (r : Fin 4096) (e : Fin 128) :
    truncf .bf16 (shapeCast _ (tk (nk (pr (nn Y G) W) g) (ang C) (ang S)) shapeCasts_S4096x2x64_S4096x128) bitsLt_bf16_f32 (ix2 r e)
      = rot (n := 128) rfl (cut 2816 128 (by omega) (prj Y G W r)) (fun k => g (ix2 0 k)) (fun j => C (ix2 (trow r) j))
          (fun j => S (ix2 (trow r) j)) e := by
  have h : ∀ (a : Fin 2) (d : Fin 64), tk (nk (pr (nn Y G) W) g) (ang C) (ang S) (ix3 r a d)
      = turn (norm64 (fun k => prj Y G W r ⟨2816 + (a * 64 + k), by omega⟩) (fun k => g (ix2 0 k))) (fun j => C (ix2 (trow r) j))
          (fun j => S (ix2 (trow r) j)) d := by
    intro a d
    simp only [tk_apply, nk_apply, pr_apply, ang_apply]
  generalize tk (nk (pr (nn Y G) W) g) (ang C) (ang S) = T at *
  pointwise
  refine (h _ _).trans ?_
  unfold rot
  exact congrArg (fun f => turn (norm64 f _) _ _ _) (funext fun k => congrArg (prj Y G W r) (Fin.ext (by simp only; omega)))

theorem qn_apply (Y : Mat 4096 1024) (G : Mat 1 1024) (W : Mat 1024 3584) (g : Mat 1 64) (C S : Mat 16384 8) (r : Fin 4096) (e : Fin 512) :
    truncf .bf16 (shapeCast _ (tq (nq (pr (nn Y G) W) g) (ang C) (ang S)) shapeCasts_S4096x8x64_S4096x512) bitsLt_bf16_f32 (ix2 r e)
      = rot (n := 512) rfl (cut 2304 512 (by omega) (prj Y G W r)) (fun k => g (ix2 0 k)) (fun j => C (ix2 (trow r) j))
          (fun j => S (ix2 (trow r) j)) e := by
  have h : ∀ (a : Fin 8) (d : Fin 64), tq (nq (pr (nn Y G) W) g) (ang C) (ang S) (ix3 r a d)
      = turn (norm64 (fun k => prj Y G W r ⟨2304 + (a * 64 + k), by omega⟩) (fun k => g (ix2 0 k))) (fun j => C (ix2 (trow r) j))
          (fun j => S (ix2 (trow r) j)) d := by
    intro a d
    simp only [tq_apply, nq_apply, pr_apply, ang_apply]
  generalize tq (nq (pr (nn Y G) W) g) (ang C) (ang S) = T at *
  pointwise
  refine (h _ _).trans ?_
  unfold rot
  exact congrArg (fun f => turn (norm64 f _) _ _ _) (funext fun k => congrArg (prj Y G W r) (Fin.ext (by simp only; omega)))

end Ref

end Cert.Proj

end
-- ==== Proof.Proj.Algebraic.lean ====
/- The input projection: its kernel computes its reference's results, from finite rows, gain and weight. -/
module

public import proofs.«01_k».proof.Proof.Proj.KerOut
public import proofs.«01_k».proof.Proof.Proj.Ref
public import proofs.«01_k».proof.Proof.Gen.Kernel8Ideal.Frame
public import proofs.«01_k».proof.Proof.Gen.Kernel8Ideal.Value
public import Idealize.ShloMosaic.Lib.Quiescent

@[expose] public section

set_option maxRecDepth 16384

noncomputable section

namespace Cert.Proj

open Idealize.ShloMosaic Idealize.ShloMosaic.TcCoe Idealize.SL.Sem
open Cert.Conv (Mat IsReal)

/-- The reference runs, leaves its arguments as they were, and its counters at zero. -/
theorem frame_reference : Cert.quiescent_Reference8Ideal := fun m ρ _ =>
  (θ_run Cert.Reference8Ideal.defs _ _).mono
    (fun r h => ⟨fun c => (h c).2.2.2.2.2.2.2.2.2.2.2, sem_eq_zero_of_no_sems rfl r.2⟩) (Cert.Reference8Ideal.Value.run (F := Ideal) m ρ)

section Reference
open Cert.Reference8Ideal Cert.Reference8Ideal.Gen StableHlo

variable (X : Mat 4096 1024) (G : Mat 1 1024) (W : Mat 1024 3584) (Q K : Mat 1 64) (C S : Mat 16384 8)

theorem ref_H : truncf .bf16 (Ref.nn X G) bitsLt_bf16_f32 = fun j : S4096x1024.Idx => hn X G (j 0) (j 1) :=
  funext fun j => (congrArg (Ref.nn X G) (ix2_eta j)).trans (Ref.nn_apply X G (j 0) (j 1))

/-- Columns cut from a matrix. -/
theorem cut_A (P : FVec Ideal S4096x3584 .f32) (o : ℕ) (ho : o + 768 ≤ 3584) (h1) (h2) (r : Fin 4096) (e : Fin 768) :
    extractStridedSlice S4096x768 ![0, o] (extractStridedSlice S4096x2304 ![0, 0] P h1) h2 (ix2 r e) = P (ix2 r ⟨o + e, by omega⟩) := by
  refine congrArg P (funext fun d => Fin.ext ?_)
  fin_cases d
  · simp
  · simp

theorem cut_512 (P : FVec Ideal S4096x3584 .f32) (o : ℕ) (ho : o + 512 ≤ 3584) (h1) (r : Fin 4096) (e : Fin 512) :
    extractStridedSlice S4096x512 ![0, o] P h1 (ix2 r e) = P (ix2 r ⟨o + e, by omega⟩) := by
  refine congrArg P (funext fun d => Fin.ext ?_)
  fin_cases d
  · simp
  · simp

theorem cut_128 (P : FVec Ideal S4096x3584 .f32) (o : ℕ) (ho : o + 128 ≤ 3584) (h1) (r : Fin 4096) (e : Fin 128) :
    extractStridedSlice S4096x128 ![0, o] P h1 (ix2 r e) = P (ix2 r ⟨o + e, by omega⟩) := by
  refine congrArg P (funext fun d => Fin.ext ?_)
  fin_cases d
  · simp
  · simp

/-- The columns cut from the projection. -/
theorem ref_A (o : ℕ) (ho : o + 768 ≤ 3584) (h1) (h2) :
    extractStridedSlice S4096x768 ![0, o] (extractStridedSlice S4096x2304 ![0, 0] (Ref.pr (Ref.nn X G) W) h1) h2
      = fun j : S4096x768.Idx => cut o 768 ho (prj X G W (j 0)) (j 1) := by
  have h := Ref.pr_apply X G W
  generalize Ref.pr (Ref.nn X G) W = P at *
  funext j
  rw [ix2_eta j]
  exact (cut_A P o ho h1 h2 (j 0) (j 1)).trans (h _ _)

theorem ref_512 (o : ℕ) (ho : o + 512 ≤ 3584) (h1) :
    extractStridedSlice S4096x512 ![0, o] (Ref.pr (Ref.nn X G) W) h1 = fun j : S4096x512.Idx => cut o 512 ho (prj X G W (j 0)) (j 1) := by
  have h := Ref.pr_apply X G W
  generalize Ref.pr (Ref.nn X G) W = P at *
  funext j
  rw [ix2_eta j]
  exact (cut_512 P o ho h1 (j 0) (j 1)).trans (h _ _)

theorem ref_128 (o : ℕ) (ho : o + 128 ≤ 3584) (h1) :
    extractStridedSlice S4096x128 ![0, o] (Ref.pr (Ref.nn X G) W) h1 = fun j : S4096x128.Idx => cut o 128 ho (prj X G W (j 0)) (j 1) := by
  have h := Ref.pr_apply X G W
  generalize Ref.pr (Ref.nn X G) W = P at *
  funext j
  rw [ix2_eta j]
  exact (cut_128 P o ho h1 (j 0) (j 1)).trans (h _ _)

theorem ref_Q : truncf .bf16 (shapeCast _ (Ref.tq (Ref.nq (Ref.pr (Ref.nn X G) W) Q) (Ref.ang C) (Ref.ang S)) shapeCasts_S4096x8x64_S4096x512) bitsLt_bf16_f32
    = fun j : S4096x512.Idx => rot (n := 512) rfl (cut 2304 512 (by omega) (prj X G W (j 0))) (fun k => Q (ix2 0 k)) (fun i => C (ix2 (trow (j 0)) i))
        (fun i => S (ix2 (trow (j 0)) i)) (j 1) :=
  funext fun j => (congrArg _ (ix2_eta j)).trans (Ref.qn_apply X G W Q C S (j 0) (j 1))

theorem ref_K : truncf .bf16 (shapeCast _ (Ref.tk (Ref.nk (Ref.pr (Ref.nn X G) W) K) (Ref.ang C) (Ref.ang S)) shapeCasts_S4096x2x64_S4096x128) bitsLt_bf16_f32
    = fun j : S4096x128.Idx => rot (n := 128) rfl (cut 2816 128 (by omega) (prj X G W (j 0))) (fun k => K (ix2 0 k)) (fun i => C (ix2 (trow (j 0)) i))
        (fun i => S (ix2 (trow (j 0)) i)) (j 1) :=
  funext fun j => (congrArg _ (ix2_eta j)).trans (Ref.kn_apply X G W K C S (j 0) (j 1))

end Reference

section Kernel
open Cert.Kernel8Ideal Cert.Kernel8Ideal.Gen

/-- Every result of the kernel, as a function of the arguments. -/
theorem kernel_run (m : (ℓ : Loc nD τ sig) → Buf (Elt Ideal) ℓ) (ρ : Dev nD → PrngReg) (hX : ∀ c i, IsReal (aX m c i))
    (hG : ∀ c i, IsReal (aG m c i)) (hW : ∀ c i, IsReal (aW m c i)) :
    θ_run (defs (F := Ideal)) (onTc (τ := τ) main) ⟨m, fun _ => 0, ρ⟩ fun r => ∀ c : Dev nD,
      r.2.mem ((c : Thread nD τ).loc main_v20_0) = (fun j : S4096x1024.Idx => fH m c (j 0) (j 1))
      ∧ r.2.mem ((c : Thread nD τ).loc main_v20_1) = (fun j : S4096x768.Idx => cut 0 768 (by omega) (fP m c (j 0)) (j 1))
      ∧ r.2.mem ((c : Thread nD τ).loc main_v20_2) = (fun j : S4096x768.Idx => cut 768 768 (by omega) (fP m c (j 0)) (j 1))
      ∧ r.2.mem ((c : Thread nD τ).loc main_v20_3) = (fun j : S4096x768.Idx => cut 1536 768 (by omega) (fP m c (j 0)) (j 1))
      ∧ r.2.mem ((c : Thread nD τ).loc main_v20_4) = (fun j : S4096x512.Idx => cut 2304 512 (by omega) (fP m c (j 0)) (j 1))
      ∧ r.2.mem ((c : Thread nD τ).loc main_v20_5) = (fun j : S4096x128.Idx => cut 2816 128 (by omega) (fP m c (j 0)) (j 1))
      ∧ r.2.mem ((c : Thread nD τ).loc main_v20_6) = (fun j : S4096x128.Idx => cut 2944 128 (by omega) (fP m c (j 0)) (j 1))
      ∧ r.2.mem ((c : Thread nD τ).loc main_v20_7) = (fun j : S4096x512.Idx => cut 3072 512 (by omega) (fP m c (j 0)) (j 1))
      ∧ r.2.mem ((c : Thread nD τ).loc main_v20_8) = (fun j : S4096x512.Idx => fQ m c (j 0) (j 1))
      ∧ r.2.mem ((c : Thread nD τ).loc main_v20_9) = (fun j : S4096x128.Idx => fK m c (j 0) (j 1))
      ∧ r.2.mem ((c : Thread nD τ).loc main_v20_10) = (fun j : S4096x128.Idx => cut 2944 128 (by omega) (fP m c (j 0)) (j 1)) :=
  (θ_run defs _ _).mono (fun r h c => ⟨(h c).1.trans (final8 m c), (h c).2.1.trans (final9 m c), (h c).2.2.1.trans (final10 m c),
    (h c).2.2.2.1.trans (final11 m c), (h c).2.2.2.2.1.trans (final12 m c), (h c).2.2.2.2.2.1.trans (final13 m c), (h c).2.2.2.2.2.2.1.trans (final14 m c),
    (h c).2.2.2.2.2.2.2.1.trans (final15 m c), (h c).2.2.2.2.2.2.2.2.1.trans (final16 m c (hX c) (hG c) (hW c)), (h c).2.2.2.2.2.2.2.2.2.1.trans (final17 m c (hX c) (hG c) (hW c)), (h c).2.2.2.2.2.2.2.2.2.2.1.trans (final18 m c)⟩) (Cert.Kernel8Ideal.Value.run_blocks m ρ)

end Kernel

set_option maxHeartbeats 1600000 in
/-- The kernel computes the reference's results, over the extended reals, from finite rows, gain and weight. -/
theorem algebraic : Cert.algebraic_Kernel8Ideal_Reference8Ideal_pre_finite8 := by
  intro m g m' g' hp ha
  have hr := fun c => fn_true _ _ _ _ _ _ _ (hp c)
  refine ⟨fun c => _, fun c => _, fun c => _, fun c => _, fun c => _, fun c => _, fun c => _, fun c => _, fun c => _, fun c => _, fun c => _,
    (θ_run Cert.Kernel8Ideal.defs _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2, h.2.1 c⟩)
      (θ_run_and (kernel_run m g (fun c => (hr c).1) (fun c => (hr c).2.1) (fun c => (hr c).2.2)) (Cert.Kernel8Ideal.Gen.frame m g)),
    (θ_run Cert.Reference8Ideal.defs _ _).mono (fun r h c => ?_)
      (θ_run_and (Cert.Reference8Ideal.Value.run (F := Ideal) m' g') (frame_reference m' g' trivial))⟩
  obtain ⟨e0, e1, e2, e3, e4, e5, e6⟩ := ha c
  refine ⟨(h.1 c).1.trans ?_, (h.1 c).2.1.trans ?_, (h.1 c).2.2.1.trans ?_, (h.1 c).2.2.2.1.trans ?_, (h.1 c).2.2.2.2.1.trans ?_, (h.1 c).2.2.2.2.2.1.trans ?_, (h.1 c).2.2.2.2.2.2.1.trans ?_, (h.1 c).2.2.2.2.2.2.2.1.trans ?_, (h.1 c).2.2.2.2.2.2.2.2.1.trans ?_, (h.1 c).2.2.2.2.2.2.2.2.2.1.trans ?_, (h.1 c).2.2.2.2.2.2.2.2.2.2.1.trans ?_, h.2.1 c⟩
  · rw [e0, e1]
    exact ref_H _ _
  · rw [e0, e1, e2]
    exact ref_A _ _ _ 0 (by omega) Cert.Reference8Ideal.Gen.slices_S4096x3584_S4096x2304_0_0 Cert.Reference8Ideal.Gen.slices_S4096x2304_S4096x768_0_0
  · rw [e0, e1, e2]
    exact ref_A _ _ _ 768 (by omega) Cert.Reference8Ideal.Gen.slices_S4096x3584_S4096x2304_0_0 Cert.Reference8Ideal.Gen.slices_S4096x2304_S4096x768_0_768
  · rw [e0, e1, e2]
    exact ref_A _ _ _ 1536 (by omega) Cert.Reference8Ideal.Gen.slices_S4096x3584_S4096x2304_0_0 Cert.Reference8Ideal.Gen.slices_S4096x2304_S4096x768_0_1536
  · rw [e0, e1, e2]
    exact ref_512 _ _ _ 2304 (by omega) Cert.Reference8Ideal.Gen.slices_S4096x3584_S4096x512_0_2304
  · rw [e0, e1, e2]
    exact ref_128 _ _ _ 2816 (by omega) Cert.Reference8Ideal.Gen.slices_S4096x3584_S4096x128_0_2816
  · rw [e0, e1, e2]
    exact ref_128 _ _ _ 2944 (by omega) Cert.Reference8Ideal.Gen.slices_S4096x3584_S4096x128_0_2944
  · rw [e0, e1, e2]
    exact ref_512 _ _ _ 3072 (by omega) Cert.Reference8Ideal.Gen.slices_S4096x3584_S4096x512_0_3072
  · rw [Ref.res8]
    dsimp only [Ref.rP, Ref.rH]
    rw [e0, e1, e2, e3, e5, e6]
    exact ref_Q _ _ _ _ _ _
  · rw [Ref.res9]
    dsimp only [Ref.rP, Ref.rH]
    rw [e0, e1, e2, e4, e5, e6]
    exact ref_K _ _ _ _ _ _
  · rw [e0, e1, e2]
    exact ref_128 _ _ _ 2944 (by omega) Cert.Reference8Ideal.Gen.slices_S4096x3584_S4096x128_0_2944

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Conv.Algebraic
public import proofs.«01_k».proof.Proof.Gen.Kernel2
public import proofs.«01_k».proof.Proof.Gen.Kernel2Ideal.Frame.Runs
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Reference3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Reference4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Pre_finite2
public import proofs.«01_k».proof.Proof.Gen.Kernel5
public import proofs.«01_k».proof.Proof.Gen.Kernel5.Frame
public import proofs.«01_k».proof.Proof.Gen.Reference5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Reference6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Pre_finite6
public import proofs.«01_k».proof.Proof.Gen.Kernel7
public import proofs.«01_k».proof.Proof.Gen.Kernel7.Frame
public import proofs.«01_k».proof.Proof.Gen.Reference7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Pre_finite7
public import proofs.«01_k».proof.Proof.Gen.Kernel8
public import proofs.«01_k».proof.Proof.Gen.Kernel8.Frame
public import proofs.«01_k».proof.Proof.Gen.Reference8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Pre_finite8
public import proofs.«01_k».proof.Proof.InProj.Algebraic
public import proofs.«01_k».proof.Proof.WGrad.Up
public import proofs.«01_k».proof.Proof.WGrad.Down
public import proofs.«01_k».proof.Proof.UpProj.Algebraic
public import proofs.«01_k».proof.Proof.Ffn.Algebraic
public import proofs.«01_k».proof.Proof.Merge.Algebraic
public import proofs.«01_k».proof.Proof.Proj.Algebraic
public import Idealize.ShloMosaic.Adequacy
public import Idealize.ShloMosaic.Init

@[expose] public section

noncomputable section

namespace Cert.Proof

open Idealize.ShloMosaic Idealize.SL.Sem Cert.Kernel

theorem claim : Cert.Claim := ⟨
    Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts,
    Cert.Kernel5Ideal.Gen.facts, Cert.Reference5Ideal.Gen.facts, Cert.Kernel6.Gen.facts, Cert.Kernel6Ideal.Gen.facts,
    Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts, Cert.Pre_finite2.Gen.facts, Cert.Pre_finite6.Gen.facts, Cert.Pre_finite7.Gen.facts,
    Cert.Pre_finite8.Gen.facts, by
  exact ⟨
    fun m ρ _ => Cert.Kernel.Gen.frame m ρ, fun m ρ _ => Cert.KernelIdeal.Gen.frame m ρ, fun m ρ _ => Cert.KernelIdeal.Gen.frame m ρ, Cert.Conv.frame_reference, fun m ρ _ => Cert.Conv.frame_reference m ρ trivial,
    Cert.InProj.frame_kernel, fun m ρ _ => Cert.Kernel2Ideal.Gen.frame m ρ, fun m ρ _ => Cert.Kernel2Ideal.Gen.frame m ρ, Cert.InProj.frame_reference, fun m ρ _ => Cert.InProj.frame_reference m ρ trivial,
    fun m ρ _ => Cert.Kernel3.Gen.frame m ρ, fun m ρ _ => Cert.Kernel3Ideal.Gen.frame m ρ, Cert.WGrad.Up.frame_reference,
    fun m ρ _ => Cert.Kernel4.Gen.frame m ρ, fun m ρ _ => Cert.Kernel4Ideal.Gen.frame m ρ, Cert.WGrad.Down.frame_reference,
    fun m ρ _ => Cert.Kernel5.Gen.frame m ρ, fun m ρ _ => Cert.Kernel5Ideal.Gen.frame m ρ, Cert.UpProj.frame_reference,
    fun m ρ _ => Cert.Kernel6.Gen.frame m ρ, fun m ρ _ => Cert.Kernel6Ideal.Gen.frame m ρ, fun m ρ _ => Cert.Kernel6Ideal.Gen.frame m ρ, Cert.Ffn.frame_reference, fun m ρ _ => Cert.Ffn.frame_reference m ρ trivial,
    fun m ρ _ => Cert.Kernel7.Gen.frame m ρ, fun m ρ _ => Cert.Kernel7Ideal.Gen.frame m ρ, fun m ρ _ => Cert.Kernel7Ideal.Gen.frame m ρ, Cert.Merge.frame_reference, fun m ρ _ => Cert.Merge.frame_reference m ρ trivial,
    fun m ρ _ => Cert.Kernel8.Gen.frame m ρ, fun m ρ _ => Cert.Kernel8Ideal.Gen.frame m ρ, fun m ρ _ => Cert.Kernel8Ideal.Gen.frame m ρ, Cert.Proj.frame_reference, fun m ρ _ => Cert.Proj.frame_reference m ρ trivial,
    trivial, Cert.Conv.algebraic,
    trivial, Cert.InProj.algebraic,
    trivial, Cert.WGrad.Up.algebraic,
    trivial, Cert.WGrad.Down.algebraic,
    trivial, Cert.UpProj.algebraic,
    trivial, Cert.Ffn.algebraic,
    trivial, Cert.Merge.algebraic,
    trivial, Cert.Proj.algebraic⟩⟩

end Cert.Proof

end
